-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_VProj (m : (ℓ : Loc Cert.VProj.nD Cert.VProj.τ Cert.VProj.sig) → Buf (Elt Bits) ℓ) : Prop :=
  True

def Pre_VProjIdeal (m : (ℓ : Loc Cert.VProjIdeal.nD Cert.VProjIdeal.τ Cert.VProjIdeal.sig) → Buf (Elt Ideal) ℓ) : Prop :=
  True

def Pre_VProjRefIdeal (m : (ℓ : Loc Cert.VProjRefIdeal.nD Cert.VProjRefIdeal.τ Cert.VProjRefIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluRefIdeal (m : (ℓ : Loc Cert.GluRefIdeal.nD Cert.GluRefIdeal.τ Cert.GluRefIdeal.sig) → Buf (Elt Ideal) ℓ) : Prop :=
  True

def Pre_Mixed (m : (ℓ : Loc Cert.Mixed.nD Cert.Mixed.τ Cert.Mixed.sig) → Buf (Elt Bits) ℓ) : Prop :=
  True

def Pre_MixedIdeal (m : (ℓ : Loc Cert.MixedIdeal.nD Cert.MixedIdeal.τ Cert.MixedIdeal.sig) → Buf (Elt Ideal) ℓ) : Prop :=
  True

def Pre_MixedRefIdeal (m : (ℓ : Loc Cert.MixedRefIdeal.nD Cert.MixedRefIdeal.τ Cert.MixedRefIdeal.sig) → Buf (Elt Ideal) ℓ) : Prop :=
  True

def Pre_OutResid (m : (ℓ : Loc Cert.OutResid.nD Cert.OutResid.τ Cert.OutResid.sig) → Buf (Elt Bits) ℓ) : Prop :=
  True

def Pre_OutResidIdeal (m : (ℓ : Loc Cert.OutResidIdeal.nD Cert.OutResidIdeal.τ Cert.OutResidIdeal.sig) → Buf (Elt Ideal) ℓ) : Prop :=
  True

def Pre_OutResidRefIdeal (m : (ℓ : Loc Cert.OutResidRefIdeal.nD Cert.OutResidRefIdeal.τ Cert.OutResidRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Router (m : (ℓ : Loc Cert.Router.nD Cert.Router.τ Cert.Router.sig) → Buf (Elt Bits) ℓ) : Prop :=
  True

def Pre_RouterIdeal (m : (ℓ : Loc Cert.RouterIdeal.nD Cert.RouterIdeal.τ Cert.RouterIdeal.sig) → Buf (Elt Ideal) ℓ) : Prop :=
  True

def Pre_RouterIdeal_finite_router [hPre_finite_router : Cert.Pre_finite_router.Facts] (m : (ℓ : Loc Cert.RouterIdeal.nD Cert.RouterIdeal.τ Cert.RouterIdeal.sig) → Buf (Elt Ideal) ℓ) : Prop :=
  ∀ c : Dev Cert.RouterIdeal.nD,
    (Cert.Pre_finite_router.fn (F := Ideal) (m ((c.tc : Thread Cert.RouterIdeal.nD Cert.RouterIdeal.τ).loc Cert.RouterIdeal.main_arg0)) (m ((c.tc : Thread Cert.RouterIdeal.nD Cert.RouterIdeal.τ).loc Cert.RouterIdeal.main_arg1)) (m ((c.tc : Thread Cert.RouterIdeal.nD Cert.RouterIdeal.τ).loc Cert.RouterIdeal.main_arg2)) (m ((c.tc : Thread Cert.RouterIdeal.nD Cert.RouterIdeal.τ).loc Cert.RouterIdeal.main_arg3)) (m ((c.tc : Thread Cert.RouterIdeal.nD Cert.RouterIdeal.τ).loc Cert.RouterIdeal.main_arg4)) (m ((c.tc : Thread Cert.RouterIdeal.nD Cert.RouterIdeal.τ).loc Cert.RouterIdeal.main_arg5))) = (fun _ => 1#1)

def Pre_RouterRefIdeal (m : (ℓ : Loc Cert.RouterRefIdeal.nD Cert.RouterRefIdeal.τ Cert.RouterRefIdeal.sig) → Buf (Elt Ideal) ℓ) : Prop :=
  True

def Pre_RouterRefIdeal_finite_router [hPre_finite_router : Cert.Pre_finite_router.Facts] (m : (ℓ : Loc Cert.RouterRefIdeal.nD Cert.RouterRefIdeal.τ Cert.RouterRefIdeal.sig) → Buf (Elt Ideal) ℓ) : Prop :=
  ∀ c : Dev Cert.RouterRefIdeal.nD,
    (Cert.Pre_finite_router.fn (F := Ideal) (m ((c.tc : Thread Cert.RouterRefIdeal.nD Cert.RouterRefIdeal.τ).loc Cert.RouterRefIdeal.main_arg0)) (m ((c.tc : Thread Cert.RouterRefIdeal.nD Cert.RouterRefIdeal.τ).loc Cert.RouterRefIdeal.main_arg1)) (m ((c.tc : Thread Cert.RouterRefIdeal.nD Cert.RouterRefIdeal.τ).loc Cert.RouterRefIdeal.main_arg2)) (m ((c.tc : Thread Cert.RouterRefIdeal.nD Cert.RouterRefIdeal.τ).loc Cert.RouterRefIdeal.main_arg3)) (m ((c.tc : Thread Cert.RouterRefIdeal.nD Cert.RouterRefIdeal.τ).loc Cert.RouterRefIdeal.main_arg4)) (m ((c.tc : Thread Cert.RouterRefIdeal.nD Cert.RouterRefIdeal.τ).loc Cert.RouterRefIdeal.main_arg5))) = (fun _ => 1#1)

def Pre_Dispatch (m : (ℓ : Loc Cert.Dispatch.nD Cert.Dispatch.τ Cert.Dispatch.sig) → Buf (Elt Bits) ℓ) : Prop :=
  True

def Pre_DispatchIdeal (m : (ℓ : Loc Cert.DispatchIdeal.nD Cert.DispatchIdeal.τ Cert.DispatchIdeal.sig) → Buf (Elt Ideal) ℓ) : Prop :=
  True

def Pre_DispatchIdeal_expert_numbers [hPre_expert_numbers : Cert.Pre_expert_numbers.Facts] (m : (ℓ : Loc Cert.DispatchIdeal.nD Cert.DispatchIdeal.τ Cert.DispatchIdeal.sig) → Buf (Elt Ideal) ℓ) : Prop :=
  ∀ c : Dev Cert.DispatchIdeal.nD,
    (Cert.Pre_expert_numbers.fn (F := Ideal) (m ((c.tc : Thread Cert.DispatchIdeal.nD Cert.DispatchIdeal.τ).loc Cert.DispatchIdeal.main_arg0)) (m ((c.tc : Thread Cert.DispatchIdeal.nD Cert.DispatchIdeal.τ).loc Cert.DispatchIdeal.main_arg1))) = (fun _ => 1#1)

def Pre_DispatchRefIdeal (m : (ℓ : Loc Cert.DispatchRefIdeal.nD Cert.DispatchRefIdeal.τ Cert.DispatchRefIdeal.sig) → Buf (Elt Ideal) ℓ) : Prop :=
  True

def Pre_DispatchRefIdeal_expert_numbers [hPre_expert_numbers : Cert.Pre_expert_numbers.Facts] (m : (ℓ : Loc Cert.DispatchRefIdeal.nD Cert.DispatchRefIdeal.τ Cert.DispatchRefIdeal.sig) → Buf (Elt Ideal) ℓ) : Prop :=
  ∀ c : Dev Cert.DispatchRefIdeal.nD,
    (Cert.Pre_expert_numbers.fn (F := Ideal) (m ((c.tc : Thread Cert.DispatchRefIdeal.nD Cert.DispatchRefIdeal.τ).loc Cert.DispatchRefIdeal.main_arg0)) (m ((c.tc : Thread Cert.DispatchRefIdeal.nD Cert.DispatchRefIdeal.τ).loc Cert.DispatchRefIdeal.main_arg1))) = (fun _ => 1#1)

def Pre_Ssm (m : (ℓ : Loc Cert.Ssm.nD Cert.Ssm.τ Cert.Ssm.sig) → Buf (Elt Bits) ℓ) : Prop :=
  True

def Pre_SsmIdeal (m : (ℓ : Loc Cert.SsmIdeal.nD Cert.SsmIdeal.τ Cert.SsmIdeal.sig) → Buf (Elt Ideal) ℓ) : Prop :=
  True

def Pre_SsmRefIdeal (m : (ℓ : Loc Cert.SsmRefIdeal.nD Cert.SsmRefIdeal.τ Cert.SsmRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_VProj [hVProj : Cert.VProj.Facts] : Prop :=
  ∀ (m : (ℓ : Loc Cert.VProj.nD Cert.VProj.τ Cert.VProj.sig) → Buf (Elt Bits) ℓ) (g : Dev Cert.VProj.nD → PrngReg), Pre_VProj m →
    θ_run (Cert.VProj.defs (F := Bits)) (onTc (τ := Cert.VProj.τ) (Cert.VProj.main (F := Bits))) ⟨m, fun _ => 0, g⟩ (fun r => (∀ c : Dev Cert.VProj.nD,
      r.2.mem ((c.tc : Thread Cert.VProj.nD Cert.VProj.τ).loc Cert.VProj.main_arg0) = m ((c.tc : Thread Cert.VProj.nD Cert.VProj.τ).loc Cert.VProj.main_arg0)
      ∧ r.2.mem ((c.tc : Thread Cert.VProj.nD Cert.VProj.τ).loc Cert.VProj.main_arg1) = m ((c.tc : Thread Cert.VProj.nD Cert.VProj.τ).loc Cert.VProj.main_arg1))
      ∧ r.2.sem = fun _ => 0)

def quiescent_VProjIdeal [hVProjIdeal : Cert.VProjIdeal.Facts] : Prop :=
  ∀ (m : (ℓ : Loc Cert.VProjIdeal.nD Cert.VProjIdeal.τ Cert.VProjIdeal.sig) → Buf (Elt Ideal) ℓ) (g : Dev Cert.VProjIdeal.nD → PrngReg), Pre_VProjIdeal m →
    θ_run (Cert.VProjIdeal.defs (F := Ideal)) (onTc (τ := Cert.VProjIdeal.τ) (Cert.VProjIdeal.main (F := Ideal))) ⟨m, fun _ => 0, g⟩ (fun r => (∀ c : Dev Cert.VProjIdeal.nD,
      r.2.mem ((c.tc : Thread Cert.VProjIdeal.nD Cert.VProjIdeal.τ).loc Cert.VProjIdeal.main_arg0) = m ((c.tc : Thread Cert.VProjIdeal.nD Cert.VProjIdeal.τ).loc Cert.VProjIdeal.main_arg0)
      ∧ r.2.mem ((c.tc : Thread Cert.VProjIdeal.nD Cert.VProjIdeal.τ).loc Cert.VProjIdeal.main_arg1) = m ((c.tc : Thread Cert.VProjIdeal.nD Cert.VProjIdeal.τ).loc Cert.VProjIdeal.main_arg1))
      ∧ r.2.sem = fun _ => 0)

def quiescent_VProjRefIdeal [hVProjRefIdeal : Cert.VProjRefIdeal.Facts] : Prop :=
  ∀ (m : (ℓ : Loc Cert.VProjRefIdeal.nD Cert.VProjRefIdeal.τ Cert.VProjRefIdeal.sig) → Buf (Elt Ideal) ℓ) (g : Dev Cert.VProjRefIdeal.nD → PrngReg), Pre_VProjRefIdeal m →
    θ_run (Cert.VProjRefIdeal.defs (F := Ideal)) (onTc (τ := Cert.VProjRefIdeal.τ) (Cert.VProjRefIdeal.main (F := Ideal))) ⟨m, fun _ => 0, g⟩ (fun r => (∀ c : Dev Cert.VProjRefIdeal.nD,
      r.2.mem ((c.tc : Thread Cert.VProjRefIdeal.nD Cert.VProjRefIdeal.τ).loc Cert.VProjRefIdeal.main_arg0) = m ((c.tc : Thread Cert.VProjRefIdeal.nD Cert.VProjRefIdeal.τ).loc Cert.VProjRefIdeal.main_arg0)
      ∧ r.2.mem ((c.tc : Thread Cert.VProjRefIdeal.nD Cert.VProjRefIdeal.τ).loc Cert.VProjRefIdeal.main_arg1) = m ((c.tc : Thread Cert.VProjRefIdeal.nD Cert.VProjRefIdeal.τ).loc Cert.VProjRefIdeal.main_arg1))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1))
      ∧ r.2.sem = fun _ => 0)

def quiescent_GluRefIdeal [hGluRefIdeal : Cert.GluRefIdeal.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1))
      ∧ r.2.sem = fun _ => 0)

def quiescent_Mixed [hMixed : Cert.Mixed.Facts] : Prop :=
  ∀ (m : (ℓ : Loc Cert.Mixed.nD Cert.Mixed.τ Cert.Mixed.sig) → Buf (Elt Bits) ℓ) (g : Dev Cert.Mixed.nD → PrngReg), Pre_Mixed m →
    θ_run (Cert.Mixed.defs (F := Bits)) (onTc (τ := Cert.Mixed.τ) (Cert.Mixed.main (F := Bits))) ⟨m, fun _ => 0, g⟩ (fun r => (∀ c : Dev Cert.Mixed.nD,
      r.2.mem ((c.tc : Thread Cert.Mixed.nD Cert.Mixed.τ).loc Cert.Mixed.main_arg0) = m ((c.tc : Thread Cert.Mixed.nD Cert.Mixed.τ).loc Cert.Mixed.main_arg0)
      ∧ r.2.mem ((c.tc : Thread Cert.Mixed.nD Cert.Mixed.τ).loc Cert.Mixed.main_arg1) = m ((c.tc : Thread Cert.Mixed.nD Cert.Mixed.τ).loc Cert.Mixed.main_arg1)
      ∧ r.2.mem ((c.tc : Thread Cert.Mixed.nD Cert.Mixed.τ).loc Cert.Mixed.main_arg2) = m ((c.tc : Thread Cert.Mixed.nD Cert.Mixed.τ).loc Cert.Mixed.main_arg2)
      ∧ r.2.mem ((c.tc : Thread Cert.Mixed.nD Cert.Mixed.τ).loc Cert.Mixed.main_arg3) = m ((c.tc : Thread Cert.Mixed.nD Cert.Mixed.τ).loc Cert.Mixed.main_arg3)
      ∧ r.2.mem ((c.tc : Thread Cert.Mixed.nD Cert.Mixed.τ).loc Cert.Mixed.main_arg4) = m ((c.tc : Thread Cert.Mixed.nD Cert.Mixed.τ).loc Cert.Mixed.main_arg4))
      ∧ r.2.sem = fun _ => 0)

def quiescent_MixedIdeal [hMixedIdeal : Cert.MixedIdeal.Facts] : Prop :=
  ∀ (m : (ℓ : Loc Cert.MixedIdeal.nD Cert.MixedIdeal.τ Cert.MixedIdeal.sig) → Buf (Elt Ideal) ℓ) (g : Dev Cert.MixedIdeal.nD → PrngReg), Pre_MixedIdeal m →
    θ_run (Cert.MixedIdeal.defs (F := Ideal)) (onTc (τ := Cert.MixedIdeal.τ) (Cert.MixedIdeal.main (F := Ideal))) ⟨m, fun _ => 0, g⟩ (fun r => (∀ c : Dev Cert.MixedIdeal.nD,
      r.2.mem ((c.tc : Thread Cert.MixedIdeal.nD Cert.MixedIdeal.τ).loc Cert.MixedIdeal.main_arg0) = m ((c.tc : Thread Cert.MixedIdeal.nD Cert.MixedIdeal.τ).loc Cert.MixedIdeal.main_arg0)
      ∧ r.2.mem ((c.tc : Thread Cert.MixedIdeal.nD Cert.MixedIdeal.τ).loc Cert.MixedIdeal.main_arg1) = m ((c.tc : Thread Cert.MixedIdeal.nD Cert.MixedIdeal.τ).loc Cert.MixedIdeal.main_arg1)
      ∧ r.2.mem ((c.tc : Thread Cert.MixedIdeal.nD Cert.MixedIdeal.τ).loc Cert.MixedIdeal.main_arg2) = m ((c.tc : Thread Cert.MixedIdeal.nD Cert.MixedIdeal.τ).loc Cert.MixedIdeal.main_arg2)
      ∧ r.2.mem ((c.tc : Thread Cert.MixedIdeal.nD Cert.MixedIdeal.τ).loc Cert.MixedIdeal.main_arg3) = m ((c.tc : Thread Cert.MixedIdeal.nD Cert.MixedIdeal.τ).loc Cert.MixedIdeal.main_arg3)
      ∧ r.2.mem ((c.tc : Thread Cert.MixedIdeal.nD Cert.MixedIdeal.τ).loc Cert.MixedIdeal.main_arg4) = m ((c.tc : Thread Cert.MixedIdeal.nD Cert.MixedIdeal.τ).loc Cert.MixedIdeal.main_arg4))
      ∧ r.2.sem = fun _ => 0)

def quiescent_MixedRefIdeal [hMixedRefIdeal : Cert.MixedRefIdeal.Facts] : Prop :=
  ∀ (m : (ℓ : Loc Cert.MixedRefIdeal.nD Cert.MixedRefIdeal.τ Cert.MixedRefIdeal.sig) → Buf (Elt Ideal) ℓ) (g : Dev Cert.MixedRefIdeal.nD → PrngReg), Pre_MixedRefIdeal m →
    θ_run (Cert.MixedRefIdeal.defs (F := Ideal)) (onTc (τ := Cert.MixedRefIdeal.τ) (Cert.MixedRefIdeal.main (F := Ideal))) ⟨m, fun _ => 0, g⟩ (fun r => (∀ c : Dev Cert.MixedRefIdeal.nD,
      r.2.mem ((c.tc : Thread Cert.MixedRefIdeal.nD Cert.MixedRefIdeal.τ).loc Cert.MixedRefIdeal.main_arg0) = m ((c.tc : Thread Cert.MixedRefIdeal.nD Cert.MixedRefIdeal.τ).loc Cert.MixedRefIdeal.main_arg0)
      ∧ r.2.mem ((c.tc : Thread Cert.MixedRefIdeal.nD Cert.MixedRefIdeal.τ).loc Cert.MixedRefIdeal.main_arg1) = m ((c.tc : Thread Cert.MixedRefIdeal.nD Cert.MixedRefIdeal.τ).loc Cert.MixedRefIdeal.main_arg1)
      ∧ r.2.mem ((c.tc : Thread Cert.MixedRefIdeal.nD Cert.MixedRefIdeal.τ).loc Cert.MixedRefIdeal.main_arg2) = m ((c.tc : Thread Cert.MixedRefIdeal.nD Cert.MixedRefIdeal.τ).loc Cert.MixedRefIdeal.main_arg2)
      ∧ r.2.mem ((c.tc : Thread Cert.MixedRefIdeal.nD Cert.MixedRefIdeal.τ).loc Cert.MixedRefIdeal.main_arg3) = m ((c.tc : Thread Cert.MixedRefIdeal.nD Cert.MixedRefIdeal.τ).loc Cert.MixedRefIdeal.main_arg3)
      ∧ r.2.mem ((c.tc : Thread Cert.MixedRefIdeal.nD Cert.MixedRefIdeal.τ).loc Cert.MixedRefIdeal.main_arg4) = m ((c.tc : Thread Cert.MixedRefIdeal.nD Cert.MixedRefIdeal.τ).loc Cert.MixedRefIdeal.main_arg4))
      ∧ r.2.sem = fun _ => 0)

def quiescent_OutResid [hOutResid : Cert.OutResid.Facts] : Prop :=
  ∀ (m : (ℓ : Loc Cert.OutResid.nD Cert.OutResid.τ Cert.OutResid.sig) → Buf (Elt Bits) ℓ) (g : Dev Cert.OutResid.nD → PrngReg), Pre_OutResid m →
    θ_run (Cert.OutResid.defs (F := Bits)) (onTc (τ := Cert.OutResid.τ) (Cert.OutResid.main (F := Bits))) ⟨m, fun _ => 0, g⟩ (fun r => (∀ c : Dev Cert.OutResid.nD,
      r.2.mem ((c.tc : Thread Cert.OutResid.nD Cert.OutResid.τ).loc Cert.OutResid.main_arg0) = m ((c.tc : Thread Cert.OutResid.nD Cert.OutResid.τ).loc Cert.OutResid.main_arg0)
      ∧ r.2.mem ((c.tc : Thread Cert.OutResid.nD Cert.OutResid.τ).loc Cert.OutResid.main_arg1) = m ((c.tc : Thread Cert.OutResid.nD Cert.OutResid.τ).loc Cert.OutResid.main_arg1)
      ∧ r.2.mem ((c.tc : Thread Cert.OutResid.nD Cert.OutResid.τ).loc Cert.OutResid.main_arg2) = m ((c.tc : Thread Cert.OutResid.nD Cert.OutResid.τ).loc Cert.OutResid.main_arg2))
      ∧ r.2.sem = fun _ => 0)

def quiescent_OutResidIdeal [hOutResidIdeal : Cert.OutResidIdeal.Facts] : Prop :=
  ∀ (m : (ℓ : Loc Cert.OutResidIdeal.nD Cert.OutResidIdeal.τ Cert.OutResidIdeal.sig) → Buf (Elt Ideal) ℓ) (g : Dev Cert.OutResidIdeal.nD → PrngReg), Pre_OutResidIdeal m →
    θ_run (Cert.OutResidIdeal.defs (F := Ideal)) (onTc (τ := Cert.OutResidIdeal.τ) (Cert.OutResidIdeal.main (F := Ideal))) ⟨m, fun _ => 0, g⟩ (fun r => (∀ c : Dev Cert.OutResidIdeal.nD,
      r.2.mem ((c.tc : Thread Cert.OutResidIdeal.nD Cert.OutResidIdeal.τ).loc Cert.OutResidIdeal.main_arg0) = m ((c.tc : Thread Cert.OutResidIdeal.nD Cert.OutResidIdeal.τ).loc Cert.OutResidIdeal.main_arg0)
      ∧ r.2.mem ((c.tc : Thread Cert.OutResidIdeal.nD Cert.OutResidIdeal.τ).loc Cert.OutResidIdeal.main_arg1) = m ((c.tc : Thread Cert.OutResidIdeal.nD Cert.OutResidIdeal.τ).loc Cert.OutResidIdeal.main_arg1)
      ∧ r.2.mem ((c.tc : Thread Cert.OutResidIdeal.nD Cert.OutResidIdeal.τ).loc Cert.OutResidIdeal.main_arg2) = m ((c.tc : Thread Cert.OutResidIdeal.nD Cert.OutResidIdeal.τ).loc Cert.OutResidIdeal.main_arg2))
      ∧ r.2.sem = fun _ => 0)

def quiescent_OutResidRefIdeal [hOutResidRefIdeal : Cert.OutResidRefIdeal.Facts] : Prop :=
  ∀ (m : (ℓ : Loc Cert.OutResidRefIdeal.nD Cert.OutResidRefIdeal.τ Cert.OutResidRefIdeal.sig) → Buf (Elt Ideal) ℓ) (g : Dev Cert.OutResidRefIdeal.nD → PrngReg), Pre_OutResidRefIdeal m →
    θ_run (Cert.OutResidRefIdeal.defs (F := Ideal)) (onTc (τ := Cert.OutResidRefIdeal.τ) (Cert.OutResidRefIdeal.main (F := Ideal))) ⟨m, fun _ => 0, g⟩ (fun r => (∀ c : Dev Cert.OutResidRefIdeal.nD,
      r.2.mem ((c.tc : Thread Cert.OutResidRefIdeal.nD Cert.OutResidRefIdeal.τ).loc Cert.OutResidRefIdeal.main_arg0) = m ((c.tc : Thread Cert.OutResidRefIdeal.nD Cert.OutResidRefIdeal.τ).loc Cert.OutResidRefIdeal.main_arg0)
      ∧ r.2.mem ((c.tc : Thread Cert.OutResidRefIdeal.nD Cert.OutResidRefIdeal.τ).loc Cert.OutResidRefIdeal.main_arg1) = m ((c.tc : Thread Cert.OutResidRefIdeal.nD Cert.OutResidRefIdeal.τ).loc Cert.OutResidRefIdeal.main_arg1)
      ∧ r.2.mem ((c.tc : Thread Cert.OutResidRefIdeal.nD Cert.OutResidRefIdeal.τ).loc Cert.OutResidRefIdeal.main_arg2) = m ((c.tc : Thread Cert.OutResidRefIdeal.nD Cert.OutResidRefIdeal.τ).loc Cert.OutResidRefIdeal.main_arg2))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_Router [hRouter : Cert.Router.Facts] : Prop :=
  ∀ (m : (ℓ : Loc Cert.Router.nD Cert.Router.τ Cert.Router.sig) → Buf (Elt Bits) ℓ) (g : Dev Cert.Router.nD → PrngReg), Pre_Router m →
    θ_run (Cert.Router.defs (F := Bits)) (onTc (τ := Cert.Router.τ) (Cert.Router.main (F := Bits))) ⟨m, fun _ => 0, g⟩ (fun r => (∀ c : Dev Cert.Router.nD,
      r.2.mem ((c.tc : Thread Cert.Router.nD Cert.Router.τ).loc Cert.Router.main_arg0) = m ((c.tc : Thread Cert.Router.nD Cert.Router.τ).loc Cert.Router.main_arg0)
      ∧ r.2.mem ((c.tc : Thread Cert.Router.nD Cert.Router.τ).loc Cert.Router.main_arg1) = m ((c.tc : Thread Cert.Router.nD Cert.Router.τ).loc Cert.Router.main_arg1)
      ∧ r.2.mem ((c.tc : Thread Cert.Router.nD Cert.Router.τ).loc Cert.Router.main_arg2) = m ((c.tc : Thread Cert.Router.nD Cert.Router.τ).loc Cert.Router.main_arg2)
      ∧ r.2.mem ((c.tc : Thread Cert.Router.nD Cert.Router.τ).loc Cert.Router.main_arg3) = m ((c.tc : Thread Cert.Router.nD Cert.Router.τ).loc Cert.Router.main_arg3)
      ∧ r.2.mem ((c.tc : Thread Cert.Router.nD Cert.Router.τ).loc Cert.Router.main_arg4) = m ((c.tc : Thread Cert.Router.nD Cert.Router.τ).loc Cert.Router.main_arg4)
      ∧ r.2.mem ((c.tc : Thread Cert.Router.nD Cert.Router.τ).loc Cert.Router.main_arg5) = m ((c.tc : Thread Cert.Router.nD Cert.Router.τ).loc Cert.Router.main_arg5))
      ∧ r.2.sem = fun _ => 0)

def quiescent_RouterIdeal [hRouterIdeal : Cert.RouterIdeal.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
      ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2)
      ∧ r.2.mem ((c.tc : Thread Cert.RouterIdeal.nD Cert.RouterIdeal.τ).loc Cert.RouterIdeal.main_arg3) = m ((c.tc : Thread Cert.RouterIdeal.nD Cert.RouterIdeal.τ).loc Cert.RouterIdeal.main_arg3)
      ∧ r.2.mem ((c.tc : Thread Cert.RouterIdeal.nD Cert.RouterIdeal.τ).loc Cert.RouterIdeal.main_arg4) = m ((c.tc : Thread Cert.RouterIdeal.nD Cert.RouterIdeal.τ).loc Cert.RouterIdeal.main_arg4)
      ∧ r.2.mem ((c.tc : Thread Cert.RouterIdeal.nD Cert.RouterIdeal.τ).loc Cert.RouterIdeal.main_arg5) = m ((c.tc : Thread Cert.RouterIdeal.nD Cert.RouterIdeal.τ).loc Cert.RouterIdeal.main_arg5))
      ∧ r.2.sem = fun _ => 0)

def quiescent_RouterIdeal_pre_finite_router [hRouterIdeal : Cert.RouterIdeal.Facts] [hPre_finite_router : Cert.Pre_finite_router.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal_finite_router m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
      ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2)
      ∧ r.2.mem ((c.tc : Thread Cert.RouterIdeal.nD Cert.RouterIdeal.τ).loc Cert.RouterIdeal.main_arg3) = m ((c.tc : Thread Cert.RouterIdeal.nD Cert.RouterIdeal.τ).loc Cert.RouterIdeal.main_arg3)
      ∧ r.2.mem ((c.tc : Thread Cert.RouterIdeal.nD Cert.RouterIdeal.τ).loc Cert.RouterIdeal.main_arg4) = m ((c.tc : Thread Cert.RouterIdeal.nD Cert.RouterIdeal.τ).loc Cert.RouterIdeal.main_arg4)
      ∧ r.2.mem ((c.tc : Thread Cert.RouterIdeal.nD Cert.RouterIdeal.τ).loc Cert.RouterIdeal.main_arg5) = m ((c.tc : Thread Cert.RouterIdeal.nD Cert.RouterIdeal.τ).loc Cert.RouterIdeal.main_arg5))
      ∧ r.2.sem = fun _ => 0)

def quiescent_RouterRefIdeal [hRouterRefIdeal : Cert.RouterRefIdeal.Facts] : Prop :=
  ∀ (m : (ℓ : Loc Cert.RouterRefIdeal.nD Cert.RouterRefIdeal.τ Cert.RouterRefIdeal.sig) → Buf (Elt Ideal) ℓ) (g : Dev Cert.RouterRefIdeal.nD → PrngReg), Pre_RouterRefIdeal m →
    θ_run (Cert.RouterRefIdeal.defs (F := Ideal)) (onTc (τ := Cert.RouterRefIdeal.τ) (Cert.RouterRefIdeal.main (F := Ideal))) ⟨m, fun _ => 0, g⟩ (fun r => (∀ c : Dev Cert.RouterRefIdeal.nD,
      r.2.mem ((c.tc : Thread Cert.RouterRefIdeal.nD Cert.RouterRefIdeal.τ).loc Cert.RouterRefIdeal.main_arg0) = m ((c.tc : Thread Cert.RouterRefIdeal.nD Cert.RouterRefIdeal.τ).loc Cert.RouterRefIdeal.main_arg0)
      ∧ r.2.mem ((c.tc : Thread Cert.RouterRefIdeal.nD Cert.RouterRefIdeal.τ).loc Cert.RouterRefIdeal.main_arg1) = m ((c.tc : Thread Cert.RouterRefIdeal.nD Cert.RouterRefIdeal.τ).loc Cert.RouterRefIdeal.main_arg1)
      ∧ r.2.mem ((c.tc : Thread Cert.RouterRefIdeal.nD Cert.RouterRefIdeal.τ).loc Cert.RouterRefIdeal.main_arg2) = m ((c.tc : Thread Cert.RouterRefIdeal.nD Cert.RouterRefIdeal.τ).loc Cert.RouterRefIdeal.main_arg2)
      ∧ r.2.mem ((c.tc : Thread Cert.RouterRefIdeal.nD Cert.RouterRefIdeal.τ).loc Cert.RouterRefIdeal.main_arg3) = m ((c.tc : Thread Cert.RouterRefIdeal.nD Cert.RouterRefIdeal.τ).loc Cert.RouterRefIdeal.main_arg3)
      ∧ r.2.mem ((c.tc : Thread Cert.RouterRefIdeal.nD Cert.RouterRefIdeal.τ).loc Cert.RouterRefIdeal.main_arg4) = m ((c.tc : Thread Cert.RouterRefIdeal.nD Cert.RouterRefIdeal.τ).loc Cert.RouterRefIdeal.main_arg4)
      ∧ r.2.mem ((c.tc : Thread Cert.RouterRefIdeal.nD Cert.RouterRefIdeal.τ).loc Cert.RouterRefIdeal.main_arg5) = m ((c.tc : Thread Cert.RouterRefIdeal.nD Cert.RouterRefIdeal.τ).loc Cert.RouterRefIdeal.main_arg5))
      ∧ r.2.sem = fun _ => 0)

def quiescent_RouterRefIdeal_pre_finite_router [hRouterRefIdeal : Cert.RouterRefIdeal.Facts] [hPre_finite_router : Cert.Pre_finite_router.Facts] : Prop :=
  ∀ (m : (ℓ : Loc Cert.RouterRefIdeal.nD Cert.RouterRefIdeal.τ Cert.RouterRefIdeal.sig) → Buf (Elt Ideal) ℓ) (g : Dev Cert.RouterRefIdeal.nD → PrngReg), Pre_RouterRefIdeal_finite_router m →
    θ_run (Cert.RouterRefIdeal.defs (F := Ideal)) (onTc (τ := Cert.RouterRefIdeal.τ) (Cert.RouterRefIdeal.main (F := Ideal))) ⟨m, fun _ => 0, g⟩ (fun r => (∀ c : Dev Cert.RouterRefIdeal.nD,
      r.2.mem ((c.tc : Thread Cert.RouterRefIdeal.nD Cert.RouterRefIdeal.τ).loc Cert.RouterRefIdeal.main_arg0) = m ((c.tc : Thread Cert.RouterRefIdeal.nD Cert.RouterRefIdeal.τ).loc Cert.RouterRefIdeal.main_arg0)
      ∧ r.2.mem ((c.tc : Thread Cert.RouterRefIdeal.nD Cert.RouterRefIdeal.τ).loc Cert.RouterRefIdeal.main_arg1) = m ((c.tc : Thread Cert.RouterRefIdeal.nD Cert.RouterRefIdeal.τ).loc Cert.RouterRefIdeal.main_arg1)
      ∧ r.2.mem ((c.tc : Thread Cert.RouterRefIdeal.nD Cert.RouterRefIdeal.τ).loc Cert.RouterRefIdeal.main_arg2) = m ((c.tc : Thread Cert.RouterRefIdeal.nD Cert.RouterRefIdeal.τ).loc Cert.RouterRefIdeal.main_arg2)
      ∧ r.2.mem ((c.tc : Thread Cert.RouterRefIdeal.nD Cert.RouterRefIdeal.τ).loc Cert.RouterRefIdeal.main_arg3) = m ((c.tc : Thread Cert.RouterRefIdeal.nD Cert.RouterRefIdeal.τ).loc Cert.RouterRefIdeal.main_arg3)
      ∧ r.2.mem ((c.tc : Thread Cert.RouterRefIdeal.nD Cert.RouterRefIdeal.τ).loc Cert.RouterRefIdeal.main_arg4) = m ((c.tc : Thread Cert.RouterRefIdeal.nD Cert.RouterRefIdeal.τ).loc Cert.RouterRefIdeal.main_arg4)
      ∧ r.2.mem ((c.tc : Thread Cert.RouterRefIdeal.nD Cert.RouterRefIdeal.τ).loc Cert.RouterRefIdeal.main_arg5) = m ((c.tc : Thread Cert.RouterRefIdeal.nD Cert.RouterRefIdeal.τ).loc Cert.RouterRefIdeal.main_arg5))
      ∧ r.2.sem = fun _ => 0)

def quiescent_Dispatch [hDispatch : Cert.Dispatch.Facts] : Prop :=
  ∀ (m : (ℓ : Loc Cert.Dispatch.nD Cert.Dispatch.τ Cert.Dispatch.sig) → Buf (Elt Bits) ℓ) (g : Dev Cert.Dispatch.nD → PrngReg), Pre_Dispatch m →
    θ_run (Cert.Dispatch.defs (F := Bits)) (onTc (τ := Cert.Dispatch.τ) (Cert.Dispatch.main (F := Bits))) ⟨m, fun _ => 0, g⟩ (fun r => (∀ c : Dev Cert.Dispatch.nD,
      r.2.mem ((c.tc : Thread Cert.Dispatch.nD Cert.Dispatch.τ).loc Cert.Dispatch.main_arg0) = m ((c.tc : Thread Cert.Dispatch.nD Cert.Dispatch.τ).loc Cert.Dispatch.main_arg0)
      ∧ r.2.mem ((c.tc : Thread Cert.Dispatch.nD Cert.Dispatch.τ).loc Cert.Dispatch.main_arg1) = m ((c.tc : Thread Cert.Dispatch.nD Cert.Dispatch.τ).loc Cert.Dispatch.main_arg1))
      ∧ r.2.sem = fun _ => 0)

def quiescent_DispatchIdeal [hDispatchIdeal : Cert.DispatchIdeal.Facts] : Prop :=
  ∀ (m : (ℓ : Loc Cert.DispatchIdeal.nD Cert.DispatchIdeal.τ Cert.DispatchIdeal.sig) → Buf (Elt Ideal) ℓ) (g : Dev Cert.DispatchIdeal.nD → PrngReg), Pre_DispatchIdeal m →
    θ_run (Cert.DispatchIdeal.defs (F := Ideal)) (onTc (τ := Cert.DispatchIdeal.τ) (Cert.DispatchIdeal.main (F := Ideal))) ⟨m, fun _ => 0, g⟩ (fun r => (∀ c : Dev Cert.DispatchIdeal.nD,
      r.2.mem ((c.tc : Thread Cert.DispatchIdeal.nD Cert.DispatchIdeal.τ).loc Cert.DispatchIdeal.main_arg0) = m ((c.tc : Thread Cert.DispatchIdeal.nD Cert.DispatchIdeal.τ).loc Cert.DispatchIdeal.main_arg0)
      ∧ r.2.mem ((c.tc : Thread Cert.DispatchIdeal.nD Cert.DispatchIdeal.τ).loc Cert.DispatchIdeal.main_arg1) = m ((c.tc : Thread Cert.DispatchIdeal.nD Cert.DispatchIdeal.τ).loc Cert.DispatchIdeal.main_arg1))
      ∧ r.2.sem = fun _ => 0)

def quiescent_DispatchIdeal_pre_expert_numbers [hDispatchIdeal : Cert.DispatchIdeal.Facts] [hPre_expert_numbers : Cert.Pre_expert_numbers.Facts] : Prop :=
  ∀ (m : (ℓ : Loc Cert.DispatchIdeal.nD Cert.DispatchIdeal.τ Cert.DispatchIdeal.sig) → Buf (Elt Ideal) ℓ) (g : Dev Cert.DispatchIdeal.nD → PrngReg), Pre_DispatchIdeal_expert_numbers m →
    θ_run (Cert.DispatchIdeal.defs (F := Ideal)) (onTc (τ := Cert.DispatchIdeal.τ) (Cert.DispatchIdeal.main (F := Ideal))) ⟨m, fun _ => 0, g⟩ (fun r => (∀ c : Dev Cert.DispatchIdeal.nD,
      r.2.mem ((c.tc : Thread Cert.DispatchIdeal.nD Cert.DispatchIdeal.τ).loc Cert.DispatchIdeal.main_arg0) = m ((c.tc : Thread Cert.DispatchIdeal.nD Cert.DispatchIdeal.τ).loc Cert.DispatchIdeal.main_arg0)
      ∧ r.2.mem ((c.tc : Thread Cert.DispatchIdeal.nD Cert.DispatchIdeal.τ).loc Cert.DispatchIdeal.main_arg1) = m ((c.tc : Thread Cert.DispatchIdeal.nD Cert.DispatchIdeal.τ).loc Cert.DispatchIdeal.main_arg1))
      ∧ r.2.sem = fun _ => 0)

def quiescent_DispatchRefIdeal [hDispatchRefIdeal : Cert.DispatchRefIdeal.Facts] : Prop :=
  ∀ (m : (ℓ : Loc Cert.DispatchRefIdeal.nD Cert.DispatchRefIdeal.τ Cert.DispatchRefIdeal.sig) → Buf (Elt Ideal) ℓ) (g : Dev Cert.DispatchRefIdeal.nD → PrngReg), Pre_DispatchRefIdeal m →
    θ_run (Cert.DispatchRefIdeal.defs (F := Ideal)) (onTc (τ := Cert.DispatchRefIdeal.τ) (Cert.DispatchRefIdeal.main (F := Ideal))) ⟨m, fun _ => 0, g⟩ (fun r => (∀ c : Dev Cert.DispatchRefIdeal.nD,
      r.2.mem ((c.tc : Thread Cert.DispatchRefIdeal.nD Cert.DispatchRefIdeal.τ).loc Cert.DispatchRefIdeal.main_arg0) = m ((c.tc : Thread Cert.DispatchRefIdeal.nD Cert.DispatchRefIdeal.τ).loc Cert.DispatchRefIdeal.main_arg0)
      ∧ r.2.mem ((c.tc : Thread Cert.DispatchRefIdeal.nD Cert.DispatchRefIdeal.τ).loc Cert.DispatchRefIdeal.main_arg1) = m ((c.tc : Thread Cert.DispatchRefIdeal.nD Cert.DispatchRefIdeal.τ).loc Cert.DispatchRefIdeal.main_arg1))
      ∧ r.2.sem = fun _ => 0)

def quiescent_DispatchRefIdeal_pre_expert_numbers [hDispatchRefIdeal : Cert.DispatchRefIdeal.Facts] [hPre_expert_numbers : Cert.Pre_expert_numbers.Facts] : Prop :=
  ∀ (m : (ℓ : Loc Cert.DispatchRefIdeal.nD Cert.DispatchRefIdeal.τ Cert.DispatchRefIdeal.sig) → Buf (Elt Ideal) ℓ) (g : Dev Cert.DispatchRefIdeal.nD → PrngReg), Pre_DispatchRefIdeal_expert_numbers m →
    θ_run (Cert.DispatchRefIdeal.defs (F := Ideal)) (onTc (τ := Cert.DispatchRefIdeal.τ) (Cert.DispatchRefIdeal.main (F := Ideal))) ⟨m, fun _ => 0, g⟩ (fun r => (∀ c : Dev Cert.DispatchRefIdeal.nD,
      r.2.mem ((c.tc : Thread Cert.DispatchRefIdeal.nD Cert.DispatchRefIdeal.τ).loc Cert.DispatchRefIdeal.main_arg0) = m ((c.tc : Thread Cert.DispatchRefIdeal.nD Cert.DispatchRefIdeal.τ).loc Cert.DispatchRefIdeal.main_arg0)
      ∧ r.2.mem ((c.tc : Thread Cert.DispatchRefIdeal.nD Cert.DispatchRefIdeal.τ).loc Cert.DispatchRefIdeal.main_arg1) = m ((c.tc : Thread Cert.DispatchRefIdeal.nD Cert.DispatchRefIdeal.τ).loc Cert.DispatchRefIdeal.main_arg1))
      ∧ r.2.sem = fun _ => 0)

def quiescent_Ssm [hSsm : Cert.Ssm.Facts] : Prop :=
  ∀ (m : (ℓ : Loc Cert.Ssm.nD Cert.Ssm.τ Cert.Ssm.sig) → Buf (Elt Bits) ℓ) (g : Dev Cert.Ssm.nD → PrngReg), Pre_Ssm m →
    θ_run (Cert.Ssm.defs (F := Bits)) (onTc (τ := Cert.Ssm.τ) (Cert.Ssm.main (F := Bits))) ⟨m, fun _ => 0, g⟩ (fun r => (∀ c : Dev Cert.Ssm.nD,
      r.2.mem ((c.tc : Thread Cert.Ssm.nD Cert.Ssm.τ).loc Cert.Ssm.main_arg0) = m ((c.tc : Thread Cert.Ssm.nD Cert.Ssm.τ).loc Cert.Ssm.main_arg0)
      ∧ r.2.mem ((c.tc : Thread Cert.Ssm.nD Cert.Ssm.τ).loc Cert.Ssm.main_arg1) = m ((c.tc : Thread Cert.Ssm.nD Cert.Ssm.τ).loc Cert.Ssm.main_arg1)
      ∧ r.2.mem ((c.tc : Thread Cert.Ssm.nD Cert.Ssm.τ).loc Cert.Ssm.main_arg2) = m ((c.tc : Thread Cert.Ssm.nD Cert.Ssm.τ).loc Cert.Ssm.main_arg2)
      ∧ r.2.mem ((c.tc : Thread Cert.Ssm.nD Cert.Ssm.τ).loc Cert.Ssm.main_arg3) = m ((c.tc : Thread Cert.Ssm.nD Cert.Ssm.τ).loc Cert.Ssm.main_arg3)
      ∧ r.2.mem ((c.tc : Thread Cert.Ssm.nD Cert.Ssm.τ).loc Cert.Ssm.main_arg4) = m ((c.tc : Thread Cert.Ssm.nD Cert.Ssm.τ).loc Cert.Ssm.main_arg4)
      ∧ r.2.mem ((c.tc : Thread Cert.Ssm.nD Cert.Ssm.τ).loc Cert.Ssm.main_arg5) = m ((c.tc : Thread Cert.Ssm.nD Cert.Ssm.τ).loc Cert.Ssm.main_arg5))
      ∧ r.2.sem = fun _ => 0)

def quiescent_SsmIdeal [hSsmIdeal : Cert.SsmIdeal.Facts] : Prop :=
  ∀ (m : (ℓ : Loc Cert.SsmIdeal.nD Cert.SsmIdeal.τ Cert.SsmIdeal.sig) → Buf (Elt Ideal) ℓ) (g : Dev Cert.SsmIdeal.nD → PrngReg), Pre_SsmIdeal m →
    θ_run (Cert.SsmIdeal.defs (F := Ideal)) (onTc (τ := Cert.SsmIdeal.τ) (Cert.SsmIdeal.main (F := Ideal))) ⟨m, fun _ => 0, g⟩ (fun r => (∀ c : Dev Cert.SsmIdeal.nD,
      r.2.mem ((c.tc : Thread Cert.SsmIdeal.nD Cert.SsmIdeal.τ).loc Cert.SsmIdeal.main_arg0) = m ((c.tc : Thread Cert.SsmIdeal.nD Cert.SsmIdeal.τ).loc Cert.SsmIdeal.main_arg0)
      ∧ r.2.mem ((c.tc : Thread Cert.SsmIdeal.nD Cert.SsmIdeal.τ).loc Cert.SsmIdeal.main_arg1) = m ((c.tc : Thread Cert.SsmIdeal.nD Cert.SsmIdeal.τ).loc Cert.SsmIdeal.main_arg1)
      ∧ r.2.mem ((c.tc : Thread Cert.SsmIdeal.nD Cert.SsmIdeal.τ).loc Cert.SsmIdeal.main_arg2) = m ((c.tc : Thread Cert.SsmIdeal.nD Cert.SsmIdeal.τ).loc Cert.SsmIdeal.main_arg2)
      ∧ r.2.mem ((c.tc : Thread Cert.SsmIdeal.nD Cert.SsmIdeal.τ).loc Cert.SsmIdeal.main_arg3) = m ((c.tc : Thread Cert.SsmIdeal.nD Cert.SsmIdeal.τ).loc Cert.SsmIdeal.main_arg3)
      ∧ r.2.mem ((c.tc : Thread Cert.SsmIdeal.nD Cert.SsmIdeal.τ).loc Cert.SsmIdeal.main_arg4) = m ((c.tc : Thread Cert.SsmIdeal.nD Cert.SsmIdeal.τ).loc Cert.SsmIdeal.main_arg4)
      ∧ r.2.mem ((c.tc : Thread Cert.SsmIdeal.nD Cert.SsmIdeal.τ).loc Cert.SsmIdeal.main_arg5) = m ((c.tc : Thread Cert.SsmIdeal.nD Cert.SsmIdeal.τ).loc Cert.SsmIdeal.main_arg5))
      ∧ r.2.sem = fun _ => 0)

def quiescent_SsmRefIdeal [hSsmRefIdeal : Cert.SsmRefIdeal.Facts] : Prop :=
  ∀ (m : (ℓ : Loc Cert.SsmRefIdeal.nD Cert.SsmRefIdeal.τ Cert.SsmRefIdeal.sig) → Buf (Elt Ideal) ℓ) (g : Dev Cert.SsmRefIdeal.nD → PrngReg), Pre_SsmRefIdeal m →
    θ_run (Cert.SsmRefIdeal.defs (F := Ideal)) (onTc (τ := Cert.SsmRefIdeal.τ) (Cert.SsmRefIdeal.main (F := Ideal))) ⟨m, fun _ => 0, g⟩ (fun r => (∀ c : Dev Cert.SsmRefIdeal.nD,
      r.2.mem ((c.tc : Thread Cert.SsmRefIdeal.nD Cert.SsmRefIdeal.τ).loc Cert.SsmRefIdeal.main_arg0) = m ((c.tc : Thread Cert.SsmRefIdeal.nD Cert.SsmRefIdeal.τ).loc Cert.SsmRefIdeal.main_arg0)
      ∧ r.2.mem ((c.tc : Thread Cert.SsmRefIdeal.nD Cert.SsmRefIdeal.τ).loc Cert.SsmRefIdeal.main_arg1) = m ((c.tc : Thread Cert.SsmRefIdeal.nD Cert.SsmRefIdeal.τ).loc Cert.SsmRefIdeal.main_arg1)
      ∧ r.2.mem ((c.tc : Thread Cert.SsmRefIdeal.nD Cert.SsmRefIdeal.τ).loc Cert.SsmRefIdeal.main_arg2) = m ((c.tc : Thread Cert.SsmRefIdeal.nD Cert.SsmRefIdeal.τ).loc Cert.SsmRefIdeal.main_arg2)
      ∧ r.2.mem ((c.tc : Thread Cert.SsmRefIdeal.nD Cert.SsmRefIdeal.τ).loc Cert.SsmRefIdeal.main_arg3) = m ((c.tc : Thread Cert.SsmRefIdeal.nD Cert.SsmRefIdeal.τ).loc Cert.SsmRefIdeal.main_arg3)
      ∧ r.2.mem ((c.tc : Thread Cert.SsmRefIdeal.nD Cert.SsmRefIdeal.τ).loc Cert.SsmRefIdeal.main_arg4) = m ((c.tc : Thread Cert.SsmRefIdeal.nD Cert.SsmRefIdeal.τ).loc Cert.SsmRefIdeal.main_arg4)
      ∧ r.2.mem ((c.tc : Thread Cert.SsmRefIdeal.nD Cert.SsmRefIdeal.τ).loc Cert.SsmRefIdeal.main_arg5) = m ((c.tc : Thread Cert.SsmRefIdeal.nD Cert.SsmRefIdeal.τ).loc Cert.SsmRefIdeal.main_arg5))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "mask" .f32 0xF149F2CA#32 ⊥
  ∧ IdealRules.named_const.Statement Cert.KernelIdeal.κ "qscale" .f32 0x3E0293EE#32 (((Real.sqrt 128)⁻¹ * (Real.log 2)⁻¹ : ℝ) : EReal)

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v0)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v8) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_VProj_VProjIdeal : Prop :=
  True

def algebraic_VProjIdeal_VProjRefIdeal [hVProjIdeal : Cert.VProjIdeal.Facts] [hVProjRefIdeal : Cert.VProjRefIdeal.Facts] : Prop :=
  ∀ (m : (ℓ : Loc Cert.VProjIdeal.nD Cert.VProjIdeal.τ Cert.VProjIdeal.sig) → Buf (Elt Ideal) ℓ) (g : Dev Cert.VProjIdeal.nD → PrngReg)
    (m' : (ℓ : Loc Cert.VProjRefIdeal.nD Cert.VProjRefIdeal.τ Cert.VProjRefIdeal.sig) → Buf (Elt Ideal) ℓ) (g' : Dev Cert.VProjRefIdeal.nD → PrngReg), Pre_VProjIdeal m →
    (∀ c : Dev Cert.VProjIdeal.nD,
      m' ((c.tc : Thread Cert.VProjRefIdeal.nD Cert.VProjRefIdeal.τ).loc Cert.VProjRefIdeal.main_arg0) = m ((c.tc : Thread Cert.VProjIdeal.nD Cert.VProjIdeal.τ).loc Cert.VProjIdeal.main_arg0)
      ∧ m' ((c.tc : Thread Cert.VProjRefIdeal.nD Cert.VProjRefIdeal.τ).loc Cert.VProjRefIdeal.main_arg1) = m ((c.tc : Thread Cert.VProjIdeal.nD Cert.VProjIdeal.τ).loc Cert.VProjIdeal.main_arg1)) →
    ∃ (v0 : (c : Dev Cert.VProjIdeal.nD) → Buf (Elt Ideal) ((c.tc : Thread Cert.VProjIdeal.nD Cert.VProjIdeal.τ).loc Cert.VProjIdeal.main_v0)),
      θ_run (Cert.VProjIdeal.defs (F := Ideal)) (onTc (τ := Cert.VProjIdeal.τ) (Cert.VProjIdeal.main (F := Ideal))) ⟨m, fun _ => 0, g⟩ (fun r => ∀ c : Dev Cert.VProjIdeal.nD,
          r.2.mem ((c.tc : Thread Cert.VProjIdeal.nD Cert.VProjIdeal.τ).loc Cert.VProjIdeal.main_v0) = v0 c
          ∧ r.2.mem ((c.tc : Thread Cert.VProjIdeal.nD Cert.VProjIdeal.τ).loc Cert.VProjIdeal.main_arg0) = m ((c.tc : Thread Cert.VProjIdeal.nD Cert.VProjIdeal.τ).loc Cert.VProjIdeal.main_arg0)
          ∧ r.2.mem ((c.tc : Thread Cert.VProjIdeal.nD Cert.VProjIdeal.τ).loc Cert.VProjIdeal.main_arg1) = m ((c.tc : Thread Cert.VProjIdeal.nD Cert.VProjIdeal.τ).loc Cert.VProjIdeal.main_arg1))
      ∧ θ_run (Cert.VProjRefIdeal.defs (F := Ideal)) (onTc (τ := Cert.VProjRefIdeal.τ) (Cert.VProjRefIdeal.main (F := Ideal))) ⟨m', fun _ => 0, g'⟩ (fun r => ∀ c : Dev Cert.VProjRefIdeal.nD,
          r.2.mem ((c.tc : Thread Cert.VProjRefIdeal.nD Cert.VProjRefIdeal.τ).loc Cert.VProjRefIdeal.main_v9) = v0 c
          ∧ r.2.mem ((c.tc : Thread Cert.VProjRefIdeal.nD Cert.VProjRefIdeal.τ).loc Cert.VProjRefIdeal.main_arg0) = m' ((c.tc : Thread Cert.VProjRefIdeal.nD Cert.VProjRefIdeal.τ).loc Cert.VProjRefIdeal.main_arg0)
          ∧ r.2.mem ((c.tc : Thread Cert.VProjRefIdeal.nD Cert.VProjRefIdeal.τ).loc Cert.VProjRefIdeal.main_arg1) = m' ((c.tc : Thread Cert.VProjRefIdeal.nD Cert.VProjRefIdeal.τ).loc Cert.VProjRefIdeal.main_arg1))

def preserves_Glu_GluIdeal : Prop :=
  True

def algebraic_GluIdeal_GluRefIdeal [hGluIdeal : Cert.GluIdeal.Facts] [hGluRefIdeal : Cert.GluRefIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluRefIdeal.nD Cert.GluRefIdeal.τ Cert.GluRefIdeal.sig) → Buf (Elt Ideal) ℓ) (g' : Dev Cert.GluRefIdeal.nD → PrngReg), Pre_GluIdeal m →
    (∀ c : Dev Cert.GluIdeal.nD,
      m' ((c.tc : Thread Cert.GluRefIdeal.nD Cert.GluRefIdeal.τ).loc Cert.GluRefIdeal.main_arg0) = m ((c.tc : Thread Cert.GluIdeal.nD Cert.GluIdeal.τ).loc Cert.GluIdeal.main_arg0)
      ∧ m' ((c.tc : Thread Cert.GluRefIdeal.nD Cert.GluRefIdeal.τ).loc Cert.GluRefIdeal.main_arg1) = m ((c.tc : Thread Cert.GluIdeal.nD Cert.GluIdeal.τ).loc Cert.GluIdeal.main_arg1)) →
    ∃ (v0 : (c : Dev Cert.GluIdeal.nD) → Buf (Elt Ideal) ((c.tc : Thread Cert.GluIdeal.nD Cert.GluIdeal.τ).loc Cert.GluIdeal.main_v0)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v0) = v0 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1))
      ∧ θ_run (Cert.GluRefIdeal.defs (F := Ideal)) (onTc (τ := Cert.GluRefIdeal.τ) (Cert.GluRefIdeal.main (F := Ideal))) ⟨m', fun _ => 0, g'⟩ (fun r => ∀ c : Dev Cert.GluRefIdeal.nD,
          r.2.mem ((c.tc : Thread Cert.GluRefIdeal.nD Cert.GluRefIdeal.τ).loc Cert.GluRefIdeal.main_v11) = v0 c
          ∧ r.2.mem ((c.tc : Thread Cert.GluRefIdeal.nD Cert.GluRefIdeal.τ).loc Cert.GluRefIdeal.main_arg0) = m' ((c.tc : Thread Cert.GluRefIdeal.nD Cert.GluRefIdeal.τ).loc Cert.GluRefIdeal.main_arg0)
          ∧ r.2.mem ((c.tc : Thread Cert.GluRefIdeal.nD Cert.GluRefIdeal.τ).loc Cert.GluRefIdeal.main_arg1) = m' ((c.tc : Thread Cert.GluRefIdeal.nD Cert.GluRefIdeal.τ).loc Cert.GluRefIdeal.main_arg1))

def preserves_Mixed_MixedIdeal : Prop :=
  True

def algebraic_MixedIdeal_MixedRefIdeal [hMixedIdeal : Cert.MixedIdeal.Facts] [hMixedRefIdeal : Cert.MixedRefIdeal.Facts] : Prop :=
  ∀ (m : (ℓ : Loc Cert.MixedIdeal.nD Cert.MixedIdeal.τ Cert.MixedIdeal.sig) → Buf (Elt Ideal) ℓ) (g : Dev Cert.MixedIdeal.nD → PrngReg)
    (m' : (ℓ : Loc Cert.MixedRefIdeal.nD Cert.MixedRefIdeal.τ Cert.MixedRefIdeal.sig) → Buf (Elt Ideal) ℓ) (g' : Dev Cert.MixedRefIdeal.nD → PrngReg), Pre_MixedIdeal m →
    (∀ c : Dev Cert.MixedIdeal.nD,
      m' ((c.tc : Thread Cert.MixedRefIdeal.nD Cert.MixedRefIdeal.τ).loc Cert.MixedRefIdeal.main_arg0) = m ((c.tc : Thread Cert.MixedIdeal.nD Cert.MixedIdeal.τ).loc Cert.MixedIdeal.main_arg0)
      ∧ m' ((c.tc : Thread Cert.MixedRefIdeal.nD Cert.MixedRefIdeal.τ).loc Cert.MixedRefIdeal.main_arg1) = m ((c.tc : Thread Cert.MixedIdeal.nD Cert.MixedIdeal.τ).loc Cert.MixedIdeal.main_arg1)
      ∧ m' ((c.tc : Thread Cert.MixedRefIdeal.nD Cert.MixedRefIdeal.τ).loc Cert.MixedRefIdeal.main_arg2) = m ((c.tc : Thread Cert.MixedIdeal.nD Cert.MixedIdeal.τ).loc Cert.MixedIdeal.main_arg2)
      ∧ m' ((c.tc : Thread Cert.MixedRefIdeal.nD Cert.MixedRefIdeal.τ).loc Cert.MixedRefIdeal.main_arg3) = m ((c.tc : Thread Cert.MixedIdeal.nD Cert.MixedIdeal.τ).loc Cert.MixedIdeal.main_arg3)
      ∧ m' ((c.tc : Thread Cert.MixedRefIdeal.nD Cert.MixedRefIdeal.τ).loc Cert.MixedRefIdeal.main_arg4) = m ((c.tc : Thread Cert.MixedIdeal.nD Cert.MixedIdeal.τ).loc Cert.MixedIdeal.main_arg4)) →
    ∃ (v0 : (c : Dev Cert.MixedIdeal.nD) → Buf (Elt Ideal) ((c.tc : Thread Cert.MixedIdeal.nD Cert.MixedIdeal.τ).loc Cert.MixedIdeal.main_v0)),
      θ_run (Cert.MixedIdeal.defs (F := Ideal)) (onTc (τ := Cert.MixedIdeal.τ) (Cert.MixedIdeal.main (F := Ideal))) ⟨m, fun _ => 0, g⟩ (fun r => ∀ c : Dev Cert.MixedIdeal.nD,
          r.2.mem ((c.tc : Thread Cert.MixedIdeal.nD Cert.MixedIdeal.τ).loc Cert.MixedIdeal.main_v0) = v0 c
          ∧ r.2.mem ((c.tc : Thread Cert.MixedIdeal.nD Cert.MixedIdeal.τ).loc Cert.MixedIdeal.main_arg0) = m ((c.tc : Thread Cert.MixedIdeal.nD Cert.MixedIdeal.τ).loc Cert.MixedIdeal.main_arg0)
          ∧ r.2.mem ((c.tc : Thread Cert.MixedIdeal.nD Cert.MixedIdeal.τ).loc Cert.MixedIdeal.main_arg1) = m ((c.tc : Thread Cert.MixedIdeal.nD Cert.MixedIdeal.τ).loc Cert.MixedIdeal.main_arg1)
          ∧ r.2.mem ((c.tc : Thread Cert.MixedIdeal.nD Cert.MixedIdeal.τ).loc Cert.MixedIdeal.main_arg2) = m ((c.tc : Thread Cert.MixedIdeal.nD Cert.MixedIdeal.τ).loc Cert.MixedIdeal.main_arg2)
          ∧ r.2.mem ((c.tc : Thread Cert.MixedIdeal.nD Cert.MixedIdeal.τ).loc Cert.MixedIdeal.main_arg3) = m ((c.tc : Thread Cert.MixedIdeal.nD Cert.MixedIdeal.τ).loc Cert.MixedIdeal.main_arg3)
          ∧ r.2.mem ((c.tc : Thread Cert.MixedIdeal.nD Cert.MixedIdeal.τ).loc Cert.MixedIdeal.main_arg4) = m ((c.tc : Thread Cert.MixedIdeal.nD Cert.MixedIdeal.τ).loc Cert.MixedIdeal.main_arg4))
      ∧ θ_run (Cert.MixedRefIdeal.defs (F := Ideal)) (onTc (τ := Cert.MixedRefIdeal.τ) (Cert.MixedRefIdeal.main (F := Ideal))) ⟨m', fun _ => 0, g'⟩ (fun r => ∀ c : Dev Cert.MixedRefIdeal.nD,
          r.2.mem ((c.tc : Thread Cert.MixedRefIdeal.nD Cert.MixedRefIdeal.τ).loc Cert.MixedRefIdeal.main_v24) = v0 c
          ∧ r.2.mem ((c.tc : Thread Cert.MixedRefIdeal.nD Cert.MixedRefIdeal.τ).loc Cert.MixedRefIdeal.main_arg0) = m' ((c.tc : Thread Cert.MixedRefIdeal.nD Cert.MixedRefIdeal.τ).loc Cert.MixedRefIdeal.main_arg0)
          ∧ r.2.mem ((c.tc : Thread Cert.MixedRefIdeal.nD Cert.MixedRefIdeal.τ).loc Cert.MixedRefIdeal.main_arg1) = m' ((c.tc : Thread Cert.MixedRefIdeal.nD Cert.MixedRefIdeal.τ).loc Cert.MixedRefIdeal.main_arg1)
          ∧ r.2.mem ((c.tc : Thread Cert.MixedRefIdeal.nD Cert.MixedRefIdeal.τ).loc Cert.MixedRefIdeal.main_arg2) = m' ((c.tc : Thread Cert.MixedRefIdeal.nD Cert.MixedRefIdeal.τ).loc Cert.MixedRefIdeal.main_arg2)
          ∧ r.2.mem ((c.tc : Thread Cert.MixedRefIdeal.nD Cert.MixedRefIdeal.τ).loc Cert.MixedRefIdeal.main_arg3) = m' ((c.tc : Thread Cert.MixedRefIdeal.nD Cert.MixedRefIdeal.τ).loc Cert.MixedRefIdeal.main_arg3)
          ∧ r.2.mem ((c.tc : Thread Cert.MixedRefIdeal.nD Cert.MixedRefIdeal.τ).loc Cert.MixedRefIdeal.main_arg4) = m' ((c.tc : Thread Cert.MixedRefIdeal.nD Cert.MixedRefIdeal.τ).loc Cert.MixedRefIdeal.main_arg4))

def preserves_OutResid_OutResidIdeal : Prop :=
  True

def algebraic_OutResidIdeal_OutResidRefIdeal [hOutResidIdeal : Cert.OutResidIdeal.Facts] [hOutResidRefIdeal : Cert.OutResidRefIdeal.Facts] : Prop :=
  ∀ (m : (ℓ : Loc Cert.OutResidIdeal.nD Cert.OutResidIdeal.τ Cert.OutResidIdeal.sig) → Buf (Elt Ideal) ℓ) (g : Dev Cert.OutResidIdeal.nD → PrngReg)
    (m' : (ℓ : Loc Cert.OutResidRefIdeal.nD Cert.OutResidRefIdeal.τ Cert.OutResidRefIdeal.sig) → Buf (Elt Ideal) ℓ) (g' : Dev Cert.OutResidRefIdeal.nD → PrngReg), Pre_OutResidIdeal m →
    (∀ c : Dev Cert.OutResidIdeal.nD,
      m' ((c.tc : Thread Cert.OutResidRefIdeal.nD Cert.OutResidRefIdeal.τ).loc Cert.OutResidRefIdeal.main_arg0) = m ((c.tc : Thread Cert.OutResidIdeal.nD Cert.OutResidIdeal.τ).loc Cert.OutResidIdeal.main_arg0)
      ∧ m' ((c.tc : Thread Cert.OutResidRefIdeal.nD Cert.OutResidRefIdeal.τ).loc Cert.OutResidRefIdeal.main_arg1) = m ((c.tc : Thread Cert.OutResidIdeal.nD Cert.OutResidIdeal.τ).loc Cert.OutResidIdeal.main_arg1)
      ∧ m' ((c.tc : Thread Cert.OutResidRefIdeal.nD Cert.OutResidRefIdeal.τ).loc Cert.OutResidRefIdeal.main_arg2) = m ((c.tc : Thread Cert.OutResidIdeal.nD Cert.OutResidIdeal.τ).loc Cert.OutResidIdeal.main_arg2)) →
    ∃ (v0 : (c : Dev Cert.OutResidIdeal.nD) → Buf (Elt Ideal) ((c.tc : Thread Cert.OutResidIdeal.nD Cert.OutResidIdeal.τ).loc Cert.OutResidIdeal.main_v0)),
      θ_run (Cert.OutResidIdeal.defs (F := Ideal)) (onTc (τ := Cert.OutResidIdeal.τ) (Cert.OutResidIdeal.main (F := Ideal))) ⟨m, fun _ => 0, g⟩ (fun r => ∀ c : Dev Cert.OutResidIdeal.nD,
          r.2.mem ((c.tc : Thread Cert.OutResidIdeal.nD Cert.OutResidIdeal.τ).loc Cert.OutResidIdeal.main_v0) = v0 c
          ∧ r.2.mem ((c.tc : Thread Cert.OutResidIdeal.nD Cert.OutResidIdeal.τ).loc Cert.OutResidIdeal.main_arg0) = m ((c.tc : Thread Cert.OutResidIdeal.nD Cert.OutResidIdeal.τ).loc Cert.OutResidIdeal.main_arg0)
          ∧ r.2.mem ((c.tc : Thread Cert.OutResidIdeal.nD Cert.OutResidIdeal.τ).loc Cert.OutResidIdeal.main_arg1) = m ((c.tc : Thread Cert.OutResidIdeal.nD Cert.OutResidIdeal.τ).loc Cert.OutResidIdeal.main_arg1)
          ∧ r.2.mem ((c.tc : Thread Cert.OutResidIdeal.nD Cert.OutResidIdeal.τ).loc Cert.OutResidIdeal.main_arg2) = m ((c.tc : Thread Cert.OutResidIdeal.nD Cert.OutResidIdeal.τ).loc Cert.OutResidIdeal.main_arg2))
      ∧ θ_run (Cert.OutResidRefIdeal.defs (F := Ideal)) (onTc (τ := Cert.OutResidRefIdeal.τ) (Cert.OutResidRefIdeal.main (F := Ideal))) ⟨m', fun _ => 0, g'⟩ (fun r => ∀ c : Dev Cert.OutResidRefIdeal.nD,
          r.2.mem ((c.tc : Thread Cert.OutResidRefIdeal.nD Cert.OutResidRefIdeal.τ).loc Cert.OutResidRefIdeal.main_v2) = v0 c
          ∧ r.2.mem ((c.tc : Thread Cert.OutResidRefIdeal.nD Cert.OutResidRefIdeal.τ).loc Cert.OutResidRefIdeal.main_arg0) = m' ((c.tc : Thread Cert.OutResidRefIdeal.nD Cert.OutResidRefIdeal.τ).loc Cert.OutResidRefIdeal.main_arg0)
          ∧ r.2.mem ((c.tc : Thread Cert.OutResidRefIdeal.nD Cert.OutResidRefIdeal.τ).loc Cert.OutResidRefIdeal.main_arg1) = m' ((c.tc : Thread Cert.OutResidRefIdeal.nD Cert.OutResidRefIdeal.τ).loc Cert.OutResidRefIdeal.main_arg1)
          ∧ r.2.mem ((c.tc : Thread Cert.OutResidRefIdeal.nD Cert.OutResidRefIdeal.τ).loc Cert.OutResidRefIdeal.main_arg2) = m' ((c.tc : Thread Cert.OutResidRefIdeal.nD Cert.OutResidRefIdeal.τ).loc Cert.OutResidRefIdeal.main_arg2))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v13) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_Router_RouterIdeal : Prop :=
  True

def algebraic_RouterIdeal_RouterRefIdeal_pre_finite_router [hRouterIdeal : Cert.RouterIdeal.Facts] [hRouterRefIdeal : Cert.RouterRefIdeal.Facts] [hPre_finite_router : Cert.Pre_finite_router.Facts] : Prop :=
  ∀ (m : (ℓ : Loc Cert.RouterIdeal.nD Cert.RouterIdeal.τ Cert.RouterIdeal.sig) → Buf (Elt Ideal) ℓ) (g : Dev Cert.RouterIdeal.nD → PrngReg)
    (m' : (ℓ : Loc Cert.RouterRefIdeal.nD Cert.RouterRefIdeal.τ Cert.RouterRefIdeal.sig) → Buf (Elt Ideal) ℓ) (g' : Dev Cert.RouterRefIdeal.nD → PrngReg), Pre_RouterIdeal_finite_router m →
    (∀ c : Dev Cert.RouterIdeal.nD,
      m' ((c.tc : Thread Cert.RouterRefIdeal.nD Cert.RouterRefIdeal.τ).loc Cert.RouterRefIdeal.main_arg0) = m ((c.tc : Thread Cert.RouterIdeal.nD Cert.RouterIdeal.τ).loc Cert.RouterIdeal.main_arg0)
      ∧ m' ((c.tc : Thread Cert.RouterRefIdeal.nD Cert.RouterRefIdeal.τ).loc Cert.RouterRefIdeal.main_arg1) = m ((c.tc : Thread Cert.RouterIdeal.nD Cert.RouterIdeal.τ).loc Cert.RouterIdeal.main_arg1)
      ∧ m' ((c.tc : Thread Cert.RouterRefIdeal.nD Cert.RouterRefIdeal.τ).loc Cert.RouterRefIdeal.main_arg2) = m ((c.tc : Thread Cert.RouterIdeal.nD Cert.RouterIdeal.τ).loc Cert.RouterIdeal.main_arg2)
      ∧ m' ((c.tc : Thread Cert.RouterRefIdeal.nD Cert.RouterRefIdeal.τ).loc Cert.RouterRefIdeal.main_arg3) = m ((c.tc : Thread Cert.RouterIdeal.nD Cert.RouterIdeal.τ).loc Cert.RouterIdeal.main_arg3)
      ∧ m' ((c.tc : Thread Cert.RouterRefIdeal.nD Cert.RouterRefIdeal.τ).loc Cert.RouterRefIdeal.main_arg4) = m ((c.tc : Thread Cert.RouterIdeal.nD Cert.RouterIdeal.τ).loc Cert.RouterIdeal.main_arg4)
      ∧ m' ((c.tc : Thread Cert.RouterRefIdeal.nD Cert.RouterRefIdeal.τ).loc Cert.RouterRefIdeal.main_arg5) = m ((c.tc : Thread Cert.RouterIdeal.nD Cert.RouterIdeal.τ).loc Cert.RouterIdeal.main_arg5)) →
    ∃ (v0 : (c : Dev Cert.RouterIdeal.nD) → Buf (Elt Ideal) ((c.tc : Thread Cert.RouterIdeal.nD Cert.RouterIdeal.τ).loc Cert.RouterIdeal.main_v10_0)) (v1 : (c : Dev Cert.RouterIdeal.nD) → Buf (Elt Ideal) ((c.tc : Thread Cert.RouterIdeal.nD Cert.RouterIdeal.τ).loc Cert.RouterIdeal.main_v10_1)) (v2 : (c : Dev Cert.RouterIdeal.nD) → Buf (Elt Ideal) ((c.tc : Thread Cert.RouterIdeal.nD Cert.RouterIdeal.τ).loc Cert.RouterIdeal.main_v10_2)),
      θ_run (Cert.RouterIdeal.defs (F := Ideal)) (onTc (τ := Cert.RouterIdeal.τ) (Cert.RouterIdeal.main (F := Ideal))) ⟨m, fun _ => 0, g⟩ (fun r => ∀ c : Dev Cert.RouterIdeal.nD,
          r.2.mem ((c.tc : Thread Cert.RouterIdeal.nD Cert.RouterIdeal.τ).loc Cert.RouterIdeal.main_v10_0) = v0 c
          ∧ r.2.mem ((c.tc : Thread Cert.RouterIdeal.nD Cert.RouterIdeal.τ).loc Cert.RouterIdeal.main_v10_1) = v1 c
          ∧ r.2.mem ((c.tc : Thread Cert.RouterIdeal.nD Cert.RouterIdeal.τ).loc Cert.RouterIdeal.main_v10_2) = v2 c
          ∧ r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
          ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
          ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2)
          ∧ r.2.mem ((c.tc : Thread Cert.RouterIdeal.nD Cert.RouterIdeal.τ).loc Cert.RouterIdeal.main_arg3) = m ((c.tc : Thread Cert.RouterIdeal.nD Cert.RouterIdeal.τ).loc Cert.RouterIdeal.main_arg3)
          ∧ r.2.mem ((c.tc : Thread Cert.RouterIdeal.nD Cert.RouterIdeal.τ).loc Cert.RouterIdeal.main_arg4) = m ((c.tc : Thread Cert.RouterIdeal.nD Cert.RouterIdeal.τ).loc Cert.RouterIdeal.main_arg4)
          ∧ r.2.mem ((c.tc : Thread Cert.RouterIdeal.nD Cert.RouterIdeal.τ).loc Cert.RouterIdeal.main_arg5) = m ((c.tc : Thread Cert.RouterIdeal.nD Cert.RouterIdeal.τ).loc Cert.RouterIdeal.main_arg5))
      ∧ θ_run (Cert.RouterRefIdeal.defs (F := Ideal)) (onTc (τ := Cert.RouterRefIdeal.τ) (Cert.RouterRefIdeal.main (F := Ideal))) ⟨m', fun _ => 0, g'⟩ (fun r => ∀ c : Dev Cert.RouterRefIdeal.nD,
          r.2.mem ((c.tc : Thread Cert.RouterRefIdeal.nD Cert.RouterRefIdeal.τ).loc Cert.RouterRefIdeal.main_v59) = v0 c
          ∧ r.2.mem ((c.tc : Thread Cert.RouterRefIdeal.nD Cert.RouterRefIdeal.τ).loc Cert.RouterRefIdeal.main_v60) = v1 c
          ∧ r.2.mem ((c.tc : Thread Cert.RouterRefIdeal.nD Cert.RouterRefIdeal.τ).loc Cert.RouterRefIdeal.main_v62) = v2 c
          ∧ r.2.mem ((c.tc : Thread Cert.RouterRefIdeal.nD Cert.RouterRefIdeal.τ).loc Cert.RouterRefIdeal.main_arg0) = m' ((c.tc : Thread Cert.RouterRefIdeal.nD Cert.RouterRefIdeal.τ).loc Cert.RouterRefIdeal.main_arg0)
          ∧ r.2.mem ((c.tc : Thread Cert.RouterRefIdeal.nD Cert.RouterRefIdeal.τ).loc Cert.RouterRefIdeal.main_arg1) = m' ((c.tc : Thread Cert.RouterRefIdeal.nD Cert.RouterRefIdeal.τ).loc Cert.RouterRefIdeal.main_arg1)
          ∧ r.2.mem ((c.tc : Thread Cert.RouterRefIdeal.nD Cert.RouterRefIdeal.τ).loc Cert.RouterRefIdeal.main_arg2) = m' ((c.tc : Thread Cert.RouterRefIdeal.nD Cert.RouterRefIdeal.τ).loc Cert.RouterRefIdeal.main_arg2)
          ∧ r.2.mem ((c.tc : Thread Cert.RouterRefIdeal.nD Cert.RouterRefIdeal.τ).loc Cert.RouterRefIdeal.main_arg3) = m' ((c.tc : Thread Cert.RouterRefIdeal.nD Cert.RouterRefIdeal.τ).loc Cert.RouterRefIdeal.main_arg3)
          ∧ r.2.mem ((c.tc : Thread Cert.RouterRefIdeal.nD Cert.RouterRefIdeal.τ).loc Cert.RouterRefIdeal.main_arg4) = m' ((c.tc : Thread Cert.RouterRefIdeal.nD Cert.RouterRefIdeal.τ).loc Cert.RouterRefIdeal.main_arg4)
          ∧ r.2.mem ((c.tc : Thread Cert.RouterRefIdeal.nD Cert.RouterRefIdeal.τ).loc Cert.RouterRefIdeal.main_arg5) = m' ((c.tc : Thread Cert.RouterRefIdeal.nD Cert.RouterRefIdeal.τ).loc Cert.RouterRefIdeal.main_arg5))

def preserves_Dispatch_DispatchIdeal : Prop :=
  True

def algebraic_DispatchIdeal_DispatchRefIdeal_pre_expert_numbers [hDispatchIdeal : Cert.DispatchIdeal.Facts] [hDispatchRefIdeal : Cert.DispatchRefIdeal.Facts] [hPre_expert_numbers : Cert.Pre_expert_numbers.Facts] : Prop :=
  ∀ (m : (ℓ : Loc Cert.DispatchIdeal.nD Cert.DispatchIdeal.τ Cert.DispatchIdeal.sig) → Buf (Elt Ideal) ℓ) (g : Dev Cert.DispatchIdeal.nD → PrngReg)
    (m' : (ℓ : Loc Cert.DispatchRefIdeal.nD Cert.DispatchRefIdeal.τ Cert.DispatchRefIdeal.sig) → Buf (Elt Ideal) ℓ) (g' : Dev Cert.DispatchRefIdeal.nD → PrngReg), Pre_DispatchIdeal_expert_numbers m →
    (∀ c : Dev Cert.DispatchIdeal.nD,
      m' ((c.tc : Thread Cert.DispatchRefIdeal.nD Cert.DispatchRefIdeal.τ).loc Cert.DispatchRefIdeal.main_arg0) = m ((c.tc : Thread Cert.DispatchIdeal.nD Cert.DispatchIdeal.τ).loc Cert.DispatchIdeal.main_arg0)
      ∧ m' ((c.tc : Thread Cert.DispatchRefIdeal.nD Cert.DispatchRefIdeal.τ).loc Cert.DispatchRefIdeal.main_arg1) = m ((c.tc : Thread Cert.DispatchIdeal.nD Cert.DispatchIdeal.τ).loc Cert.DispatchIdeal.main_arg1)) →
    ∃ (v0 : (c : Dev Cert.DispatchIdeal.nD) → Buf (Elt Ideal) ((c.tc : Thread Cert.DispatchIdeal.nD Cert.DispatchIdeal.τ).loc Cert.DispatchIdeal.main_v0)),
      θ_run (Cert.DispatchIdeal.defs (F := Ideal)) (onTc (τ := Cert.DispatchIdeal.τ) (Cert.DispatchIdeal.main (F := Ideal))) ⟨m, fun _ => 0, g⟩ (fun r => ∀ c : Dev Cert.DispatchIdeal.nD,
          r.2.mem ((c.tc : Thread Cert.DispatchIdeal.nD Cert.DispatchIdeal.τ).loc Cert.DispatchIdeal.main_v0) = v0 c
          ∧ r.2.mem ((c.tc : Thread Cert.DispatchIdeal.nD Cert.DispatchIdeal.τ).loc Cert.DispatchIdeal.main_arg0) = m ((c.tc : Thread Cert.DispatchIdeal.nD Cert.DispatchIdeal.τ).loc Cert.DispatchIdeal.main_arg0)
          ∧ r.2.mem ((c.tc : Thread Cert.DispatchIdeal.nD Cert.DispatchIdeal.τ).loc Cert.DispatchIdeal.main_arg1) = m ((c.tc : Thread Cert.DispatchIdeal.nD Cert.DispatchIdeal.τ).loc Cert.DispatchIdeal.main_arg1))
      ∧ θ_run (Cert.DispatchRefIdeal.defs (F := Ideal)) (onTc (τ := Cert.DispatchRefIdeal.τ) (Cert.DispatchRefIdeal.main (F := Ideal))) ⟨m', fun _ => 0, g'⟩ (fun r => ∀ c : Dev Cert.DispatchRefIdeal.nD,
          r.2.mem ((c.tc : Thread Cert.DispatchRefIdeal.nD Cert.DispatchRefIdeal.τ).loc Cert.DispatchRefIdeal.main_v28) = v0 c
          ∧ r.2.mem ((c.tc : Thread Cert.DispatchRefIdeal.nD Cert.DispatchRefIdeal.τ).loc Cert.DispatchRefIdeal.main_arg0) = m' ((c.tc : Thread Cert.DispatchRefIdeal.nD Cert.DispatchRefIdeal.τ).loc Cert.DispatchRefIdeal.main_arg0)
          ∧ r.2.mem ((c.tc : Thread Cert.DispatchRefIdeal.nD Cert.DispatchRefIdeal.τ).loc Cert.DispatchRefIdeal.main_arg1) = m' ((c.tc : Thread Cert.DispatchRefIdeal.nD Cert.DispatchRefIdeal.τ).loc Cert.DispatchRefIdeal.main_arg1))

def preserves_Ssm_SsmIdeal : Prop :=
  True

def algebraic_SsmIdeal_SsmRefIdeal [hSsmIdeal : Cert.SsmIdeal.Facts] [hSsmRefIdeal : Cert.SsmRefIdeal.Facts] : Prop :=
  ∀ (m : (ℓ : Loc Cert.SsmIdeal.nD Cert.SsmIdeal.τ Cert.SsmIdeal.sig) → Buf (Elt Ideal) ℓ) (g : Dev Cert.SsmIdeal.nD → PrngReg)
    (m' : (ℓ : Loc Cert.SsmRefIdeal.nD Cert.SsmRefIdeal.τ Cert.SsmRefIdeal.sig) → Buf (Elt Ideal) ℓ) (g' : Dev Cert.SsmRefIdeal.nD → PrngReg), Pre_SsmIdeal m →
    (∀ c : Dev Cert.SsmIdeal.nD,
      m' ((c.tc : Thread Cert.SsmRefIdeal.nD Cert.SsmRefIdeal.τ).loc Cert.SsmRefIdeal.main_arg0) = m ((c.tc : Thread Cert.SsmIdeal.nD Cert.SsmIdeal.τ).loc Cert.SsmIdeal.main_arg0)
      ∧ m' ((c.tc : Thread Cert.SsmRefIdeal.nD Cert.SsmRefIdeal.τ).loc Cert.SsmRefIdeal.main_arg1) = m ((c.tc : Thread Cert.SsmIdeal.nD Cert.SsmIdeal.τ).loc Cert.SsmIdeal.main_arg1)
      ∧ m' ((c.tc : Thread Cert.SsmRefIdeal.nD Cert.SsmRefIdeal.τ).loc Cert.SsmRefIdeal.main_arg2) = m ((c.tc : Thread Cert.SsmIdeal.nD Cert.SsmIdeal.τ).loc Cert.SsmIdeal.main_arg2)
      ∧ m' ((c.tc : Thread Cert.SsmRefIdeal.nD Cert.SsmRefIdeal.τ).loc Cert.SsmRefIdeal.main_arg3) = m ((c.tc : Thread Cert.SsmIdeal.nD Cert.SsmIdeal.τ).loc Cert.SsmIdeal.main_arg3)
      ∧ m' ((c.tc : Thread Cert.SsmRefIdeal.nD Cert.SsmRefIdeal.τ).loc Cert.SsmRefIdeal.main_arg4) = m ((c.tc : Thread Cert.SsmIdeal.nD Cert.SsmIdeal.τ).loc Cert.SsmIdeal.main_arg4)
      ∧ m' ((c.tc : Thread Cert.SsmRefIdeal.nD Cert.SsmRefIdeal.τ).loc Cert.SsmRefIdeal.main_arg5) = m ((c.tc : Thread Cert.SsmIdeal.nD Cert.SsmIdeal.τ).loc Cert.SsmIdeal.main_arg5)) →
    ∃ (v0 : (c : Dev Cert.SsmIdeal.nD) → Buf (Elt Ideal) ((c.tc : Thread Cert.SsmIdeal.nD Cert.SsmIdeal.τ).loc Cert.SsmIdeal.main_v0)),
      θ_run (Cert.SsmIdeal.defs (F := Ideal)) (onTc (τ := Cert.SsmIdeal.τ) (Cert.SsmIdeal.main (F := Ideal))) ⟨m, fun _ => 0, g⟩ (fun r => ∀ c : Dev Cert.SsmIdeal.nD,
          r.2.mem ((c.tc : Thread Cert.SsmIdeal.nD Cert.SsmIdeal.τ).loc Cert.SsmIdeal.main_v0) = v0 c
          ∧ r.2.mem ((c.tc : Thread Cert.SsmIdeal.nD Cert.SsmIdeal.τ).loc Cert.SsmIdeal.main_arg0) = m ((c.tc : Thread Cert.SsmIdeal.nD Cert.SsmIdeal.τ).loc Cert.SsmIdeal.main_arg0)
          ∧ r.2.mem ((c.tc : Thread Cert.SsmIdeal.nD Cert.SsmIdeal.τ).loc Cert.SsmIdeal.main_arg1) = m ((c.tc : Thread Cert.SsmIdeal.nD Cert.SsmIdeal.τ).loc Cert.SsmIdeal.main_arg1)
          ∧ r.2.mem ((c.tc : Thread Cert.SsmIdeal.nD Cert.SsmIdeal.τ).loc Cert.SsmIdeal.main_arg2) = m ((c.tc : Thread Cert.SsmIdeal.nD Cert.SsmIdeal.τ).loc Cert.SsmIdeal.main_arg2)
          ∧ r.2.mem ((c.tc : Thread Cert.SsmIdeal.nD Cert.SsmIdeal.τ).loc Cert.SsmIdeal.main_arg3) = m ((c.tc : Thread Cert.SsmIdeal.nD Cert.SsmIdeal.τ).loc Cert.SsmIdeal.main_arg3)
          ∧ r.2.mem ((c.tc : Thread Cert.SsmIdeal.nD Cert.SsmIdeal.τ).loc Cert.SsmIdeal.main_arg4) = m ((c.tc : Thread Cert.SsmIdeal.nD Cert.SsmIdeal.τ).loc Cert.SsmIdeal.main_arg4)
          ∧ r.2.mem ((c.tc : Thread Cert.SsmIdeal.nD Cert.SsmIdeal.τ).loc Cert.SsmIdeal.main_arg5) = m ((c.tc : Thread Cert.SsmIdeal.nD Cert.SsmIdeal.τ).loc Cert.SsmIdeal.main_arg5))
      ∧ θ_run (Cert.SsmRefIdeal.defs (F := Ideal)) (onTc (τ := Cert.SsmRefIdeal.τ) (Cert.SsmRefIdeal.main (F := Ideal))) ⟨m', fun _ => 0, g'⟩ (fun r => ∀ c : Dev Cert.SsmRefIdeal.nD,
          r.2.mem ((c.tc : Thread Cert.SsmRefIdeal.nD Cert.SsmRefIdeal.τ).loc Cert.SsmRefIdeal.main_v54) = v0 c
          ∧ r.2.mem ((c.tc : Thread Cert.SsmRefIdeal.nD Cert.SsmRefIdeal.τ).loc Cert.SsmRefIdeal.main_arg0) = m' ((c.tc : Thread Cert.SsmRefIdeal.nD Cert.SsmRefIdeal.τ).loc Cert.SsmRefIdeal.main_arg0)
          ∧ r.2.mem ((c.tc : Thread Cert.SsmRefIdeal.nD Cert.SsmRefIdeal.τ).loc Cert.SsmRefIdeal.main_arg1) = m' ((c.tc : Thread Cert.SsmRefIdeal.nD Cert.SsmRefIdeal.τ).loc Cert.SsmRefIdeal.main_arg1)
          ∧ r.2.mem ((c.tc : Thread Cert.SsmRefIdeal.nD Cert.SsmRefIdeal.τ).loc Cert.SsmRefIdeal.main_arg2) = m' ((c.tc : Thread Cert.SsmRefIdeal.nD Cert.SsmRefIdeal.τ).loc Cert.SsmRefIdeal.main_arg2)
          ∧ r.2.mem ((c.tc : Thread Cert.SsmRefIdeal.nD Cert.SsmRefIdeal.τ).loc Cert.SsmRefIdeal.main_arg3) = m' ((c.tc : Thread Cert.SsmRefIdeal.nD Cert.SsmRefIdeal.τ).loc Cert.SsmRefIdeal.main_arg3)
          ∧ r.2.mem ((c.tc : Thread Cert.SsmRefIdeal.nD Cert.SsmRefIdeal.τ).loc Cert.SsmRefIdeal.main_arg4) = m' ((c.tc : Thread Cert.SsmRefIdeal.nD Cert.SsmRefIdeal.τ).loc Cert.SsmRefIdeal.main_arg4)
          ∧ r.2.mem ((c.tc : Thread Cert.SsmRefIdeal.nD Cert.SsmRefIdeal.τ).loc Cert.SsmRefIdeal.main_arg5) = m' ((c.tc : Thread Cert.SsmRefIdeal.nD Cert.SsmRefIdeal.τ).loc Cert.SsmRefIdeal.main_arg5))

def Claim : Prop :=
  ∃ (hKernel : Cert.Kernel.Facts) (hKernelIdeal : Cert.KernelIdeal.Facts) (hReferenceIdeal : Cert.ReferenceIdeal.Facts) (hInProj : Cert.InProj.Facts) (hInProjIdeal : Cert.InProjIdeal.Facts) (hInProjRefIdeal : Cert.InProjRefIdeal.Facts) (hVProj : Cert.VProj.Facts) (hVProjIdeal : Cert.VProjIdeal.Facts) (hVProjRefIdeal : Cert.VProjRefIdeal.Facts) (hGlu : Cert.Glu.Facts) (hGluIdeal : Cert.GluIdeal.Facts) (hGluRefIdeal : Cert.GluRefIdeal.Facts) (hMixed : Cert.Mixed.Facts) (hMixedIdeal : Cert.MixedIdeal.Facts) (hMixedRefIdeal : Cert.MixedRefIdeal.Facts) (hOutResid : Cert.OutResid.Facts) (hOutResidIdeal : Cert.OutResidIdeal.Facts) (hOutResidRefIdeal : Cert.OutResidRefIdeal.Facts) (hNorm : Cert.Norm.Facts) (hNormIdeal : Cert.NormIdeal.Facts) (hNormRefIdeal : Cert.NormRefIdeal.Facts) (hRouter : Cert.Router.Facts) (hRouterIdeal : Cert.RouterIdeal.Facts) (hRouterRefIdeal : Cert.RouterRefIdeal.Facts) (hDispatch : Cert.Dispatch.Facts) (hDispatchIdeal : Cert.DispatchIdeal.Facts) (hDispatchRefIdeal : Cert.DispatchRefIdeal.Facts) (hSsm : Cert.Ssm.Facts) (hSsmIdeal : Cert.SsmIdeal.Facts) (hSsmRefIdeal : Cert.SsmRefIdeal.Facts) (hPre_finite_qk : Cert.Pre_finite_qk.Facts) (hPre_finite_router : Cert.Pre_finite_router.Facts) (hPre_expert_numbers : Cert.Pre_expert_numbers.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_InProj (hInProj := hInProj)
    ∧ quiescent_InProjIdeal (hInProjIdeal := hInProjIdeal)
    ∧ quiescent_InProjRefIdeal (hInProjRefIdeal := hInProjRefIdeal)
    ∧ quiescent_VProj (hVProj := hVProj)
    ∧ quiescent_VProjIdeal (hVProjIdeal := hVProjIdeal)
    ∧ quiescent_VProjRefIdeal (hVProjRefIdeal := hVProjRefIdeal)
    ∧ quiescent_Glu (hGlu := hGlu)
    ∧ quiescent_GluIdeal (hGluIdeal := hGluIdeal)
    ∧ quiescent_GluRefIdeal (hGluRefIdeal := hGluRefIdeal)
    ∧ quiescent_Mixed (hMixed := hMixed)
    ∧ quiescent_MixedIdeal (hMixedIdeal := hMixedIdeal)
    ∧ quiescent_MixedRefIdeal (hMixedRefIdeal := hMixedRefIdeal)
    ∧ quiescent_OutResid (hOutResid := hOutResid)
    ∧ quiescent_OutResidIdeal (hOutResidIdeal := hOutResidIdeal)
    ∧ quiescent_OutResidRefIdeal (hOutResidRefIdeal := hOutResidRefIdeal)
    ∧ quiescent_Norm (hNorm := hNorm)
    ∧ quiescent_NormIdeal (hNormIdeal := hNormIdeal)
    ∧ quiescent_NormRefIdeal (hNormRefIdeal := hNormRefIdeal)
    ∧ quiescent_Router (hRouter := hRouter)
    ∧ quiescent_RouterIdeal (hRouterIdeal := hRouterIdeal)
    ∧ quiescent_RouterIdeal_pre_finite_router (hRouterIdeal := hRouterIdeal) (hPre_finite_router := hPre_finite_router)
    ∧ quiescent_RouterRefIdeal (hRouterRefIdeal := hRouterRefIdeal)
    ∧ quiescent_RouterRefIdeal_pre_finite_router (hRouterRefIdeal := hRouterRefIdeal) (hPre_finite_router := hPre_finite_router)
    ∧ quiescent_Dispatch (hDispatch := hDispatch)
    ∧ quiescent_DispatchIdeal (hDispatchIdeal := hDispatchIdeal)
    ∧ quiescent_DispatchIdeal_pre_expert_numbers (hDispatchIdeal := hDispatchIdeal) (hPre_expert_numbers := hPre_expert_numbers)
    ∧ quiescent_DispatchRefIdeal (hDispatchRefIdeal := hDispatchRefIdeal)
    ∧ quiescent_DispatchRefIdeal_pre_expert_numbers (hDispatchRefIdeal := hDispatchRefIdeal) (hPre_expert_numbers := hPre_expert_numbers)
    ∧ quiescent_Ssm (hSsm := hSsm)
    ∧ quiescent_SsmIdeal (hSsmIdeal := hSsmIdeal)
    ∧ quiescent_SsmRefIdeal (hSsmRefIdeal := hSsmRefIdeal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_InProj_InProjIdeal
    ∧ algebraic_InProjIdeal_InProjRefIdeal (hInProjIdeal := hInProjIdeal) (hInProjRefIdeal := hInProjRefIdeal)
    ∧ preserves_VProj_VProjIdeal
    ∧ algebraic_VProjIdeal_VProjRefIdeal (hVProjIdeal := hVProjIdeal) (hVProjRefIdeal := hVProjRefIdeal)
    ∧ preserves_Glu_GluIdeal
    ∧ algebraic_GluIdeal_GluRefIdeal (hGluIdeal := hGluIdeal) (hGluRefIdeal := hGluRefIdeal)
    ∧ preserves_Mixed_MixedIdeal
    ∧ algebraic_MixedIdeal_MixedRefIdeal (hMixedIdeal := hMixedIdeal) (hMixedRefIdeal := hMixedRefIdeal)
    ∧ preserves_OutResid_OutResidIdeal
    ∧ algebraic_OutResidIdeal_OutResidRefIdeal (hOutResidIdeal := hOutResidIdeal) (hOutResidRefIdeal := hOutResidRefIdeal)
    ∧ preserves_Norm_NormIdeal
    ∧ algebraic_NormIdeal_NormRefIdeal (hNormIdeal := hNormIdeal) (hNormRefIdeal := hNormRefIdeal)
    ∧ preserves_Router_RouterIdeal
    ∧ algebraic_RouterIdeal_RouterRefIdeal_pre_finite_router (hRouterIdeal := hRouterIdeal) (hRouterRefIdeal := hRouterRefIdeal) (hPre_finite_router := hPre_finite_router)
    ∧ preserves_Dispatch_DispatchIdeal
    ∧ algebraic_DispatchIdeal_DispatchRefIdeal_pre_expert_numbers (hDispatchIdeal := hDispatchIdeal) (hDispatchRefIdeal := hDispatchRefIdeal) (hPre_expert_numbers := hPre_expert_numbers)
    ∧ preserves_Ssm_SsmIdeal
    ∧ algebraic_SsmIdeal_SsmRefIdeal (hSsmIdeal := hSsmIdeal) (hSsmRefIdeal := hSsmRefIdeal)
-- ==== Pre_expert_numbers.lean ====
abbrev S8192x128 : Shape := ⟨2, ![8192, 128]⟩
abbrev S8x128 : Shape := ⟨2, ![8, 128]⟩
abbrev S8192x2 : Shape := ⟨2, ![8192, 2]⟩
abbrev S_ : Shape := ⟨0, ![]⟩

class Facts : Prop where
  slices_S8192x128_S8192x2_0_0 : S8192x128.Slices ![0, 0] S8192x2
  bcast_S_S8192x2 : S_.BroadcastsInDim S8192x2 (![] : Fin 0 → Fin S8192x2.rank)
  reducesTo_S8192x2_S_d0_1 : S8192x2.ReducesTo [0, 1] S_
  h_S_ : 0 < S_.numel

variable [Facts]

def fn {F : FTy → Type} [FloatOps F] (main_arg0 : IVec S8192x128 32) (main_arg1 : FVec F S8x128 .f32) : IVec S_ 1 :=
  let main_v0 : IVec S8192x2 32 := (extractStridedSlice S8192x2 ![0, 0] · slices_S8192x128_S8192x2_0_0) main_arg0
  let main_c : IVec S_ 32 := constantI S_ 32 0#32
  let main_v1 : IVec S8192x2 32 := broadcastInDim S8192x2 ![] bcast_S_S8192x2 main_c
  let main_v2 : IVec S8192x2 1 := cmpi .sge main_v0 main_v1
  let main_c_0 : IVec S_ 32 := constantI S_ 32 128#32
  let main_v3 : IVec S8192x2 32 := broadcastInDim S8192x2 ![] bcast_S_S8192x2 main_c_0
  let main_v4 : IVec S8192x2 1 := cmpi .slt main_v0 main_v3
  let main_v5 : IVec S8192x2 1 := andi main_v2 main_v4
  let main_c_1 : IVec S_ 1 := constantI S_ 1 1#1
  let main_v6 : IVec S_ 1 := (fun x v => Host.reduce IntOp.andi x v reducesTo_S8192x2_S_d0_1 h_S_) main_v5 main_c_1
  main_v6
-- ==== Pre_finite_qk.lean ====
abbrev S4x2048x14336 : Shape := ⟨3, ![4, 2048, 14336]⟩
abbrev S2048x8192 : Shape := ⟨2, ![2048, 8192]⟩
abbrev S4x2048x4096 : Shape := ⟨3, ![4, 2048, 4096]⟩
abbrev S_ : Shape := ⟨0, ![]⟩

class Facts : Prop where
  slices_S4x2048x14336_S4x2048x4096_0_0_0 : S4x2048x14336.Slices ![0, 0, 0] S4x2048x4096
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel

variable [Facts]

def fn {F : FTy → Type} [FloatOps F] (main_arg0 : FVec F S4x2048x14336 .f32) (main_arg1 : FVec F S2048x8192 .bf16) : IVec S_ 1 :=
  let main_v0 : FVec F S4x2048x4096 .f32 := (extractStridedSlice S4x2048x4096 ![0, 0, 0] · slices_S4x2048x14336_S4x2048x4096_0_0_0) main_arg0
  let main_v1 : FVec F S4x2048x4096 .f32 := Host.absf main_v0
  let main_cst : FVec F S_ .f32 := constant S_ .f32 0x7F800000#32
  let main_v2 : FVec F S4x2048x4096 .f32 := broadcastInDim S4x2048x4096 ![] bcast_S_S4x2048x4096 main_cst
  let main_v3 : IVec S4x2048x4096 1 := cmpf .olt main_v1 main_v2
  let main_c : IVec S_ 1 := constantI S_ 1 1#1
  let main_v4 : IVec S_ 1 := (fun x v => Host.reduce IntOp.andi x v reducesTo_S4x2048x4096_S_d0_1_2 h_S_) main_v3 main_c
  main_v4
-- ==== Pre_finite_router.lean ====
abbrev S8192x4096 : Shape := ⟨2, ![8192, 4096]⟩
abbrev S4096 : Shape := ⟨1, ![4096]⟩
abbrev S4096x8 : Shape := ⟨2, ![4096, 8]⟩
abbrev S8 : Shape := ⟨1, ![8]⟩
abbrev S4096x64 : Shape := ⟨2, ![4096, 64]⟩
abbrev S64 : Shape := ⟨1, ![64]⟩
abbrev S_ : Shape := ⟨0, ![]⟩

class Facts : Prop where
  bcast_S_S4096 : S_.BroadcastsInDim S4096 (![] : Fin 0 → Fin S4096.rank)
  reducesTo_S4096_S_d0 : S4096.ReducesTo [0] S_
  h_S_ : 0 < S_.numel
  bcast_S_S4096x8 : S_.BroadcastsInDim S4096x8 (![] : Fin 0 → Fin S4096x8.rank)
  reducesTo_S4096x8_S_d0_1 : S4096x8.ReducesTo [0, 1] S_
  bcast_S_S8 : S_.BroadcastsInDim S8 (![] : Fin 0 → Fin S8.rank)
  reducesTo_S8_S_d0 : S8.ReducesTo [0] S_
  bcast_S_S4096x64 : S_.BroadcastsInDim S4096x64 (![] : Fin 0 → Fin S4096x64.rank)
  reducesTo_S4096x64_S_d0_1 : S4096x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S4096x64 1) : IVec S_ 1 :=
  let main_c_5 : IVec S_ 1 := constantI S_ 1 1#1
  let main_v17 : IVec S_ 1 := (fun x v => Host.reduce IntOp.andi x v reducesTo_S4096x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S8192x4096 .f32) (main_arg1 : FVec F S4096 .f32) (main_arg2 : FVec F S4096x8 .f32) (main_arg3 : FVec F S8 .f32) (main_arg4 : FVec F S4096x64 .f32) (main_arg5 : FVec F S64 .f32) : IVec S_ 1 :=
  let main_v0 : FVec F S4096 .f32 := Host.absf main_arg1
  let main_cst : FVec F S_ .f32 := constant S_ .f32 0x7F800000#32
  let main_v1 : FVec F S4096 .f32 := broadcastInDim S4096 ![] bcast_S_S4096 main_cst
  let main_v2 : IVec S4096 1 := cmpf .olt main_v0 main_v1
  let main_c : IVec S_ 1 := constantI S_ 1 1#1
  let main_v3 : IVec S_ 1 := (fun x v => Host.reduce IntOp.andi x v reducesTo_S4096_S_d0 h_S_) main_v2 main_c
  let main_v4 : FVec F S4096x8 .f32 := Host.absf main_arg2
  let main_cst_0 : FVec F S_ .f32 := constant S_ .f32 0x7F800000#32
  let main_v5 : FVec F S4096x8 .f32 := broadcastInDim S4096x8 ![] bcast_S_S4096x8 main_cst_0
  let main_v6 : IVec S4096x8 1 := cmpf .olt main_v4 main_v5
  let main_c_1 : IVec S_ 1 := constantI S_ 1 1#1
  let main_v7 : IVec S_ 1 := (fun x v => Host.reduce IntOp.andi x v reducesTo_S4096x8_S_d0_1 h_S_) main_v6 main_c_1
  let main_v8 : IVec S_ 1 := andi main_v3 main_v7
  let main_v9 : FVec F S8 .f32 := Host.absf main_arg3
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  let main_v14 : FVec F S4096x64 .f32 := Host.absf main_arg4
  let main_cst_4 : FVec F S_ .f32 := constant S_ .f32 0x7F800000#32
  let main_v15 : FVec F S4096x64 .f32 := broadcastInDim S4096x64 ![] bcast_S_S4096x64 main_cst_4
  let main_v16 : IVec S4096x64 1 := cmpf .olt main_v14 main_v15
  fn_part1 (F := F) main_arg5 main_v13 main_v16
-- ==== Kernel.lean ====
abbrev S4x2048x14336 : Shape := ⟨3, ![4, 2048, 14336]⟩
abbrev S2048x8192 : Shape := ⟨2, ![2048, 8192]⟩
abbrev S16 : Shape := ⟨1, ![16]⟩
abbrev S_ : Shape := ⟨0, ![]⟩
abbrev S4x2048x2048 : Shape := ⟨3, ![4, 2048, 2048]⟩
abbrev S1x2048x128 : Shape := ⟨3, ![1, 2048, 128]⟩
abbrev S128x2048 : Shape := ⟨2, ![128, 2048]⟩
abbrev S2048x128 : Shape := ⟨2, ![2048, 128]⟩
abbrev S256x256 : Shape := ⟨2, ![256, 256]⟩
abbrev S9216x256 : Shape := ⟨2, ![9216, 256]⟩
abbrev S1 : Shape := ⟨1, ![1]⟩
abbrev S8x256x128 : Shape := ⟨3, ![8, 256, 128]⟩
abbrev S8x128 : Shape := ⟨2, ![8, 128]⟩
abbrev S8x256 : Shape := ⟨2, ![8, 256]⟩
abbrev S1x256x128 : Shape := ⟨3, ![1, 256, 128]⟩
abbrev S256x128 : Shape := ⟨2, ![256, 128]⟩
abbrev S256 : Shape := ⟨1, ![256]⟩
abbrev S1x256 : Shape := ⟨2, ![1, 256]⟩
abbrev S128x256 : Shape := ⟨2, ![128, 256]⟩
abbrev S128x512 : Shape := ⟨2, ![128, 512]⟩
abbrev S512x256 : Shape := ⟨2, ![512, 256]⟩
abbrev S128x768 : Shape := ⟨2, ![128, 768]⟩
abbrev S768x256 : Shape := ⟨2, ![768, 256]⟩
abbrev S128x1024 : Shape := ⟨2, ![128, 1024]⟩
abbrev S1024x256 : Shape := ⟨2, ![1024, 256]⟩
abbrev S128x1280 : Shape := ⟨2, ![128, 1280]⟩
abbrev S1280x256 : Shape := ⟨2, ![1280, 256]⟩
abbrev S128x1536 : Shape := ⟨2, ![128, 1536]⟩
abbrev S1536x256 : Shape := ⟨2, ![1536, 256]⟩
abbrev S128x1792 : Shape := ⟨2, ![128, 1792]⟩
abbrev S1792x256 : Shape := ⟨2, ![1792, 256]⟩
abbrev S2048x256 : Shape := ⟨2, ![2048, 256]⟩

abbrev nBuf : Space → Nat
  | .hbm => 14
  | .vmem => 13
  | .smem => 1
  | _ => 0

abbrev bufTy : (tb : Table) → Fin (tcTables nBuf tb) → BufTy
  | .hbm, ⟨0, _⟩ => ⟨S4x2048x14336, .f32⟩
  | .hbm, ⟨1, _⟩ => ⟨S2048x8192, .bf16⟩
  | .hbm, ⟨2, _⟩ => ⟨S16, .f32⟩
  | .hbm, ⟨3, _⟩ => ⟨S_, .f32⟩
  | .hbm, ⟨4, _⟩ => ⟨S16, .f32⟩
  | .hbm, ⟨5, _⟩ => ⟨S16, .f32⟩
  | .hbm, ⟨6, _⟩ => ⟨S_, .f32⟩
  | .hbm, ⟨7, _⟩ => ⟨S16, .f32⟩
  | .hbm, ⟨8, _⟩ => ⟨S16, .f32⟩
  | .hbm, ⟨9, _⟩ => ⟨S_, .f32⟩
  | .hbm, ⟨10, _⟩ => ⟨S16, .f32⟩
  | .hbm, ⟨11, _⟩ => ⟨S16, .f32⟩
  | .hbm, ⟨12, _⟩ => ⟨S16, .f32⟩
  | .hbm, ⟨13, _⟩ => ⟨S4x2048x2048, .bf16⟩
  | .local _ .vmem, ⟨0, _⟩ => ⟨S1x2048x128, .f32⟩
  | .local _ .vmem, ⟨1, _⟩ => ⟨S1x2048x128, .f32⟩
  | .local _ .vmem, ⟨2, _⟩ => ⟨S1x2048x128, .f32⟩
  | .local _ .vmem, ⟨3, _⟩ => ⟨S1x2048x128, .f32⟩
  | .local _ .vmem, ⟨4, _⟩ => ⟨S128x2048, .bf16⟩
  | .local _ .vmem, ⟨5, _⟩ => ⟨S128x2048, .bf16⟩
  | .local _ .vmem, ⟨6, _⟩ => ⟨S1x2048x128, .bf16⟩
  | .local _ .vmem, ⟨7, _⟩ => ⟨S1x2048x128, .bf16⟩
  | .local _ .vmem, ⟨8, _⟩ => ⟨S2048x128, .bf16⟩
  | .local _ .vmem, ⟨9, _⟩ => ⟨S256x256, .f32⟩
  | .local _ .vmem, ⟨10, _⟩ => ⟨S256x256, .f32⟩
  | .local _ .vmem, ⟨11, _⟩ => ⟨S9216x256, .f32⟩
  | .local _ .vmem, ⟨12, _⟩ => ⟨S9216x256, .bf16⟩
  | .local _ .smem, ⟨0, _⟩ => ⟨S16, .f32⟩
  | _, _ => ⟨S4x2048x14336, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 16], ![false, false]⟩

def k0_off1 (i : grid0.Coords) : Fin 1 → Nat :=
  let arg1 : BitVec 32 := BitVec.ofNat 32 (i 1).val
  let v0 : Index := Scalar.indexCast arg1
  ![v0.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "log2e" => some (((Real.log 2)⁻¹ : ℝ) : EReal)
  | "mask" => some ⊥
  | "qscale" => some (((Real.sqrt 128)⁻¹ * (Real.log 2)⁻¹ : ℝ) : EReal)
  | _ => none
-- ==== ReferenceIdeal.lean ====
abbrev S4x2048x14336 : Shape := ⟨3, ![4, 2048, 14336]⟩
abbrev S2048x8192 : Shape := ⟨2, ![2048, 8192]⟩
abbrev S4x2048x2048 : Shape := ⟨3, ![4, 2048, 2048]⟩
abbrev S4x2048x16x128 : Shape := ⟨4, ![4, 2048, 16, 128]⟩
abbrev S4x16x2048x128 : Shape := ⟨4, ![4, 16, 2048, 128]⟩
abbrev S8192x2048 : Shape := ⟨2, ![8192, 2048]⟩
abbrev S4x16x8x256x128 : Shape := ⟨5, ![4, 16, 8, 256, 128]⟩
abbrev S_ : Shape := ⟨0, ![]⟩
abbrev S4x16x8x128 : Shape := ⟨4, ![4, 16, 8, 128]⟩
abbrev S4x16x2048x8 : Shape := ⟨4, ![4, 16, 2048, 8]⟩
abbrev S2048 : Shape := ⟨1, ![2048]⟩
abbrev S8 : Shape := ⟨1, ![8]⟩
abbrev S1x8 : Shape := ⟨2, ![1, 8]⟩
abbrev S2048x1 : Shape := ⟨2, ![2048, 1]⟩
abbrev S2048x8 : Shape := ⟨2, ![2048, 8]⟩
abbrev S4x16x2048x3 : Shape := ⟨4, ![4, 16, 2048, 3]⟩
abbrev S4x16x2048x3x1 : Shape := ⟨5, ![4, 16, 2048, 3, 1]⟩
abbrev S1x1x1x1x8 : Shape := ⟨5, ![1, 1, 1, 1, 8]⟩
abbrev S4x16x2048x3x8 : Shape := ⟨5, ![4, 16, 2048, 3, 8]⟩
abbrev S1x1x2048x8 : Shape := ⟨4, ![1, 1, 2048, 8]⟩
abbrev S1x2048 : Shape := ⟨2, ![1, 2048]⟩
abbrev S2048x2048 : Shape := ⟨2, ![2048, 2048]⟩
abbrev S4x16x2048x8x256 : Shape := ⟨5, ![4, 16, 2048, 8, 256]⟩
abbrev S4x16x2048x2048 : Shape := ⟨4, ![4, 16, 2048, 2048]⟩
abbrev S1x1x2048x2048 : Shape := ⟨4, ![1, 1, 2048, 2048]⟩
abbrev S16 : Shape := ⟨1, ![16]⟩
abbrev S1x16x1x1 : Shape := ⟨4, ![1, 16, 1, 1]⟩
abbrev S1x16x2048x2048 : Shape := ⟨4, ![1, 16, 2048, 2048]⟩
abbrev S4x16x2048 : Shape := ⟨3, ![4, 16, 2048]⟩
abbrev S4x16x2048x1 : Shape := ⟨4, ![4, 16, 2048, 1]⟩

abbrev nBuf : Space → Nat
  | .hbm => 127
  | .vmem => 0
  | .smem => 0
  | _ => 0

abbrev bufTy : (tb : Table) → Fin (tcTables nBuf tb) → BufTy
  | .hbm, ⟨0, _⟩ => ⟨S4x2048x14336, .f32⟩
  | .hbm, ⟨1, _⟩ => ⟨S2048x8192, .bf16⟩
  | .hbm, ⟨2, _⟩ => ⟨S4x2048x2048, .f32⟩
  | .hbm, ⟨3, _⟩ => ⟨S4x2048x16x128, .f32⟩
  | .hbm, ⟨4, _⟩ => ⟨S4x16x2048x128, .f32⟩
  | .hbm, ⟨5, _⟩ => ⟨S4x2048x2048, .f32⟩
  | .hbm, ⟨6, _⟩ => ⟨S4x2048x16x128, .f32⟩
  | .hbm, ⟨7, _⟩ => ⟨S4x16x2048x128, .f32⟩
  | .hbm, ⟨8, _⟩ => ⟨S8192x2048, .bf16⟩
  | .hbm, ⟨9, _⟩ => ⟨S4x2048x16x128, .bf16⟩
  | .hbm, ⟨10, _⟩ => ⟨S4x16x2048x128, .bf16⟩
  | .hbm, ⟨11, _⟩ => ⟨S4x16x2048x128, .f32⟩
  | .hbm, ⟨12, _⟩ => ⟨S4x16x8x256x128, .f32⟩
  | .hbm, ⟨13, _⟩ => ⟨S_, .f32⟩
  | .hbm, ⟨14, _⟩ => ⟨S4x16x8x128, .f32⟩
  | .hbm, ⟨15, _⟩ => ⟨S_, .f32⟩
  | .hbm, ⟨16, _⟩ => ⟨S4x16x8x128, .f32⟩
  | .hbm, ⟨17, _⟩ => ⟨S4x16x8x128, .f32⟩
  | .hbm, ⟨18, _⟩ => ⟨S4x16x2048x8, .f32⟩
  | .hbm, ⟨19, _⟩ => ⟨S2048, .i32⟩
  | .hbm, ⟨20, _⟩ => ⟨S_, .i32⟩
  | .hbm, ⟨21, _⟩ => ⟨S_, .i32⟩
  | .hbm, ⟨22, _⟩ => ⟨S2048, .i32⟩
  | .hbm, ⟨23, _⟩ => ⟨S2048, .i32⟩
  | .hbm, ⟨24, _⟩ => ⟨S2048, .i32⟩
  | .hbm, ⟨25, _⟩ => ⟨S_, .i32⟩
  | .hbm, ⟨26, _⟩ => ⟨S2048, .i32⟩
  | .hbm, ⟨27, _⟩ => ⟨S2048, .i1⟩
  | .hbm, ⟨28, _⟩ => ⟨S2048, .i32⟩
  | .hbm, ⟨29, _⟩ => ⟨S2048, .i32⟩
  | .hbm, ⟨30, _⟩ => ⟨S_, .i32⟩
  | .hbm, ⟨31, _⟩ => ⟨S2048, .i32⟩
  | .hbm, ⟨32, _⟩ => ⟨S2048, .i1⟩
  | .hbm, ⟨33, _⟩ => ⟨S2048, .i1⟩
  | .hbm, ⟨34, _⟩ => ⟨S_, .i32⟩
  | .hbm, ⟨35, _⟩ => ⟨S2048, .i32⟩
  | .hbm, ⟨36, _⟩ => ⟨S2048, .i32⟩
  | .hbm, ⟨37, _⟩ => ⟨S2048, .i32⟩
  | .hbm, ⟨38, _⟩ => ⟨S8, .i32⟩
  | .hbm, ⟨39, _⟩ => ⟨S1x8, .i32⟩
  | .hbm, ⟨40, _⟩ => ⟨S2048x1, .i32⟩
  | .hbm, ⟨41, _⟩ => ⟨S2048x8, .i32⟩
  | .hbm, ⟨42, _⟩ => ⟨S2048x8, .i32⟩
  | .hbm, ⟨43, _⟩ => ⟨S2048x8, .i1⟩
  | .hbm, ⟨44, _⟩ => ⟨S_, .f32⟩
  | .hbm, ⟨45, _⟩ => ⟨S_, .f32⟩
  | .hbm, ⟨46, _⟩ => ⟨S4x16x2048x8, .i1⟩
  | .hbm, ⟨47, _⟩ => ⟨S4x16x2048x8, .f32⟩
  | .hbm, ⟨48, _⟩ => ⟨S4x16x2048x8, .f32⟩
  | .hbm, ⟨49, _⟩ => ⟨S4x16x2048x3, .f32⟩
  | .hbm, ⟨50, _⟩ => ⟨S4x16x2048x3, .i32⟩
  | .hbm, ⟨51, _⟩ => ⟨S4x16x2048x3x1, .i32⟩
  | .hbm, ⟨52, _⟩ => ⟨S8, .i32⟩
  | .hbm, ⟨53, _⟩ => ⟨S1x1x1x1x8, .i32⟩
  | .hbm, ⟨54, _⟩ => ⟨S4x16x2048x3x8, .i32⟩
  | .hbm, ⟨55, _⟩ => ⟨S4x16x2048x3x8, .i32⟩
  | .hbm, ⟨56, _⟩ => ⟨S4x16x2048x3x8, .i1⟩
  | .hbm, ⟨57, _⟩ => ⟨S_, .i1⟩
  | .hbm, ⟨58, _⟩ => ⟨S4x16x2048x8, .i1⟩
  | .hbm, ⟨59, _⟩ => ⟨S1x1x2048x8, .i1⟩
  | .hbm, ⟨60, _⟩ => ⟨S4x16x2048x8, .i1⟩
  | .hbm, ⟨61, _⟩ => ⟨S4x16x2048x8, .i1⟩
  | .hbm, ⟨62, _⟩ => ⟨S2048x1, .i32⟩
  | .hbm, ⟨63, _⟩ => ⟨S1x2048, .i32⟩
  | .hbm, ⟨64, _⟩ => ⟨S2048x2048, .i32⟩
  | .hbm, ⟨65, _⟩ => ⟨S2048x2048, .i32⟩
  | .hbm, ⟨66, _⟩ => ⟨S2048x2048, .i32⟩
  | .hbm, ⟨67, _⟩ => ⟨S2048x1, .i32⟩
  | .hbm, ⟨68, _⟩ => ⟨S1x2048, .i32⟩
  | .hbm, ⟨69, _⟩ => ⟨S2048x2048, .i32⟩
  | .hbm, ⟨70, _⟩ => ⟨S2048x2048, .i32⟩
  | .hbm, ⟨71, _⟩ => ⟨S2048x2048, .i1⟩
  | .hbm, ⟨72, _⟩ => ⟨S_, .i32⟩
  | .hbm, ⟨73, _⟩ => ⟨S2048x2048, .i32⟩
  | .hbm, ⟨74, _⟩ => ⟨S2048x2048, .i1⟩
  | .hbm, ⟨75, _⟩ => ⟨S2048x2048, .i1⟩
  | .hbm, ⟨76, _⟩ => ⟨S4x16x2048x8x256, .i1⟩
  | .hbm, ⟨77, _⟩ => ⟨S4x16x2048x2048, .i1⟩
  | .hbm, ⟨78, _⟩ => ⟨S1x1x2048x2048, .i1⟩
  | .hbm, ⟨79, _⟩ => ⟨S4x16x2048x2048, .i1⟩
  | .hbm, ⟨80, _⟩ => ⟨S4x16x2048x2048, .i1⟩
  | .hbm, ⟨81, _⟩ => ⟨S16, .f32⟩
  | .hbm, ⟨82, _⟩ => ⟨S_, .f32⟩
  | .hbm, ⟨83, _⟩ => ⟨S16, .f32⟩
  | .hbm, ⟨84, _⟩ => ⟨S16, .f32⟩
  | .hbm, ⟨85, _⟩ => ⟨S_, .f32⟩
  | .hbm, ⟨86, _⟩ => ⟨S16, .f32⟩
  | .hbm, ⟨87, _⟩ => ⟨S16, .f32⟩
  | .hbm, ⟨88, _⟩ => ⟨S_, .f32⟩
  | .hbm, ⟨89, _⟩ => ⟨S16, .f32⟩
  | .hbm, ⟨90, _⟩ => ⟨S16, .f32⟩
  | .hbm, ⟨91, _⟩ => ⟨S16, .f32⟩
  | .hbm, ⟨92, _⟩ => ⟨S1x16x1x1, .f32⟩
  | .hbm, ⟨93, _⟩ => ⟨S4x16x2048x2048, .f32⟩
  | .hbm, ⟨94, _⟩ => ⟨S_, .f32⟩
  | .hbm, ⟨95, _⟩ => ⟨S_, .f32⟩
  | .hbm, ⟨96, _⟩ => ⟨S4x16x2048x2048, .f32⟩
  | .hbm, ⟨97, _⟩ => ⟨S4x16x2048x2048, .f32⟩
  | .hbm, ⟨98, _⟩ => ⟨S2048x2048, .f32⟩
  | .hbm, ⟨99, _⟩ => ⟨S1x1x2048x2048, .f32⟩
  | .hbm, ⟨100, _⟩ => ⟨S1x16x2048x2048, .f32⟩
  | .hbm, ⟨101, _⟩ => ⟨S1x16x2048x2048, .f32⟩
  | .hbm, ⟨102, _⟩ => ⟨S1x16x2048x2048, .f32⟩
  | .hbm, ⟨103, _⟩ => ⟨S4x16x2048x2048, .f32⟩
  | .hbm, ⟨104, _⟩ => ⟨S4x16x2048x2048, .f32⟩
  | .hbm, ⟨105, _⟩ => ⟨S_, .f32⟩
  | .hbm, ⟨106, _⟩ => ⟨S_, .f32⟩
  | .hbm, ⟨107, _⟩ => ⟨S4x16x2048x2048, .f32⟩
  | .hbm, ⟨108, _⟩ => ⟨S4x16x2048x2048, .f32⟩
  | .hbm, ⟨109, _⟩ => ⟨S_, .f32⟩
  | .hbm, ⟨110, _⟩ => ⟨S4x16x2048, .f32⟩
  | .hbm, ⟨111, _⟩ => ⟨S_, .f32⟩
  | .hbm, ⟨112, _⟩ => ⟨S4x16x2048, .f32⟩
  | .hbm, ⟨113, _⟩ => ⟨S4x16x2048, .f32⟩
  | .hbm, ⟨114, _⟩ => ⟨S4x16x2048x1, .f32⟩
  | .hbm, ⟨115, _⟩ => ⟨S4x16x2048x2048, .f32⟩
  | .hbm, ⟨116, _⟩ => ⟨S4x16x2048x2048, .f32⟩
  | .hbm, ⟨117, _⟩ => ⟨S4x16x2048x2048, .f32⟩
  | .hbm, ⟨118, _⟩ => ⟨S_, .f32⟩
  | .hbm, ⟨119, _⟩ => ⟨S4x16x2048, .f32⟩
  | .hbm, ⟨120, _⟩ => ⟨S4x16x2048x1, .f32⟩
  | .hbm, ⟨121, _⟩ => ⟨S4x16x2048x2048, .f32⟩
  | .hbm, ⟨122, _⟩ => ⟨S4x16x2048x2048, .f32⟩
  | .hbm, ⟨123, _⟩ => ⟨S4x16x2048x128, .f32⟩
  | .hbm, ⟨124, _⟩ => ⟨S4x2048x16x128, .f32⟩
  | .hbm, ⟨125, _⟩ => ⟨S4x2048x2048, .f32⟩
  | .hbm, ⟨126, _⟩ => ⟨S4x2048x2048, .bf16⟩
  | _, _ => ⟨S4x2048x14336, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_c : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_c : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_0 : Ref sig .tc := ⟨.hbm, 34, rfl⟩
abbrev main_call0_v12 : Ref sig .tc := ⟨.hbm, 35, rfl⟩
abbrev main_call0_v13 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_1 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_v23 : Ref sig .tc := ⟨.hbm, 48, rfl⟩
abbrev main_values : Ref sig .tc := ⟨.hbm, 49, rfl⟩
abbrev main_indices : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_c_2 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_c_3 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_cst_4 : Ref sig .tc := ⟨.hbm, 82, rfl⟩
abbrev main_v53 : Ref sig .tc := ⟨.hbm, 83, rfl⟩
abbrev main_v54 : Ref sig .tc := ⟨.hbm, 84, rfl⟩
abbrev main_cst_5 : Ref sig .tc := ⟨.hbm, 85, rfl⟩
abbrev main_v55 : Ref sig .tc := ⟨.hbm, 86, rfl⟩
abbrev main_v56 : Ref sig .tc := ⟨.hbm, 87, rfl⟩
abbrev main_cst_6 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_cst_7 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_cst_8 : Ref sig .tc := ⟨.hbm, 105, rfl⟩
abbrev main_call2_v0 : Ref sig .tc := ⟨.hbm, 106, rfl⟩
abbrev main_call2_v1 : Ref sig .tc := ⟨.hbm, 107, rfl⟩
abbrev main_v72 : Ref sig .tc := ⟨.hbm, 108, rfl⟩
abbrev main_cst_9 : Ref sig .tc := ⟨.hbm, 109, rfl⟩
abbrev main_v73 : Ref sig .tc := ⟨.hbm, 110, rfl⟩
abbrev main_cst_10 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_cst_11 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩

abbrev nD : Nat := 1
abbrev τ : Topo := Topo.v7x

variable {F : FTy → Type} [FloatOps F]
-- ==== InProj.lean ====
abbrev S8192x4096 : Shape := ⟨2, ![8192, 4096]⟩
abbrev S4096x16384 : Shape := ⟨2, ![4096, 16384]⟩
abbrev S8192x14336 : Shape := ⟨2, ![8192, 14336]⟩
abbrev S2048x4096 : Shape := ⟨2, ![2048, 4096]⟩
abbrev S4096x512 : Shape := ⟨2, ![4096, 512]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x4096, .bf16⟩
  | .hbm, ⟨1, _⟩ => ⟨S4096x16384, .f32⟩
  | .hbm, ⟨2, _⟩ => ⟨S8192x14336, .f32⟩
  | .local _ .vmem, ⟨0, _⟩ => ⟨S2048x4096, .bf16⟩
  | .local _ .vmem, ⟨1, _⟩ => ⟨S4096x512, .f32⟩
  | .local _ .vmem, ⟨2, _⟩ => ⟨S4096x512, .f32⟩
  | .local _ .vmem, ⟨3, _⟩ => ⟨S2048x512, .f32⟩
  | .local _ .vmem, ⟨4, _⟩ => ⟨S2048x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 28], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 1 := Scalar.cmpi .sge arg1 c8_i32
  let c4_i32 : BitVec 32 := 4#32
  let c0_i32 : BitVec 32 := 0#32
  let v1 : BitVec 32 := Scalar.select v0 c4_i32 c0_i32
  let v2 : BitVec 32 := Scalar.addi arg1 v1
  let c0_i32_0 : BitVec 32 := 0#32
  let c0_i32_1 : BitVec 32 := 0#32
  ![c0_i32_0.toNat, v2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InProjRefIdeal.lean ====
abbrev S8192x4096 : Shape := ⟨2, ![8192, 4096]⟩
abbrev S4096x16384 : Shape := ⟨2, ![4096, 16384]⟩
abbrev S8192x16384 : Shape := ⟨2, ![8192, 16384]⟩
abbrev S8192x2048 : Shape := ⟨2, ![8192, 2048]⟩
abbrev S8192x14336 : Shape := ⟨2, ![8192, 14336]⟩

abbrev nBuf : Space → Nat
  | .hbm => 11
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x16384, .f32⟩
  | .hbm, ⟨2, _⟩ => ⟨S8192x4096, .f32⟩
  | .hbm, ⟨3, _⟩ => ⟨S8192x16384, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x4096, .f32⟩
  | .hbm, ⟨9, _⟩ => ⟨S8192x4096, .f32⟩
  | .hbm, ⟨10, _⟩ => ⟨S8192x14336, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩

abbrev nD : Nat := 1
abbrev τ : Topo := Topo.v7x

variable {F : FTy → Type} [FloatOps F]
-- ==== VProj.lean ====
abbrev S8192x4096 : Shape := ⟨2, ![8192, 4096]⟩
abbrev S4096x16384 : Shape := ⟨2, ![4096, 16384]⟩
abbrev S2048x8192 : Shape := ⟨2, ![2048, 8192]⟩
abbrev S2048x4096 : Shape := ⟨2, ![2048, 4096]⟩
abbrev S4096x512 : Shape := ⟨2, ![4096, 512]⟩
abbrev S512x2048 : Shape := ⟨2, ![512, 2048]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x4096, .bf16⟩
  | .hbm, ⟨1, _⟩ => ⟨S4096x16384, .f32⟩
  | .hbm, ⟨2, _⟩ => ⟨S2048x8192, .bf16⟩
  | .local _ .vmem, ⟨0, _⟩ => ⟨S2048x4096, .bf16⟩
  | .local _ .vmem, ⟨1, _⟩ => ⟨S4096x512, .f32⟩
  | .local _ .vmem, ⟨2, _⟩ => ⟨S4096x512, .f32⟩
  | .local _ .vmem, ⟨3, _⟩ => ⟨S512x2048, .bf16⟩
  | .local _ .vmem, ⟨4, _⟩ => ⟨S512x2048, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== VProjRefIdeal.lean ====
abbrev S8192x4096 : Shape := ⟨2, ![8192, 4096]⟩
abbrev S4096x16384 : Shape := ⟨2, ![4096, 16384]⟩
abbrev S8192x16384 : Shape := ⟨2, ![8192, 16384]⟩
abbrev S8192x2048 : Shape := ⟨2, ![8192, 2048]⟩
abbrev S2048x8192 : Shape := ⟨2, ![2048, 8192]⟩

abbrev nBuf : Space → Nat
  | .hbm => 12
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x16384, .f32⟩
  | .hbm, ⟨2, _⟩ => ⟨S8192x4096, .f32⟩
  | .hbm, ⟨3, _⟩ => ⟨S8192x16384, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x4096, .f32⟩
  | .hbm, ⟨9, _⟩ => ⟨S8192x4096, .f32⟩
  | .hbm, ⟨10, _⟩ => ⟨S2048x8192, .f32⟩
  | .hbm, ⟨11, _⟩ => ⟨S2048x8192, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩

abbrev nD : Nat := 1
abbrev τ : Topo := Topo.v7x

variable {F : FTy → Type} [FloatOps F]
-- ==== Glu.lean ====
abbrev S8192x2048 : Shape := ⟨2, ![8192, 2048]⟩
abbrev S2048x4096 : Shape := ⟨2, ![2048, 4096]⟩
abbrev S2048x2048 : Shape := ⟨2, ![2048, 2048]⟩
abbrev S2048x512 : Shape := ⟨2, ![2048, 512]⟩

abbrev nBuf : Space → Nat
  | .hbm => 3
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S2048x4096, .f32⟩
  | .hbm, ⟨2, _⟩ => ⟨S8192x2048, .bf16⟩
  | .local _ .vmem, ⟨0, _⟩ => ⟨S2048x2048, .bf16⟩
  | .local _ .vmem, ⟨1, _⟩ => ⟨S2048x2048, .bf16⟩
  | .local _ .vmem, ⟨2, _⟩ => ⟨S2048x512, .f32⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | .local _ .vmem, ⟨6, _⟩ => ⟨S2048x512, .bf16⟩
  | .local _ .vmem, ⟨7, _⟩ => ⟨S2048x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GluRefIdeal.lean ====
abbrev S8192x2048 : Shape := ⟨2, ![8192, 2048]⟩
abbrev S2048x4096 : Shape := ⟨2, ![2048, 4096]⟩
abbrev S8192x4096 : Shape := ⟨2, ![8192, 4096]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x4096, .f32⟩
  | .hbm, ⟨2, _⟩ => ⟨S8192x2048, .f32⟩
  | .hbm, ⟨3, _⟩ => ⟨S8192x4096, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S_, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Mixed.lean ====
abbrev S8192x2048 : Shape := ⟨2, ![8192, 2048]⟩
abbrev S2048x4096 : Shape := ⟨2, ![2048, 4096]⟩
abbrev S8192x14336 : Shape := ⟨2, ![8192, 14336]⟩
abbrev S8192x4096 : Shape := ⟨2, ![8192, 4096]⟩
abbrev S2048x256 : Shape := ⟨2, ![2048, 256]⟩
abbrev S2048x2048 : Shape := ⟨2, ![2048, 2048]⟩

abbrev nBuf : Space → Nat
  | .hbm => 6
  | .vmem => 12
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x4096, .f32⟩
  | .hbm, ⟨3, _⟩ => ⟨S2048x4096, .f32⟩
  | .hbm, ⟨4, _⟩ => ⟨S8192x14336, .f32⟩
  | .hbm, ⟨5, _⟩ => ⟨S8192x4096, .bf16⟩
  | .local _ .vmem, ⟨0, _⟩ => ⟨S2048x256, .f32⟩
  | .local _ .vmem, ⟨1, _⟩ => ⟨S2048x256, .f32⟩
  | .local _ .vmem, ⟨2, _⟩ => ⟨S2048x2048, .bf16⟩
  | .local _ .vmem, ⟨3, _⟩ => ⟨S2048x2048, .bf16⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | .local _ .vmem, ⟨7, _⟩ => ⟨S2048x256, .f32⟩
  | .local _ .vmem, ⟨8, _⟩ => ⟨S2048x256, .f32⟩
  | .local _ .vmem, ⟨9, _⟩ => ⟨S2048x256, .f32⟩
  | .local _ .vmem, ⟨10, _⟩ => ⟨S2048x256, .bf16⟩
  | .local _ .vmem, ⟨11, _⟩ => ⟨S2048x256, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MixedRefIdeal.lean ====
abbrev S8192x2048 : Shape := ⟨2, ![8192, 2048]⟩
abbrev S2048x4096 : Shape := ⟨2, ![2048, 4096]⟩
abbrev S8192x14336 : Shape := ⟨2, ![8192, 14336]⟩
abbrev S8192x4096 : Shape := ⟨2, ![8192, 4096]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x4096, .f32⟩
  | .hbm, ⟨3, _⟩ => ⟨S2048x4096, .f32⟩
  | .hbm, ⟨4, _⟩ => ⟨S8192x14336, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x4096, .f32⟩
  | .hbm, ⟨9, _⟩ => ⟨S8192x4096, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S8192x4096, .f32⟩
  | .hbm, ⟨14, _⟩ => ⟨S8192x4096, .f32⟩
  | .hbm, ⟨15, _⟩ => ⟨S_, .f32⟩
  | .hbm, ⟨16, _⟩ => ⟨S8192x4096, .f32⟩
  | .hbm, ⟨17, _⟩ => ⟨S8192x4096, .f32⟩
  | .hbm, ⟨18, _⟩ => ⟨S8192x2048, .f32⟩
  | .hbm, ⟨19, _⟩ => ⟨S8192x4096, .f32⟩
  | .hbm, ⟨20, _⟩ => ⟨S8192x4096, .f32⟩
  | .hbm, ⟨21, _⟩ => ⟨S8192x4096, .f32⟩
  | .hbm, ⟨22, _⟩ => ⟨S8192x4096, .f32⟩
  | .hbm, ⟨23, _⟩ => ⟨S_, .f32⟩
  | .hbm, ⟨24, _⟩ => ⟨S8192x4096, .f32⟩
  | .hbm, ⟨25, _⟩ => ⟨S8192x4096, .f32⟩
  | .hbm, ⟨26, _⟩ => ⟨S_, .f32⟩
  | .hbm, ⟨27, _⟩ => ⟨S8192x4096, .f32⟩
  | .hbm, ⟨28, _⟩ => ⟨S8192x4096, .f32⟩
  | .hbm, ⟨29, _⟩ => ⟨S8192x2048, .f32⟩
  | .hbm, ⟨30, _⟩ => ⟨S8192x4096, .f32⟩
  | .hbm, ⟨31, _⟩ => ⟨S8192x4096, .f32⟩
  | .hbm, ⟨32, _⟩ => ⟨S8192x4096, .f32⟩
  | .hbm, ⟨33, _⟩ => ⟨S8192x4096, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== OutResid.lean ====
abbrev S8192x4096 : Shape := ⟨2, ![8192, 4096]⟩
abbrev S4096x4096 : Shape := ⟨2, ![4096, 4096]⟩
abbrev S2048x4096 : Shape := ⟨2, ![2048, 4096]⟩
abbrev S4096x512 : Shape := ⟨2, ![4096, 512]⟩
abbrev S2048x512 : Shape := ⟨2, ![2048, 512]⟩

abbrev nBuf : Space → Nat
  | .hbm => 4
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .f32⟩
  | .hbm, ⟨2, _⟩ => ⟨S8192x4096, .f32⟩
  | .hbm, ⟨3, _⟩ => ⟨S8192x4096, .f32⟩
  | .local _ .vmem, ⟨0, _⟩ => ⟨S2048x4096, .bf16⟩
  | .local _ .vmem, ⟨1, _⟩ => ⟨S4096x512, .f32⟩
  | .local _ .vmem, ⟨2, _⟩ => ⟨S4096x512, .f32⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutResidRefIdeal.lean ====
abbrev S8192x4096 : Shape := ⟨2, ![8192, 4096]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .f32⟩
  | .hbm, ⟨2, _⟩ => ⟨S8192x4096, .f32⟩
  | .hbm, ⟨3, _⟩ => ⟨S8192x4096, .f32⟩
  | .hbm, ⟨4, _⟩ => ⟨S8192x4096, .f32⟩
  | .hbm, ⟨5, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Norm.lean ====
abbrev S8192x4096 : Shape := ⟨2, ![8192, 4096]⟩
abbrev S4096 : Shape := ⟨1, ![4096]⟩
abbrev S1x4096 : Shape := ⟨2, ![1, 4096]⟩
abbrev S512x4096 : Shape := ⟨2, ![512, 4096]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S1x4096, .f32⟩
  | .hbm, ⟨3, _⟩ => ⟨S8192x4096, .bf16⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .bf16⟩
  | .local _ .vmem, ⟨4, _⟩ => ⟨S512x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S8192x4096 : Shape := ⟨2, ![8192, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S8192x4096, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x4096, .f32⟩
  | .hbm, ⟨14, _⟩ => ⟨S8192x4096, .f32⟩
  | .hbm, ⟨15, _⟩ => ⟨S1x4096, .f32⟩
  | .hbm, ⟨16, _⟩ => ⟨S8192x4096, .f32⟩
  | .hbm, ⟨17, _⟩ => ⟨S8192x4096, .f32⟩
  | .hbm, ⟨18, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Router.lean ====
abbrev S8192x4096 : Shape := ⟨2, ![8192, 4096]⟩
abbrev S4096 : Shape := ⟨1, ![4096]⟩
abbrev S4096x8 : Shape := ⟨2, ![4096, 8]⟩
abbrev S8 : Shape := ⟨1, ![8]⟩
abbrev S4096x64 : Shape := ⟨2, ![4096, 64]⟩
abbrev S64 : Shape := ⟨1, ![64]⟩
abbrev S4096x72 : Shape := ⟨2, ![4096, 72]⟩
abbrev S_ : Shape := ⟨0, ![]⟩
abbrev S4096x128 : Shape := ⟨2, ![4096, 128]⟩
abbrev S72 : Shape := ⟨1, ![72]⟩
abbrev S128 : Shape := ⟨1, ![128]⟩
abbrev S1x128 : Shape := ⟨2, ![1, 128]⟩
abbrev S1x4096 : Shape := ⟨2, ![1, 4096]⟩
abbrev S8192x128 : Shape := ⟨2, ![8192, 128]⟩
abbrev S32x8x128 : Shape := ⟨3, ![32, 8, 128]⟩
abbrev S256x4096 : Shape := ⟨2, ![256, 4096]⟩
abbrev S256x128 : Shape := ⟨2, ![256, 128]⟩
abbrev S1x8x128 : Shape := ⟨3, ![1, 8, 128]⟩
abbrev S256 : Shape := ⟨1, ![256]⟩
abbrev S256x1 : Shape := ⟨2, ![256, 1]⟩
abbrev S8x128 : Shape := ⟨2, ![8, 128]⟩

abbrev nBuf : Space → Nat
  | .hbm => 23
  | .vmem => 12
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S4096x8, .f32⟩
  | .hbm, ⟨3, _⟩ => ⟨S8, .f32⟩
  | .hbm, ⟨4, _⟩ => ⟨S4096x64, .f32⟩
  | .hbm, ⟨5, _⟩ => ⟨S64, .f32⟩
  | .hbm, ⟨6, _⟩ => ⟨S4096x72, .f32⟩
  | .hbm, ⟨7, _⟩ => ⟨S_, .i32⟩
  | .hbm, ⟨8, _⟩ => ⟨S_, .f32⟩
  | .hbm, ⟨9, _⟩ => ⟨S4096x128, .f32⟩
  | .hbm, ⟨10, _⟩ => ⟨S72, .f32⟩
  | .hbm, ⟨11, _⟩ => ⟨S_, .i32⟩
  | .hbm, ⟨12, _⟩ => ⟨S_, .f32⟩
  | .hbm, ⟨13, _⟩ => ⟨S128, .f32⟩
  | .hbm, ⟨14, _⟩ => ⟨S1x128, .f32⟩
  | .hbm, ⟨15, _⟩ => ⟨S4096x128, .bf16⟩
  | .hbm, ⟨16, _⟩ => ⟨S4096x128, .f32⟩
  | .hbm, ⟨17, _⟩ => ⟨S4096x128, .f32⟩
  | .hbm, ⟨18, _⟩ => ⟨S4096x128, .bf16⟩
  | .hbm, ⟨19, _⟩ => ⟨S1x4096, .f32⟩
  | .hbm, ⟨20, _⟩ => ⟨S8192x128, .i32⟩
  | .hbm, ⟨21, _⟩ => ⟨S8192x128, .f32⟩
  | .hbm, ⟨22, _⟩ => ⟨S32x8x128, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S4096x128, .bf16⟩
  | .local _ .vmem, ⟨4, _⟩ => ⟨S4096x128, .bf16⟩
  | .local _ .vmem, ⟨5, _⟩ => ⟨S1x128, .f32⟩
  | .local _ .vmem, ⟨6, _⟩ => ⟨S256x128, .i32⟩
  | .local _ .vmem, ⟨7, _⟩ => ⟨S256x128, .i32⟩
  | .local _ .vmem, ⟨8, _⟩ => ⟨S256x128, .f32⟩
  | .local _ .vmem, ⟨9, _⟩ => ⟨S256x128, .f32⟩
  | .local _ .vmem, ⟨10, _⟩ => ⟨S1x8x128, .f32⟩
  | .local _ .vmem, ⟨11, _⟩ => ⟨S1x8x128, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_call1_v0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10_0 : Ref sig .tc := ⟨.hbm, 20, rfl⟩
abbrev main_v10_1 : Ref sig .tc := ⟨.hbm, 21, rfl⟩
abbrev main_v10_2 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x128 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RouterRefIdeal.lean ====
abbrev S8192x4096 : Shape := ⟨2, ![8192, 4096]⟩
abbrev S4096 : Shape := ⟨1, ![4096]⟩
abbrev S4096x8 : Shape := ⟨2, ![4096, 8]⟩
abbrev S8 : Shape := ⟨1, ![8]⟩
abbrev S4096x64 : Shape := ⟨2, ![4096, 64]⟩
abbrev S64 : Shape := ⟨1, ![64]⟩
abbrev S_ : Shape := ⟨0, ![]⟩
abbrev S8192 : Shape := ⟨1, ![8192]⟩
abbrev S8192x1 : Shape := ⟨2, ![8192, 1]⟩
abbrev S1x4096 : Shape := ⟨2, ![1, 4096]⟩
abbrev S8192x8 : Shape := ⟨2, ![8192, 8]⟩
abbrev S1x8 : Shape := ⟨2, ![1, 8]⟩
abbrev S8192x1x1 : Shape := ⟨3, ![8192, 1, 1]⟩
abbrev S1 : Shape := ⟨1, ![1]⟩
abbrev S1x1x1 : Shape := ⟨3, ![1, 1, 1]⟩
abbrev S8192x64 : Shape := ⟨2, ![8192, 64]⟩
abbrev S1x64 : Shape := ⟨2, ![1, 64]⟩
abbrev S8192x8x8 : Shape := ⟨3, ![8192, 8, 8]⟩
abbrev S8192x1x8 : Shape := ⟨3, ![8192, 1, 8]⟩
abbrev S8192x2 : Shape := ⟨2, ![8192, 2]⟩
abbrev S8192x2x1 : Shape := ⟨3, ![8192, 2, 1]⟩
abbrev S1x1x64 : Shape := ⟨3, ![1, 1, 64]⟩
abbrev S8192x2x64 : Shape := ⟨3, ![8192, 2, 64]⟩
abbrev S32x256x64 : Shape := ⟨3, ![32, 256, 64]⟩
abbrev S32x64 : Shape := ⟨2, ![32, 64]⟩
abbrev S32x128 : Shape := ⟨2, ![32, 128]⟩
abbrev S8192x128 : Shape := ⟨2, ![8192, 128]⟩
abbrev S32x1x128 : Shape := ⟨3, ![32, 1, 128]⟩
abbrev S32x8x128 : Shape := ⟨3, ![32, 8, 128]⟩

abbrev nBuf : Space → Nat
  | .hbm => 138
  | .vmem => 0
  | .smem => 0
  | _ => 0

abbrev hbmTy0_0 (i : Nat) : BufTy := match i % 128 with
  | 0 => ⟨S8192x4096, .f32⟩
  | 1 => ⟨S4096, .f32⟩
  | 2 => ⟨S4096x8, .f32⟩
  | 3 => ⟨S8, .f32⟩
  | 4 => ⟨S4096x64, .f32⟩
  | 5 => ⟨S64, .f32⟩
  | 6 => ⟨S8192x4096, .f32⟩
  | 7 => ⟨S_, .f32⟩
  | 8 => ⟨S8192, .f32⟩
  | 9 => ⟨S8192x1, .f32⟩
  | 10 => ⟨S_, .f32⟩
  | 11 => ⟨S8192x1, .f32⟩
  | 12 => ⟨S8192x1, .f32⟩
  | 13 => ⟨S_, .f32⟩
  | 14 => ⟨S8192x1, .f32⟩
  | 15 => ⟨S8192x1, .f32⟩
  | 16 => ⟨S8192x1, .f32⟩
  | 17 => ⟨S8192x4096, .f32⟩
  | 18 => ⟨S8192x4096, .f32⟩
  | 19 => ⟨S1x4096, .f32⟩
  | 20 => ⟨S8192x4096, .f32⟩
  | 21 => ⟨S8192x4096, .f32⟩
  | 22 => ⟨S8192x8, .f32⟩
  | 23 => ⟨S1x8, .f32⟩
  | 24 => ⟨S8192x8, .f32⟩
  | 25 => ⟨S8192x8, .f32⟩
  | 26 => ⟨S_, .f32⟩
  | 27 => ⟨S8192, .f32⟩
  | 28 => ⟨S_, .f32⟩
  | 29 => ⟨S8192, .f32⟩
  | 30 => ⟨S8192, .f32⟩
  | 31 => ⟨S8192x1, .f32⟩
  | 32 => ⟨S8192x8, .f32⟩
  | 33 => ⟨S8192x8, .f32⟩
  | 34 => ⟨S8192x8, .f32⟩
  | 35 => ⟨S_, .f32⟩
  | 36 => ⟨S8192, .f32⟩
  | 37 => ⟨S8192x1, .f32⟩
  | 38 => ⟨S8192x8, .f32⟩
  | 39 => ⟨S8192x8, .f32⟩
  | 40 => ⟨S8192x1, .f32⟩
  | 41 => ⟨S8192x1, .i32⟩
  | 42 => ⟨S_, .i32⟩
  | 43 => ⟨S8192x1, .i32⟩
  | 44 => ⟨S8192x1, .i1⟩
  | 45 => ⟨S_, .i32⟩
  | 46 => ⟨S8192x1, .i32⟩
  | 47 => ⟨S8192x1, .i32⟩
  | 48 => ⟨S8192x1, .i32⟩
  | 49 => ⟨S8192x1x1, .i32⟩
  | 50 => ⟨S1, .i32⟩
  | 51 => ⟨S_, .i32⟩
  | 52 => ⟨S8192x1x1, .i32⟩
  | 53 => ⟨S8192x1x1, .i1⟩
  | 54 => ⟨S1x1x1, .i32⟩
  | 55 => ⟨S8192x1x1, .i32⟩
  | 56 => ⟨S8192x1x1, .i1⟩
  | 57 => ⟨S8192x1x1, .i1⟩
  | 58 => ⟨S_, .i1⟩
  | 59 => ⟨S8192x1, .i1⟩
  | 60 => ⟨S8192x1, .f32⟩
  | 61 => ⟨S_, .f32⟩
  | 62 => ⟨S8192x1, .f32⟩
  | 63 => ⟨S8192x1, .f32⟩
  | 64 => ⟨S8192x64, .f32⟩
  | 65 => ⟨S1x64, .f32⟩
  | 66 => ⟨S8192x64, .f32⟩
  | 67 => ⟨S8192x64, .f32⟩
  | 68 => ⟨S8192x8x8, .f32⟩
  | 69 => ⟨S8192x1x1, .i32⟩
  | 70 => ⟨S_, .i32⟩
  | 71 => ⟨S8192x1x1, .i32⟩
  | 72 => ⟨S8192x1x1, .i1⟩
  | 73 => ⟨S_, .i32⟩
  | 74 => ⟨S8192x1x1, .i32⟩
  | 75 => ⟨S8192x1x1, .i32⟩
  | 76 => ⟨S8192x1x1, .i32⟩
  | 77 => ⟨S1, .i32⟩
  | 78 => ⟨S_, .i32⟩
  | 79 => ⟨S8192x1x1, .i32⟩
  | 80 => ⟨S8192x1x1, .i1⟩
  | 81 => ⟨S1x1x1, .i32⟩
  | 82 => ⟨S8192x1x1, .i32⟩
  | 83 => ⟨S8192x1x1, .i1⟩
  | 84 => ⟨S8192x1x1, .i1⟩
  | 85 => ⟨S_, .i1⟩
  | 86 => ⟨S8192x1, .i1⟩
  | 87 => ⟨S8192x1x8, .f32⟩
  | 88 => ⟨S8192x1x8, .i1⟩
  | 89 => ⟨S_, .f32⟩
  | 90 => ⟨S8192x1x8, .f32⟩
  | 91 => ⟨S8192x1x8, .f32⟩
  | 92 => ⟨S8192x8, .f32⟩
  | 93 => ⟨S8192x2, .f32⟩
  | 94 => ⟨S8192x2, .i32⟩
  | 95 => ⟨S_, .f32⟩
  | 96 => ⟨S8192, .f32⟩
  | 97 => ⟨S_, .f32⟩
  | 98 => ⟨S8192, .f32⟩
  | 99 => ⟨S8192, .f32⟩
  | 100 => ⟨S8192x1, .f32⟩
  | 101 => ⟨S8192x2, .f32⟩
  | 102 => ⟨S8192x2, .f32⟩
  | 103 => ⟨S8192x2, .f32⟩
  | 104 => ⟨S_, .f32⟩
  | 105 => ⟨S8192, .f32⟩
  | 106 => ⟨S8192x1, .f32⟩
  | 107 => ⟨S8192x2, .f32⟩
  | 108 => ⟨S8192x2, .f32⟩
  | 109 => ⟨S8192x2, .f32⟩
  | 110 => ⟨S8192x2, .f32⟩
  | 111 => ⟨S_, .i32⟩
  | 112 => ⟨S8192x1, .i32⟩
  | 113 => ⟨S8192x1, .i32⟩
  | 114 => ⟨S8192x2, .i32⟩
  | 115 => ⟨S8192x2, .i32⟩
  | 116 => ⟨S8192x2x1, .i32⟩
  | 117 => ⟨S1x1x64, .i32⟩
  | 118 => ⟨S8192x2x64, .i32⟩
  | 119 => ⟨S8192x2x64, .i32⟩
  | 120 => ⟨S8192x2x64, .i1⟩
  | 121 => ⟨S8192x2x64, .f32⟩
  | 122 => ⟨S_, .f32⟩
  | 123 => ⟨S8192x64, .f32⟩
  | 124 => ⟨S32x256x64, .f32⟩
  | 125 => ⟨S_, .f32⟩
  | 126 => ⟨S32x64, .f32⟩
  | 127 => ⟨S_, .i32⟩
  | _ => ⟨S8192x4096, .f32⟩

abbrev hbmTy0_1 (i : Nat) : BufTy := match i % 128 with
  | 0 => ⟨S_, .f32⟩
  | 1 => ⟨S32x128, .f32⟩
  | 2 => ⟨S_, .i32⟩
  | 3 => ⟨S_, .i32⟩
  | 4 => ⟨S8192x128, .i32⟩
  | 5 => ⟨S_, .i32⟩
  | 6 => ⟨S_, .f32⟩
  | 7 => ⟨S8192x128, .f32⟩
  | 8 => ⟨S32x1x128, .f32⟩
  | 9 => ⟨S32x8x128, .f32⟩
  | _ => ⟨S8192x4096, .f32⟩

abbrev hbmTy (i : Nat) : BufTy := match i / 128 with
  | 0 => hbmTy0_0 i
  | 1 => hbmTy0_1 i
  | _ => ⟨S8192x4096, .f32⟩

abbrev bufTy : (tb : Table) → Fin (tcTables nBuf tb) → BufTy
  | .hbm, ⟨i, _⟩ => hbmTy i
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_values : Ref sig .tc := ⟨.hbm, 40, rfl⟩
abbrev main_indices : Ref sig .tc := ⟨.hbm, 41, rfl⟩
abbrev main_call0_c : Ref sig .tc := ⟨.hbm, 42, rfl⟩
abbrev main_call0_v0 : Ref sig .tc := ⟨.hbm, 43, rfl⟩
abbrev main_call0_v1 : Ref sig .tc := ⟨.hbm, 44, rfl⟩
abbrev main_call0_c_0 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_call0_v5 : Ref sig .tc := ⟨.hbm, 49, rfl⟩
abbrev main_call0_c_1 : Ref sig .tc := ⟨.hbm, 50, rfl⟩
abbrev main_call0_c_2 : Ref sig .tc := ⟨.hbm, 51, rfl⟩
abbrev main_call0_v6 : Ref sig .tc := ⟨.hbm, 52, rfl⟩
abbrev main_call0_v7 : Ref sig .tc := ⟨.hbm, 53, rfl⟩
abbrev main_call0_v8 : Ref sig .tc := ⟨.hbm, 54, rfl⟩
abbrev main_call0_v9 : Ref sig .tc := ⟨.hbm, 55, rfl⟩
abbrev main_call0_v10 : Ref sig .tc := ⟨.hbm, 56, rfl⟩
abbrev main_call0_v11 : Ref sig .tc := ⟨.hbm, 57, rfl⟩
abbrev main_call0_c_3 : Ref sig .tc := ⟨.hbm, 58, rfl⟩
abbrev main_call0_v12 : Ref sig .tc := ⟨.hbm, 59, rfl⟩
abbrev main_call0_v13 : Ref sig .tc := ⟨.hbm, 60, rfl⟩
abbrev main_call0_cst : Ref sig .tc := ⟨.hbm, 61, rfl⟩
abbrev main_call0_v14 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_call1_c : Ref sig .tc := ⟨.hbm, 70, rfl⟩
abbrev main_call1_v0 : Ref sig .tc := ⟨.hbm, 71, rfl⟩
abbrev main_call1_v1 : Ref sig .tc := ⟨.hbm, 72, rfl⟩
abbrev main_call1_c_0 : Ref sig .tc := ⟨.hbm, 73, rfl⟩
abbrev main_call1_v2 : Ref sig .tc := ⟨.hbm, 74, rfl⟩
abbrev main_call1_v3 : Ref sig .tc := ⟨.hbm, 75, rfl⟩
abbrev main_call1_v4 : Ref sig .tc := ⟨.hbm, 76, rfl⟩
abbrev main_call1_c_1 : Ref sig .tc := ⟨.hbm, 77, rfl⟩
abbrev main_call1_c_2 : Ref sig .tc := ⟨.hbm, 78, rfl⟩
abbrev main_call1_v5 : Ref sig .tc := ⟨.hbm, 79, rfl⟩
abbrev main_call1_v6 : Ref sig .tc := ⟨.hbm, 80, rfl⟩
abbrev main_call1_v7 : Ref sig .tc := ⟨.hbm, 81, rfl⟩
abbrev main_call1_v8 : Ref sig .tc := ⟨.hbm, 82, rfl⟩
abbrev main_call1_v9 : Ref sig .tc := ⟨.hbm, 83, rfl⟩
abbrev main_call1_v10 : Ref sig .tc := ⟨.hbm, 84, rfl⟩
abbrev main_call1_c_3 : Ref sig .tc := ⟨.hbm, 85, rfl⟩
abbrev main_call1_v11 : Ref sig .tc := ⟨.hbm, 86, rfl⟩
abbrev main_call1_v12 : Ref sig .tc := ⟨.hbm, 87, rfl⟩
abbrev main_call1_v13 : Ref sig .tc := ⟨.hbm, 88, rfl⟩
abbrev main_call1_cst : Ref sig .tc := ⟨.hbm, 89, rfl⟩
abbrev main_call1_v14 : Ref sig .tc := ⟨.hbm, 90, rfl⟩
abbrev main_v35 : Ref sig .tc := ⟨.hbm, 91, rfl⟩
abbrev main_v36 : Ref sig .tc := ⟨.hbm, 92, rfl⟩
abbrev main_values_5 : Ref sig .tc := ⟨.hbm, 93, rfl⟩
abbrev main_indices_6 : Ref sig .tc := ⟨.hbm, 94, rfl⟩
abbrev main_cst_7 : Ref sig .tc := ⟨.hbm, 95, rfl⟩
abbrev main_v37 : Ref sig .tc := ⟨.hbm, 96, rfl⟩
abbrev main_cst_8 : Ref sig .tc := ⟨.hbm, 97, rfl⟩
abbrev main_v38 : Ref sig .tc := ⟨.hbm, 98, rfl⟩
abbrev main_v39 : Ref sig .tc := ⟨.hbm, 99, rfl⟩
abbrev main_v40 : Ref sig .tc := ⟨.hbm, 100, rfl⟩
abbrev main_v41 : Ref sig .tc := ⟨.hbm, 101, rfl⟩
abbrev main_v42 : Ref sig .tc := ⟨.hbm, 102, rfl⟩
abbrev main_v43 : Ref sig .tc := ⟨.hbm, 103, rfl⟩
abbrev main_cst_9 : Ref sig .tc := ⟨.hbm, 104, rfl⟩
abbrev main_v44 : Ref sig .tc := ⟨.hbm, 105, rfl⟩
abbrev main_v45 : Ref sig .tc := ⟨.hbm, 106, rfl⟩
abbrev main_v46 : Ref sig .tc := ⟨.hbm, 107, rfl⟩
abbrev main_v47 : Ref sig .tc := ⟨.hbm, 108, rfl⟩
abbrev main_v48 : Ref sig .tc := ⟨.hbm, 109, rfl⟩
abbrev main_v49 : Ref sig .tc := ⟨.hbm, 110, rfl⟩
abbrev main_c : Ref sig .tc := ⟨.hbm, 111, rfl⟩
abbrev main_v50 : Ref sig .tc := ⟨.hbm, 112, rfl⟩
abbrev main_v51 : Ref sig .tc := ⟨.hbm, 113, rfl⟩
abbrev main_v52 : Ref sig .tc := ⟨.hbm, 114, rfl⟩
abbrev main_v53 : Ref sig .tc := ⟨.hbm, 115, rfl⟩
abbrev main_call2_v0 : Ref sig .tc := ⟨.hbm, 116, rfl⟩
abbrev main_call2_v1 : Ref sig .tc := ⟨.hbm, 117, rfl⟩
abbrev main_call2_v2 : Ref sig .tc := ⟨.hbm, 118, rfl⟩
abbrev main_call2_v3 : Ref sig .tc := ⟨.hbm, 119, rfl⟩
abbrev main_call2_v4 : Ref sig .tc := ⟨.hbm, 120, rfl⟩
abbrev main_v54 : Ref sig .tc := ⟨.hbm, 121, rfl⟩
abbrev main_cst_10 : Ref sig .tc := ⟨.hbm, 122, rfl⟩
abbrev main_v55 : Ref sig .tc := ⟨.hbm, 123, rfl⟩
abbrev main_v56 : Ref sig .tc := ⟨.hbm, 124, rfl⟩
abbrev main_cst_11 : Ref sig .tc := ⟨.hbm, 125, rfl⟩
abbrev main_v57 : Ref sig .tc := ⟨.hbm, 126, rfl⟩
abbrev main_c_12 : Ref sig .tc := ⟨.hbm, 127, rfl⟩
abbrev main_call3_v0 : Ref sig .tc := ⟨.hbm, 128, rfl⟩
abbrev main_v58 : Ref sig .tc := ⟨.hbm, 129, rfl⟩
abbrev main_c_13 : Ref sig .tc := ⟨.hbm, 130, rfl⟩
abbrev main_call4_v0 : Ref sig .tc := ⟨.hbm, 131, rfl⟩
abbrev main_v59 : Ref sig .tc := ⟨.hbm, 132, rfl⟩
abbrev main_c_14 : Ref sig .tc := ⟨.hbm, 133, rfl⟩
abbrev main_call5_v0 : Ref sig .tc := ⟨.hbm, 134, rfl⟩
abbrev main_v60 : Ref sig .tc := ⟨.hbm, 135, rfl⟩
abbrev main_v61 : Ref sig .tc := ⟨.hbm, 136, rfl⟩
abbrev main_v62 : Ref sig .tc := ⟨.hbm, 137, rfl⟩

abbrev nD : Nat := 1
abbrev τ : Topo := Topo.v7x

variable {F : FTy → Type} [FloatOps F]
-- ==== Dispatch.lean ====
abbrev S8192x128 : Shape := ⟨2, ![8192, 128]⟩
abbrev S8x128 : Shape := ⟨2, ![8, 128]⟩
abbrev S256x128 : Shape := ⟨2, ![256, 128]⟩
abbrev S256x256 : Shape := ⟨2, ![256, 256]⟩
abbrev S256x1 : Shape := ⟨2, ![256, 1]⟩
abbrev S1x128 : Shape := ⟨2, ![1, 128]⟩
abbrev S256 : Shape := ⟨1, ![256]⟩
abbrev S128 : Shape := ⟨1, ![128]⟩

abbrev nBuf : Space → Nat
  | .hbm => 3
  | .vmem => 7
  | .smem => 0
  | _ => 0

abbrev bufTy : (tb : Table) → Fin (tcTables nBuf tb) → BufTy
  | .hbm, ⟨0, _⟩ => ⟨S8192x128, .i32⟩
  | .hbm, ⟨1, _⟩ => ⟨S8x128, .f32⟩
  | .hbm, ⟨2, _⟩ => ⟨S8192x128, .i32⟩
  | .local _ .vmem, ⟨0, _⟩ => ⟨S256x128, .i32⟩
  | .local _ .vmem, ⟨1, _⟩ => ⟨S256x128, .i32⟩
  | .local _ .vmem, ⟨2, _⟩ => ⟨S8x128, .f32⟩
  | .local _ .vmem, ⟨3, _⟩ => ⟨S256x128, .i32⟩
  | .local _ .vmem, ⟨4, _⟩ => ⟨S256x128, .i32⟩
  | .local _ .vmem, ⟨5, _⟩ => ⟨S8x128, .f32⟩
  | .local _ .vmem, ⟨6, _⟩ => ⟨S256x256, .bf16⟩
  | _, _ => ⟨S8192x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== DispatchRefIdeal.lean ====
abbrev S8192x128 : Shape := ⟨2, ![8192, 128]⟩
abbrev S8x128 : Shape := ⟨2, ![8, 128]⟩
abbrev S8192x2 : Shape := ⟨2, ![8192, 2]⟩
abbrev S8192 : Shape := ⟨1, ![8192]⟩
abbrev S8192x2x1x1 : Shape := ⟨4, ![8192, 2, 1, 1]⟩
abbrev S1x1x8192x2 : Shape := ⟨4, ![1, 1, 8192, 2]⟩
abbrev S8192x2x8192x2 : Shape := ⟨4, ![8192, 2, 8192, 2]⟩
abbrev S_ : Shape := ⟨0, ![]⟩
abbrev S8192x2x8192 : Shape := ⟨3, ![8192, 2, 8192]⟩
abbrev S1x8192 : Shape := ⟨2, ![1, 8192]⟩
abbrev S8192x1 : Shape := ⟨2, ![8192, 1]⟩
abbrev S8192x8192 : Shape := ⟨2, ![8192, 8192]⟩
abbrev S8192x1x8192 : Shape := ⟨3, ![8192, 1, 8192]⟩
abbrev S1x128 : Shape := ⟨2, ![1, 128]⟩
abbrev S128 : Shape := ⟨1, ![128]⟩
abbrev S8192x2x1 : Shape := ⟨3, ![8192, 2, 1]⟩

abbrev nBuf : Space → Nat
  | .hbm => 41
  | .vmem => 0
  | .smem => 0
  | _ => 0

abbrev bufTy : (tb : Table) → Fin (tcTables nBuf tb) → BufTy
  | .hbm, ⟨0, _⟩ => ⟨S8192x128, .i32⟩
  | .hbm, ⟨1, _⟩ => ⟨S8x128, .f32⟩
  | .hbm, ⟨2, _⟩ => ⟨S8192x2, .i32⟩
  | .hbm, ⟨3, _⟩ => ⟨S8192, .i32⟩
  | .hbm, ⟨4, _⟩ => ⟨S8192x2x1x1, .i32⟩
  | .hbm, ⟨5, _⟩ => ⟨S1x1x8192x2, .i32⟩
  | .hbm, ⟨6, _⟩ => ⟨S8192x2x8192x2, .i32⟩
  | .hbm, ⟨7, _⟩ => ⟨S8192x2x8192x2, .i32⟩
  | .hbm, ⟨8, _⟩ => ⟨S8192x2x8192x2, .i1⟩
  | .hbm, ⟨9, _⟩ => ⟨S8192x2x8192x2, .f32⟩
  | .hbm, ⟨10, _⟩ => ⟨S_, .f32⟩
  | .hbm, ⟨11, _⟩ => ⟨S8192x2x8192, .f32⟩
  | .hbm, ⟨12, _⟩ => ⟨S1x8192, .i32⟩
  | .hbm, ⟨13, _⟩ => ⟨S8192x1, .i32⟩
  | .hbm, ⟨14, _⟩ => ⟨S8192x8192, .i32⟩
  | .hbm, ⟨15, _⟩ => ⟨S8192x8192, .i32⟩
  | .hbm, ⟨16, _⟩ => ⟨S8192x8192, .i1⟩
  | .hbm, ⟨17, _⟩ => ⟨S8192x1x8192, .i1⟩
  | .hbm, ⟨18, _⟩ => ⟨S_, .f32⟩
  | .hbm, ⟨19, _⟩ => ⟨S_, .f32⟩
  | .hbm, ⟨20, _⟩ => ⟨S8192x2x8192, .i1⟩
  | .hbm, ⟨21, _⟩ => ⟨S8192x2x8192, .f32⟩
  | .hbm, ⟨22, _⟩ => ⟨S8192x2x8192, .f32⟩
  | .hbm, ⟨23, _⟩ => ⟨S_, .f32⟩
  | .hbm, ⟨24, _⟩ => ⟨S8192x2, .f32⟩
  | .hbm, ⟨25, _⟩ => ⟨S1x128, .f32⟩
  | .hbm, ⟨26, _⟩ => ⟨S128, .f32⟩
  | .hbm, ⟨27, _⟩ => ⟨S_, .i32⟩
  | .hbm, ⟨28, _⟩ => ⟨S8192x2, .i32⟩
  | .hbm, ⟨29, _⟩ => ⟨S8192x2, .i1⟩
  | .hbm, ⟨30, _⟩ => ⟨S_, .i32⟩
  | .hbm, ⟨31, _⟩ => ⟨S8192x2, .i32⟩
  | .hbm, ⟨32, _⟩ => ⟨S8192x2, .i32⟩
  | .hbm, ⟨33, _⟩ => ⟨S8192x2, .i32⟩
  | .hbm, ⟨34, _⟩ => ⟨S8192x2x1, .i32⟩
  | .hbm, ⟨35, _⟩ => ⟨S8192x2, .f32⟩
  | .hbm, ⟨36, _⟩ => ⟨S8192x2, .f32⟩
  | .hbm, ⟨37, _⟩ => ⟨S8192x2, .i32⟩
  | .hbm, ⟨38, _⟩ => ⟨S_, .i32⟩
  | .hbm, ⟨39, _⟩ => ⟨S_, .i32⟩
  | .hbm, ⟨40, _⟩ => ⟨S8192x128, .i32⟩
  | _, _ => ⟨S8192x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst_0 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c : Ref sig .tc := ⟨.hbm, 27, rfl⟩
abbrev main_v19 : Ref sig .tc := ⟨.hbm, 28, rfl⟩
abbrev main_v20 : Ref sig .tc := ⟨.hbm, 29, rfl⟩
abbrev main_c_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_c_3 : Ref sig .tc := ⟨.hbm, 38, rfl⟩
abbrev main_call1_v0 : Ref sig .tc := ⟨.hbm, 39, rfl⟩
abbrev main_v28 : Ref sig .tc := ⟨.hbm, 40, rfl⟩

abbrev nD : Nat := 1
abbrev τ : Topo := Topo.v7x

variable {F : FTy → Type} [FloatOps F]
-- ==== Ssm.lean ====
abbrev S4x2048x14336 : Shape := ⟨3, ![4, 2048, 14336]⟩
abbrev S8x16x2048 : Shape := ⟨3, ![8, 16, 2048]⟩
abbrev S8x128x256 : Shape := ⟨3, ![8, 128, 256]⟩
abbrev S8x8x128 : Shape := ⟨3, ![8, 8, 128]⟩
abbrev S1x2048 : Shape := ⟨2, ![1, 2048]⟩
abbrev S4x2048x2048 : Shape := ⟨3, ![4, 2048, 2048]⟩
abbrev S4x512x256 : Shape := ⟨3, ![4, 512, 256]⟩
abbrev S1x16x2048 : Shape := ⟨3, ![1, 16, 2048]⟩
abbrev S1x128x256 : Shape := ⟨3, ![1, 128, 256]⟩
abbrev S1x8x128 : Shape := ⟨3, ![1, 8, 128]⟩
abbrev S1x256 : Shape := ⟨2, ![1, 256]⟩
abbrev S4x8320x128 : Shape := ⟨3, ![4, 8320, 128]⟩
abbrev S4x16x128 : Shape := ⟨3, ![4, 16, 128]⟩
abbrev S256x2048 : Shape := ⟨2, ![256, 2048]⟩
abbrev S2048x256 : Shape := ⟨2, ![2048, 256]⟩
abbrev S16x2048 : Shape := ⟨2, ![16, 2048]⟩
abbrev S1x64x256 : Shape := ⟨3, ![1, 64, 256]⟩
abbrev S64x256 : Shape := ⟨2, ![64, 256]⟩
abbrev S1024x256 : Shape := ⟨2, ![1024, 256]⟩
abbrev S1x512x256 : Shape := ⟨3, ![1, 512, 256]⟩
abbrev S512x256 : Shape := ⟨2, ![512, 256]⟩
abbrev S512x2048 : Shape := ⟨2, ![512, 2048]⟩
abbrev S512x128 : Shape := ⟨2, ![512, 128]⟩
abbrev S1x512x128 : Shape := ⟨3, ![1, 512, 128]⟩
abbrev S8x128 : Shape := ⟨2, ![8, 128]⟩

abbrev nBuf : Space → Nat
  | .hbm => 7
  | .vmem => 18
  | .smem => 0
  | _ => 0

abbrev bufTy : (tb : Table) → Fin (tcTables nBuf tb) → BufTy
  | .hbm, ⟨0, _⟩ => ⟨S4x2048x14336, .f32⟩
  | .hbm, ⟨1, _⟩ => ⟨S8x16x2048, .f32⟩
  | .hbm, ⟨2, _⟩ => ⟨S8x128x256, .f32⟩
  | .hbm, ⟨3, _⟩ => ⟨S8x8x128, .f32⟩
  | .hbm, ⟨4, _⟩ => ⟨S8x8x128, .f32⟩
  | .hbm, ⟨5, _⟩ => ⟨S1x2048, .f32⟩
  | .hbm, ⟨6, _⟩ => ⟨S4x2048x2048, .bf16⟩
  | .local _ .vmem, ⟨0, _⟩ => ⟨S4x512x256, .f32⟩
  | .local _ .vmem, ⟨1, _⟩ => ⟨S4x512x256, .f32⟩
  | .local _ .vmem, ⟨2, _⟩ => ⟨S1x16x2048, .f32⟩
  | .local _ .vmem, ⟨3, _⟩ => ⟨S1x16x2048, .f32⟩
  | .local _ .vmem, ⟨4, _⟩ => ⟨S1x128x256, .f32⟩
  | .local _ .vmem, ⟨5, _⟩ => ⟨S1x128x256, .f32⟩
  | .local _ .vmem, ⟨6, _⟩ => ⟨S1x8x128, .f32⟩
  | .local _ .vmem, ⟨7, _⟩ => ⟨S1x8x128, .f32⟩
  | .local _ .vmem, ⟨8, _⟩ => ⟨S1x8x128, .f32⟩
  | .local _ .vmem, ⟨9, _⟩ => ⟨S1x8x128, .f32⟩
  | .local _ .vmem, ⟨10, _⟩ => ⟨S1x256, .f32⟩
  | .local _ .vmem, ⟨11, _⟩ => ⟨S1x256, .f32⟩
  | .local _ .vmem, ⟨12, _⟩ => ⟨S4x512x256, .bf16⟩
  | .local _ .vmem, ⟨13, _⟩ => ⟨S4x512x256, .bf16⟩
  | .local _ .vmem, ⟨14, _⟩ => ⟨S4x8320x128, .f32⟩
  | .local _ .vmem, ⟨15, _⟩ => ⟨S4x16x128, .f32⟩
  | .local _ .vmem, ⟨16, _⟩ => ⟨S256x2048, .bf16⟩
  | .local _ .vmem, ⟨17, _⟩ => ⟨S2048x256, .bf16⟩
  | _, _ => ⟨S4x2048x14336, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 4], ![false, false]⟩

@[reducible] def k0_t1_loop : Scf.Loop 32 :=
  let c0_i32_232 : BitVec 32 := 0#32
  let c512_i32 : BitVec 32 := 512#32
  let v312 : BitVec 32 := Scalar.addi c0_i32_232 c512_i32
  let c1_i32_233 : BitVec 32 := 1#32
  ⟨c0_i32_232, v312, c1_i32_233⟩
def k0_off1 (k0_t1 : Fin k0_t1_loop.trips) : Fin 3 → Nat :=
  let c0_511 : Index := 0#32
  let c0_i32_232 : BitVec 32 := 0#32
  let c1_i32_233 : BitVec 32 := 1#32
  let arg13 : BitVec 32 := Scf.iv c0_i32_232 c1_i32_233 k0_t1
  let v634 : Index := Scalar.indexCast arg13
  let c0_512 : Index := 0#32
  ![0, v634.toNat, 0]
def k0_off2 (k0_t1 : Fin k0_t1_loop.trips) : Fin 3 → Nat :=
  let c0_513 : Index := 0#32
  let c4160_i32 : BitVec 32 := 4160#32
  let c0_i32_232 : BitVec 32 := 0#32
  let c1_i32_233 : BitVec 32 := 1#32
  let arg13 : BitVec 32 := Scf.iv c0_i32_232 c1_i32_233 k0_t1
  let v637 : BitVec 32 := Scalar.addi c4160_i32 arg13
  let v638 : Index := Scalar.indexCast v637
  let c0_514 : Index := 0#32
  ![0, v638.toNat, 0]
def k0_off3 (k0_t1 : Fin k0_t1_loop.trips) : Fin 3 → Nat :=
  let c1_520 : Index := 1#32
  let c0_i32_232 : BitVec 32 := 0#32
  let c1_i32_233 : BitVec 32 := 1#32
  let arg13 : BitVec 32 := Scf.iv c0_i32_232 c1_i32_233 k0_t1
  let v658 : Index := Scalar.indexCast arg13
  let c0_521 : Index := 0#32
  ![1, v658.toNat, 0]
def k0_off4 (k0_t1 : Fin k0_t1_loop.trips) : Fin 3 → Nat :=
  let c1_523 : Index := 1#32
  let c4160_i32_522 : BitVec 32 := 4160#32
  let c0_i32_232 : BitVec 32 := 0#32
  let c1_i32_233 : BitVec 32 := 1#32
  let arg13 : BitVec 32 := Scf.iv c0_i32_232 c1_i32_233 k0_t1
  let v661 : BitVec 32 := Scalar.addi c4160_i32_522 arg13
  let v662 : Index := Scalar.indexCast v661
  let c0_524 : Index := 0#32
  ![1, v662.toNat, 0]
def k0_off5 (k0_t1 : Fin k0_t1_loop.trips) : Fin 3 → Nat :=
  let c2_530 : Index := 2#32
  let c0_i32_232 : BitVec 32 := 0#32
  let c1_i32_233 : BitVec 32 := 1#32
  let arg13 : BitVec 32 := Scf.iv c0_i32_232 c1_i32_233 k0_t1
  let v682 : Index := Scalar.indexCast arg13
  let c0_531 : Index := 0#32
  ![2, v682.toNat, 0]
def k0_off6 (k0_t1 : Fin k0_t1_loop.trips) : Fin 3 → Nat :=
  let c2_533 : Index := 2#32
  let c4160_i32_532 : BitVec 32 := 4160#32
  let c0_i32_232 : BitVec 32 := 0#32
  let c1_i32_233 : BitVec 32 := 1#32
  let arg13 : BitVec 32 := Scf.iv c0_i32_232 c1_i32_233 k0_t1
  let v685 : BitVec 32 := Scalar.addi c4160_i32_532 arg13
  let v686 : Index := Scalar.indexCast v685
  let c0_534 : Index := 0#32
  ![2, v686.toNat, 0]
def k0_off7 (k0_t1 : Fin k0_t1_loop.trips) : Fin 3 → Nat :=
  let c3_540 : Index := 3#32
  let c0_i32_232 : BitVec 32 := 0#32
  let c1_i32_233 : BitVec 32 := 1#32
  let arg13 : BitVec 32 := Scf.iv c0_i32_232 c1_i32_233 k0_t1
  let v706 : Index := Scalar.indexCast arg13
  let c0_541 : Index := 0#32
  ![3, v706.toNat, 0]
def k0_off8 (k0_t1 : Fin k0_t1_loop.trips) : Fin 3 → Nat :=
  let c3_543 : Index := 3#32
  let c4160_i32_542 : BitVec 32 := 4160#32
  let c0_i32_232 : BitVec 32 := 0#32
  let c1_i32_233 : BitVec 32 := 1#32
  let arg13 : BitVec 32 := Scf.iv c0_i32_232 c1_i32_233 k0_t1
  let v709 : BitVec 32 := Scalar.addi c4160_i32_542 arg13
  let v710 : Index := Scalar.indexCast v709
  let c0_544 : Index := 0#32
  ![3, v710.toNat, 0]
def cc0_transform_0 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, arg1.toNat, v0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage0_0 : Fin 2 → Memref sig .tc .vmem S4x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S4x512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== SsmRefIdeal.lean ====
abbrev S4x2048x14336 : Shape := ⟨3, ![4, 2048, 14336]⟩
abbrev S8x16x2048 : Shape := ⟨3, ![8, 16, 2048]⟩
abbrev S8x128x256 : Shape := ⟨3, ![8, 128, 256]⟩
abbrev S8x8x128 : Shape := ⟨3, ![8, 8, 128]⟩
abbrev S1x2048 : Shape := ⟨2, ![1, 2048]⟩
abbrev S8x16x2x16x64 : Shape := ⟨5, ![8, 16, 2, 16, 64]⟩
abbrev S2x8x16x64x16 : Shape := ⟨5, ![2, 8, 16, 64, 16]⟩
abbrev S2x128x64x16 : Shape := ⟨4, ![2, 128, 64, 16]⟩
abbrev S128x64 : Shape := ⟨2, ![128, 64]⟩
abbrev S4x2048x2048 : Shape := ⟨3, ![4, 2048, 2048]⟩
abbrev S4x2048x128x16 : Shape := ⟨4, ![4, 2048, 128, 16]⟩
abbrev S1x128x64x16 : Shape := ⟨4, ![1, 128, 64, 16]⟩
abbrev S128x64x16 : Shape := ⟨3, ![128, 64, 16]⟩
abbrev S128x64x4x2048 : Shape := ⟨4, ![128, 64, 4, 2048]⟩
abbrev S2048x4x128x64 : Shape := ⟨4, ![2048, 4, 128, 64]⟩
abbrev S_ : Shape := ⟨0, ![]⟩
abbrev S4x128x64 : Shape := ⟨3, ![4, 128, 64]⟩
abbrev S1x4x128x64 : Shape := ⟨4, ![1, 4, 128, 64]⟩
abbrev S1x128x64 : Shape := ⟨3, ![1, 128, 64]⟩
abbrev S8x2x64x16x16 : Shape := ⟨5, ![8, 2, 64, 16, 16]⟩
abbrev S2x8x16x16x64 : Shape := ⟨5, ![2, 8, 16, 16, 64]⟩
abbrev S2x128x16x64 : Shape := ⟨4, ![2, 128, 16, 64]⟩
abbrev S1x128x16x64 : Shape := ⟨4, ![1, 128, 16, 64]⟩
abbrev S128x16x64 : Shape := ⟨3, ![128, 16, 64]⟩
abbrev S128x16x2048x4 : Shape := ⟨4, ![128, 16, 2048, 4]⟩
abbrev S128x16 : Shape := ⟨2, ![128, 16]⟩
abbrev S1x1x128x16 : Shape := ⟨4, ![1, 1, 128, 16]⟩

abbrev nBuf : Space → Nat
  | .hbm => 117
  | .vmem => 0
  | .smem => 0
  | _ => 0

abbrev bufTy : (tb : Table) → Fin (tcTables nBuf tb) → BufTy
  | .hbm, ⟨0, _⟩ => ⟨S4x2048x14336, .f32⟩
  | .hbm, ⟨1, _⟩ => ⟨S8x16x2048, .f32⟩
  | .hbm, ⟨2, _⟩ => ⟨S8x128x256, .f32⟩
  | .hbm, ⟨3, _⟩ => ⟨S8x8x128, .f32⟩
  | .hbm, ⟨4, _⟩ => ⟨S8x8x128, .f32⟩
  | .hbm, ⟨5, _⟩ => ⟨S1x2048, .f32⟩
  | .hbm, ⟨6, _⟩ => ⟨S8x16x2x16x64, .f32⟩
  | .hbm, ⟨7, _⟩ => ⟨S2x8x16x64x16, .f32⟩
  | .hbm, ⟨8, _⟩ => ⟨S2x128x64x16, .f32⟩
  | .hbm, ⟨9, _⟩ => ⟨S128x64, .f32⟩
  | .hbm, ⟨10, _⟩ => ⟨S128x64, .f32⟩
  | .hbm, ⟨11, _⟩ => ⟨S4x2048x2048, .f32⟩
  | .hbm, ⟨12, _⟩ => ⟨S4x2048x128x16, .f32⟩
  | .hbm, ⟨13, _⟩ => ⟨S1x128x64x16, .f32⟩
  | .hbm, ⟨14, _⟩ => ⟨S128x64x16, .f32⟩
  | .hbm, ⟨15, _⟩ => ⟨S128x64x4x2048, .f32⟩
  | .hbm, ⟨16, _⟩ => ⟨S2048x4x128x64, .f32⟩
  | .hbm, ⟨17, _⟩ => ⟨S4x2048x2048, .f32⟩
  | .hbm, ⟨18, _⟩ => ⟨S4x2048x128x16, .f32⟩
  | .hbm, ⟨19, _⟩ => ⟨S1x128x64x16, .f32⟩
  | .hbm, ⟨20, _⟩ => ⟨S128x64x16, .f32⟩
  | .hbm, ⟨21, _⟩ => ⟨S128x64x4x2048, .f32⟩
  | .hbm, ⟨22, _⟩ => ⟨S2048x4x128x64, .f32⟩
  | .hbm, ⟨23, _⟩ => ⟨S_, .f32⟩
  | .hbm, ⟨24, _⟩ => ⟨S4x128x64, .f32⟩
  | .hbm, ⟨25, _⟩ => ⟨S_, .f32⟩
  | .hbm, ⟨26, _⟩ => ⟨S2048x4x128x64, .f32⟩
  | .hbm, ⟨27, _⟩ => ⟨S_, .f32⟩
  | .hbm, ⟨28, _⟩ => ⟨S2048x4x128x64, .f32⟩
  | .hbm, ⟨29, _⟩ => ⟨S_, .i32⟩
  | .hbm, ⟨30, _⟩ => ⟨S2048x4x128x64, .f32⟩
  | .hbm, ⟨31, _⟩ => ⟨S2048x4x128x64, .f32⟩
  | .hbm, ⟨32, _⟩ => ⟨S128x64, .f32⟩
  | .hbm, ⟨33, _⟩ => ⟨S128x64, .f32⟩
  | .hbm, ⟨34, _⟩ => ⟨S_, .i32⟩
  | .hbm, ⟨35, _⟩ => ⟨S4x128x64, .f32⟩
  | .hbm, ⟨36, _⟩ => ⟨S4x128x64, .f32⟩
  | .hbm, ⟨37, _⟩ => ⟨S2048x4x128x64, .f32⟩
  | .hbm, ⟨38, _⟩ => ⟨S2048x4x128x64, .f32⟩
  | .hbm, ⟨39, _⟩ => ⟨S_, .i32⟩
  | .hbm, ⟨40, _⟩ => ⟨S_, .i1⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S1x4x128x64, .f32⟩
  | .hbm, ⟨45, _⟩ => ⟨S4x128x64, .f32⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S1x4x128x64, .f32⟩
  | .hbm, ⟨50, _⟩ => ⟨S4x128x64, .f32⟩
  | .hbm, ⟨51, _⟩ => ⟨S1x128x64, .f32⟩
  | .hbm, ⟨52, _⟩ => ⟨S4x128x64, .f32⟩
  | .hbm, ⟨53, _⟩ => ⟨S4x128x64, .f32⟩
  | .hbm, ⟨54, _⟩ => ⟨S1x128x64, .f32⟩
  | .hbm, ⟨55, _⟩ => ⟨S4x128x64, .f32⟩
  | .hbm, ⟨56, _⟩ => ⟨S4x128x64, .f32⟩
  | .hbm, ⟨57, _⟩ => ⟨S4x128x64, .f32⟩
  | .hbm, ⟨58, _⟩ => ⟨S4x128x64, .f32⟩
  | .hbm, ⟨59, _⟩ => ⟨S1x128x64, .f32⟩
  | .hbm, ⟨60, _⟩ => ⟨S4x128x64, .f32⟩
  | .hbm, ⟨61, _⟩ => ⟨S4x128x64, .f32⟩
  | .hbm, ⟨62, _⟩ => ⟨S1x128x64, .f32⟩
  | .hbm, ⟨63, _⟩ => ⟨S4x128x64, .f32⟩
  | .hbm, ⟨64, _⟩ => ⟨S4x128x64, .f32⟩
  | .hbm, ⟨65, _⟩ => ⟨S4x128x64, .f32⟩
  | .hbm, ⟨66, _⟩ => ⟨S4x128x64, .f32⟩
  | .hbm, ⟨67, _⟩ => ⟨S1x4x128x64, .f32⟩
  | .hbm, ⟨68, _⟩ => ⟨S_, .i32⟩
  | .hbm, ⟨69, _⟩ => ⟨S_, .i32⟩
  | .hbm, ⟨70, _⟩ => ⟨S_, .i32⟩
  | .hbm, ⟨71, _⟩ => ⟨S2048x4x128x64, .f32⟩
  | .hbm, ⟨72, _⟩ => ⟨S1x4x128x64, .f32⟩
  | .hbm, ⟨73, _⟩ => ⟨S_, .i32⟩
  | .hbm, ⟨74, _⟩ => ⟨S_, .i32⟩
  | .hbm, ⟨75, _⟩ => ⟨S_, .i32⟩
  | .hbm, ⟨76, _⟩ => ⟨S2048x4x128x64, .f32⟩
  | .hbm, ⟨77, _⟩ => ⟨S_, .i32⟩
  | .hbm, ⟨78, _⟩ => ⟨S_, .i32⟩
  | .hbm, ⟨79, _⟩ => ⟨S8x2x64x16x16, .f32⟩
  | .hbm, ⟨80, _⟩ => ⟨S2x8x16x16x64, .f32⟩
  | .hbm, ⟨81, _⟩ => ⟨S2x128x16x64, .f32⟩
  | .hbm, ⟨82, _⟩ => ⟨S1x128x16x64, .f32⟩
  | .hbm, ⟨83, _⟩ => ⟨S128x16x64, .f32⟩
  | .hbm, ⟨84, _⟩ => ⟨S128x16x2048x4, .f32⟩
  | .hbm, ⟨85, _⟩ => ⟨S4x2048x128x16, .f32⟩
  | .hbm, ⟨86, _⟩ => ⟨S1x128x16x64, .f32⟩
  | .hbm, ⟨87, _⟩ => ⟨S128x16x64, .f32⟩
  | .hbm, ⟨88, _⟩ => ⟨S128x16x2048x4, .f32⟩
  | .hbm, ⟨89, _⟩ => ⟨S4x2048x128x16, .f32⟩
  | .hbm, ⟨90, _⟩ => ⟨S4x2048x128x16, .f32⟩
  | .hbm, ⟨91, _⟩ => ⟨S128x16, .f32⟩
  | .hbm, ⟨92, _⟩ => ⟨S4x2048x2048, .f32⟩
  | .hbm, ⟨93, _⟩ => ⟨S4x2048x128x16, .f32⟩
  | .hbm, ⟨94, _⟩ => ⟨S1x1x128x16, .f32⟩
  | .hbm, ⟨95, _⟩ => ⟨S4x2048x128x16, .f32⟩
  | .hbm, ⟨96, _⟩ => ⟨S4x2048x128x16, .f32⟩
  | .hbm, ⟨97, _⟩ => ⟨S4x2048x128x16, .f32⟩
  | .hbm, ⟨98, _⟩ => ⟨S4x2048x2048, .f32⟩
  | .hbm, ⟨99, _⟩ => ⟨S4x2048x2048, .f32⟩
  | .hbm, ⟨100, _⟩ => ⟨S4x2048x2048, .f32⟩
  | .hbm, ⟨101, _⟩ => ⟨S_, .f32⟩
  | .hbm, ⟨102, _⟩ => ⟨S4x2048x2048, .f32⟩
  | .hbm, ⟨103, _⟩ => ⟨S4x2048x2048, .f32⟩
  | .hbm, ⟨104, _⟩ => ⟨S4x2048x2048, .f32⟩
  | .hbm, ⟨105, _⟩ => ⟨S_, .f32⟩
  | .hbm, ⟨106, _⟩ => ⟨S4x2048x2048, .f32⟩
  | .hbm, ⟨107, _⟩ => ⟨S4x2048x2048, .f32⟩
  | .hbm, ⟨108, _⟩ => ⟨S4x2048x2048, .f32⟩
  | .hbm, ⟨109, _⟩ => ⟨S_, .f32⟩
  | .hbm, ⟨110, _⟩ => ⟨S4x2048x2048, .f32⟩
  | .hbm, ⟨111, _⟩ => ⟨S4x2048x2048, .f32⟩
  | .hbm, ⟨112, _⟩ => ⟨S_, .f32⟩
  | .hbm, ⟨113, _⟩ => ⟨S4x2048x2048, .f32⟩
  | .hbm, ⟨114, _⟩ => ⟨S4x2048x2048, .f32⟩
  | .hbm, ⟨115, _⟩ => ⟨S4x2048x2048, .f32⟩
  | .hbm, ⟨116, _⟩ => ⟨S4x2048x2048, .bf16⟩
  | _, _ => ⟨S4x2048x14336, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst : Ref sig .tc := ⟨.hbm, 23, rfl⟩
abbrev main_v17 : Ref sig .tc := ⟨.hbm, 24, rfl⟩
abbrev main_cst_0 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_c : Ref sig .tc := ⟨.hbm, 29, rfl⟩
abbrev main_v20_0 : Ref sig .tc := ⟨.hbm, 30, rfl⟩
abbrev main_v20_1 : Ref sig .tc := ⟨.hbm, 31, rfl⟩
abbrev main_v20_2 : Ref sig .tc := ⟨.hbm, 32, rfl⟩
abbrev main_v20_3 : Ref sig .tc := ⟨.hbm, 33, rfl⟩
abbrev main_v20_4 : Ref sig .tc := ⟨.hbm, 34, rfl⟩
abbrev main_v20_5 : Ref sig .tc := ⟨.hbm, 35, rfl⟩
abbrev main_v20_6 : Ref sig .tc := ⟨.hbm, 36, rfl⟩
abbrev main_v20_7 : Ref sig .tc := ⟨.hbm, 37, rfl⟩
abbrev main_v20_8 : Ref sig .tc := ⟨.hbm, 38, rfl⟩
abbrev main_while0c_c_14 : Ref sig .tc := ⟨.hbm, 39, rfl⟩
abbrev main_while0c_v55 : Ref sig .tc := ⟨.hbm, 40, rfl⟩
abbrev main_while0b_call0_c : Ref sig .tc := ⟨.hbm, 41, rfl⟩
abbrev main_while0b_call0_c_0 : Ref sig .tc := ⟨.hbm, 42, rfl⟩
abbrev main_while0b_call0_c_1 : Ref sig .tc := ⟨.hbm, 43, rfl⟩
abbrev main_while0b_call0_v0 : Ref sig .tc := ⟨.hbm, 44, rfl⟩
abbrev main_while0b_v55 : Ref sig .tc := ⟨.hbm, 45, rfl⟩
abbrev main_while0b_call1_c : Ref sig .tc := ⟨.hbm, 46, rfl⟩
abbrev main_while0b_call1_c_0 : Ref sig .tc := ⟨.hbm, 47, rfl⟩
abbrev main_while0b_call1_c_1 : Ref sig .tc := ⟨.hbm, 48, rfl⟩
abbrev main_while0b_call1_v0 : Ref sig .tc := ⟨.hbm, 49, rfl⟩
abbrev main_while0b_v56 : Ref sig .tc := ⟨.hbm, 50, rfl⟩
abbrev main_while0b_v57 : Ref sig .tc := ⟨.hbm, 51, rfl⟩
abbrev main_while0b_v58 : Ref sig .tc := ⟨.hbm, 52, rfl⟩
abbrev main_while0b_v59 : Ref sig .tc := ⟨.hbm, 53, rfl⟩
abbrev main_while0b_v60 : Ref sig .tc := ⟨.hbm, 54, rfl⟩
abbrev main_while0b_v61 : Ref sig .tc := ⟨.hbm, 55, rfl⟩
abbrev main_while0b_v62 : Ref sig .tc := ⟨.hbm, 56, rfl⟩
abbrev main_while0b_v63 : Ref sig .tc := ⟨.hbm, 57, rfl⟩
abbrev main_while0b_v64 : Ref sig .tc := ⟨.hbm, 58, rfl⟩
abbrev main_while0b_v65 : Ref sig .tc := ⟨.hbm, 59, rfl⟩
abbrev main_while0b_v66 : Ref sig .tc := ⟨.hbm, 60, rfl⟩
abbrev main_while0b_v67 : Ref sig .tc := ⟨.hbm, 61, rfl⟩
abbrev main_while0b_v68 : Ref sig .tc := ⟨.hbm, 62, rfl⟩
abbrev main_while0b_v69 : Ref sig .tc := ⟨.hbm, 63, rfl⟩
abbrev main_while0b_v70 : Ref sig .tc := ⟨.hbm, 64, rfl⟩
abbrev main_while0b_v71 : Ref sig .tc := ⟨.hbm, 65, rfl⟩
abbrev main_while0b_v72 : Ref sig .tc := ⟨.hbm, 66, rfl⟩
abbrev main_while0b_call2_v0 : Ref sig .tc := ⟨.hbm, 67, rfl⟩
abbrev main_while0b_call2_c : Ref sig .tc := ⟨.hbm, 68, rfl⟩
abbrev main_while0b_call2_c_0 : Ref sig .tc := ⟨.hbm, 69, rfl⟩
abbrev main_while0b_call2_c_1 : Ref sig .tc := ⟨.hbm, 70, rfl⟩
abbrev main_while0b_v73 : Ref sig .tc := ⟨.hbm, 71, rfl⟩
abbrev main_while0b_call3_v0 : Ref sig .tc := ⟨.hbm, 72, rfl⟩
abbrev main_while0b_call3_c : Ref sig .tc := ⟨.hbm, 73, rfl⟩
abbrev main_while0b_call3_c_0 : Ref sig .tc := ⟨.hbm, 74, rfl⟩
abbrev main_while0b_call3_c_1 : Ref sig .tc := ⟨.hbm, 75, rfl⟩
abbrev main_while0b_v74 : Ref sig .tc := ⟨.hbm, 76, rfl⟩
abbrev main_while0b_c_14 : Ref sig .tc := ⟨.hbm, 77, rfl⟩
abbrev main_while0b_v75 : Ref sig .tc := ⟨.hbm, 78, rfl⟩
abbrev main_v21 : Ref sig .tc := ⟨.hbm, 79, rfl⟩
abbrev main_v22 : Ref sig .tc := ⟨.hbm, 80, rfl⟩
abbrev main_v23 : Ref sig .tc := ⟨.hbm, 81, rfl⟩
abbrev main_v24 : Ref sig .tc := ⟨.hbm, 82, rfl⟩
abbrev main_v25 : Ref sig .tc := ⟨.hbm, 83, rfl⟩
abbrev main_v26 : Ref sig .tc := ⟨.hbm, 84, rfl⟩
abbrev main_v27 : Ref sig .tc := ⟨.hbm, 85, rfl⟩
abbrev main_v28 : Ref sig .tc := ⟨.hbm, 86, rfl⟩
abbrev main_v29 : Ref sig .tc := ⟨.hbm, 87, rfl⟩
abbrev main_v30 : Ref sig .tc := ⟨.hbm, 88, rfl⟩
abbrev main_v31 : Ref sig .tc := ⟨.hbm, 89, rfl⟩
abbrev main_v32 : Ref sig .tc := ⟨.hbm, 90, rfl⟩
abbrev main_v33 : Ref sig .tc := ⟨.hbm, 91, rfl⟩
abbrev main_v34 : Ref sig .tc := ⟨.hbm, 92, rfl⟩
abbrev main_v35 : Ref sig .tc := ⟨.hbm, 93, rfl⟩
abbrev main_v36 : Ref sig .tc := ⟨.hbm, 94, rfl⟩
abbrev main_v37 : Ref sig .tc := ⟨.hbm, 95, rfl⟩
abbrev main_v38 : Ref sig .tc := ⟨.hbm, 96, rfl⟩
abbrev main_v39 : Ref sig .tc := ⟨.hbm, 97, rfl⟩
abbrev main_v40 : Ref sig .tc := ⟨.hbm, 98, rfl⟩
abbrev main_v41 : Ref sig .tc := ⟨.hbm, 99, rfl⟩
abbrev main_v42 : Ref sig .tc := ⟨.hbm, 100, rfl⟩
abbrev main_cst_2 : Ref sig .tc := ⟨.hbm, 101, rfl⟩
abbrev main_v43 : Ref sig .tc := ⟨.hbm, 102, rfl⟩
abbrev main_v44 : Ref sig .tc := ⟨.hbm, 103, rfl⟩
abbrev main_v45 : Ref sig .tc := ⟨.hbm, 104, rfl⟩
abbrev main_cst_3 : Ref sig .tc := ⟨.hbm, 105, rfl⟩
abbrev main_v46 : Ref sig .tc := ⟨.hbm, 106, rfl⟩
abbrev main_v47 : Ref sig .tc := ⟨.hbm, 107, rfl⟩
abbrev main_v48 : Ref sig .tc := ⟨.hbm, 108, rfl⟩
abbrev main_cst_4 : Ref sig .tc := ⟨.hbm, 109, rfl⟩
abbrev main_v49 : Ref sig .tc := ⟨.hbm, 110, rfl⟩
abbrev main_v50 : Ref sig .tc := ⟨.hbm, 111, rfl⟩
abbrev main_cst_5 : Ref sig .tc := ⟨.hbm, 112, rfl⟩
abbrev main_v51 : Ref sig .tc := ⟨.hbm, 113, rfl⟩
abbrev main_v52 : Ref sig .tc := ⟨.hbm, 114, rfl⟩
abbrev main_v53 : Ref sig .tc := ⟨.hbm, 115, rfl⟩
abbrev main_v54 : Ref sig .tc := ⟨.hbm, 116, rfl⟩

abbrev nD : Nat := 1
abbrev τ : Topo := Topo.v7x

variable {F : FTy → Type} [FloatOps F]

abbrev main_while0_count : Scf.Loop 32 := ⟨0#32, 2048#32, 1#32⟩
-- ==== Proof.Attn.Tile.lean ====
/- What the attention kernel computes for one tile of 256 queries, as the operations it runs, with the number of the
   tile and of the key block as variables: the logits of the own block and of a past block, the running maximum, the
   selection of a past block, the weights, their running sum and the stored quotient. -/
module

public import proofs.«01_k».proof.Proof.Gen.KernelIdeal.Skeleton
public import Idealize.ShloMosaic.Lib.Pipeline.ValueKit

@[expose] public section

set_option maxRecDepth 16384

noncomputable section

namespace Cert.KernelIdeal.Attn

open Idealize.ShloMosaic Idealize.SL.Sem
open Cert.KernelIdeal Cert.KernelIdeal.Gen

/-- The logits (keys down, queries across) of one block of keys `kb` for the queries `q`, the distance term `bias` added. -/
def lg (q : FVec Ideal S1x256x128 .f32) (kb : FVec Ideal S256x128 .bf16) (bias : FVec Ideal S256x256 .f32) : FVec Ideal S256x256 .f32 :=
  addf (matmul dot_S256x128_S256x128_S256x256_1_1_0_0_n_n none kb
    (truncf .bf16 (mulf (shapeCast S256x128 q shapeCasts_S1x256x128_S256x128)
      (broadcast S256x128 (Named.named κ "qscale" 0x3E0293EE#32 : Ideal .f32))) bitsLt_bf16_f32)
    (constant S256x256 .f32 0x00000000#32)) bias

/-- A tile of logits as it is kept. -/
def keep (x : FVec Ideal S256x256 .f32) : FVec Ideal S256x256 .f32 := shapeCast S256x256 x shapeCasts_S256x256_S256x256

/-- The maximum over the keys. -/
def mx (x : FVec Ideal S256x256 .f32) : FVec Ideal S1x256 .f32 :=
  shapeCast S1x256 (multiReduction .maximumf [0] S256 x 0xFF800000#32 reduces_S256x256_S256 (.inl rfl) rfl) shapeCasts_S256_S1x256

/-- The sum over the keys. -/
def sm (x : FVec Ideal S256x256 .f32) : FVec Ideal S1x256 .f32 :=
  shapeCast S1x256 (multiReduction .add [0] S256 x 0x00000000#32 reduces_S256x256_S256 (.inl rfl) rfl) shapeCasts_S256_S1x256

/-- The words of `256`, `512`, …, `1792`: the distance to the block `n` blocks before. -/
def distWord : ℕ → BitVec 32
  | 1 => 0x43800000#32
  | 2 => 0x44000000#32
  | 3 => 0x44400000#32
  | 4 => 0x44800000#32
  | 5 => 0x44A00000#32
  | 6 => 0x44C00000#32
  | 7 => 0x44E00000#32
  | _ => 0x00000000#32

/-- The slope times the distance to the block `n` blocks before. -/
def shift (s2 : Ideal .f32) (n : ℕ) : Ideal .f32 := Scalar.mulf s2 (Scalar.ofBits .f32 (distWord n) : Ideal .f32)

/-- A past block's maximum, its distance taken off. -/
def mj (l : FVec Ideal S256x256 .f32) (sh : Ideal .f32) : FVec Ideal S1x256 .f32 := subf (mx l) (broadcast S1x256 sh)

/-- The gate of every block of keys, masked to the blocks before block `c`. -/
def gm (kmean : FVec Ideal S8x128 .f32) (q : FVec Ideal S1x256x128 .f32) (c : ℕ) : FVec Ideal S8x256 .f32 :=
  select (cmpi .slt (iota .tc S8x256 32 [0] iota_S8x256_d0_w32) (broadcast S8x256 (BitVec.ofNat 32 c)))
    (matmul dot_S8x128_S256x128_S8x256_1_1_0_0_n_n (some .fp32) kmean (shapeCast S256x128 q shapeCasts_S1x256x128_S256x128)
      (constant S8x256 .f32 0x00000000#32))
    (broadcast S8x256 (Named.named κ "mask" 0xF149F2CA#32 : Ideal .f32))

theorem row_slices (j : ℕ) : S8x256.Slices ![j % 8, 0] S1x256 := by
  have h : ∀ j : Fin 8, S8x256.Slices ![(j : ℕ), 0] S1x256 := by decide
  exact h ⟨j % 8, Nat.mod_lt _ (by decide)⟩

/-- Whether block `j` is one of the three best: fewer than three blocks beat it. -/
def sel (g : FVec Ideal S8x256 .f32) (j : ℕ) : IVec S1x256 1 :=
  cmpf .olt (shapeCast S1x256 (multiReduction .add [0] S256
    (select (cmpf .ogt g (broadcastTo S8x256 (extractStridedSlice S1x256 ![j % 8, 0] g (row_slices j)) broadcasts_S1x256_S8x256))
      (broadcast S8x256 (Scalar.ofBits .f32 0x3F800000#32 : Ideal .f32))
      (select (andi (cmpf .oeq g (broadcastTo S8x256 (extractStridedSlice S1x256 ![j % 8, 0] g (row_slices j)) broadcasts_S1x256_S8x256))
          (cmpi .slt (iota .tc S8x256 32 [0] iota_S8x256_d0_w32) (broadcast S8x256 (BitVec.ofNat 32 j))))
        (broadcast S8x256 (Scalar.ofBits .f32 0x3F800000#32 : Ideal .f32))
        (broadcast S8x256 (Scalar.ofBits .f32 0x00000000#32 : Ideal .f32))))
    0x00000000#32 reduces_S8x256_S256 (.inl rfl) rfl) shapeCasts_S256_S1x256)
    (broadcast S1x256 (Scalar.ofBits .f32 0x40400000#32 : Ideal .f32))

/-- The running maximum after the first `n` past blocks, all of them taking part (`l j` block `j`'s logits). -/
def mU (own : FVec Ideal S256x256 .f32) (l : ℕ → FVec Ideal S256x256 .f32) (s2 : Ideal .f32) (c : ℕ) : ℕ → FVec Ideal S1x256 .f32
  | 0 => mx own
  | n + 1 => maximumf (mU own l s2 c n) (mj (l n) (shift s2 (c - n)))

/-- The running maximum after the first `n` past blocks, the selected ones (`b j`) taking part. -/
def mS (own : FVec Ideal S256x256 .f32) (l : ℕ → FVec Ideal S256x256 .f32) (b : ℕ → IVec S1x256 1) (s2 : Ideal .f32) (c : ℕ) :
    ℕ → FVec Ideal S1x256 .f32
  | 0 => mx own
  | n + 1 => maximumf (mS own l b s2 c n) (select (b n) (mj (l n) (shift s2 (c - n)))
      (broadcast S1x256 (Scalar.ofBits .f32 0xFF800000#32 : Ideal .f32)))

/-- Weights: two to the kept logits less a row. -/
def ex (l : FVec Ideal S256x256 .f32) (r : FVec Ideal S1x256 .f32) : FVec Ideal S256x256 .f32 :=
  exp2 (subf l (broadcastTo S256x256 r broadcasts_S1x256_S256x256))

/-- The row a past block's logits are taken off by. -/
def subU (m : FVec Ideal S1x256 .f32) (s2 : Ideal .f32) (n : ℕ) : FVec Ideal S1x256 .f32 := addf m (broadcast S1x256 (shift s2 n))

/-- The same where the block is selected, `+∞` elsewhere. -/
def subS (b : IVec S1x256 1) (m : FVec Ideal S1x256 .f32) (s2 : Ideal .f32) (n : ℕ) : FVec Ideal S1x256 .f32 :=
  select b (subU m s2 n) (broadcast S1x256 (Scalar.ofBits .f32 0x7F800000#32 : Ideal .f32))

/-- Weights as they are kept. -/
def keepP (p : FVec Ideal S256x256 .f32) : FVec Ideal S256x256 .bf16 :=
  shapeCast S256x256 (truncf .bf16 p bitsLt_bf16_f32) shapeCasts_S256x256_S256x256

/-- The sum of the weights after the own block and the first `n` past ones. -/
def ls (pd : FVec Ideal S256x256 .f32) (p : ℕ → FVec Ideal S256x256 .f32) : ℕ → FVec Ideal S1x256 .f32
  | 0 => sm pd
  | n + 1 => addf (ls pd p n) (sm (p n))

/-- The quotient, transposed, as it is stored. -/
def quot (acc : FVec Ideal S128x256 .f32) (l : FVec Ideal S1x256 .f32) : FVec Ideal S1x256x128 .bf16 :=
  shapeCast S1x256x128 (truncf .bf16 (transpose S256x128 [1, 0] (divf acc (broadcastTo S128x256 l broadcasts_S1x256_S128x256))
    transposes_S128x256_p1_0_S256x128) bitsLt_bf16_f32) shapeCasts_S256x128_S1x256x128

theorem inbQ (c : ℕ) : ∀ a, (![0, 256 * (c % 8), 0] : Fin 3 → ℕ) a + S1x256x128.size a ≤ S1x2048x128.size a := by
  have h : ∀ c : Fin 8, ∀ a, (![0, 256 * (c : ℕ), 0] : Fin 3 → ℕ) a + S1x256x128.size a ≤ S1x2048x128.size a := by decide
  exact h ⟨c % 8, Nat.mod_lt _ (by decide)⟩

theorem inbK (j : ℕ) : ∀ a, (![256 * (j % 8), 0] : Fin 2 → ℕ) a + S256x128.size a ≤ S2048x128.size a := by
  have h : ∀ c : Fin 8, ∀ a, (![256 * (c : ℕ), 0] : Fin 2 → ℕ) a + S256x128.size a ≤ S2048x128.size a := by decide
  exact h ⟨j % 8, Nat.mod_lt _ (by decide)⟩

/-- The queries of tile `c`. -/
def qT (X : Vec Ideal S1x2048x128 .f32) (c : ℕ) : FVec Ideal S1x256x128 .f32 :=
  View.ld X (Rect.unit ![0, 256 * (c % 8), 0] S1x256x128.size (inbQ c))

/-- The keys of block `j`. -/
def kT (K : Vec Ideal S2048x128 .bf16) (j : ℕ) : FVec Ideal S256x128 .bf16 :=
  View.ld K (Rect.unit ![256 * (j % 8), 0] S256x128.size (inbK j))

section
variable (X : Vec Ideal S1x2048x128 .f32) (K : Vec Ideal S1x2048x128 .f32) (s : Elt Ideal .f32) (c : ℕ)

/-- The own block's logits. -/
def ownL : FVec Ideal S256x256 .f32 := lg (qT X c) (kT (k0_pay6 K) c) (k0_pay10 s)

/-- Past block `j`'s logits. -/
def pastL (j : ℕ) : FVec Ideal S256x256 .f32 := lg (qT X c) (kT (k0_pay6 K) j) (k0_pay9 s)

/-- Whether past block `j` is selected. -/
def pastB (j : ℕ) : IVec S1x256 1 := sel (gm (k0_pay7 K) (qT X c) c) j

/-- The final running maximum of tile `c`: every past block takes part in the first four tiles, -/
def topU : FVec Ideal S1x256 .f32 := mU (ownL X K s c) (pastL X K s c) (k0_pay4 s) c c

/-- and the selected ones in the others. -/
def topS : FVec Ideal S1x256 .f32 := mS (ownL X K s c) (pastL X K s c) (pastB X K c) (k0_pay4 s) c c

/-- Past block `j`'s weights in the first four tiles, -/
def pastU (j : ℕ) : FVec Ideal S256x256 .f32 := ex (keep (pastL X K s c j)) (subU (topU X K s c) (k0_pay4 s) (c - j))

/-- and in the others. -/
def pastS (j : ℕ) : FVec Ideal S256x256 .f32 := ex (keep (pastL X K s c j)) (subS (pastB X K c j) (topS X K s c) (k0_pay4 s) (c - j))

/-- The own block's weights in the first four tiles, -/
def ownU : FVec Ideal S256x256 .f32 := ex (keep (ownL X K s c)) (topU X K s c)

/-- and in the others. -/
def ownS : FVec Ideal S256x256 .f32 := ex (keep (ownL X K s c)) (topS X K s c)

end

end Cert.KernelIdeal.Attn

end
-- ==== Proof.Attn.Consts.lean ====
/- The float words the attention programs spell, as the extended reals they denote. -/
module

public import Idealize.ShloMosaic.PureOps.Ideal

@[expose] public section

noncomputable section

namespace Cert.Attn.Consts

open Idealize.ShloMosaic

theorem w_bot : Ideal.ofBits .f32 0xFF800000#32 = ⊥ := by
  simp [Ideal.ofBits, Ideal.ieee]

theorem w_top : Ideal.ofBits .f32 0x7F800000#32 = ⊤ := by
  simp [Ideal.ofBits, Ideal.ieee]

theorem w_0 : Ideal.ofBits .f32 0x00000000#32 = ((0 : ℝ) : EReal) := by
  simp [Ideal.ofBits, Ideal.ieee, -EReal.coe_mul]

theorem w_1 : Ideal.ofBits .f32 0x3F800000#32 = ((1 : ℝ) : EReal) := by
  simp [Ideal.ofBits, Ideal.ieee, -EReal.coe_mul]; norm_num

theorem w_3 : Ideal.ofBits .f32 0x40400000#32 = ((3 : ℝ) : EReal) := by
  simp [Ideal.ofBits, Ideal.ieee, -EReal.coe_mul]; norm_num

theorem w_256 : Ideal.ofBits .f32 0x43800000#32 = ((256 : ℝ) : EReal) := by
  simp [Ideal.ofBits, Ideal.ieee, -EReal.coe_mul]; norm_num

theorem w_512 : Ideal.ofBits .f32 0x44000000#32 = ((512 : ℝ) : EReal) := by
  simp [Ideal.ofBits, Ideal.ieee, -EReal.coe_mul]; norm_num

theorem w_768 : Ideal.ofBits .f32 0x44400000#32 = ((768 : ℝ) : EReal) := by
  simp [Ideal.ofBits, Ideal.ieee, -EReal.coe_mul]; norm_num

theorem w_1024 : Ideal.ofBits .f32 0x44800000#32 = ((1024 : ℝ) : EReal) := by
  simp [Ideal.ofBits, Ideal.ieee, -EReal.coe_mul]; norm_num

theorem w_1280 : Ideal.ofBits .f32 0x44A00000#32 = ((1280 : ℝ) : EReal) := by
  simp [Ideal.ofBits, Ideal.ieee, -EReal.coe_mul]; norm_num

theorem w_1536 : Ideal.ofBits .f32 0x44C00000#32 = ((1536 : ℝ) : EReal) := by
  simp [Ideal.ofBits, Ideal.ieee, -EReal.coe_mul]; norm_num

theorem w_1792 : Ideal.ofBits .f32 0x44E00000#32 = ((1792 : ℝ) : EReal) := by
  simp [Ideal.ofBits, Ideal.ieee, -EReal.coe_mul]; norm_num

theorem w_neg_half : Ideal.ofBits .f32 0xBF000000#32 = ((-(1 / 2) : ℝ) : EReal) := by
  simp [Ideal.ofBits, Ideal.ieee, -EReal.coe_mul]; norm_num

theorem w_ln2 : Ideal.ofBits .f32 0x3F317218#32 = ((11629080 / 16777216 : ℝ) : EReal) := by
  simp [Ideal.ofBits, Ideal.ieee, -EReal.coe_mul]; norm_num

end Cert.Attn.Consts

end
-- ==== Proof.Attn.Real.lean ====
/- The real-number facts under the attention proof: sums and maxima of finite values, two to a logit over ln 2, and a
   quotient of two sums that carry the same positive factor. -/
module

public import Idealize.ShloMosaic.PureOps.Ideal
public import Mathlib.Data.EReal.Inv

@[expose] public section

noncomputable section

namespace Cert.Attn

open Idealize.ShloMosaic

/-- A finite sum of reals, read in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- What is neither infinity is a real. -/
theorem exists_real {x : EReal} (h1 : x < ⊤) (h2 : ⊥ < x) : ∃ μ : ℝ, x = μ :=
  ⟨x.toReal, (EReal.coe_toReal h1.ne h2.ne').symm⟩

/-- The larger of a real and a value that is not `+∞` is a real. -/
theorem max_real {x y : EReal} (hx : ∃ μ : ℝ, x = μ) (hy : y < ⊤) : ∃ μ : ℝ, max x y = μ := by
  obtain ⟨μ, rfl⟩ := hx
  exact exists_real (max_lt (EReal.coe_lt_top μ) hy) (lt_max_of_lt_left (EReal.bot_lt_coe μ))

/-- A maximum of values that are not `+∞` is not `+∞`. -/
theorem fold_max_lt_top {ι : Type*} [Fintype ι] (f : ι → EReal) (h : ∀ i, f i < ⊤) :
    Finset.univ.fold max ⊥ f < ⊤ :=
  (Finset.fold_max_lt _).2 ⟨bot_lt_top, fun i _ => h i⟩

/-- A maximum of values that are not `+∞`, one of them not `-∞`, is a real. -/
theorem fold_max_real {ι : Type*} [Fintype ι] (f : ι → EReal) (h : ∀ i, f i < ⊤) (i : ι) (hi : ⊥ < f i) :
    ∃ μ : ℝ, Finset.univ.fold max ⊥ f = μ :=
  exists_real (fold_max_lt_top f h) ((Finset.lt_fold_max _).2 (.inr ⟨i, Finset.mem_univ i, hi⟩))

/-- Two to a logit over `ln 2` less `μ` is `e` to the logit, times two to `-μ`. -/
theorem exp2_div_log (ξ μ : ℝ) :
    Ideal.exp2 (((ξ / Real.log 2 - μ : ℝ)) : EReal) = ((Real.exp ξ * (2 : ℝ) ^ (-μ) : ℝ) : EReal) := by
  have h : Real.log 2 ≠ 0 := (Real.log_pos (by norm_num)).ne'
  rw [Ideal.exp2_coe]
  congr 1
  show (2 : ℝ) ^ (ξ / Real.log 2 - μ) = _
  rw [sub_eq_add_neg, Real.rpow_add (by norm_num), Real.rpow_def_of_pos (by norm_num) (ξ / Real.log 2)]
  congr 2
  field_simp

/-- Addition of products with a nonnegative real on the right. -/
theorem sum_mul_coe {ι : Type*} (s : Finset ι) (f : ι → EReal) {b : ℝ} (hb : 0 ≤ b) :
    (∑ i ∈ s, f i) * (b : EReal) = ∑ i ∈ s, f i * (b : EReal) := by
  classical
  induction s using Finset.induction_on with
  | empty => simp
  | insert a s ha ih =>
    rw [Finset.sum_insert ha, Finset.sum_insert ha, ← ih]
    exact EReal.right_distrib_of_nonneg_of_ne_top (by exact_mod_cast hb) (EReal.coe_ne_top b) _ _

/-- A weighted sum over a weight sum, both scaled by `g`, is the sum with the weights' shares. -/
theorem div_sum {ι : Type*} (s : Finset ι) (v : ι → EReal) (w : ι → ℝ) {g W : ℝ} (hg : 0 < g) (hW : 0 < W) :
    Ideal.div (∑ i ∈ s, v i * ((w i * g : ℝ) : EReal)) ((W * g : ℝ) : EReal) = ∑ i ∈ s, v i * ((w i / W : ℝ) : EReal) := by
  have hb : W * g ≠ 0 := (mul_pos hW hg).ne'
  rw [Ideal.div_coe hb, sum_mul_coe _ _ (by positivity)]
  refine Finset.sum_congr rfl fun i _ => ?_
  rw [mul_assoc, ← EReal.coe_mul]
  congr 2
  field_simp

end Cert.Attn

end
-- ==== Proof.Attn.Weights.lean ====
/- The attention of one query over eight blocks of 256 keys, as a function of real logits: which blocks are chosen, a
   key's weight, and the weighted mean of the values. Both programs are proved to compute `attn`. -/
module

public import proofs.«01_k».proof.Proof.Attn.Real

@[expose] public section

noncomputable section

namespace Cert.Attn

open Classical

/-- Block `i` beats block `j`: its gate is larger, or equal and it comes first. -/
def Beats (g : Fin 8 → EReal) (i j : Fin 8) : Prop := g j < g i ∨ (g i = g j ∧ i < j)

/-- Block `j` is one of the three best: fewer than three blocks beat it. -/
def Best (g : Fin 8 → EReal) (j : Fin 8) : Prop := (Finset.univ.filter fun i => Beats g i j).card < 3

/-- The query at place `r` of block `c` sees the key at place `k` of block `j`: a key of its own block that is not later,
    or a key of an earlier block that is one of the three best. -/
def Seen (g : Fin 8 → EReal) (c : ℕ) (r : Fin 256) (j : Fin 8) (k : Fin 256) : Prop :=
  ((j : ℕ) = c ∧ k ≤ r) ∨ ((j : ℕ) < c ∧ Best g j)

/-- The weight of that key: `e` to its logit where it is seen, zero elsewhere. -/
def wt (g : Fin 8 → EReal) (c : ℕ) (r : Fin 256) (ξ : Fin 8 → Fin 256 → ℝ) (j : Fin 8) (k : Fin 256) : ℝ :=
  if Seen g c r j k then Real.exp (ξ j k) else 0

/-- The sum of the weights. -/
def total (g : Fin 8 → EReal) (c : ℕ) (r : Fin 256) (ξ : Fin 8 → Fin 256 → ℝ) : ℝ := ∑ j, ∑ k, wt g c r ξ j k

/-- The mean of the values `v` with these weights. -/
def attn (g : Fin 8 → EReal) (c : ℕ) (r : Fin 256) (ξ : Fin 8 → Fin 256 → ℝ) (v : Fin 8 → Fin 256 → EReal) : EReal :=
  ∑ j, ∑ k, v j k * ((wt g c r ξ j k / total g c r ξ : ℝ) : EReal)

variable (g : Fin 8 → EReal) (c : ℕ) (r : Fin 256) (ξ : Fin 8 → Fin 256 → ℝ)

theorem wt_nonneg (j : Fin 8) (k : Fin 256) : 0 ≤ wt g c r ξ j k := by
  unfold wt; split
  · exact (Real.exp_pos _).le
  · exact le_rfl

/-- A query sees itself, so the weights do not sum to zero. -/
theorem total_pos (hc : c < 8) : 0 < total g c r ξ := by
  have h : 0 < wt g c r ξ ⟨c, hc⟩ r := by
    unfold wt; rw [if_pos (.inl ⟨rfl, le_rfl⟩)]; exact Real.exp_pos _
  refine lt_of_lt_of_le h (le_trans ?_ (Finset.single_le_sum (f := fun j => ∑ k, wt g c r ξ j k)
    (fun j _ => Finset.sum_nonneg fun k _ => wt_nonneg g c r ξ j k) (Finset.mem_univ (⟨c, hc⟩ : Fin 8))))
  exact Finset.single_le_sum (f := fun k => wt g c r ξ ⟨c, hc⟩ k) (fun k _ => wt_nonneg g c r ξ _ k) (Finset.mem_univ r)

/-- A key of a later block has no weight. -/
theorem wt_later (j : Fin 8) (k : Fin 256) (h : c < (j : ℕ)) : wt g c r ξ j k = 0 := by
  unfold wt Seen; rw [if_neg]; omega

/-- A sum over the eight blocks that vanishes after block `c` is the sum up to block `c`. -/
theorem sum_upto {M : Type*} [AddCommMonoid M] (hc : c < 8) (f : Fin 8 → M) (h : ∀ j : Fin 8, c < (j : ℕ) → f j = 0) :
    ∑ j, f j = ∑ j : Fin (c + 1), f ⟨j, by omega⟩ := by
  rw [← Finset.sum_subset (Finset.filter_subset (fun j : Fin 8 => (j : ℕ) ≤ c) Finset.univ)
    (fun j _ hj => h j (by simpa using hj))]
  symm
  refine Finset.sum_bij (fun j _ => ⟨j, by omega⟩) (fun j _ => by simp; omega) (fun a _ b _ hab => ?_) (fun j hj => ?_) (fun _ _ => rfl)
  · simpa [Fin.ext_iff] using hab
  · exact ⟨⟨j, by simp at hj; omega⟩, Finset.mem_univ _, rfl⟩

/-- In the first four blocks every earlier block is one of the three best, the gates of the others being `-∞`. -/
theorem best_early (hc : c < 4) (j : Fin 8) (hj : (j : ℕ) < c) (h1 : ∀ i : Fin 8, (i : ℕ) < c → ⊥ < g i)
    (h2 : ∀ i : Fin 8, ¬ (i : ℕ) < c → g i = ⊥) : Best g j := by
  unfold Best
  have hs : (Finset.univ.filter fun i => Beats g i j) ⊆ ((Finset.univ.filter fun i : Fin 8 => (i : ℕ) < 3).erase j) := by
    intro i hi
    rw [Finset.mem_filter] at hi
    have hic : (i : ℕ) < c := by
      by_contra hn
      rcases hi.2 with h | ⟨h, _⟩
      · rw [h2 i hn] at h; exact absurd h not_lt_bot
      · rw [h2 i hn] at h; exact (h1 j hj).ne h
    have hij : i ≠ j := by
      rintro rfl
      rcases hi.2 with h | ⟨_, h⟩
      · exact lt_irrefl _ h
      · exact lt_irrefl _ h
    simp [hij]; omega
  refine lt_of_le_of_lt (Finset.card_le_card hs) ?_
  rw [Finset.card_erase_of_mem (by simp; omega)]
  decide

end Cert.Attn

end
-- ==== Proof.Attn.Read.lean ====
/- Each operation of one attention tile at one position. -/
module

public import proofs.«01_k».proof.Proof.Attn.Tile
public import proofs.«01_k».proof.Proof.Attn.Consts
public import proofs.«01_k».proof.Proof.Attn.Weights
public import Idealize.ShloMosaic.Lib.Pointwise

@[expose] public section

set_option maxRecDepth 16384

noncomputable section

open Idealize.ShloMosaic Idealize.ShloMosaic.TcCoe Idealize.SL.Sem

namespace Cert.KernelIdeal.Attn

open Cert.KernelIdeal Cert.KernelIdeal.Gen

/-- The named `1/√128 · 1/ln 2`. -/
def qscale : EReal := (((Real.sqrt 128)⁻¹ * (Real.log 2)⁻¹ : ℝ) : EReal)

theorem named_qscale : Named.named (F := Ideal) κ "qscale" (φ := .f32) 0x3E0293EE#32 = qscale :=
  IdealRules.named_const.ideal_named_scalar _ _ _ _ rfl

theorem named_log2e : Named.named (F := Ideal) κ "log2e" (φ := .f32) 0x3FB8AA3B#32 = (((Real.log 2)⁻¹ : ℝ) : EReal) :=
  IdealRules.named_const.ideal_named_scalar _ _ _ _ rfl

theorem named_mask : Named.named (F := Ideal) κ "mask" (φ := .f32) 0xF149F2CA#32 = (⊥ : EReal) :=
  IdealRules.named_const.ideal_named_scalar _ _ _ _ rfl

theorem lg_at (q : FVec Ideal S1x256x128 .f32) (kb : FVec Ideal S256x128 .bf16) (bias : FVec Ideal S256x256 .f32) (k r : Fin 256) :
    lg q kb bias (ix2 k r) = (∑ x : Fin 128, (kb (ix2 k x) : EReal) * (q (ix3 0 r x) * qscale)) + bias (ix2 k r) := by
  rw [← named_qscale]
  pointwise [lg]

theorem mx_at (x : FVec Ideal S256x256 .f32) (r : Fin 256) :
    mx x (ix2 0 r) = Finset.univ.fold max (⊥ : EReal) (fun k : Fin 256 => x (ix2 k r)) := by
  rw [← Cert.Attn.Consts.w_bot]
  pointwise [mx]

theorem sm_at (x : FVec Ideal S256x256 .f32) (r : Fin 256) :
    sm x (ix2 0 r) = (∑ k : Fin 256, x (ix2 k r) : EReal) := by
  pointwise [sm]

theorem mj_at (x : FVec Ideal S256x256 .f32) (sh : Ideal .f32) (r : Fin 256) :
    mj x sh (ix2 0 r) = (mx x (ix2 0 r) - sh : EReal) := by
  pointwise [mj]

theorem keep_at (x : FVec Ideal S256x256 .f32) (k r : Fin 256) : keep x (ix2 k r) = x (ix2 k r) := by
  pointwise [keep]

theorem keepP_at (x : FVec Ideal S256x256 .f32) (k r : Fin 256) : keepP x (ix2 k r) = x (ix2 k r) := by
  pointwise [keepP]

/-- The word of the distance to the block `n` blocks before is `256 n`. -/
theorem distWord_val (n : ℕ) (h : n < 8) : Ideal.ofBits .f32 (distWord n) = ((256 * n : ℝ) : EReal) := by
  interval_cases n <;> simp only [distWord, Cert.Attn.Consts.w_0, Cert.Attn.Consts.w_256, Cert.Attn.Consts.w_512,
    Cert.Attn.Consts.w_768, Cert.Attn.Consts.w_1024, Cert.Attn.Consts.w_1280, Cert.Attn.Consts.w_1536,
    Cert.Attn.Consts.w_1792] <;> norm_num

theorem shift_at (σ : ℝ) (n : ℕ) (h : n < 8) : shift ((σ : ℝ) : EReal) n = ((σ * (256 * n) : ℝ) : EReal) := by
  show ((σ : ℝ) : EReal) * Ideal.ofBits .f32 (distWord n) = _
  rw [distWord_val n h, ← EReal.coe_mul]

theorem gm_at (km : FVec Ideal S8x128 .f32) (q : FVec Ideal S1x256x128 .f32) (c : ℕ) (hc : c < 8) (j : Fin 8) (r : Fin 256) :
    gm km q c (ix2 j r) = if (j : ℕ) < c then (∑ x : Fin 128, km (ix2 j x) * q (ix3 0 r x) : EReal) else ⊥ := by
  rw [← named_mask]
  pointwise [gm]
  have h : ∀ c : Fin 8, ∀ j : Fin 8, IntOp.cmpi .slt (BitVec.ofNat 32 (j : ℕ)) (BitVec.ofNat 32 (c : ℕ)) = BitVec.ofBool (decide (j < c)) := by
    decide
  rw [h ⟨c, hc⟩ j]
  by_cases hj : (j : ℕ) < c <;> simp [Scalar.select, hj, Fin.lt_def]

theorem ex_at (l : FVec Ideal S256x256 .f32) (x : FVec Ideal S1x256 .f32) (k r : Fin 256) :
    ex l x (ix2 k r) = Ideal.exp2 (l (ix2 k r) - x (ix2 0 r)) := by
  pointwise [ex]
  rfl

theorem subU_at (m : FVec Ideal S1x256 .f32) (s : Ideal .f32) (n : ℕ) (r : Fin 256) :
    subU m s n (ix2 0 r) = (m (ix2 0 r) + shift s n : EReal) := by
  pointwise [subU]

theorem subS_at (b : IVec S1x256 1) (m : FVec Ideal S1x256 .f32) (s : Ideal .f32) (n : ℕ) (r : Fin 256) :
    subS b m s n (ix2 0 r) = Scalar.select (b (ix2 0 r)) (m (ix2 0 r) + shift s n : EReal) (⊤ : EReal) := by
  rw [← Cert.Attn.Consts.w_top]
  pointwise [subS, subU]

theorem qT_at (X : Vec Ideal S1x2048x128 .f32) (c : ℕ) (hc : c < 8) (r : Fin 256) (d : Fin 128) :
    qT X c (ix3 0 r d) = X (ix3 0 ⟨256 * c + r, by omega⟩ d) := by
  pointwise [qT]
  simp only [Nat.mod_eq_of_lt hc]

theorem kT_at (K : Vec Ideal S1x2048x128 .f32) (j : ℕ) (hj : j < 8) (k : Fin 256) (d : Fin 128) :
    kT (k0_pay6 (F := Ideal) K) j (ix2 k d) = K (ix3 0 ⟨256 * j + k, by omega⟩ d) := by
  pointwise [kT, k0_pay6, k0_pay5]
  simp only [Nat.mod_eq_of_lt hj]

theorem pay7_at (K : Vec Ideal S1x2048x128 .f32) (j : Fin 8) (d : Fin 128) :
    k0_pay7 (F := Ideal) K (ix2 j d) = Ideal.div (∑ x : Fin 256, K (ix3 0 ⟨j * 256 + x, by omega⟩ d)) ((256 : ℝ) : EReal) := by
  rw [← Cert.Attn.Consts.w_256]
  pointwise [k0_pay7, k0_pay5]

theorem quot_at (a : FVec Ideal S128x256 .f32) (l : FVec Ideal S1x256 .f32) (r : Fin 256) (d : Fin 128) :
    quot a l (ix3 0 r d) = Ideal.div (a (ix2 d r)) (l (ix2 0 r)) := by
  pointwise [quot]

/-- A difference of two positions of a block, as the word it is computed in, is that difference. -/
theorem sub_toInt (r k : Fin 256) : (IntOp.subi (BitVec.ofNat 32 r) (BitVec.ofNat 32 k)).toInt = (r : ℤ) - k := by
  have h (n : Fin 256) : (BitVec.ofNat 32 (n : ℕ)).toInt = (n : ℤ) := by
    rw [BitVec.toInt_eq_toNat_cond, BitVec.toNat_ofNat, Nat.mod_eq_of_lt (by omega), if_pos (by omega)]
  show (BitVec.ofNat 32 (r : ℕ) - BitVec.ofNat 32 (k : ℕ)).toInt = _
  rw [BitVec.toInt_sub, h, h, Int.bmod_eq_of_le (by omega) (by omega)]

theorem sitofp_sub (r k : Fin 256) :
    (FloatOps.sitofp .f32 (IntOp.subi (BitVec.ofNat 32 r) (BitVec.ofNat 32 k)) : Ideal .f32) = (((r : ℝ) - k : ℝ) : EReal) := by
  show (((IntOp.subi (BitVec.ofNat 32 (r : ℕ)) (BitVec.ofNat 32 (k : ℕ))).toInt : ℝ) : EReal) = _
  rw [sub_toInt]; push_cast; rfl

theorem pay4_at (σ : ℝ) : k0_pay4 (F := Ideal) ((σ : ℝ) : EReal) = ((σ * (Real.log 2)⁻¹ : ℝ) : EReal) := by
  show ((σ : ℝ) : EReal) * Named.named (F := Ideal) κ "log2e" (φ := .f32) 0x3FB8AA3B#32 = _
  rw [named_log2e, ← EReal.coe_mul]

theorem pay9_at (σ : ℝ) (k r : Fin 256) :
    k0_pay9 (F := Ideal) ((σ : ℝ) : EReal) (ix2 k r) = ((-(σ * (Real.log 2)⁻¹) * ((r : ℝ) - k) : ℝ) : EReal) := by
  pointwise [k0_pay9, k0_pay8, k0_pay4]
  rw [sitofp_sub, named_log2e, ← EReal.coe_mul, zero_sub, ← EReal.coe_neg, ← EReal.coe_mul]

theorem pay10_at (σ : ℝ) (k r : Fin 256) :
    k0_pay10 (F := Ideal) ((σ : ℝ) : EReal) (ix2 k r)
      = if k ≤ r then ((-(σ * (Real.log 2)⁻¹) * ((r : ℝ) - k) : ℝ) : EReal) else ⊥ := by
  pointwise [k0_pay10, k0_pay8, k0_pay4]
  rw [sitofp_sub, named_log2e, named_mask, ← EReal.coe_mul, zero_sub, ← EReal.coe_neg, ← EReal.coe_mul]
  have h : (0 : EReal) ≤ (((r : ℝ) - k : ℝ) : EReal) ↔ k ≤ r := by
    rw [EReal.coe_nonneg, sub_nonneg, Nat.cast_le, Fin.le_def]
  simp only [h]

open Classical in
theorem sel_at (g : FVec Ideal S8x256 .f32) (j : ℕ) (hj : j < 8) (r : Fin 256) :
    sel g j (ix2 0 r) = BitVec.ofBool (decide (Cert.Attn.Best (fun i => g (ix2 i r)) ⟨j, hj⟩)) := by
  pointwise [sel]
  have h : ∀ j x : Fin 8, IntOp.cmpi .slt (BitVec.ofNat 32 (x : ℕ)) (BitVec.ofNat 32 (j : ℕ)) = BitVec.ofBool (decide (x < j)) := by
    decide
  have hb : ∀ p q : Bool, Scalar.select (IntOp.andi (BitVec.ofBool p) (BitVec.ofBool q)) (1 : EReal) 0 = if p && q then 1 else 0 := by
    intro p q; cases p <;> cases q <;> rfl
  congr 1
  rw [Cert.Attn.Consts.w_3]
  have hs (x : Fin 8) : (if g (ix2 ⟨j % 8, Nat.mod_lt _ (by decide)⟩ r) < g (ix2 x r) then (1 : EReal)
      else Scalar.select (IntOp.andi (BitVec.ofBool (decide (g (ix2 x r) = g (ix2 ⟨j % 8, Nat.mod_lt _ (by decide)⟩ r))))
        (IntOp.cmpi .slt (BitVec.ofNat 32 (x : ℕ)) (BitVec.ofNat 32 j))) 1 0)
      = (((if Cert.Attn.Beats (fun i => g (ix2 i r)) x ⟨j, hj⟩ then 1 else 0 : ℝ)) : EReal) := by
    simp only [Nat.mod_eq_of_lt hj]
    rw [h ⟨j, hj⟩ x, hb]
    unfold Cert.Attn.Beats
    by_cases h1 : g (ix2 ⟨j, hj⟩ r) < g (ix2 x r)
    · simp [h1]
    · by_cases h2 : g (ix2 x r) = g (ix2 ⟨j, hj⟩ r) <;> by_cases h3 : x < ⟨j, hj⟩ <;> simp [h1, h2, h3]
  have hsum : (∑ x : Fin 8, if g (ix2 ⟨j % 8, Nat.mod_lt _ (by decide)⟩ r) < g (ix2 x r) then (1 : EReal)
      else Scalar.select (IntOp.andi (BitVec.ofBool (decide (g (ix2 x r) = g (ix2 ⟨j % 8, Nat.mod_lt _ (by decide)⟩ r))))
        (IntOp.cmpi .slt (BitVec.ofNat 32 (x : ℕ)) (BitVec.ofNat 32 j))) 1 0)
      = (((Finset.univ.filter fun i => Cert.Attn.Beats (fun i => g (ix2 i r)) i ⟨j, hj⟩).card : ℝ) : EReal) := by
    rw [Finset.sum_congr rfl fun x _ => hs x, ← Cert.Attn.coe_sum, Finset.sum_boole]
  rw [decide_eq_decide]
  unfold Cert.Attn.Best
  refine Iff.trans (b := (((Finset.univ.filter fun i => Cert.Attn.Beats (fun i => g (ix2 i r)) i ⟨j, hj⟩).card : ℝ) : EReal) < ((3 : ℝ) : EReal)) ?_ ?_
  · rw [← hsum]
  · rw [EReal.coe_lt_coe_iff]; exact_mod_cast Iff.rfl

end Cert.KernelIdeal.Attn

end
-- ==== Proof.Attn.Stack.lean ====
/- The scratch that keeps a tile's weights, one slab of 256 rows per key block, and the product of the values with it. -/
module

public import proofs.«01_k».proof.Proof.Attn.Read
public import Idealize.ShloMosaic.Lib.Pipeline.ReadBack
public import Idealize.ShloMosaic.Lib.Pipeline.ValueKit

@[expose] public section

set_option maxRecDepth 16384

noncomputable section

open Idealize.ShloMosaic Idealize.ShloMosaic.TcCoe Idealize.SL.Sem

namespace Cert.KernelIdeal.Attn

open Cert.KernelIdeal Cert.KernelIdeal.Gen

/-- The first row of tile `c`'s slab for block `n`. -/
def slot (c n : ℕ) : ℕ := 256 * ((c * (c + 1) / 2 + n) % 36)

theorem slot_eq (c n : ℕ) (hc : c < 8) (hn : n ≤ c) : slot c n = slot c 0 + 256 * n := by
  unfold slot
  interval_cases c <;> interval_cases n <;> rfl

theorem inbP (c n : ℕ) : ∀ a, (![slot c n, 0] : Fin 2 → ℕ) a + S256x256.size a ≤ S9216x256.size a := by
  have h : ∀ x : Fin 36, ∀ a, (![256 * (x : ℕ), 0] : Fin 2 → ℕ) a + S256x256.size a ≤ S9216x256.size a := by decide
  exact h ⟨(c * (c + 1) / 2 + n) % 36, Nat.mod_lt _ (by decide)⟩

/-- The slabs stored for tile `c` once `n` past blocks are done, newest first, over what was stored before. -/
def stk (own : FVec Ideal S256x256 .f32) (past : ℕ → FVec Ideal S256x256 .f32) (c : ℕ) (rest : List (View.Piece (Elt Ideal) S9216x256 .bf16)) :
    ℕ → List (View.Piece (Elt Ideal) S9216x256 .bf16)
  | 0 => ⟨Rect.unit ![slot c c, 0] S256x256.size (inbP c c), keepP own⟩ :: rest
  | n + 1 => ⟨Rect.unit ![slot c n, 0] S256x256.size (inbP c n), keepP (past n)⟩ :: stk own past c rest n

/-- An index inside a slab reads the slab, -/
theorem canon_slab (o : ℕ) (inb : ∀ a, (![o, 0] : Fin 2 → ℕ) a + S256x256.size a ≤ S9216x256.size a) (w : FVec Ideal S256x256 .bf16)
    (L : List (View.Piece (Elt Ideal) S9216x256 .bf16)) (i : S9216x256.Idx) (k r : Fin 256) (h0 : (i 0 : ℕ) = o + k) (h1 : (i 1 : ℕ) = r) :
    View.canon ((⟨Rect.unit ![o, 0] S256x256.size inb, w⟩ : View.Piece (Elt Ideal) S9216x256 .bf16) :: L) i = w (ix2 k r) := by
  have hi : (Rect.unit (s := S9216x256) ![o, 0] S256x256.size inb).emb (ix2 k r) = i := by
    funext a
    apply Fin.ext
    rw [ValueKit.rect_emb_unit_val]
    match a with
    | ⟨0, _⟩ => exact h0.symm
    | ⟨1, _⟩ => exact (Nat.zero_add _).trans h1.symm
  rw [← hi]
  exact View.canon_cons_emb (Rect.unit (s := S9216x256) ![o, 0] S256x256.size inb) w L (ix2 k r)

/-- and one outside what was stored before it. -/
theorem canon_slab_of_ne (o : ℕ) (inb : ∀ a, (![o, 0] : Fin 2 → ℕ) a + S256x256.size a ≤ S9216x256.size a) (w : FVec Ideal S256x256 .bf16)
    (L : List (View.Piece (Elt Ideal) S9216x256 .bf16)) (i : S9216x256.Idx) (h : (i 0 : ℕ) < o ∨ o + 256 ≤ (i 0 : ℕ)) :
    View.canon ((⟨Rect.unit ![o, 0] S256x256.size inb, w⟩ : View.Piece (Elt Ideal) S9216x256 .bf16) :: L) i = View.canon L i := by
  refine View.canon_cons_of_not_mem (⟨Rect.unit ![o, 0] S256x256.size inb, w⟩ : View.Piece (Elt Ideal) S9216x256 .bf16) L fun hm => ?_
  obtain ⟨j, hj, he⟩ := (LoadRect.mem_set _).mp hm 0
  have hj' : j < 256 := hj
  have he' : (i 0 : ℕ) = o + 1 * j := he
  omega

/-- The slabs, read: block `j`'s weights. -/
theorem canon_stk (own : FVec Ideal S256x256 .f32) (past : ℕ → FVec Ideal S256x256 .f32) (c : ℕ) (hc : c < 8)
    (rest : List (View.Piece (Elt Ideal) S9216x256 .bf16)) (j : ℕ) (k r : Fin 256) (i : S9216x256.Idx)
    (h0 : (i 0 : ℕ) = slot c 0 + 256 * j + k) (h1 : (i 1 : ℕ) = r) (n : ℕ) (hn : n ≤ c) (hj : j < n ∨ j = c) :
    View.canon (stk own past c rest n) i = (if j = c then own else past j) (ix2 k r) := by
  induction n with
  | zero =>
    have hj' : j = c := by omega
    subst hj'
    rw [if_pos rfl]
    refine Eq.trans ?_ (keepP_at own k r)
    exact canon_slab _ _ _ _ i k r (by rw [h0, ← slot_eq j j hc le_rfl]) h1
  | succ n ih =>
    by_cases hjn : j = n
    · subst hjn
      rw [if_neg (by omega)]
      refine Eq.trans ?_ (keepP_at (past j) k r)
      exact canon_slab _ _ _ _ i k r (by rw [h0, ← slot_eq c j hc (by omega)]) h1
    · refine (canon_slab_of_ne _ _ _ _ i ?_).trans (ih (by omega) (by omega))
      rw [h0, slot_eq c n hc (by omega)]
      omega

/-- The product of the values with the slabs of tile `c`: the sum over its blocks of keys. -/
theorem acc_stk (own : FVec Ideal S256x256 .f32) (past : ℕ → FVec Ideal S256x256 .f32) (c : ℕ) (hc : c < 8)
    (rest : List (View.Piece (Elt Ideal) S9216x256 .bf16)) (v : View sig .tc .vmem S9216x256 .bf16) (V : Fin 8 → Fin 256 → EReal)
    (N : ℕ) (hN : (c + 1) * 256 = N) (inb : ∀ a, (![slot c 0, 0] : Fin 2 → ℕ) a + (![N, 256] : Fin 2 → ℕ) a ≤ S9216x256.size a)
    (f : Fin N → EReal) (hf : ∀ (j : Fin (c + 1)) (k : Fin 256) (h : (j : ℕ) * 256 + k < N), f ⟨j * 256 + k, h⟩ = V ⟨j, by omega⟩ k) (r : Fin 256) :
    (∑ x : Fin N, f x * v.readCov (stk own past c rest c) (Rect.unit (s := S9216x256) ![slot c 0, 0] ![N, 256] inb).toLoadRect (ix2 x r) : EReal)
      = ∑ j : Fin (c + 1), ∑ k, V ⟨j, by omega⟩ k * (if (j : ℕ) = c then own else past j) (ix2 k r) := by
  rw [Fin.sum_univ_tiles (c + 1) 256 hN]
  refine Finset.sum_congr rfl fun j _ => Finset.sum_congr rfl fun k _ => ?_
  rw [hf, View.readCov_eq_canon']
  refine congrArg _ ?_
  refine canon_stk own past c hc rest j k r _ ?_ ?_ c le_rfl (by omega)
  · show slot c 0 + 1 * ((j : ℕ) * 256 + k) = _; omega
  · show 0 + 1 * (r : ℕ) = _; omega

end Cert.KernelIdeal.Attn

end
-- ==== Proof.Attn.Row.lean ====
/- One query of one tile of the attention kernel: its logits over `ln 2`, the choice of blocks, the running maximum
   (some real), the weights, and the stored quotient, which is `attn` of the query's logits. -/
module

public import proofs.«01_k».proof.Proof.Attn.Read

@[expose] public section

set_option maxRecDepth 16384

noncomputable section

open Idealize.ShloMosaic Idealize.ShloMosaic.TcCoe Idealize.SL.Sem

namespace Cert.KernelIdeal.Attn

open Cert.KernelIdeal Cert.KernelIdeal.Gen Cert.Attn

/-- The logit of the query at place `r` of block `c` with the key at place `k` of block `j`: the scaled product less the
    slope times the distance. -/
def logit (xq xk : Fin 2048 → Fin 128 → ℝ) (σ : ℝ) (c : ℕ) (hc : c < 8) (r : Fin 256) (j : Fin 8) (k : Fin 256) : ℝ :=
  (∑ d : Fin 128, xq ⟨256 * c + r, by omega⟩ d * xk ⟨256 * j + k, by omega⟩ d) * (Real.sqrt 128)⁻¹
    - σ * ((256 * (c : ℝ) + (r : ℕ)) - (256 * ((j : ℕ) : ℝ) + (k : ℕ)))

/-- The gate of block `j` for that query: the query with the block's mean key, `-∞` unless the block is earlier. -/
def gate (X K : Vec Ideal S1x2048x128 .f32) (c : ℕ) (hc : c < 8) (r : Fin 256) (j : Fin 8) : EReal :=
  if (j : ℕ) < c then ∑ d : Fin 128, Ideal.div (∑ x : Fin 256, K (ix3 0 ⟨j * 256 + x, by omega⟩ d)) ((256 : ℝ) : EReal)
    * X (ix3 0 ⟨256 * c + r, by omega⟩ d) else ⊥

section
variable {X K : Vec Ideal S1x2048x128 .f32} {xq xk : Fin 2048 → Fin 128 → ℝ} (hX : ∀ t d, X (ix3 0 t d) = ((xq t d : ℝ) : EReal))
  (hK : ∀ t d, K (ix3 0 t d) = ((xk t d : ℝ) : EReal)) (σ : ℝ) (c : ℕ) (hc : c < 8) (r : Fin 256)
include hX hK hc

/-- The scaled products, over `ln 2`. -/
theorem dot_at (j : ℕ) (hj : j < 8) (k : Fin 256) :
    (∑ x : Fin 128, (kT (k0_pay6 (F := Ideal) K) j (ix2 k x) : EReal) * (qT X c (ix3 0 r x) * qscale))
      = (((∑ d : Fin 128, xq ⟨256 * c + r, by omega⟩ d * xk ⟨256 * j + k, by omega⟩ d) * (Real.sqrt 128)⁻¹ * (Real.log 2)⁻¹ : ℝ) : EReal) := by
  rw [Finset.sum_mul, Finset.sum_mul, coe_sum]
  refine Finset.sum_congr rfl fun d _ => ?_
  rw [kT_at K j hj, qT_at X c hc, hX, hK, qscale, ← EReal.coe_mul, ← EReal.coe_mul]
  congr 1; ring

/-- A past block's logits over `ln 2`, the distance to the block still to be taken off. -/
theorem pastL_at (j : Fin 8) (k : Fin 256) :
    pastL X K ((σ : ℝ) : EReal) c j (ix2 k r)
      = ((logit xq xk σ c hc r j k / Real.log 2 + σ * (Real.log 2)⁻¹ * (256 * ((c : ℝ) - (j : ℕ))) : ℝ) : EReal) := by
  rw [pastL, lg_at, dot_at hX hK c hc r j j.2 k, pay9_at, ← EReal.coe_add]
  congr 1; unfold logit; ring

/-- The own block's logits over `ln 2`, `-∞` for a later key. -/
theorem ownL_at (k : Fin 256) :
    ownL X K ((σ : ℝ) : EReal) c (ix2 k r)
      = if k ≤ r then ((logit xq xk σ c hc r ⟨c, hc⟩ k / Real.log 2 : ℝ) : EReal) else ⊥ := by
  rw [ownL, lg_at, dot_at hX hK c hc r c hc k, pay10_at]
  split
  · rw [← EReal.coe_add]; congr 1; unfold logit; ring
  · exact EReal.add_bot _

omit hX hK in
theorem gm_gate : (fun j : Fin 8 => gm (k0_pay7 (F := Ideal) K) (qT X c) c (ix2 j r)) = gate X K c hc r := by
  funext j
  rw [gm_at _ _ c hc, gate]
  simp only [pay7_at, qT_at X c hc]

omit hX hK in
open Classical in
/-- Whether a past block is selected is whether it is one of the three best. -/
theorem pastB_at (j : Fin 8) : pastB X K c j (ix2 0 r) = BitVec.ofBool (decide (Best (gate X K c hc r) j)) := by
  rw [pastB, sel_at _ j j.2, gm_gate c hc r]

/-- A past block's maximum is not `+∞`. -/
theorem mj_lt_top (j : Fin 8) (s : ℝ) : mj (pastL X K ((σ : ℝ) : EReal) c j) ((s : ℝ) : EReal) (ix2 0 r) < (⊤ : EReal) := by
  rw [mj_at, mx_at]
  obtain ⟨μ, hμ⟩ := fold_max_real (fun k : Fin 256 => pastL X K ((σ : ℝ) : EReal) c j (ix2 k r))
    (fun k => by rw [pastL_at hX hK σ c hc r j k]; exact EReal.coe_lt_top _) 0
    (by rw [pastL_at hX hK σ c hc r j 0]; exact EReal.bot_lt_coe _)
  rw [hμ, ← EReal.coe_sub]; exact EReal.coe_lt_top _

/-- The own block's maximum is a real, a query seeing itself. -/
theorem mx_own : ∃ μ : ℝ, mx (ownL X K ((σ : ℝ) : EReal) c) (ix2 0 r) = (μ : EReal) := by
  rw [mx_at]
  refine fold_max_real _ (fun k => ?_) r ?_
  · rw [ownL_at hX hK σ c hc r k]; split
    · exact EReal.coe_lt_top _
    · exact bot_lt_top
  · rw [ownL_at hX hK σ c hc r r, if_pos le_rfl]; exact EReal.bot_lt_coe _

theorem topU_real : ∃ μ : ℝ, topU X K ((σ : ℝ) : EReal) c (ix2 0 r) = (μ : EReal) := by
  have h : ∀ n, n ≤ c → ∃ μ : ℝ, mU (ownL X K ((σ : ℝ) : EReal) c) (pastL X K ((σ : ℝ) : EReal) c)
      (k0_pay4 (F := Ideal) ((σ : ℝ) : EReal)) c n (ix2 0 r) = (μ : EReal) := by
    intro n
    induction n with
    | zero => exact fun _ => mx_own hX hK σ c hc r
    | succ n ih =>
      intro hn
      refine max_real (ih (by omega)) ?_
      rw [pay4_at, shift_at _ _ (by omega)]
      exact mj_lt_top hX hK σ c hc r ⟨n, by omega⟩ _
  exact h c le_rfl

theorem topS_real : ∃ μ : ℝ, topS X K ((σ : ℝ) : EReal) c (ix2 0 r) = (μ : EReal) := by
  have h : ∀ n, n ≤ c → ∃ μ : ℝ, mS (ownL X K ((σ : ℝ) : EReal) c) (pastL X K ((σ : ℝ) : EReal) c) (pastB X K c)
      (k0_pay4 (F := Ideal) ((σ : ℝ) : EReal)) c n (ix2 0 r) = (μ : EReal) := by
    intro n
    induction n with
    | zero => exact fun _ => mx_own hX hK σ c hc r
    | succ n ih =>
      intro hn
      refine max_real (ih (by omega)) ?_
      show Scalar.select (pastB X K c n (ix2 0 r)) (mj (pastL X K ((σ : ℝ) : EReal) c n) _ (ix2 0 r)) (Ideal.ofBits .f32 0xFF800000#32) < ⊤
      rw [pay4_at, shift_at _ _ (by omega), Cert.Attn.Consts.w_bot]
      unfold Scalar.select
      split
      · exact mj_lt_top hX hK σ c hc r ⟨n, by omega⟩ _
      · exact bot_lt_top
  exact h c le_rfl

/-- A past block's kept logit less a real maximum and the distance to the block. -/
theorem past_exp (μ : ℝ) (j : Fin 8) (hj : (j : ℕ) < c) (k : Fin 256) :
    Ideal.exp2 (keep (pastL X K ((σ : ℝ) : EReal) c j) (ix2 k r) - ((μ : EReal) + shift (k0_pay4 (F := Ideal) ((σ : ℝ) : EReal)) (c - j)))
      = ((Real.exp (logit xq xk σ c hc r j k) * (2 : ℝ) ^ (-μ) : ℝ) : EReal) := by
  rw [keep_at, pastL_at hX hK σ c hc r j k, pay4_at, shift_at _ _ (by omega), ← EReal.coe_add, ← EReal.coe_sub, ← exp2_div_log]
  congr 2
  rw [Nat.cast_sub hj.le]; ring

/-- The own block's weights, from a real maximum. -/
theorem own_exp (m : FVec Ideal S1x256 .f32) (μ : ℝ) (hm : m (ix2 0 r) = (μ : EReal)) (g : Fin 8 → EReal) (k : Fin 256) :
    ex (keep (ownL X K ((σ : ℝ) : EReal) c)) m (ix2 k r)
      = ((wt g c r (logit xq xk σ c hc r) ⟨c, hc⟩ k * (2 : ℝ) ^ (-μ) : ℝ) : EReal) := by
  rw [ex_at, keep_at, hm, ownL_at hX hK σ c hc r k]
  by_cases hk : k ≤ r
  · rw [if_pos hk, ← EReal.coe_sub, exp2_div_log, wt, if_pos (.inl ⟨rfl, hk⟩)]
  · rw [if_neg hk, EReal.bot_sub, Ideal.exp2_bot, wt, if_neg, zero_mul]
    · rfl
    · rintro (⟨_, h⟩ | ⟨h, _⟩)
      · exact hk h
      · exact lt_irrefl _ h

/-- The gate of an earlier block is a real. -/
theorem gate_real (j : Fin 8) (hj : (j : ℕ) < c) : ⊥ < gate X K c hc r j := by
  rw [gate, if_pos hj]
  have h : ∀ d : Fin 128, Ideal.div (∑ x : Fin 256, K (ix3 0 ⟨j * 256 + x, by omega⟩ d)) ((256 : ℝ) : EReal)
      * X (ix3 0 ⟨256 * c + r, by omega⟩ d)
      = (((∑ x : Fin 256, xk ⟨j * 256 + x, by omega⟩ d) * (1 / 256) * xq ⟨256 * c + r, by omega⟩ d : ℝ) : EReal) := by
    intro d
    rw [Ideal.div_coe (by norm_num), hX, Finset.sum_congr rfl fun x _ => hK _ d, ← coe_sum, ← EReal.coe_mul, ← EReal.coe_mul]
  rw [Finset.sum_congr rfl fun d _ => h d, ← coe_sum]
  exact EReal.bot_lt_coe _

theorem pastU_at (h4 : c < 4) (μ : ℝ) (hm : topU X K ((σ : ℝ) : EReal) c (ix2 0 r) = (μ : EReal)) (j : Fin 8) (hj : (j : ℕ) < c) (k : Fin 256) :
    pastU X K ((σ : ℝ) : EReal) c j (ix2 k r)
      = ((wt (gate X K c hc r) c r (logit xq xk σ c hc r) j k * (2 : ℝ) ^ (-μ) : ℝ) : EReal) := by
  rw [pastU, ex_at, subU_at, hm, past_exp hX hK σ c hc r μ j hj k, wt, if_pos]
  refine .inr ⟨hj, best_early _ c h4 j hj (fun i hi => gate_real hX hK c hc r i hi) fun i hi => ?_⟩
  rw [gate, if_neg hi]

open Classical in
theorem pastS_at (μ : ℝ) (hm : topS X K ((σ : ℝ) : EReal) c (ix2 0 r) = (μ : EReal)) (j : Fin 8) (hj : (j : ℕ) < c) (k : Fin 256) :
    pastS X K ((σ : ℝ) : EReal) c j (ix2 k r)
      = ((wt (gate X K c hc r) c r (logit xq xk σ c hc r) j k * (2 : ℝ) ^ (-μ) : ℝ) : EReal) := by
  rw [pastS, ex_at, subS_at, hm, pastB_at c hc r j]
  by_cases hb : Best (gate X K c hc r) j
  · rw [show Scalar.select (BitVec.ofBool (decide (Best (gate X K c hc r) j))) ((μ : EReal) + shift (k0_pay4 (F := Ideal) ((σ : ℝ) : EReal)) (c - j)) (⊤ : EReal)
      = (μ : EReal) + shift (k0_pay4 (F := Ideal) ((σ : ℝ) : EReal)) (c - j) by simp [hb, Scalar.select],
      past_exp hX hK σ c hc r μ j hj k, wt, if_pos (.inr ⟨hj, hb⟩)]
  · rw [show Scalar.select (BitVec.ofBool (decide (Best (gate X K c hc r) j))) ((μ : EReal) + shift (k0_pay4 (F := Ideal) ((σ : ℝ) : EReal)) (c - j)) (⊤ : EReal)
      = ⊤ by simp [hb, Scalar.select], EReal.sub_top, Ideal.exp2_bot, wt, if_neg, zero_mul]
    · rfl
    · rintro (⟨h, _⟩ | ⟨_, h⟩)
      · omega
      · exact hb h

end

/-- The running sum of weights that are reals. -/
theorem ls_at (pd : FVec Ideal S256x256 .f32) (p : ℕ → FVec Ideal S256x256 .f32) (r : Fin 256) (f : ℕ → Fin 256 → ℝ) (c : ℕ)
    (hd : ∀ k, pd (ix2 k r) = ((f c k : ℝ) : EReal)) (n : ℕ) (hp : ∀ j, j < n → ∀ k, p j (ix2 k r) = ((f j k : ℝ) : EReal)) :
    ls pd p n (ix2 0 r) = (((∑ j ∈ Finset.range n, ∑ k, f j k) + ∑ k, f c k : ℝ) : EReal) := by
  induction n with
  | zero =>
    show sm pd (ix2 0 r) = _
    rw [sm_at, Finset.sum_congr rfl fun k _ => hd k, ← coe_sum]; simp
  | succ n ih =>
    show (ls pd p n (ix2 0 r) : EReal) + sm (p n) (ix2 0 r) = _
    rw [ih fun j hj => hp j (by omega), sm_at, Finset.sum_congr rfl fun k _ => hp n (by omega) k, ← coe_sum, ← EReal.coe_add,
      Finset.sum_range_succ]
    congr 1; ring

/-- The quotient of the weighted values by the weight sum, all weights carrying one positive factor, is `attn`. -/
theorem quot_attn (g : Fin 8 → EReal) (ξ : Fin 8 → Fin 256 → ℝ) (c : ℕ) (hc : c < 8) (r : Fin 256) (d : Fin 128) (z : ℝ) (hz : 0 < z)
    (pd : FVec Ideal S256x256 .f32) (p : ℕ → FVec Ideal S256x256 .f32) (v : Fin 8 → Fin 256 → EReal)
    (hd : ∀ k, pd (ix2 k r) = ((wt g c r ξ ⟨c, hc⟩ k * z : ℝ) : EReal))
    (hp : ∀ j : Fin 8, (j : ℕ) < c → ∀ k, p j (ix2 k r) = ((wt g c r ξ j k * z : ℝ) : EReal))
    (acc : FVec Ideal S128x256 .f32)
    (hacc : acc (ix2 d r) = ∑ j : Fin (c + 1), ∑ k, v ⟨j, by omega⟩ k * (if (j : ℕ) = c then pd else p j) (ix2 k r)) :
    quot acc (ls pd p c) (ix3 0 r d) = attn g c r ξ v := by
  have hw : ∀ j : Fin (c + 1), ∀ k, (if (j : ℕ) = c then pd else p j) (ix2 k r) = ((wt g c r ξ ⟨j, by omega⟩ k * z : ℝ) : EReal) := by
    intro j k
    by_cases hj : (j : ℕ) = c
    · rw [if_pos hj, hd]; congr 3; exact Fin.ext hj.symm
    · rw [if_neg hj]; exact hp ⟨j, by omega⟩ (by have := j.2; simp; omega) k
  have hl := ls_at pd p r (fun j k => if h : j < 8 then wt g c r ξ ⟨j, h⟩ k * z else 0) c (fun k => by rw [hd]; simp [hc]) c
    (fun j hj k => by rw [hp ⟨j, by omega⟩ hj k]; simp [show j < 8 by omega])
  have ht : (((∑ j ∈ Finset.range c, ∑ k : Fin 256, if h : j < 8 then wt g c r ξ ⟨j, h⟩ k * z else 0)
      + ∑ k : Fin 256, if h : c < 8 then wt g c r ξ ⟨c, h⟩ k * z else 0) : ℝ) = total g c r ξ * z := by
    rw [← Finset.sum_range_succ (fun j => ∑ k : Fin 256, if h : j < 8 then wt g c r ξ ⟨j, h⟩ k * z else 0), ← Fin.sum_univ_eq_sum_range
      (fun j => ∑ k : Fin 256, if h : j < 8 then wt g c r ξ ⟨j, h⟩ k * z else 0), total,
      sum_upto c hc _ fun j hj => Finset.sum_eq_zero fun k _ => wt_later g c r ξ j k hj, Finset.sum_mul]
    refine Finset.sum_congr rfl fun j _ => ?_
    rw [Finset.sum_mul]
    exact Finset.sum_congr rfl fun k _ => dif_pos _
  rw [quot_at, hacc, hl, ht, attn, sum_upto c hc _ fun j hj => Finset.sum_eq_zero fun k _ => by rw [wt_later g c r ξ j k hj]; simp]
  have := div_sum (Finset.univ : Finset (Fin (c + 1) × Fin 256)) (fun x => v ⟨x.1, by omega⟩ x.2)
    (fun x => wt g c r ξ ⟨x.1, by omega⟩ x.2) hz (total_pos g c r ξ hc)
  rw [Fintype.sum_prod_type, Fintype.sum_prod_type] at this
  rw [← this]
  simp only [hw]

/-- The first four tiles: what is stored for query `r` is `attn` of its logits, -/
theorem tileU {X K : Vec Ideal S1x2048x128 .f32} {xq xk : Fin 2048 → Fin 128 → ℝ} (hX : ∀ t d, X (ix3 0 t d) = ((xq t d : ℝ) : EReal))
    (hK : ∀ t d, K (ix3 0 t d) = ((xk t d : ℝ) : EReal)) (σ : ℝ) (c : ℕ) (hc : c < 8) (h4 : c < 4) (r : Fin 256) (d : Fin 128)
    (v : Fin 8 → Fin 256 → EReal) (acc : FVec Ideal S128x256 .f32)
    (hacc : acc (ix2 d r) = ∑ j : Fin (c + 1), ∑ k, v ⟨j, by omega⟩ k
      * (if (j : ℕ) = c then ownU X K ((σ : ℝ) : EReal) c else pastU X K ((σ : ℝ) : EReal) c j) (ix2 k r)) :
    quot acc (ls (ownU X K ((σ : ℝ) : EReal) c) (pastU X K ((σ : ℝ) : EReal) c) c) (ix3 0 r d)
      = attn (gate X K c hc r) c r (logit xq xk σ c hc r) v := by
  obtain ⟨μ, hμ⟩ := topU_real hX hK σ c hc r
  exact quot_attn _ _ c hc r d _ (Real.rpow_pos_of_pos (by norm_num) (-μ)) _ _ v
    (fun k => own_exp hX hK σ c hc r _ μ hμ _ k) (fun j hj k => pastU_at hX hK σ c hc r h4 μ hμ j hj k) acc hacc

/-- and so in the others. -/
theorem tileS {X K : Vec Ideal S1x2048x128 .f32} {xq xk : Fin 2048 → Fin 128 → ℝ} (hX : ∀ t d, X (ix3 0 t d) = ((xq t d : ℝ) : EReal))
    (hK : ∀ t d, K (ix3 0 t d) = ((xk t d : ℝ) : EReal)) (σ : ℝ) (c : ℕ) (hc : c < 8) (r : Fin 256) (d : Fin 128)
    (v : Fin 8 → Fin 256 → EReal) (acc : FVec Ideal S128x256 .f32)
    (hacc : acc (ix2 d r) = ∑ j : Fin (c + 1), ∑ k, v ⟨j, by omega⟩ k
      * (if (j : ℕ) = c then ownS X K ((σ : ℝ) : EReal) c else pastS X K ((σ : ℝ) : EReal) c j) (ix2 k r)) :
    quot acc (ls (ownS X K ((σ : ℝ) : EReal) c) (pastS X K ((σ : ℝ) : EReal) c) c) (ix3 0 r d)
      = attn (gate X K c hc r) c r (logit xq xk σ c hc r) v := by
  obtain ⟨μ, hμ⟩ := topS_real hX hK σ c hc r
  exact quot_attn _ _ c hc r d _ (Real.rpow_pos_of_pos (by norm_num) (-μ)) _ _ v
    (fun k => own_exp hX hK σ c hc r _ μ hμ _ k) (fun j hj k => pastS_at hX hK σ c hc r μ hμ j hj k) acc hacc

end Cert.KernelIdeal.Attn

end
-- ==== Proof.Attn.Spec.lean ====
/- The attention as a function of the three arrays: the projection, whose first 2048 lanes are the queries and next 2048 the
   keys of the 16 heads, the values transposed, and the 16 slopes. -/
module

public import proofs.«01_k».proof.Proof.Attn.Row

@[expose] public section

set_option maxRecDepth 16384

noncomputable section

open Idealize.ShloMosaic Idealize.ShloMosaic.TcCoe Idealize.SL.Sem

namespace Cert.KernelIdeal.Attn

open Cert.KernelIdeal Cert.KernelIdeal.Gen Cert.Attn

variable (A : FVec Ideal S4x2048x14336 .f32) (B : FVec Ideal S2048x8192 .bf16) (sl : FVec Ideal S16 .f32)

/-- The queries of head `h` of batch row `b`, -/
def qArr (b : Fin 4) (h : Fin 16) : Vec Ideal S1x2048x128 .f32 := fun y =>
  A (ix3 b (⟨(y 1 : ℕ), (y 1).isLt⟩ : Fin 2048) (⟨128 * h + (y 2 : ℕ), by have : (y 2 : ℕ) < 128 := (y 2).isLt; omega⟩ : Fin 14336))

/-- and its keys. -/
def kArr (b : Fin 4) (h : Fin 16) : Vec Ideal S1x2048x128 .f32 := fun y =>
  A (ix3 b (⟨(y 1 : ℕ), (y 1).isLt⟩ : Fin 2048) (⟨2048 + 128 * h + (y 2 : ℕ), by have : (y 2 : ℕ) < 128 := (y 2).isLt; omega⟩ : Fin 14336))

/-- The result for head `h`, batch row `b`, query `256 c + r`, lane `d`. -/
def headOut (b : Fin 4) (h : Fin 16) (c : ℕ) (hc : c < 8) (r : Fin 256) (d : Fin 128) : EReal :=
  attn (gate (qArr A b h) (kArr A b h) c hc r) c r
    (logit (fun t d => (qArr A b h (ix3 0 t d)).toReal) (fun t d => (kArr A b h (ix3 0 t d)).toReal) (sl (ix1 h)).toReal c hc r)
    (fun j k => B (ix2 (⟨128 * h + d, by omega⟩ : Fin 2048) (⟨2048 * b + (256 * j + k), by omega⟩ : Fin 8192)))

/-- The result at an index of the array. -/
def attnOut : FVec Ideal S4x2048x2048 .bf16 := fun i =>
  headOut A B sl (i 0) (⟨(i 2 : ℕ) / 128, by have : (i 2 : ℕ) < 2048 := (i 2).isLt; omega⟩ : Fin 16) ((i 1 : ℕ) / 256)
    (by have : (i 1 : ℕ) < 2048 := (i 1).isLt; omega) (⟨(i 1 : ℕ) % 256, by omega⟩ : Fin 256) (⟨(i 2 : ℕ) % 128, by omega⟩ : Fin 128)

/-- At the index with these coordinates. -/
theorem attnOut_at (i : S4x2048x2048.Idx) (b : Fin 4) (h : Fin 16) (c : ℕ) (hc : c < 8) (r : Fin 256) (d : Fin 128)
    (h0 : (i 0 : ℕ) = b) (h1 : (i 1 : ℕ) = 256 * c + r) (h2 : (i 2 : ℕ) = 128 * h + d) : attnOut A B sl i = headOut A B sl b h c hc r d := by
  have e0 : (i 0 : Fin 4) = b := Fin.ext h0
  have e1 : (i 1 : ℕ) / 256 = c := by omega
  have e2 : (i 1 : ℕ) % 256 = r := by omega
  have e3 : (i 2 : ℕ) / 128 = h := by omega
  have e4 : (i 2 : ℕ) % 128 = d := by omega
  unfold attnOut
  simp only [e0, e1, e2, e3, e4]

/-- The slopes of the 16 heads, as both programs compute them on the host. -/
def slopes : FVec Ideal S16 .f32 :=
  Host.exp (mulf (broadcastInDim S16 ![] bcast_S_S16 (constant (F := Ideal) S_ .f32 0x3F317218#32))
    (mulf (broadcastInDim S16 ![] bcast_S_S16 (constant (F := Ideal) S_ .f32 0xBF000000#32))
      (addf (broadcastInDim S16 ![] bcast_S_S16 (constant (F := Ideal) S_ .f32 0x3F800000#32)) (sitofp .f32 (iotaInDim S16 32 0)))))

/-- Every slope is a real. -/
theorem slopes_real (h : Fin 16) : ∃ σ : ℝ, slopes (ix1 h) = ((σ : ℝ) : EReal) := by
  refine ⟨Real.exp (11629080 / 16777216 * (-(1 / 2) * (1 + (((BitVec.ofNat 32 (h : ℕ)).toInt : ℝ))))), ?_⟩
  show Ideal.exp (Ideal.ofBits .f32 0x3F317218#32 * (Ideal.ofBits .f32 0xBF000000#32
    * (Ideal.ofBits .f32 0x3F800000#32 + (((BitVec.ofNat 32 (h : ℕ)).toInt : ℝ) : EReal)))) = _
  rw [Cert.Attn.Consts.w_ln2, Cert.Attn.Consts.w_neg_half, Cert.Attn.Consts.w_1, ← EReal.coe_add, ← EReal.coe_mul, ← EReal.coe_mul, Ideal.exp_coe]

end Cert.KernelIdeal.Attn

end
-- ==== Proof.Attn.Kernel.lean ====
/- The array the attention kernel leaves: at every index it is `attnOut` of the arrays it reads, where the queries, the keys
   and the slopes are finite. -/
module

public import proofs.«01_k».proof.Proof.Gen.KernelIdeal.Value
public import proofs.«01_k».proof.Proof.Attn.Stack
public import proofs.«01_k».proof.Proof.Attn.Spec

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.KernelIdeal.Attn

variable (m : (ℓ : Loc nD τ sig) → Buf (Elt Ideal) ℓ)

/-- The block indices of the windows: grid coordinate 0 is the batch row, 1 the head. -/
theorem idx : ∀ t : Fin cfg0.N, win0_0.index t = ![0] ∧ win0_1.index t = ![(grid0.coords t 0).val, 0, (grid0.coords t 1).val]
    ∧ win0_2.index t = ![(grid0.coords t 0).val, 0, 16 + (grid0.coords t 1).val]
    ∧ win0_3.index t = ![(grid0.coords t 1).val, (grid0.coords t 0).val]
    ∧ win0_4.index t = ![(grid0.coords t 0).val, 0, (grid0.coords t 1).val] :=
  (by decide +kernel : ∀ t : Fin grid0.N, _)

/-- The batch row and the head of a grid point. -/
abbrev bOf (t : Fin cfg0.N) : Fin 4 := grid0.coords t 0
abbrev hOf (t : Fin cfg0.N) : Fin 16 := grid0.coords t 1

theorem blk1 (c : Dev nD) (t : Fin cfg0.N) : iblk m c 1 t = qArr (m ((c : Thread nD τ).loc main_arg0)) (bOf t) (hOf t) := by
  funext y
  unfold qArr
  blk_ext [iblk, V, idx t]
  all_goals (dsimp only [bOf, hOf]; omega)

theorem blk2 (c : Dev nD) (t : Fin cfg0.N) : iblk m c 2 t = kArr (m ((c : Thread nD τ).loc main_arg0)) (bOf t) (hOf t) := by
  funext y
  unfold kArr
  blk_ext [iblk, V, idx t]
  all_goals (dsimp only [bOf, hOf]; omega)

theorem blk3 (c : Dev nD) (t : Fin cfg0.N) (d : Fin 128) (x : Fin 2048) : iblk m c 3 t (ix2 d x)
    = m ((c : Thread nD τ).loc main_arg1) (ix2 (⟨128 * (hOf t) + d, by have := (hOf t).2; omega⟩ : Fin 2048) (⟨2048 * (bOf t) + x, by have := (bOf t).2; omega⟩ : Fin 8192)) := by
  blk_ext [iblk, V, idx t]
  all_goals (dsimp only [bOf, hOf]; omega)

/-- The slopes reach the region as the host computed them. -/
theorem V_slopes (c : Dev nD) : V m c main_v7 = slopes := by
  unfold V
  after_results
  rfl

theorem blk0 (c : Dev nD) (t : Fin cfg0.N) : iblk m c 0 t = slopes := by
  rw [← V_slopes m c]
  funext y
  blk_ext [iblk, idx t]

theorem off1 : ∀ t : Fin cfg0.N, k0_off1 (grid0.coords t) 0 = (grid0.coords t 1).val :=
  (by decide +kernel : ∀ t : Fin grid0.N, _)

/-- The slope read at a grid point is its head's. -/
theorem slope_at (c : Dev nD) (t : Fin cfg0.N) (inb : ∀ a, k0_off1 (grid0.coords t) a + S1.size a ≤ S16.size a) (hn : 0 < S1.numel) :
    View.ld (iblk m c 0 t) (Rect.unit (s := S16) (k0_off1 (grid0.coords t)) S1.size inb) (Shape.Idx.first hn) = slopes (ix1 (hOf t)) := by
  rw [blk0]
  refine congrArg slopes (funext fun a => Fin.ext ?_)
  match a with
  | ⟨0, _⟩ =>
    show k0_off1 (grid0.coords t) 0 + 1 * 0 = _
    rw [off1]; rfl

/-- Where a block index of the result sits in the array. -/
theorem place (A : FVec Ideal S4x2048x14336 .f32) (B : FVec Ideal S2048x8192 .bf16) (sl : FVec Ideal S16 .f32) (t : Fin cfg0.N)
    (y : ((cfg0.win 4).xblock (cfg0.grid.coords t)).Idx) (c : ℕ) (hc : c < 8) (r : Fin 256) (d : Fin 128)
    (h1 : (y 1 : ℕ) = 256 * c + r) (h2 : (y 2 : ℕ) = d) :
    attnOut A B sl (((View.whole main_v8).slice (win0_4.rect t)).emb y) = headOut A B sl (bOf t) (hOf t) c hc r d := by
  have hy : (y 0 : ℕ) < 1 := (y 0).isLt
  have h4 := (idx t).2.2.2.2
  refine attnOut_at A B sl _ (bOf t) (hOf t) c hc r d ?_ ?_ ?_
  · show win0_4.index t 0 * 1 + 1 * (y 0 : ℕ) = _
    rw [h4]; show (grid0.coords t 0).val * 1 + 1 * (y 0 : ℕ) = (grid0.coords t 0).val; omega
  · show win0_4.index t 1 * 2048 + 1 * (y 1 : ℕ) = _
    rw [h4]; show 0 * 2048 + 1 * (y 1 : ℕ) = _; omega
  · show win0_4.index t 2 * 128 + 1 * (y 2 : ℕ) = _
    rw [h4]; show (grid0.coords t 1).val * 128 + 1 * (y 2 : ℕ) = 128 * (grid0.coords t 1).val + d; omega

section
variable (c0 : Dev nD)
  (hA : ∀ (b : Fin 4) (t : Fin 2048) (l : Fin 14336), (l : ℕ) < 4096 → ∃ x : ℝ, m ((c0 : Thread nD τ).loc main_arg0) (ix3 b t l) = (x : EReal))
include hA

theorem q_real (b : Fin 4) (h : Fin 16) (t : Fin 2048) (d : Fin 128) : qArr (m ((c0 : Thread nD τ).loc main_arg0)) b h (ix3 0 t d)
    = ((qArr (m ((c0 : Thread nD τ).loc main_arg0)) b h (ix3 0 t d)).toReal : EReal) := by
  obtain ⟨x, hx⟩ := hA b t ⟨128 * h + d, by omega⟩ (by show 128 * (h : ℕ) + d < 4096; omega)
  have e : qArr (m ((c0 : Thread nD τ).loc main_arg0)) b h (ix3 0 t d) = (x : EReal) := hx
  rw [e, EReal.toReal_coe]

theorem k_real (b : Fin 4) (h : Fin 16) (t : Fin 2048) (d : Fin 128) : kArr (m ((c0 : Thread nD τ).loc main_arg0)) b h (ix3 0 t d)
    = ((kArr (m ((c0 : Thread nD τ).loc main_arg0)) b h (ix3 0 t d)).toReal : EReal) := by
  obtain ⟨x, hx⟩ := hA b t ⟨2048 + 128 * h + d, by omega⟩ (by show 2048 + 128 * (h : ℕ) + d < 4096; omega)
  have e : kArr (m ((c0 : Thread nD τ).loc main_arg0)) b h (ix3 0 t d) = (x : EReal) := hx
  rw [e, EReal.toReal_coe]

/-- What a tile stores is the array's function where it sits: one of the first four tiles, -/
theorem storeU (t : Fin cfg0.N) (y : ((cfg0.win 4).xblock (cfg0.grid.coords t)).Idx) (X K : Vec Ideal S1x2048x128 .f32) (W : FVec Ideal S128x2048 .bf16)
    (s : EReal) (hX : X = qArr (m ((c0 : Thread nD τ).loc main_arg0)) (bOf t) (hOf t)) (hK : K = kArr (m ((c0 : Thread nD τ).loc main_arg0)) (bOf t) (hOf t))
    (hW : ∀ (d : Fin 128) (x : Fin 2048), W (ix2 d x) = m ((c0 : Thread nD τ).loc main_arg1)
      (ix2 (⟨128 * (hOf t) + d, by have := (hOf t).2; omega⟩ : Fin 2048) (⟨2048 * (bOf t) + x, by have := (bOf t).2; omega⟩ : Fin 8192)))
    (hs : s = slopes (ix1 (hOf t))) (c : ℕ) (h4 : c < 4) (r : Fin 256) (d : Fin 128) (h1 : (y 1 : ℕ) = 256 * c + (r : ℕ)) (h2 : (y 2 : ℕ) = (d : ℕ))
    (acc : FVec Ideal S128x256 .f32)
    (hacc : acc (ix2 d r) = ∑ j : Fin (c + 1), ∑ k : Fin 256, (W (ix2 d ⟨256 * j + k, by omega⟩) : EReal)
      * (if (j : ℕ) = c then ownU X K s c else pastU X K s c j) (ix2 k r)) :
    quot acc (ls (ownU X K s c) (pastU X K s c) c) (ix3 0 r d)
      = attnOut (m ((c0 : Thread nD τ).loc main_arg0)) (m ((c0 : Thread nD τ).loc main_arg1)) slopes
          (((View.whole main_v8).slice (win0_4.rect t)).emb y) := by
  subst hX hK hs
  rw [place _ _ _ t y c (by omega) r d h1 h2]
  obtain ⟨σ, hσ⟩ := slopes_real (hOf t)
  unfold headOut
  rw [hσ] at hacc ⊢
  refine tileU (q_real m c0 hA _ _) (k_real m c0 hA _ _) σ c (by omega) h4 r d _ acc (hacc.trans ?_)
  exact Finset.sum_congr rfl fun j _ => Finset.sum_congr rfl fun k _ => by rw [hW]

/-- and one of the others. -/
theorem storeS (t : Fin cfg0.N) (y : ((cfg0.win 4).xblock (cfg0.grid.coords t)).Idx) (X K : Vec Ideal S1x2048x128 .f32) (W : FVec Ideal S128x2048 .bf16)
    (s : EReal) (hX : X = qArr (m ((c0 : Thread nD τ).loc main_arg0)) (bOf t) (hOf t)) (hK : K = kArr (m ((c0 : Thread nD τ).loc main_arg0)) (bOf t) (hOf t))
    (hW : ∀ (d : Fin 128) (x : Fin 2048), W (ix2 d x) = m ((c0 : Thread nD τ).loc main_arg1)
      (ix2 (⟨128 * (hOf t) + d, by have := (hOf t).2; omega⟩ : Fin 2048) (⟨2048 * (bOf t) + x, by have := (bOf t).2; omega⟩ : Fin 8192)))
    (hs : s = slopes (ix1 (hOf t))) (c : ℕ) (h8 : c < 8) (r : Fin 256) (d : Fin 128) (h1 : (y 1 : ℕ) = 256 * c + (r : ℕ)) (h2 : (y 2 : ℕ) = (d : ℕ))
    (acc : FVec Ideal S128x256 .f32)
    (hacc : acc (ix2 d r) = ∑ j : Fin (c + 1), ∑ k : Fin 256, (W (ix2 d ⟨256 * j + k, by omega⟩) : EReal)
      * (if (j : ℕ) = c then ownS X K s c else pastS X K s c j) (ix2 k r)) :
    quot acc (ls (ownS X K s c) (pastS X K s c) c) (ix3 0 r d)
      = attnOut (m ((c0 : Thread nD τ).loc main_arg0)) (m ((c0 : Thread nD τ).loc main_arg1)) slopes
          (((View.whole main_v8).slice (win0_4.rect t)).emb y) := by
  subst hX hK hs
  rw [place _ _ _ t y c (by omega) r d h1 h2]
  obtain ⟨σ, hσ⟩ := slopes_real (hOf t)
  unfold headOut
  rw [hσ] at hacc ⊢
  refine tileS (q_real m c0 hA _ _) (k_real m c0 hA _ _) σ c (by omega) r d _ acc (hacc.trans ?_)
  exact Finset.sum_congr rfl fun j _ => Finset.sum_congr rfl fun k _ => by rw [hW]

omit hA in
theorem one_block (f : Fin (0 + 1) → EReal) : ∑ j, f j = f 0 := Fin.sum_univ_one f

omit hA in
/-- The first `N` columns of the values, read. -/
theorem ld_cols (W : Vec Ideal S128x2048 .bf16) (N : ℕ) (inb : ∀ a, (![0, 0] : Fin 2 → ℕ) a + (![128, N] : Fin 2 → ℕ) a ≤ S128x2048.size a)
    (d : Fin 128) (j : ℕ) (k : ℕ) (h : j * 256 + k < N) (h' : 256 * j + k < 2048) :
    View.ld (Val := Elt Ideal) (e' := .bf16) W (Rect.unit (s := S128x2048) ![0, 0] ![128, N] inb) (ix2 d ⟨j * 256 + k, h⟩) = W (ix2 d ⟨256 * j + k, h'⟩) := by
  refine congrArg W (funext fun a => Fin.ext ?_)
  match a with
  | ⟨0, _⟩ => show 0 + 1 * (d : ℕ) = d; omega
  | ⟨1, _⟩ => show 0 + 1 * (j * 256 + k) = 256 * j + k; omega

set_option maxHeartbeats 4000000 in
/-- The array after the run. -/
theorem final : (dats m 0 c0).arrAt 4 (cfgs 0).N
    = attnOut (m ((c0 : Thread nD τ).loc main_arg0)) (m ((c0 : Thread nD τ).loc main_arg1)) slopes := by
  refine (dats m 0 c0).arrAt_eq_of_covers 4 _ (by decide +kernel) fun t _ y => ?_
  blk_simp
  rw [after0_4]
  simp only [outsAt0]
  frame_open
  simp (disch := decide) only [↓View.readCov_cons_toLoadRect, ↓View.readCov_skip, ↓View.readCov_fill, View.read_writes_junk_eq_canon,
    View.canon_cons_unit_lit', View.ld_unit_lit', View.readCov_unit_lit', View.readCov_cons_unit_lit', View.readAt_eq_ld,
    Memref.IsWhole.read_unread]
  have hs := slope_at m c0 t (k0_off1_inb _) (Nat.lt_of_lt_of_eq Nat.one_pos numel1_S1.symm)
  revert hs
  generalize View.ld (iblk m c0 0 t) (Rect.unit (s := S16) (k0_off1 (grid0.coords t)) S1.size (k0_off1_inb _))
    (Shape.Idx.first (Nat.lt_of_lt_of_eq Nat.one_pos numel1_S1.symm)) = s
  intro hs
  have hX := blk1 m c0 t
  have hK := blk2 m c0 t
  have hW := blk3 m c0 t
  revert hX hK hW
  generalize iblk m c0 1 t = X
  generalize iblk m c0 2 t = K
  generalize iblk m c0 3 t = W
  intro hX hK hW
  canon_tiles x hh
  all_goals obtain ⟨r, d, rfl⟩ : ∃ (r : Fin 256) (d : Fin 128), x = ix3 0 r d := ⟨x 1, x 2, by
    funext a
    match a with
    | ⟨0, _⟩ => exact Fin.ext (by have : (x 0 : ℕ) < 1 := (x 0).isLt; show (x 0 : ℕ) = 0; omega)
    | ⟨1, _⟩ => rfl
    | ⟨2, _⟩ => rfl⟩
  case piece7 =>
    refine storeU m c0 hA t y X K W s hX hK hW hs 0 (by decide) r d (hh1.trans (by show (r : ℕ) = 256 * 0 + r; omega)) hh2 _ ?_
    have e : ∀ (a : FVec Ideal S128x256 .bf16) (b : FVec Ideal S256x256 .bf16), matmul dot_S128x256_S256x256_S128x256_1_0_0_1_n_n none a b
      (constant S128x256 .f32 0x00000000#32) (ix2 d r) = (∑ x : Fin 256, a (ix2 d x) * b (ix2 x r) : EReal) := fun a b => by pointwise
    refine (e _ (keepP (ownU X K s 0))).trans (Eq.trans ?_ (one_block _).symm)
    refine Finset.sum_congr rfl fun k _ => ?_
    refine congrArg₂ (· * ·) (congrArg W (funext fun a => Fin.ext ?_)) ((keepP_at _ _ _).trans (congrFun (if_pos rfl : (if ((0 : Fin (0 + 1)) : ℕ) = 0 then ownU X K s 0 else pastU X K s 0 0) = _) _).symm)
    match a with
    | ⟨0, _⟩ => show 0 + 1 * (d : ℕ) = d; omega
    | ⟨1, _⟩ => show 0 + 1 * (k : ℕ) = 256 * 0 + k; omega
  case piece6 =>
    refine storeU m c0 hA t y X K W s hX hK hW hs 1 (by decide) r d hh1 hh2 _ ?_
    have e : ∀ (a : FVec Ideal S128x512 .bf16) (b : FVec Ideal S512x256 .bf16), matmul dot_S128x512_S512x256_S128x256_1_0_0_1_n_n none a b
      (constant S128x256 .f32 0x00000000#32) (ix2 d r) = (∑ x : Fin 512, a (ix2 d x) * b (ix2 x r) : EReal) := fun a b => by pointwise
    exact (e _ _).trans (acc_stk (ownU X K s 1) (pastU X K s 1) 1 (by decide) _ _ (fun j k => W (ix2 d ⟨256 * j + k, by omega⟩)) 512 rfl _ _
      (fun j k h => ld_cols W 512 _ d j k h _) r)
  case piece5 =>
    refine storeU m c0 hA t y X K W s hX hK hW hs 2 (by decide) r d hh1 hh2 _ ?_
    have e : ∀ (a : FVec Ideal S128x768 .bf16) (b : FVec Ideal S768x256 .bf16), matmul dot_S128x768_S768x256_S128x256_1_0_0_1_n_n none a b
      (constant S128x256 .f32 0x00000000#32) (ix2 d r) = (∑ x : Fin 768, a (ix2 d x) * b (ix2 x r) : EReal) := fun a b => by pointwise
    exact (e _ _).trans (acc_stk (ownU X K s 2) (pastU X K s 2) 2 (by decide) _ _ (fun j k => W (ix2 d ⟨256 * j + k, by omega⟩)) 768 rfl _ _
      (fun j k h => ld_cols W 768 _ d j k h _) r)
  case piece4 =>
    refine storeU m c0 hA t y X K W s hX hK hW hs 3 (by decide) r d hh1 hh2 _ ?_
    have e : ∀ (a : FVec Ideal S128x1024 .bf16) (b : FVec Ideal S1024x256 .bf16), matmul dot_S128x1024_S1024x256_S128x256_1_0_0_1_n_n none a b
      (constant S128x256 .f32 0x00000000#32) (ix2 d r) = (∑ x : Fin 1024, a (ix2 d x) * b (ix2 x r) : EReal) := fun a b => by pointwise
    exact (e _ _).trans (acc_stk (ownU X K s 3) (pastU X K s 3) 3 (by decide) _ _ (fun j k => W (ix2 d ⟨256 * j + k, by omega⟩)) 1024 rfl _ _
      (fun j k h => ld_cols W 1024 _ d j k h _) r)
  case piece3 =>
    refine storeS m c0 hA t y X K W s hX hK hW hs 4 (by decide) r d hh1 hh2 _ ?_
    have e : ∀ (a : FVec Ideal S128x1280 .bf16) (b : FVec Ideal S1280x256 .bf16), matmul dot_S128x1280_S1280x256_S128x256_1_0_0_1_n_n none a b
      (constant S128x256 .f32 0x00000000#32) (ix2 d r) = (∑ x : Fin 1280, a (ix2 d x) * b (ix2 x r) : EReal) := fun a b => by pointwise
    exact (e _ _).trans (acc_stk (ownS X K s 4) (pastS X K s 4) 4 (by decide) _ _ (fun j k => W (ix2 d ⟨256 * j + k, by omega⟩)) 1280 rfl _ _
      (fun j k h => ld_cols W 1280 _ d j k h _) r)
  case piece2 =>
    refine storeS m c0 hA t y X K W s hX hK hW hs 5 (by decide) r d hh1 hh2 _ ?_
    have e : ∀ (a : FVec Ideal S128x1536 .bf16) (b : FVec Ideal S1536x256 .bf16), matmul dot_S128x1536_S1536x256_S128x256_1_0_0_1_n_n none a b
      (constant S128x256 .f32 0x00000000#32) (ix2 d r) = (∑ x : Fin 1536, a (ix2 d x) * b (ix2 x r) : EReal) := fun a b => by pointwise
    exact (e _ _).trans (acc_stk (ownS X K s 5) (pastS X K s 5) 5 (by decide) _ _ (fun j k => W (ix2 d ⟨256 * j + k, by omega⟩)) 1536 rfl _ _
      (fun j k h => ld_cols W 1536 _ d j k h _) r)
  case piece1 =>
    refine storeS m c0 hA t y X K W s hX hK hW hs 6 (by decide) r d hh1 hh2 _ ?_
    have e : ∀ (a : FVec Ideal S128x1792 .bf16) (b : FVec Ideal S1792x256 .bf16), matmul dot_S128x1792_S1792x256_S128x256_1_0_0_1_n_n none a b
      (constant S128x256 .f32 0x00000000#32) (ix2 d r) = (∑ x : Fin 1792, a (ix2 d x) * b (ix2 x r) : EReal) := fun a b => by pointwise
    exact (e _ _).trans (acc_stk (ownS X K s 6) (pastS X K s 6) 6 (by decide) _ _ (fun j k => W (ix2 d ⟨256 * j + k, by omega⟩)) 1792 rfl _ _
      (fun j k h => ld_cols W 1792 _ d j k h _) r)
  case piece0 =>
    refine storeS m c0 hA t y X K W s hX hK hW hs 7 (by decide) r d hh1 hh2 _ ?_
    have e : ∀ (a : FVec Ideal S128x2048 .bf16) (b : FVec Ideal S2048x256 .bf16), matmul dot_S128x2048_S2048x256_S128x256_1_0_0_1_n_n none a b
      (constant S128x256 .f32 0x00000000#32) (ix2 d r) = (∑ x : Fin 2048, a (ix2 d x) * b (ix2 x r) : EReal) := fun a b => by pointwise
    exact (e _ _).trans (acc_stk (ownS X K s 7) (pastS X K s 7) 7 (by decide) _ _ (fun j k => W (ix2 d ⟨256 * j + k, by omega⟩)) 2048 rfl _ _
      (fun j k h => congrArg W (congrArg (ix2 d) (Fin.ext (by show (j : ℕ) * 256 + k = 256 * j + k; omega)))) r)

end

end Cert.KernelIdeal.Value

end
-- ==== Proof.Attn.RefTerm.lean ====
/- The reference's computation in named parts, each over arrays given as arguments: what its result is, part by part. -/
module

public import proofs.«01_k».proof.Proof.Gen.ReferenceIdeal.Run
public import Idealize.ShloMosaic.Lib.Pointwise

@[expose] public section

set_option maxRecDepth 16384

noncomputable section

open Idealize.ShloMosaic Idealize.ShloMosaic.TcCoe Idealize.SL.Sem

namespace Cert.ReferenceIdeal.Attn

open Cert.ReferenceIdeal Cert.ReferenceIdeal.Gen

variable (A : FVec Ideal S4x2048x14336 .f32) (B : FVec Ideal S2048x8192 .bf16)
variable (q k v : FVec Ideal S4x16x2048x128 .f32) (G : FVec Ideal S4x16x2048x8 .f32) (x : FVec Ideal S4x16x2048x2048 .f32)

/-- The queries, head by head; -/
def qs : FVec Ideal S4x16x2048x128 .f32 :=
  transpose S4x16x2048x128 [0, 2, 1, 3] (shapeCast S4x2048x16x128 (extractStridedSlice S4x2048x2048 ![0, 0, 0] A slices_S4x2048x14336_S4x2048x2048_0_0_0)
    shapeCasts_S4x2048x2048_S4x2048x16x128) transposes_S4x2048x16x128_S4x16x2048x128_0_2_1_3

/-- the keys; -/
def ks : FVec Ideal S4x16x2048x128 .f32 :=
  transpose S4x16x2048x128 [0, 2, 1, 3] (shapeCast S4x2048x16x128 (extractStridedSlice S4x2048x2048 ![0, 0, 2048] A slices_S4x2048x14336_S4x2048x2048_0_0_2048)
    shapeCasts_S4x2048x2048_S4x2048x16x128) transposes_S4x2048x16x128_S4x16x2048x128_0_2_1_3

/-- and the values. -/
def vs : FVec Ideal S4x16x2048x128 .f32 :=
  extf .f32 (transpose S4x16x2048x128 [0, 2, 1, 3] (shapeCast S4x2048x16x128 (transpose S8192x2048 [1, 0] B transposes_S2048x8192_S8192x2048_1_0)
    shapeCasts_S8192x2048_S4x2048x16x128) transposes_S4x2048x16x128_S4x16x2048x128_0_2_1_3) bitsLt_bf16_f32

/-- A query's product with the mean key of each block. -/
def gates : FVec Ideal S4x16x2048x8 .f32 :=
  Host.dotGeneral dot_S4x16x2048x128_S4x16x8x128_S4x16x2048x8_3_3_2_2_01_01 none q
    (Host.divf (Host.reduceAdd (shapeCast S4x16x8x256x128 k shapeCasts_S4x16x2048x128_S4x16x8x256x128) (constant S_ .f32 0x00000000#32)
      reducesTo_S4x16x8x256x128_S4x16x8x128_d3 h_S_) (broadcastInDim S4x16x8x128 ![] bcast_S_S4x16x8x128 (constant S_ .f32 0x43800000#32)))

/-- The block of a position: the position over 256, rounded down. -/
def blk : IVec S2048 32 :=
  select (andi (cmpi .ne (signi (iotaInDim S2048 32 0)) (broadcastInDim S2048 ![] bcast_S_S2048 (signi (id (constantI S_ 32 256#32)))))
      (cmpi .ne (Host.remsi (iotaInDim S2048 32 0) (broadcastInDim S2048 ![] bcast_S_S2048 (id (constantI S_ 32 256#32))))
        (broadcastInDim S2048 ![] bcast_S_S2048 (constantI S_ 32 0#32))))
    (subi (Host.divsi (iotaInDim S2048 32 0) (broadcastInDim S2048 ![] bcast_S_S2048 (id (constantI S_ 32 256#32))))
      (broadcastInDim S2048 ![] bcast_S_S2048 (constantI S_ 32 1#32)))
    (Host.divsi (iotaInDim S2048 32 0) (broadcastInDim S2048 ![] bcast_S_S2048 (id (constantI S_ 32 256#32))))

/-- Whether a block lies before a position's own. -/
def past : IVec S2048x8 1 :=
  cmpi .slt (broadcastInDim S2048x8 ![0, 1] bcast_S1x8_S2048x8_0_1 (broadcastInDim S1x8 ![1] bcast_S8_S1x8_1 (iotaInDim S8 32 0)))
    (broadcastInDim S2048x8 ![0, 1] bcast_S2048x1_S2048x8_0_1 (broadcastInDim S2048x1 ![0] bcast_S2048_S2048x1_0 blk))

/-- The gates of the blocks that lie before, the others masked. -/
def masked : FVec Ideal S4x16x2048x8 .f32 :=
  select (broadcastInDim S4x16x2048x8 ![2, 3] bcast_S2048x8_S4x16x2048x8_2_3 past) (gates q k)
    (broadcastInDim S4x16x2048x8 ![] bcast_S_S4x16x2048x8 (id (constant S_ .f32 0xFF800000#32)))

/-- The three best blocks by their gates. -/
def three : IVec S4x16x2048x3 32 := (Host.topK S4x16x2048x3 3 (FloatOps.cmpfTotal .gt) G sliceFits_S4x16x2048x8_S4x16x2048x3).2

/-- Whether a block is one of three. -/
def among (i : IVec S4x16x2048x3 32) : IVec S4x16x2048x8 1 :=
  Host.reduce IntOp.ori (cmpi .eq (broadcastInDim S4x16x2048x3x8 ![0, 1, 2, 3, 4] bcast_S4x16x2048x3x1_S4x16x2048x3x8_0_1_2_3_4
      (broadcastInDim S4x16x2048x3x1 ![0, 1, 2, 3] bcast_S4x16x2048x3_S4x16x2048x3x1_0_1_2_3 i))
    (broadcastInDim S4x16x2048x3x8 ![0, 1, 2, 3, 4] bcast_S1x1x1x1x8_S4x16x2048x3x8_0_1_2_3_4
      (broadcastInDim S1x1x1x1x8 ![4] bcast_S8_S1x1x1x1x8_4 (iotaInDim S8 32 0)))) (constantI S_ 1 0#1)
    reducesTo_S4x16x2048x3x8_S4x16x2048x8_d3 h_S_

/-- Query position less key position. -/
def dist : IVec S2048x2048 32 :=
  subi (broadcastInDim S2048x2048 ![0, 1] bcast_S2048x1_S2048x2048_0_1 (broadcastInDim S2048x1 ![0] bcast_S2048_S2048x1_0 (iotaInDim S2048 32 0)))
    (broadcastInDim S2048x2048 ![0, 1] bcast_S1x2048_S2048x2048_0_1 (broadcastInDim S1x2048 ![1] bcast_S2048_S1x2048_1 (iotaInDim S2048 32 0)))

/-- Whether the key is of the query's block and not later. -/
def own : IVec S2048x2048 1 :=
  andi (cmpi .eq (broadcastInDim S2048x2048 ![0, 1] bcast_S2048x1_S2048x2048_0_1 (broadcastInDim S2048x1 ![0] bcast_S2048_S2048x1_0 blk))
      (broadcastInDim S2048x2048 ![0, 1] bcast_S1x2048_S2048x2048_0_1 (broadcastInDim S1x2048 ![1] bcast_S2048_S1x2048_1 blk)))
    (cmpi .sge dist (broadcastInDim S2048x2048 ![] bcast_S_S2048x2048 (constantI S_ 32 0#32)))

/-- Whether the query sees the key, from whether a block is among the best. -/
def seen (b : IVec S4x16x2048x8 1) : IVec S4x16x2048x2048 1 :=
  ori (broadcastInDim S4x16x2048x2048 ![0, 1, 2, 3] bcast_S1x1x2048x2048_S4x16x2048x2048_0_1_2_3
      (broadcastInDim S1x1x2048x2048 ![2, 3] bcast_S2048x2048_S1x1x2048x2048_2_3 own))
    (shapeCast S4x16x2048x2048 (broadcastInDim S4x16x2048x8x256 ![0, 1, 2, 3] bcast_S4x16x2048x8_S4x16x2048x8x256_0_1_2_3
      (andi b (broadcastInDim S4x16x2048x8 ![0, 1, 2, 3] bcast_S1x1x2048x8_S4x16x2048x8_0_1_2_3
        (broadcastInDim S1x1x2048x8 ![2, 3] bcast_S2048x8_S1x1x2048x8_2_3 past)))) shapeCasts_S4x16x2048x8x256_S4x16x2048x2048)

/-- The slopes of the heads. -/
def sl : FVec Ideal S16 .f32 :=
  Host.exp (mulf (broadcastInDim S16 ![] bcast_S_S16 (constant S_ .f32 0x3F317218#32))
    (mulf (broadcastInDim S16 ![] bcast_S_S16 (constant S_ .f32 0xBF000000#32))
      (addf (broadcastInDim S16 ![] bcast_S_S16 (constant S_ .f32 0x3F800000#32)) (sitofp .f32 (iotaInDim S16 32 0)))))

/-- The logits. -/
def logits : FVec Ideal S4x16x2048x2048 .f32 :=
  subf (Host.divf (Host.dotGeneral dot_S4x16x2048x128_S4x16x2048x128_S4x16x2048x2048_3_3_2_2_01_01 none q k)
      (broadcastInDim S4x16x2048x2048 ![] bcast_S_S4x16x2048x2048 (Host.sqrt (constant S_ .f32 0x43000000#32))))
    (broadcastInDim S4x16x2048x2048 ![0, 1, 2, 3] bcast_S1x16x2048x2048_S4x16x2048x2048_0_1_2_3
      (mulf (broadcastInDim S1x16x2048x2048 ![0, 1, 2, 3] bcast_S1x16x1x1_S1x16x2048x2048_0_1_2_3 (broadcastInDim S1x16x1x1 ![1] bcast_S16_S1x16x1x1_1 sl))
        (broadcastInDim S1x16x2048x2048 ![0, 1, 2, 3] bcast_S1x1x2048x2048_S1x16x2048x2048_0_1_2_3
          (broadcastInDim S1x1x2048x2048 ![2, 3] bcast_S2048x2048_S1x1x2048x2048_2_3 (sitofp .f32 dist)))))

/-- The logits of the keys a query sees, the others masked. -/
def shown (s : IVec S4x16x2048x2048 1) : FVec Ideal S4x16x2048x2048 .f32 :=
  select s x (broadcastInDim S4x16x2048x2048 ![] bcast_S_S4x16x2048x2048 (id (constant S_ .f32 0xFF800000#32)))

/-- The largest entry of each row. -/
def top : FVec Ideal S4x16x2048 .f32 :=
  maximumf (broadcastInDim S4x16x2048 ![] bcast_S_S4x16x2048 (constant S_ .f32 0xFF800000#32))
    (Host.reduce FloatOps.maximumf x (constant S_ .f32 0xFF800000#32) reducesTo_S4x16x2048x2048_S4x16x2048_d3 h_S_)

/-- `e` to each entry less its row's largest. -/
def ex : FVec Ideal S4x16x2048x2048 .f32 :=
  Host.exp (subf x (broadcastInDim S4x16x2048x2048 ![0, 1, 2, 3] bcast_S4x16x2048x1_S4x16x2048x2048_0_1_2_3
    (broadcastInDim S4x16x2048x1 ![0, 1, 2] bcast_S4x16x2048_S4x16x2048x1_0_1_2 (top x))))

/-- Each entry over the sum of its row. -/
def quot : FVec Ideal S4x16x2048x2048 .f32 :=
  Host.divf x (broadcastInDim S4x16x2048x2048 ![0, 1, 2, 3] bcast_S4x16x2048x1_S4x16x2048x2048_0_1_2_3
    (broadcastInDim S4x16x2048x1 ![0, 1, 2] bcast_S4x16x2048_S4x16x2048x1_0_1_2
      (Host.reduceAdd x (constant S_ .f32 0x00000000#32) reducesTo_S4x16x2048x2048_S4x16x2048_d3 h_S_)))

/-- The products with the values, laid out as the result. -/
def out : FVec Ideal S4x2048x2048 .bf16 :=
  truncf .bf16 (shapeCast S4x2048x2048 (transpose S4x2048x16x128 [0, 2, 1, 3]
    (Host.dotGeneral dot_S4x16x2048x2048_S4x16x2048x128_S4x16x2048x128_3_2_2_3_01_01 none x v)
    transposes_S4x16x2048x128_S4x2048x16x128_0_2_1_3) shapeCasts_S4x2048x16x128_S4x2048x2048) bitsLt_bf16_f32

/-- The whole. -/
def result : FVec Ideal S4x2048x2048 .bf16 :=
  out (vs B) (quot (ex (shown (logits (qs A) (ks A)) (seen (among (three (masked (qs A) (ks A))))))))

/-- The run's result is these parts composed. -/
theorem result_eq (m : (ℓ : Loc nD τ sig) → Buf (Elt Ideal) ℓ) (c : Dev nD) :
    Cert.ReferenceIdeal.Value.res_main_v87 m c = result (m ((c.tc : Thread nD τ).loc main_arg0)) (m ((c.tc : Thread nD τ).loc main_arg1)) := by
  unfold Cert.ReferenceIdeal.Value.res_main_v87
  rfl

end Cert.ReferenceIdeal.Attn

end
-- ==== Proof.Attn.TopK.lean ====
/- The three greatest of eight by a stable sort are the three that fewer than three others beat. -/
module

public import proofs.«01_k».proof.Proof.Attn.Weights
public import Idealize.ShloMosaic.Lib.SortPrefix

@[expose] public section

noncomputable section

open Idealize.ShloMosaic

namespace Cert.Attn

open Classical

/-- Greater first. -/
def before (g : Fin 8 → EReal) (i j : Fin 8) : Bool := decide (g j < g i)

/-- Greater first, and of equals the earlier. -/
def beats (g : Fin 8 → EReal) (i j : Fin 8) : Bool := decide (g j < g i) || (decide (g i = g j) && decide (i < j))

theorem beats_iff (g : Fin 8 → EReal) (i j : Fin 8) : beats g i j = true ↔ Beats g i j := by
  unfold beats Beats
  simp only [Bool.or_eq_true, Bool.and_eq_true, decide_eq_true_eq]

theorem beats_order (g : Fin 8 → EReal) : StrictTotalBefore (beats g) :=
  StrictTotalBefore.of_key_then_position (fun a b : EReal => decide (b < a)) g (fun a => by simp)
    (fun a b c h h' => by simp only [decide_eq_true_eq] at *; exact h'.trans h)
    (fun a b => by simp only [decide_eq_true_eq]; rcases lt_trichotomy a b with h | h | h <;> simp [h])

/-- On positions in order the stable sort by the one relation is the sort by the other. -/
theorem stableSort_before (g : Fin 8 → EReal) (l : List (Fin 8)) (hl : l.Pairwise (· < ·)) :
    stableSort (before g) l = stableSort (beats g) l := by
  induction l with
  | nil => rfl
  | cons a l ih =>
    rw [List.pairwise_cons] at hl
    unfold stableSort
    rw [ih hl.2]
    refine insertBefore_congr _ _ a _ fun b hb => ?_
    have hab : ¬ b < a := not_lt_of_gt (hl.1 b ((perm_stableSort _ l).mem_iff.mp hb))
    simp [before, beats, hab]

theorem sortedFrom_before (g : Fin 8 → EReal) : sortedFrom (before g) = sortedFrom (beats g) := by
  funext k
  unfold sortedFrom
  have h : sortPositions 8 (before g) = sortPositions 8 (beats g) := stableSort_before g _ (List.pairwise_lt_finRange 8)
  rw [List.get_of_eq h]
  rfl

/-- As many blocks beat the one at place `k` of the sort as `k` says. -/
theorem rank_sorted (g : Fin 8 → EReal) (k : Fin 8) :
    (Finset.univ.filter fun i => Beats g i (sortedFrom (before g) k)).card = k := by
  have hinv := fun i j hij => sortedFrom_noInversion (beats g) (beats g) (fun a b h => (beats_order g).asymm a b h) (fun _ _ h => h)
    (beats_order g).negTrans i j hij
  have hinj := sortedFrom_injective (beats g)
  have hlt : ∀ i, Beats g (sortedFrom (beats g) i) (sortedFrom (beats g) k) ↔ i < k := by
    intro i
    rw [← beats_iff]
    constructor
    · intro h
      by_contra hn
      rcases lt_or_eq_of_le (not_lt.mp hn) with hk | hk
      · rw [hinv k i hk] at h; exact absurd h (by decide)
      · subst hk; rw [(beats_order g).irrefl] at h; exact absurd h (by decide)
    · intro h
      rcases (beats_order g).total (sortedFrom (beats g) i) (sortedFrom (beats g) k) (fun e => (ne_of_lt h) (hinj e)) with h' | h'
      · exact h'
      · rw [hinv i k h] at h'; exact absurd h' (by decide)
  rw [sortedFrom_before]
  have e : (Finset.univ.filter fun i => Beats g i (sortedFrom (beats g) k)) = (Finset.Iio k).map ⟨sortedFrom (beats g), hinj⟩ := by
    ext i
    obtain ⟨j, rfl⟩ := sortedFrom_surjective (beats g) i
    simp only [Finset.mem_filter, Finset.mem_univ, true_and, Finset.mem_map, Finset.mem_Iio, Function.Embedding.coeFn_mk, hlt]
    exact ⟨fun h => ⟨j, h, rfl⟩, fun ⟨a, h, e⟩ => hinj e ▸ h⟩
  rw [e, Finset.card_map, Fin.card_Iio]

/-- A block is at one of the first three places of the sort exactly if it is one of the three best. -/
theorem best_iff (g : Fin 8 → EReal) (j : Fin 8) : (∃ s : Fin 3, sortedFrom (before g) ⟨s, by omega⟩ = j) ↔ Best g j := by
  unfold Best
  constructor
  · rintro ⟨s, rfl⟩
    rw [rank_sorted]; exact s.isLt
  · intro h
    obtain ⟨k, rfl⟩ := sortedFrom_surjective (before g) j
    rw [rank_sorted] at h
    exact ⟨⟨k, h⟩, rfl⟩

end Cert.Attn

end
-- ==== Proof.Attn.RefRead.lean ====
/- Each part of the reference at one position. -/
module

public import proofs.«01_k».proof.Proof.Attn.RefTerm
public import proofs.«01_k».proof.Proof.Attn.TopK
public import proofs.«01_k».proof.Proof.Attn.Consts

@[expose] public section

set_option maxRecDepth 16384

noncomputable section

open Idealize.ShloMosaic Idealize.ShloMosaic.TcCoe Idealize.SL.Sem

namespace Cert.ReferenceIdeal.Attn

open Cert.ReferenceIdeal Cert.ReferenceIdeal.Gen Cert.Attn.Consts

variable (A : FVec Ideal S4x2048x14336 .f32) (B : FVec Ideal S2048x8192 .bf16)
variable (q k v : FVec Ideal S4x16x2048x128 .f32) (G : FVec Ideal S4x16x2048x8 .f32) (x : FVec Ideal S4x16x2048x2048 .f32)
variable (b : Fin 4) (h : Fin 16) (t u : Fin 2048) (d : Fin 128) (j : Fin 8)

theorem qs_at : qs A (ix4 b h t d) = A (ix3 b t (⟨128 * h + d, by omega⟩ : Fin 14336)) := by
  pointwise [qs]
  exact congrArg (fun l => A (ix3 b t l)) (Fin.ext (show (h : ℕ) * 128 + d = 128 * h + d by omega))

theorem ks_at : ks A (ix4 b h t d) = A (ix3 b t (⟨2048 + 128 * h + d, by omega⟩ : Fin 14336)) := by
  pointwise [ks]
  exact congrArg (fun l => A (ix3 b t l)) (Fin.ext (show 2048 + ((h : ℕ) * 128 + d) = 2048 + 128 * h + d by omega))

theorem vs_at : vs B (ix4 b h t d) = B (ix2 (⟨128 * h + d, by omega⟩ : Fin 2048) (⟨2048 * b + t, by omega⟩ : Fin 8192)) := by
  pointwise [vs]
  exact congrArg₂ (fun l m => B (ix2 l m)) (Fin.ext (show (h : ℕ) * 128 + d = 128 * h + d by omega))
    (Fin.ext (show (b : ℕ) * 2048 + t = 2048 * b + t by omega))

theorem gates_at : gates q k (ix4 b h t j) = ∑ d : Fin 128, q (ix4 b h t d) * Ideal.div (∑ x : Fin 256, k (ix4 b h (⟨j * 256 + x, by omega⟩ : Fin 2048) d)) ((256 : ℝ) : EReal) := by
  rw [← w_256]
  pointwise [gates]

/-- The host's rounded-down quotient by 256 of a word. -/
def floorDiv (w : BitVec 32) : BitVec 32 :=
  Scalar.select (IntOp.andi (IntOp.cmpi .ne (if w = 0 then (0 : BitVec 32) else if w.msb = true then -1 else 1)
      (if (256#32 : BitVec 32) = 0 then (0 : BitVec 32) else if (256#32 : BitVec 32).msb = true then -1 else 1))
      (IntOp.cmpi .ne (IntOp.remsi .host w 256#32) 0#32))
    (IntOp.subi (IntOp.divsi .host w 256#32) 1#32) (IntOp.divsi .host w 256#32)

theorem floorDiv_eq : floorDiv (BitVec.ofNat 32 t) = BitVec.ofNat 32 (t / 256) := by
  revert t
  decide +kernel

theorem blk_at : blk (ix1 t) = BitVec.ofNat 32 (t / 256) := by
  rw [← floorDiv_eq]
  pointwise [blk]
  rfl

theorem lt_words : ∀ c j : Fin 8, IntOp.cmpi .slt (BitVec.ofNat 32 (j : ℕ)) (BitVec.ofNat 32 (c : ℕ)) = BitVec.ofBool (decide ((j : ℕ) < c)) := by
  decide

theorem eq_words : ∀ c j : Fin 8, IntOp.cmpi .eq (BitVec.ofNat 32 (j : ℕ)) (BitVec.ofNat 32 (c : ℕ)) = BitVec.ofBool (decide ((j : ℕ) = c)) := by
  decide

theorem past_at : past (ix2 t j) = BitVec.ofBool (decide ((j : ℕ) < t / 256)) := by
  rw [← lt_words ⟨t / 256, by omega⟩ j]
  pointwise [past]
  rw [blk_at]

theorem masked_at : masked q k (ix4 b h t j) = if (j : ℕ) < t / 256 then gates q k (ix4 b h t j) else ⊥ := by
  rw [← w_bot]
  pointwise [masked]
  rw [past_at]
  by_cases hj : (j : ℕ) < t / 256 <;> simp [Scalar.select, hj, constant]

theorem toInt_pos : (BitVec.ofNat 32 (t : ℕ)).toInt = t := by
  have := t.isLt
  simp only [BitVec.toInt, BitVec.toNat_ofNat]; omega

theorem toInt_sub : (BitVec.ofNat 32 (t : ℕ) - BitVec.ofNat 32 (u : ℕ)).toInt = (t : ℤ) - u := by
  rw [BitVec.toInt_sub, toInt_pos, toInt_pos]
  have := t.isLt; have := u.isLt
  simp only [Int.bmod]; omega

theorem dist_at : (dist (ix2 t u)).toInt = (t : ℤ) - u := by
  rw [← toInt_sub]
  pointwise [dist]
  rfl

theorem own_at : own (ix2 t u) = BitVec.ofBool (decide ((t : ℕ) / 256 = u / 256 ∧ u ≤ t)) := by
  pointwise [own]
  rw [blk_at, blk_at, eq_words ⟨u / 256, by omega⟩ ⟨t / 256, by omega⟩]
  have e : IntOp.cmpi .sge (dist (ix2 t u)) 0#32 = BitVec.ofBool (decide (u ≤ t)) := by
    show BitVec.ofBool (BitVec.sle 0#32 (dist (ix2 t u))) = _
    rw [BitVec.sle_eq_decide, dist_at]
    refine congrArg BitVec.ofBool (decide_eq_decide.mpr ?_)
    rw [Fin.le_def]; simp
  rw [e]
  by_cases h1 : (t : ℕ) / 256 = u / 256 <;> by_cases h2 : u ≤ t <;> simp [IntOp.andi, h1, h2]

theorem seen_at (p : IVec S4x16x2048x8 1) : seen p (ix4 b h t u) =
    own (ix2 t u) ||| (p (ix4 b h t (⟨u / 256, by omega⟩ : Fin 8)) &&& past (ix2 t (⟨u / 256, by omega⟩ : Fin 8))) := by
  pointwise [seen]
  rfl

theorem sqrt_128 : Ideal.sqrt (Ideal.ofBits .f32 0x43000000#32) = ((Real.sqrt 128 : ℝ) : EReal) := by
  have e : Ideal.ofBits .f32 0x43000000#32 = ((128 : ℝ) : EReal) := by
    simp [Ideal.ofBits, Ideal.ieee, -EReal.coe_mul]; norm_num
  rw [e, Ideal.sqrt_coe, if_neg (by norm_num)]

theorem logits_at : logits q k (ix4 b h t u) = Ideal.div (∑ d : Fin 128, q (ix4 b h t d) * k (ix4 b h u d)) ((Real.sqrt 128 : ℝ) : EReal)
    - sl (ix1 h) * ((((t : ℤ) - u : ℤ) : ℝ) : EReal) := by
  rw [← sqrt_128, ← dist_at]
  pointwise [logits]
  rfl

theorem shown_at (s : IVec S4x16x2048x2048 1) : shown x s (ix4 b h t u) = if s (ix4 b h t u) = 1#1 then x (ix4 b h t u) else ⊥ := by
  rw [← w_bot]
  pointwise [shown]
  rfl

/-- A row's fold by `max`. -/
theorem rowMax (c : FVec Ideal S_ .f32) (hr : S4x16x2048x2048.ReducesTo [3] S4x16x2048) :
    Host.reduce FloatOps.maximumf x c hr h_S_ (ix3 b h t) = Finset.univ.fold max (c (Shape.Idx.first h_S_)) fun u : Fin 2048 => x (ix4 b h t u) := by
  simp only [pointwise]

theorem max_at (y z : FVec Ideal S4x16x2048 .f32) (i : S4x16x2048.Idx) : maximumf y z i = max (y i) (z i) := rfl

theorem bot_at : (constant (F := Ideal) S_ .f32 0xFF800000#32) (Shape.Idx.first h_S_) = (⊥ : EReal) := w_bot

theorem ex_at : ex x (ix4 b h t u) = Ideal.exp (x (ix4 b h t u) - top x (ix3 b h t)) := by
  pointwise [ex]

theorem quot_at : quot x (ix4 b h t u) = Ideal.div (x (ix4 b h t u)) (∑ u : Fin 2048, x (ix4 b h t u)) := by
  pointwise [quot]

theorem out_at : out v x (ix3 b t (⟨128 * h + d, by omega⟩ : Fin 2048)) = ∑ u : Fin 2048, x (ix4 b h t u) * v (ix4 b h u d) := by
  pointwise [out]

theorem top_at : top x (ix3 b h t) = Finset.univ.fold max ⊥ fun u : Fin 2048 => x (ix4 b h t u) := by
  unfold top
  rw [max_at, rowMax, bot_at]
  exact max_eq_right (le_of_eq_of_le w_bot bot_le)

end Cert.ReferenceIdeal.Attn

end
-- ==== Proof.Attn.RefBest.lean ====
/- Which blocks the reference picks: the three of the sort are the three best. -/
module

public import proofs.«01_k».proof.Proof.Attn.RefRead

@[expose] public section

set_option maxRecDepth 16384

noncomputable section

open Idealize.ShloMosaic Idealize.ShloMosaic.TcCoe Idealize.SL.Sem

namespace Cert.ReferenceIdeal.Attn

open Cert.ReferenceIdeal Cert.ReferenceIdeal.Gen Cert.Attn

variable (G : FVec Ideal S4x16x2048x8 .f32) (b : Fin 4) (h : Fin 16) (t : Fin 2048) (j : Fin 8)

theorem or_three (p : Fin 3 → Bool) : Finset.univ.fold IntOp.ori (0#1) (fun s => BitVec.ofBool (p s)) = BitVec.ofBool (decide (∃ s, p s = true)) := by
  revert p
  decide +kernel

theorem among_at (i : IVec S4x16x2048x3 32) :
    among i (ix4 b h t j) = BitVec.ofBool (decide (∃ s : Fin 3, (i (ix4 b h t s) == BitVec.ofNat 32 j) = true)) := by
  rw [← or_three]
  pointwise [among]
  rfl

theorem along_last (j k : Fin 8) : (ix4 b h t j : S4x16x2048x8.Idx).along 3 k = ix4 b h t k := by
  funext a
  match a with
  | 0 => rfl
  | 1 => rfl
  | 2 => rfl
  | 3 => rfl

open Classical in
theorem gt_word (x y : EReal) : (FloatOps.cmpfTotal (F := Ideal) (φ := .f32) CmpDirection.gt x y == 1#1) = decide (y < x) := by
  show (BitVec.ofBool (decide (y < x)) == 1#1) = _
  by_cases h : y < x <;> simp [h]

/-- The place `s` of the sorted row holds the position of the entry the sort puts there. -/
theorem three_at (s : Fin 3) : three G (ix4 b h t s) = BitVec.ofNat 32 (sortedFrom (before fun j => G (ix4 b h t j)) (⟨s, by omega⟩ : Fin 8) : ℕ) := by
  unfold three Host.topK Host.sort2
  simp only [show (3 : ℕ) < S4x16x2048x8.rank from by decide, dif_pos]
  pointwise
  have e : (fun k k' : Fin 8 => FloatOps.cmpfTotal CmpDirection.gt (G ((ix4 b h t (⟨s, by omega⟩ : Fin 8) : S4x16x2048x8.Idx).along 3 k))
      (G ((ix4 b h t (⟨s, by omega⟩ : Fin 8) : S4x16x2048x8.Idx).along 3 k')) == 1#1) = before fun j => G (ix4 b h t j) := by
    funext k k'
    rw [along_last, along_last]
    exact gt_word _ _
  refine (congrArg (fun i : S4x16x2048x8.Idx => BitVec.ofNat 32 (i 3 : ℕ)) (along_last b h t _ _)).trans ?_
  exact congrArg (fun B => BitVec.ofNat 32 (sortedFrom B (⟨s, by omega⟩ : Fin 8) : ℕ)) e

theorem words_inj : ∀ i j : Fin 8, (BitVec.ofNat 32 (i : ℕ) == BitVec.ofNat 32 (j : ℕ)) = true ↔ i = j := by
  decide

open Classical in
theorem best_at : among (three G) (ix4 b h t j) = BitVec.ofBool (decide (Best (fun j => G (ix4 b h t j)) j)) := by
  rw [among_at]
  refine congrArg BitVec.ofBool (decide_eq_decide.mpr (Iff.trans ?_ (best_iff _ j)))
  exact exists_congr fun s => by rw [three_at]; exact words_inj _ _

end Cert.ReferenceIdeal.Attn

end
-- ==== Proof.Attn.Softmax.lean ====
/- A softmax row some of whose entries are masked. -/
module

public import proofs.«01_k».proof.Proof.Attn.Real
public import Idealize.ShloMosaic.Lib.Pointwise

@[expose] public section

noncomputable section

open Idealize.ShloMosaic

namespace Cert.Attn

open Classical

variable {n : ℕ} (S : Fin n → Prop) (ξ : Fin n → ℝ)

/-- An entry of the row: its logit where it is seen, `-∞` where it is masked. -/
def row (u : Fin n) : EReal := if S u then ((ξ u : ℝ) : EReal) else ⊥

/-- Its weight: `e` to the logit, zero where it is masked. -/
def rowWt (u : Fin n) : ℝ := if S u then Real.exp (ξ u) else 0

/-- The largest entry, where one is seen, is a real. -/
theorem row_max (h : ∃ u, S u) : ∃ μ : ℝ, Finset.univ.fold max ⊥ (row S ξ) = (μ : EReal) := by
  obtain ⟨u, hu⟩ := h
  refine fold_max_real _ (fun i => ?_) u ?_
  · unfold row; split
    · exact EReal.coe_lt_top _
    · exact bot_lt_top
  · unfold row; rw [if_pos hu]; exact EReal.bot_lt_coe _

theorem row_exp (μ : ℝ) (u : Fin n) : Ideal.exp (row S ξ u - (μ : EReal)) = ((rowWt S ξ u * Real.exp (-μ) : ℝ) : EReal) := by
  unfold row rowWt
  split
  · rw [← EReal.coe_sub, Ideal.exp_coe, sub_eq_add_neg, Real.exp_add]
  · rw [EReal.bot_sub, Ideal.exp_bot, zero_mul]; rfl

theorem rowWt_pos (h : ∃ u, S u) : 0 < ∑ u, rowWt S ξ u := by
  obtain ⟨u, hu⟩ := h
  refine Finset.sum_pos' (fun i _ => ?_) ⟨u, Finset.mem_univ u, ?_⟩
  · unfold rowWt; split
    · exact (Real.exp_pos _).le
    · exact le_rfl
  · unfold rowWt; rw [if_pos hu]; exact Real.exp_pos _

/-- The softmax of the row: its weights over their sum. -/
theorem row_softmax (h : ∃ u, S u) (u : Fin n) :
    Ideal.div (Ideal.exp (row S ξ u - Finset.univ.fold max ⊥ (row S ξ))) (∑ i, Ideal.exp (row S ξ i - Finset.univ.fold max ⊥ (row S ξ)))
      = ((rowWt S ξ u / ∑ i, rowWt S ξ i : ℝ) : EReal) := by
  obtain ⟨μ, hμ⟩ := row_max S ξ h
  have hp := rowWt_pos S ξ h
  have he := Real.exp_pos (-μ)
  simp only [hμ, row_exp]
  rw [← coe_sum, ← Finset.sum_mul, Ideal.div_coe (mul_pos hp he).ne', ← EReal.coe_mul]
  refine congrArg _ ?_
  field_simp

end Cert.Attn

end
-- ==== Proof.Attn.RefAttn.lean ====
/- The reference computes the attention. -/
module

public import proofs.«01_k».proof.Proof.Attn.RefBest
public import proofs.«01_k».proof.Proof.Attn.Softmax
public import proofs.«01_k».proof.Proof.Attn.Spec

@[expose] public section

set_option maxRecDepth 16384

noncomputable section

open Idealize.ShloMosaic Idealize.ShloMosaic.TcCoe Idealize.SL.Sem

namespace Cert.ReferenceIdeal.Attn

open Cert.ReferenceIdeal Cert.ReferenceIdeal.Gen Cert.Attn
open Cert.KernelIdeal.Attn (qArr kArr gate logit headOut attnOut attnOut_at slopes slopes_real)

variable (A : FVec Ideal S4x2048x14336 .f32) (B : FVec Ideal S2048x8192 .bf16)
variable (b : Fin 4) (h : Fin 16) (t u : Fin 2048) (d : Fin 128) (c : ℕ) (hc : c < 8) (r : Fin 256) (j : Fin 8) (k : Fin 256)

theorem q_eq : qs A (ix4 b h t d) = qArr A b h (ix3 0 t d) := qs_at A b h t d

theorem k_eq : ks A (ix4 b h t d) = kArr A b h (ix3 0 t d) := ks_at A b h t d

/-- The gates of a query, -/
theorem gate_eq (ht : (t : ℕ) = 256 * c + r) :
    (fun j => masked (qs A) (ks A) (ix4 b h t j)) = gate (qArr A b h) (kArr A b h) c hc r := by
  funext j
  have e : t = ⟨256 * c + r, by omega⟩ := Fin.ext ht
  have ec : (t : ℕ) / 256 = c := by omega
  rw [masked_at, ec]
  unfold gate
  split
  · rw [gates_at]
    refine Finset.sum_congr rfl fun d _ => ?_
    rw [mul_comm, q_eq, e]
    simp only [k_eq]
  · rfl

theorem bits (a b c : Bool) : BitVec.ofBool a ||| (BitVec.ofBool b &&& BitVec.ofBool c) = 1#1 ↔ a = true ∨ (b = true ∧ c = true) := by
  revert a b c; decide

/-- the keys it sees, -/
theorem seen_iff (ht : (t : ℕ) = 256 * c + r) (hu : (u : ℕ) = 256 * j + k) :
    seen (among (three (masked (qs A) (ks A)))) (ix4 b h t u) = 1#1 ↔ Seen (gate (qArr A b h) (kArr A b h) c hc r) c r j k := by
  have ej : (⟨(u : ℕ) / 256, by omega⟩ : Fin 8) = j := Fin.ext (show (u : ℕ) / 256 = j by omega)
  rw [seen_at, ej, own_at, past_at, best_at, gate_eq A b h t c hc r ht, bits]
  simp only [decide_eq_true_eq]
  unfold Seen
  have e1 : ((t : ℕ) / 256 = (u : ℕ) / 256 ∧ u ≤ t) ↔ ((j : ℕ) = c ∧ k ≤ r) := by
    rw [Fin.le_def, Fin.le_def]; omega
  have e2 : (j : ℕ) < (t : ℕ) / 256 ↔ (j : ℕ) < c := by omega
  rw [e1, e2, and_comm (a := Best _ _)]

/-- and their logits. -/
theorem logit_eq (hA : ∀ (b : Fin 4) (t : Fin 2048) (l : Fin 14336), (l : ℕ) < 4096 → ∃ x : ℝ, A (ix3 b t l) = (x : EReal))
    (ht : (t : ℕ) = 256 * c + r) (hu : (u : ℕ) = 256 * j + k) :
    logits (qs A) (ks A) (ix4 b h t u) = ((logit (fun t d => (qArr A b h (ix3 0 t d)).toReal) (fun t d => (kArr A b h (ix3 0 t d)).toReal)
      (slopes (ix1 h)).toReal c hc r j k : ℝ) : EReal) := by
  have et : t = ⟨256 * c + r, by omega⟩ := Fin.ext ht
  have eu : u = ⟨256 * j + k, by omega⟩ := Fin.ext hu
  have hq : ∀ t d, qArr A b h (ix3 0 t d) = (((qArr A b h (ix3 0 t d)).toReal : ℝ) : EReal) := by
    intro t d
    obtain ⟨x, hx⟩ := hA b t ⟨128 * h + d, by omega⟩ (by show 128 * (h : ℕ) + d < 4096; omega)
    have e : qArr A b h (ix3 0 t d) = (x : EReal) := hx
    rw [e, EReal.toReal_coe]
  have hk : ∀ t d, kArr A b h (ix3 0 t d) = (((kArr A b h (ix3 0 t d)).toReal : ℝ) : EReal) := by
    intro t d
    obtain ⟨x, hx⟩ := hA b t ⟨2048 + 128 * h + d, by omega⟩ (by show 2048 + 128 * (h : ℕ) + d < 4096; omega)
    have e : kArr A b h (ix3 0 t d) = (x : EReal) := hx
    rw [e, EReal.toReal_coe]
  have hs : sl (ix1 h) = (((slopes (ix1 h)).toReal : ℝ) : EReal) := by
    obtain ⟨σ, hσ⟩ := slopes_real h
    have e : sl (ix1 h) = slopes (ix1 h) := rfl
    rw [e, hσ, EReal.toReal_coe]
  rw [logits_at, hs]
  have hd : (∑ d : Fin 128, qs A (ix4 b h t d) * ks A (ix4 b h u d)) = ((∑ d : Fin 128, (qArr A b h (ix3 0 t d)).toReal * (kArr A b h (ix3 0 u d)).toReal : ℝ) : EReal) := by
    rw [coe_sum]
    refine Finset.sum_congr rfl fun d _ => ?_
    rw [q_eq, k_eq, EReal.coe_mul, ← hq, ← hk]
  rw [hd, Ideal.div_coe (Real.sqrt_pos.mpr (by norm_num)).ne', ← EReal.coe_mul, ← EReal.coe_mul, ← EReal.coe_sub]
  unfold logit
  rw [one_div, et, eu]
  refine congrArg _ ?_
  push_cast
  ring

open Classical in
/-- The result of a head at a position. -/
theorem head_eq (hA : ∀ (b : Fin 4) (t : Fin 2048) (l : Fin 14336), (l : ℕ) < 4096 → ∃ x : ℝ, A (ix3 b t l) = (x : EReal))
    (ht : (t : ℕ) = 256 * c + r) :
    result A B (ix3 b t (⟨128 * h + d, by omega⟩ : Fin 2048)) = headOut A B slopes b h c hc r d := by
  let g := gate (qArr A b h) (kArr A b h) c hc r
  let ξ := logit (fun t d => (qArr A b h (ix3 0 t d)).toReal) (fun t d => (kArr A b h (ix3 0 t d)).toReal) (slopes (ix1 h)).toReal c hc r
  let jj : Fin 2048 → Fin 8 := fun u => ⟨u / 256, by omega⟩
  let kk : Fin 2048 → Fin 256 := fun u => ⟨u % 256, by omega⟩
  let S : Fin 2048 → Prop := fun u => Seen g c r (jj u) (kk u)
  let ζ : Fin 2048 → ℝ := fun u => ξ (jj u) (kk u)
  have hjk : ∀ u : Fin 2048, (u : ℕ) = 256 * (jj u : ℕ) + (kk u : ℕ) := fun u => by
    show (u : ℕ) = 256 * ((u : ℕ) / 256) + (u : ℕ) % 256; omega
  have hrow : ∀ u, shown (logits (qs A) (ks A)) (seen (among (three (masked (qs A) (ks A))))) (ix4 b h t u) = row S ζ u := by
    intro u
    rw [shown_at, logit_eq A b h t u c hc r (jj u) (kk u) hA ht (hjk u)]
    unfold row
    by_cases hs : S u
    · rw [if_pos hs, if_pos ((seen_iff A b h t u c hc r (jj u) (kk u) ht (hjk u)).mpr hs)]
    · rw [if_neg hs, if_neg (fun e => hs ((seen_iff A b h t u c hc r (jj u) (kk u) ht (hjk u)).mp e))]
  have hex : ∃ u, S u := by
    refine ⟨t, .inl ⟨?_, ?_⟩⟩
    · show (t : ℕ) / 256 = c; omega
    · rw [Fin.le_def]; show (t : ℕ) % 256 ≤ r; omega
  have hwt : ∀ (j : Fin 8) (k : Fin 256) (hlt : (j : ℕ) * 256 + k < 2048), rowWt S ζ ⟨j * 256 + k, hlt⟩ = wt g c r ξ j k := by
    intro j k hlt
    have e1 : jj ⟨j * 256 + k, hlt⟩ = j := Fin.ext (show ((j : ℕ) * 256 + k) / 256 = j by omega)
    have e2 : kk ⟨j * 256 + k, hlt⟩ = k := Fin.ext (show ((j : ℕ) * 256 + k) % 256 = k by omega)
    show (if Seen g c r (jj ⟨j * 256 + k, hlt⟩) (kk ⟨j * 256 + k, hlt⟩) then Real.exp (ξ (jj ⟨j * 256 + k, hlt⟩) (kk ⟨j * 256 + k, hlt⟩)) else 0) = _
    rw [e1, e2]; rfl
  have htot : ∑ u, rowWt S ζ u = total g c r ξ := by
    rw [Fin.sum_univ_tiles 8 256 rfl]
    exact Finset.sum_congr rfl fun j _ => Finset.sum_congr rfl fun k _ => hwt j k _
  unfold result
  rw [out_at]
  have hp : ∀ u, quot (ex (shown (logits (qs A) (ks A)) (seen (among (three (masked (qs A) (ks A))))))) (ix4 b h t u)
      = ((rowWt S ζ u / total g c r ξ : ℝ) : EReal) := by
    intro u
    rw [quot_at]
    simp only [ex_at, top_at, hrow]
    rw [← htot]
    exact row_softmax S ζ hex u
  simp only [hp, vs_at]
  rw [Fin.sum_univ_tiles 8 256 rfl]
  unfold headOut attn
  refine Finset.sum_congr rfl fun j _ => Finset.sum_congr rfl fun k _ => ?_
  rw [hwt, mul_comm]
  refine congrArg₂ (· * ·) (congrArg (fun l => B (ix2 _ l)) (Fin.ext ?_)) rfl
  show 2048 * (b : ℕ) + ((j : ℕ) * 256 + k) = 2048 * b + (256 * j + k)
  omega

/-- The reference's result, whole. -/
theorem ref_eq (hA : ∀ (b : Fin 4) (t : Fin 2048) (l : Fin 14336), (l : ℕ) < 4096 → ∃ x : ℝ, A (ix3 b t l) = (x : EReal)) :
    result A B = attnOut A B slopes := by
  funext i
  idx_vars i
  rw [attnOut_at A B slopes (ix3 i0 i1 i2) i0 (⟨(i2 : ℕ) / 128, by omega⟩ : Fin 16) ((i1 : ℕ) / 256) (by omega) (⟨(i1 : ℕ) % 256, by omega⟩ : Fin 256)
    (⟨(i2 : ℕ) % 128, by omega⟩ : Fin 128) rfl (by show (i1 : ℕ) = 256 * ((i1 : ℕ) / 256) + (i1 : ℕ) % 256; omega)
    (by show (i2 : ℕ) = 128 * ((i2 : ℕ) / 128) + (i2 : ℕ) % 128; omega)]
  rw [← head_eq A B i0 _ i1 _ _ _ _ hA (by show (i1 : ℕ) = 256 * ((i1 : ℕ) / 256) + (i1 : ℕ) % 256; omega)]
  refine congrArg (fun l => result A B (ix3 i0 i1 l)) (Fin.ext ?_)
  show (i2 : ℕ) = 128 * ((i2 : ℕ) / 128) + (i2 : ℕ) % 128
  omega

end Cert.ReferenceIdeal.Attn

end
-- ==== Proof.Attn.Finite.lean ====
/- What the precondition says: every entry of the queries and keys is a real. -/
module

public import proofs.«01_k».proof.Pre_finite_qk
public import proofs.«01_k».proof.Proof.Attn.Consts
public import Idealize.ShloMosaic.Lib.ReduceAll
public import Idealize.ShloMosaic.Lib.Pointwise

@[expose] public section

noncomputable section

open Idealize.ShloMosaic

namespace Cert.Pre_finite_qk

/-- The shape relations of the precondition. -/
theorem facts : Facts where
  slices_S4x2048x14336_S4x2048x4096_0_0_0 := by decide
  bcast_S_S4x2048x4096 := by decide
  reducesTo_S4x2048x4096_S_d0_1_2 := by decide
  h_S_ := by decide

/-- An extended real whose absolute value is below `⊤` is a real. -/
theorem real_of_abs (x : EReal) (h : max x (-x) < ⊤) : ∃ y : ℝ, x = (y : EReal) := by
  induction x using EReal.rec with
  | bot => simp at h
  | top => simp at h
  | coe y => exact ⟨y, rfl⟩

theorem real_of_bit (x : EReal) (h : FloatOps.cmpf (F := Ideal) (φ := .f32) .olt (FloatOps.absf (F := Ideal) (φ := .f32) x) (Ideal.ofBits .f32 0x7F800000#32) = 1#1) :
    ∃ y : ℝ, x = (y : EReal) := by
  rw [Cert.Attn.Consts.w_top] at h
  refine real_of_abs x ?_
  by_contra hn
  have : FloatOps.cmpf (F := Ideal) (φ := .f32) .olt (FloatOps.absf (F := Ideal) (φ := .f32) x) (⊤ : EReal) = 0#1 := by
    show BitVec.ofBool (decide (max x (-x) < ⊤)) = 0#1
    rw [decide_eq_false hn]; rfl
  rw [this] at h
  exact absurd h (by decide)

/-- The precondition, read entry by entry. -/
theorem real_at (hF : Facts) (A : FVec Ideal S4x2048x14336 .f32) (B : FVec Ideal S2048x8192 .bf16) (h : fn (F := Ideal) A B = fun _ => 1#1)
    (b : Fin 4) (t : Fin 2048) (l : Fin 14336) (hl : (l : ℕ) < 4096) : ∃ x : ℝ, A (ix3 b t l) = (x : EReal) := by
  have e := congrFun h (fun k => k.elim0)
  unfold fn at e
  have e' := Host.reduce_andi_all _ _ _ _ _ e (ix3 b t (⟨l, hl⟩ : Fin 4096))
  refine real_of_bit _ (Eq.trans ?_ e')
  simp only [pointwise]
  refine congrArg (fun i => FloatOps.cmpf (F := Ideal) (φ := .f32) .olt (FloatOps.absf (F := Ideal) (φ := .f32) (A i)) (Ideal.ofBits .f32 0x7F800000#32)) (?_ : ix3 b t l = ix3 _ _ _)
  have e0 : b = ⟨0 + (b : ℕ), by omega⟩ := Fin.ext (Nat.zero_add _).symm
  have e1 : t = ⟨0 + (t : ℕ), by omega⟩ := Fin.ext (Nat.zero_add _).symm
  have e2 : l = ⟨0 + (l : ℕ), by omega⟩ := Fin.ext (Nat.zero_add _).symm
  conv_lhs => rw [e0, e1, e2]
  rfl

end Cert.Pre_finite_qk

end
-- ==== Proof.Attn.Claims.lean ====
/- The claims about the attention, from the kernel's array and the reference's term. -/
module

public import proofs.«01_k».proof.Defs
public import proofs.«01_k».proof.Proof.Attn.Kernel
public import proofs.«01_k».proof.Proof.Attn.RefAttn
public import proofs.«01_k».proof.Proof.Attn.Finite
public import proofs.«01_k».proof.Proof.Gen.KernelIdeal
public import proofs.«01_k».proof.Proof.Gen.ReferenceIdeal
public import proofs.«01_k».proof.Proof.Gen.ReferenceIdeal.Run
public import Idealize.ShloMosaic.Adequacy
public import Idealize.ShloMosaic.Init

@[expose] public section

noncomputable section

open Idealize.ShloMosaic Idealize.ShloMosaic.TcCoe Idealize.SL.Sem

namespace Cert.Proof.AttnClaims

/-- The reference runs, its arguments unchanged and every semaphore back at zero. -/
theorem frame_r : quiescent_ReferenceIdeal (hReferenceIdeal := Cert.ReferenceIdeal.Gen.facts) := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

theorem frame_r_pre : quiescent_ReferenceIdeal_pre_finite_qk (hReferenceIdeal := Cert.ReferenceIdeal.Gen.facts) (hPre_finite_qk := Cert.Pre_finite_qk.facts) :=
  fun m ρ _ => frame_r m ρ trivial

/-- Each named constant's word is the real's rounding. -/
theorem preserves : preserves_Kernel_KernelIdeal :=
  ⟨IdealRules.named_const.statement Cert.KernelIdeal.κ "log2e" .f32 0x3FB8AA3B#32 (((Real.log 2)⁻¹ : ℝ) : EReal) rfl,
    IdealRules.named_const.statement Cert.KernelIdeal.κ "mask" .f32 0xF149F2CA#32 ⊥ rfl,
    IdealRules.named_const.statement Cert.KernelIdeal.κ "qscale" .f32 0x3E0293EE#32 (((Real.sqrt 128)⁻¹ * (Real.log 2)⁻¹ : ℝ) : EReal) rfl⟩

/-- The kernel and the reference leave the same array. -/
theorem algebraic : algebraic_KernelIdeal_ReferenceIdeal_pre_finite_qk (hKernelIdeal := Cert.KernelIdeal.Gen.facts)
    (hReferenceIdeal := Cert.ReferenceIdeal.Gen.facts) (hPre_finite_qk := Cert.Pre_finite_qk.facts) := by
  intro m ρ m' ρ' hpre hagree
  have hA := fun c => Cert.Pre_finite_qk.real_at Cert.Pre_finite_qk.facts _ _ (hpre c)
  refine ⟨fun c => Cert.KernelIdeal.Attn.attnOut (m ((c.tc : Thread Cert.KernelIdeal.nD Cert.KernelIdeal.τ).loc Cert.KernelIdeal.main_arg0))
    (m ((c.tc : Thread Cert.KernelIdeal.nD Cert.KernelIdeal.τ).loc Cert.KernelIdeal.main_arg1)) Cert.KernelIdeal.Attn.slopes, ?_, ?_⟩
  · refine (θ_run Cert.KernelIdeal.defs _ _).mono (fun _ h c => ⟨(h c).1.trans ?_, (h c).2⟩) (Cert.KernelIdeal.Value.run_blocks (F := Ideal) m ρ)
    exact Cert.KernelIdeal.Value.final m c (hA c)
  · refine (θ_run Cert.ReferenceIdeal.defs _ _).mono (fun _ h c => ⟨(h c).1.trans ?_, (h c).2⟩) (Cert.ReferenceIdeal.Value.run (F := Ideal) m' ρ')
    rw [Cert.ReferenceIdeal.Attn.result_eq, (hagree c).1, (hagree c).2]
    exact Cert.ReferenceIdeal.Attn.ref_eq _ _ (hA c)

end Cert.Proof.AttnClaims

end
-- ==== Proof.Proj.InProj.lean ====
/- The main projection: the call and the reference leave the same array. -/
module

public import proofs.«01_k».proof.Defs
public import proofs.«01_k».proof.Proof.Gen.InProjIdeal
public import proofs.«01_k».proof.Proof.Gen.InProjIdeal.Value
public import proofs.«01_k».proof.Proof.Gen.InProjRefIdeal
public import proofs.«01_k».proof.Proof.Gen.InProjRefIdeal.Run
public import Idealize.ShloMosaic.Lib.Pipeline.ValueKit
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.InProjIdeal.Value

open Cert.InProjIdeal Cert.InProjIdeal.Gen

/-- The column of the weights behind column `l` of the result: the columns of the values are skipped. -/
def col (l : Fin 14336) : Fin 16384 := ⟨if (l : ℕ) < 4096 then l else l + 2048, by split <;> omega⟩

/-- The product of a row of `A` and a column of `W`. -/
def proj (A : FVec Ideal S8192x4096 .bf16) (W : FVec Ideal S4096x16384 .f32) : FVec Ideal S8192x14336 .f32 :=
  fun i => (∑ k : Fin 4096, A (ix2 (i 0) k) * W (ix2 k (col (i 1))) : EReal)

variable (m : (ℓ : Loc nD τ sig) → Buf (Elt Ideal) ℓ)

theorem idx : ∀ t : Fin cfg0.N, win0_0.index t = ![(grid0.coords t 0).val, 0]
    ∧ win0_1.index t = ![0, if (grid0.coords t 1).val < 8 then (grid0.coords t 1).val else (grid0.coords t 1).val + 4]
    ∧ win0_2.index t = ![(grid0.coords t 0).val, (grid0.coords t 1).val] :=
  (by decide +kernel : ∀ t : Fin grid0.N, _)

/-- The array after the run. -/
theorem final (c : Dev nD) : (dats m 0 c).arrAt 2 (cfgs 0).N
    = proj (m ((c : Thread nD τ).loc main_arg0)) (m ((c : Thread nD τ).loc main_arg1)) := by
  refine (dats m 0 c).arrAt_eq_of_covers 2 _ (by decide +kernel) fun t _ y => ?_
  blk_simp
  rw [after0_2]
  frame_out
  pointwise [k0_pay1, proj, col]
  blk_point [iblk, V, idx t]
  all_goals (split <;> split <;> omega)

end Cert.InProjIdeal.Value

namespace Cert.Proof.InProjClaims

theorem frame_r : quiescent_InProjRefIdeal (hInProjRefIdeal := Cert.InProjRefIdeal.Gen.facts) := fun m ρ _ =>
  (θ_run Cert.InProjRefIdeal.defs _ _).mono (fun r h => ⟨fun c => (h c).2, Idealize.ShloMosaic.sem_eq_zero_of_no_sems (by decide) r.2⟩)
    (Cert.InProjRefIdeal.Value.run (F := Ideal) m ρ)

theorem algebraic : algebraic_InProjIdeal_InProjRefIdeal (hInProjIdeal := Cert.InProjIdeal.Gen.facts) (hInProjRefIdeal := Cert.InProjRefIdeal.Gen.facts) := by
  intro m ρ m' ρ' _ hagree
  refine ⟨_, (θ_run Cert.InProjIdeal.defs _ _).mono (fun _ h c => ⟨(h c).1.trans (Cert.InProjIdeal.Value.final m c), (h c).2⟩)
    (Cert.InProjIdeal.Value.run_blocks (F := Ideal) m ρ), ?_⟩
  refine (θ_run Cert.InProjRefIdeal.defs _ _).mono (fun _ h c => ⟨(h c).1.trans ?_, (h c).2⟩) (Cert.InProjRefIdeal.Value.run (F := Ideal) m' ρ')
  rw [(hagree c).1, (hagree c).2]
  funext i
  idx_vars i
  pointwise [Cert.InProjIdeal.Value.proj, Cert.InProjIdeal.Value.col]
  split_ifs <;> refine Finset.sum_congr rfl fun k _ => congrArg₂ (· * ·) rfl (congrArg (fun l => m (c.tc.loc Cert.InProjIdeal.main_arg1) (ix2 k l)) (Fin.ext ?_)) <;> (show _ = _) <;> simp only [] <;> (try split) <;> omega

end Cert.Proof.InProjClaims

end
-- ==== Proof.Proj.VProj.lean ====
/- The values' projection, transposed: the call and the reference leave the same array. -/
module

public import proofs.«01_k».proof.Defs
public import proofs.«01_k».proof.Proof.Gen.VProjIdeal
public import proofs.«01_k».proof.Proof.Gen.VProjIdeal.Value
public import proofs.«01_k».proof.Proof.Gen.VProjRefIdeal
public import proofs.«01_k».proof.Proof.Gen.VProjRefIdeal.Run
public import Idealize.ShloMosaic.Lib.Pipeline.ValueKit
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.VProjIdeal.Value

open Cert.VProjIdeal Cert.VProjIdeal.Gen

/-- At (channel, token): the product of the token's row of `A` and the channel's column of `W`, among the values' columns. -/
def vproj (A : FVec Ideal S8192x4096 .bf16) (W : FVec Ideal S4096x16384 .f32) : FVec Ideal S2048x8192 .bf16 :=
  fun i => (∑ k : Fin 4096, A (ix2 (i 1) k) * W (ix2 k (⟨4096 + (i 0 : ℕ), by have : (i 0 : ℕ) < 2048 := (i 0).isLt; omega⟩ : Fin 16384)) : EReal)

variable (m : (ℓ : Loc nD τ sig) → Buf (Elt Ideal) ℓ)

theorem idx : ∀ t : Fin cfg0.N, win0_0.index t = ![(grid0.coords t 0).val, 0]
    ∧ win0_1.index t = ![0, 8 + (grid0.coords t 1).val]
    ∧ win0_2.index t = ![(grid0.coords t 1).val, (grid0.coords t 0).val] :=
  (by decide +kernel : ∀ t : Fin grid0.N, _)

/-- The array after the run. -/
theorem final (c : Dev nD) : (dats m 0 c).arrAt 2 (cfgs 0).N
    = vproj (m ((c : Thread nD τ).loc main_arg0)) (m ((c : Thread nD τ).loc main_arg1)) := by
  refine (dats m 0 c).arrAt_eq_of_covers 2 _ (by decide +kernel) fun t _ y => ?_
  blk_simp
  rw [after0_2]
  frame_out
  pointwise [k0_pay1, vproj]
  blk_point [iblk, V, idx t]

end Cert.VProjIdeal.Value

namespace Cert.Proof.VProjClaims

theorem frame_r : quiescent_VProjRefIdeal (hVProjRefIdeal := Cert.VProjRefIdeal.Gen.facts) := fun m ρ _ =>
  (θ_run Cert.VProjRefIdeal.defs _ _).mono (fun r h => ⟨fun c => (h c).2, Idealize.ShloMosaic.sem_eq_zero_of_no_sems (by decide) r.2⟩)
    (Cert.VProjRefIdeal.Value.run (F := Ideal) m ρ)

theorem algebraic : algebraic_VProjIdeal_VProjRefIdeal (hVProjIdeal := Cert.VProjIdeal.Gen.facts) (hVProjRefIdeal := Cert.VProjRefIdeal.Gen.facts) := by
  intro m ρ m' ρ' _ hagree
  refine ⟨_, (θ_run Cert.VProjIdeal.defs _ _).mono (fun _ h c => ⟨(h c).1.trans (Cert.VProjIdeal.Value.final m c), (h c).2⟩)
    (Cert.VProjIdeal.Value.run_blocks (F := Ideal) m ρ), ?_⟩
  refine (θ_run Cert.VProjRefIdeal.defs _ _).mono (fun _ h c => ⟨(h c).1.trans ?_, (h c).2⟩) (Cert.VProjRefIdeal.Value.run (F := Ideal) m' ρ')
  rw [(hagree c).1, (hagree c).2]
  funext i
  idx_vars i
  pointwise [Cert.VProjIdeal.Value.vproj]

end Cert.Proof.VProjClaims

end
-- ==== Proof.Proj.Glu.lean ====
/- The gated output of the state space branch: the call and the reference leave the same array. -/
module

public import proofs.«01_k».proof.Defs
public import proofs.«01_k».proof.Proof.Gen.GluIdeal
public import proofs.«01_k».proof.Proof.Gen.GluIdeal.Value
public import proofs.«01_k».proof.Proof.Gen.GluRefIdeal
public import proofs.«01_k».proof.Proof.Gen.GluRefIdeal.Run
public import Idealize.ShloMosaic.Lib.Pipeline.ValueKit
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.GluIdeal.Value

open Cert.GluIdeal Cert.GluIdeal.Gen

/-- The product of a row of `Y` and a column `l` of `W`. -/
def prod (Y : FVec Ideal S8192x2048 .bf16) (W : FVec Ideal S2048x4096 .f32) (t : Fin 8192) (l : Fin 4096) : EReal :=
  ∑ k : Fin 2048, Y (ix2 t k) * W (ix2 k l)

/-- The first half of the columns, under the logistic function of the second. -/
def glu (Y : FVec Ideal S8192x2048 .bf16) (W : FVec Ideal S2048x4096 .f32) : FVec Ideal S8192x2048 .bf16 :=
  fun i => (prod Y W (i 0) ⟨(i 1 : ℕ), by have : (i 1 : ℕ) < 2048 := (i 1).isLt; omega⟩
    * Ideal.logistic (prod Y W (i 0) ⟨2048 + (i 1 : ℕ), by have : (i 1 : ℕ) < 2048 := (i 1).isLt; omega⟩) : EReal)

variable (m : (ℓ : Loc nD τ sig) → Buf (Elt Ideal) ℓ)

theorem idx : ∀ t : Fin cfg0.N, win0_0.index t = ![(grid0.coords t 0).val, 0]
    ∧ win0_1.index t = ![0, (grid0.coords t 1).val]
    ∧ win0_2.index t = ![0, (grid0.coords t 1).val + 4]
    ∧ win0_3.index t = ![(grid0.coords t 0).val, (grid0.coords t 1).val] :=
  (by decide +kernel : ∀ t : Fin grid0.N, _)

/-- The array after the run. -/
theorem final (c : Dev nD) : (dats m 0 c).arrAt 3 (cfgs 0).N
    = glu (m ((c : Thread nD τ).loc main_arg0)) (m ((c : Thread nD τ).loc main_arg1)) := by
  refine (dats m 0 c).arrAt_eq_of_covers 3 _ (by decide +kernel) fun t _ y => ?_
  blk_simp
  rw [after0_3]
  frame_out
  pointwise [k0_pay1, glu, prod]
  blk_point [iblk, V, idx t]

end Cert.GluIdeal.Value

namespace Cert.Proof.GluClaims

theorem frame_r : quiescent_GluRefIdeal (hGluRefIdeal := Cert.GluRefIdeal.Gen.facts) := fun m ρ _ =>
  (θ_run Cert.GluRefIdeal.defs _ _).mono (fun r h => ⟨fun c => (h c).2, Idealize.ShloMosaic.sem_eq_zero_of_no_sems (by decide) r.2⟩)
    (Cert.GluRefIdeal.Value.run (F := Ideal) m ρ)

theorem algebraic : algebraic_GluIdeal_GluRefIdeal (hGluIdeal := Cert.GluIdeal.Gen.facts) (hGluRefIdeal := Cert.GluRefIdeal.Gen.facts) := by
  intro m ρ m' ρ' _ hagree
  refine ⟨_, (θ_run Cert.GluIdeal.defs _ _).mono (fun _ h c => ⟨(h c).1.trans (Cert.GluIdeal.Value.final m c), (h c).2⟩)
    (Cert.GluIdeal.Value.run_blocks (F := Ideal) m ρ), ?_⟩
  refine (θ_run Cert.GluRefIdeal.defs _ _).mono (fun _ h c => ⟨(h c).1.trans ?_, (h c).2⟩) (Cert.GluRefIdeal.Value.run (F := Ideal) m' ρ')
  rw [(hagree c).1, (hagree c).2]
  funext i
  idx_vars i
  pointwise [Cert.GluIdeal.Value.glu, Cert.GluIdeal.Value.prod]
  rfl

end Cert.Proof.GluClaims

end
-- ==== Proof.Proj.Mixed.lean ====
/- The two branches' output products under their gates: the call and the reference leave the same array. -/
module

public import proofs.«01_k».proof.Defs
public import proofs.«01_k».proof.Proof.Gen.MixedIdeal
public import proofs.«01_k».proof.Proof.Gen.MixedIdeal.Value
public import proofs.«01_k».proof.Proof.Gen.MixedRefIdeal
public import proofs.«01_k».proof.Proof.Gen.MixedRefIdeal.Run
public import Idealize.ShloMosaic.Lib.Pipeline.ValueKit
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.MixedIdeal.Value

open Cert.MixedIdeal Cert.MixedIdeal.Gen

/-- The product of a row of `Y` and a column of `W`. -/
def prod (Y : FVec Ideal S8192x2048 .bf16) (W : FVec Ideal S2048x4096 .f32) (t : Fin 8192) (l : Fin 4096) : EReal :=
  ∑ k : Fin 2048, Y (ix2 t k) * W (ix2 k l)

/-- The products of the two branches, each under the logistic function of its gate: the columns of `P` from 6144 on for the
    attention, from 10240 on for the state space branch. -/
def mixed (YA YS : FVec Ideal S8192x2048 .bf16) (WA WS : FVec Ideal S2048x4096 .f32) (P : FVec Ideal S8192x14336 .f32) : FVec Ideal S8192x4096 .bf16 :=
  fun i => (Ideal.logistic (P (ix2 (i 0) (⟨6144 + (i 1 : ℕ), by have : (i 1 : ℕ) < 4096 := (i 1).isLt; omega⟩ : Fin 14336))) * prod YA WA (i 0) (i 1)
    + Ideal.logistic (P (ix2 (i 0) (⟨10240 + (i 1 : ℕ), by have : (i 1 : ℕ) < 4096 := (i 1).isLt; omega⟩ : Fin 14336))) * prod YS WS (i 0) (i 1) : EReal)

variable (m : (ℓ : Loc nD τ sig) → Buf (Elt Ideal) ℓ)

theorem idx : ∀ t : Fin cfg0.N, win0_0.index t = ![0, (grid0.coords t 1).val]
    ∧ win0_1.index t = ![(grid0.coords t 0).val, 0]
    ∧ win0_2.index t = ![(grid0.coords t 0).val, 0]
    ∧ win0_3.index t = ![0, (grid0.coords t 1).val]
    ∧ win0_4.index t = ![(grid0.coords t 0).val, 24 + (grid0.coords t 1).val]
    ∧ win0_5.index t = ![(grid0.coords t 0).val, 40 + (grid0.coords t 1).val]
    ∧ win0_6.index t = ![(grid0.coords t 0).val, (grid0.coords t 1).val] :=
  (by decide +kernel : ∀ t : Fin grid0.N, _)

/-- The array after the run. -/
theorem final (c : Dev nD) : (dats m 0 c).arrAt 6 (cfgs 0).N
    = mixed (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 6 _ (by decide +kernel) fun t _ y => ?_
  blk_simp
  rw [after0_6]
  frame_out
  pointwise [k0_pay1, mixed, prod]
  blk_point [iblk, V, idx t]

end Cert.MixedIdeal.Value

namespace Cert.Proof.MixedClaims

theorem frame_r : quiescent_MixedRefIdeal (hMixedRefIdeal := Cert.MixedRefIdeal.Gen.facts) := fun m ρ _ =>
  (θ_run Cert.MixedRefIdeal.defs _ _).mono (fun r h => ⟨fun c => (h c).2, Idealize.ShloMosaic.sem_eq_zero_of_no_sems (by decide) r.2⟩)
    (Cert.MixedRefIdeal.Value.run (F := Ideal) m ρ)

theorem algebraic : algebraic_MixedIdeal_MixedRefIdeal (hMixedIdeal := Cert.MixedIdeal.Gen.facts) (hMixedRefIdeal := Cert.MixedRefIdeal.Gen.facts) := by
  intro m ρ m' ρ' _ hagree
  refine ⟨_, (θ_run Cert.MixedIdeal.defs _ _).mono (fun _ h c => ⟨(h c).1.trans (Cert.MixedIdeal.Value.final m c), (h c).2⟩)
    (Cert.MixedIdeal.Value.run_blocks (F := Ideal) m ρ), ?_⟩
  refine (θ_run Cert.MixedRefIdeal.defs _ _).mono (fun _ h c => ⟨(h c).1.trans ?_, (h c).2⟩) (Cert.MixedRefIdeal.Value.run (F := Ideal) m' ρ')
  obtain ⟨h0, h1, h2, h3, h4⟩ := hagree c
  rw [h0, h1, h2, h3, h4]
  funext i
  idx_vars i
  pointwise [Cert.MixedIdeal.Value.mixed, Cert.MixedIdeal.Value.prod]
  rfl

end Cert.Proof.MixedClaims

end
-- ==== Proof.Proj.OutResid.lean ====
/- The output product added to the layer's input: the call and the reference leave the same array. -/
module

public import proofs.«01_k».proof.Defs
public import proofs.«01_k».proof.Proof.Gen.OutResidIdeal
public import proofs.«01_k».proof.Proof.Gen.OutResidIdeal.Value
public import proofs.«01_k».proof.Proof.Gen.OutResidRefIdeal
public import proofs.«01_k».proof.Proof.Gen.OutResidRefIdeal.Run
public import Idealize.ShloMosaic.Lib.Pipeline.ValueKit
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.OutResidIdeal.Value

open Cert.OutResidIdeal Cert.OutResidIdeal.Gen

/-- Every entry of the input, plus the product of its row of `A` and its column of `W`. -/
def resid (A : FVec Ideal S8192x4096 .bf16) (W : FVec Ideal S4096x4096 .f32) (H : FVec Ideal S8192x4096 .f32) : FVec Ideal S8192x4096 .f32 :=
  fun i => (H i + ∑ k : Fin 4096, A (ix2 (i 0) k) * W (ix2 k (i 1)) : EReal)

variable (m : (ℓ : Loc nD τ sig) → Buf (Elt Ideal) ℓ)

theorem idx : ∀ t : Fin cfg0.N, win0_0.index t = ![(grid0.coords t 0).val, 0] ∧ win0_1.index t = ![0, (grid0.coords t 1).val]
    ∧ win0_2.index t = ![(grid0.coords t 0).val, (grid0.coords t 1).val] ∧ win0_3.index t = ![(grid0.coords t 0).val, (grid0.coords t 1).val] :=
  (by decide +kernel : ∀ t : Fin grid0.N, _)

/-- The array after the run. -/
theorem final (c : Dev nD) : (dats m 0 c).arrAt 3 (cfgs 0).N
    = resid (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  pointwise [k0_pay1, resid]
  blk_point [iblk, V, idx t]

end Cert.OutResidIdeal.Value

namespace Cert.Proof.OutResidClaims

theorem frame_r : quiescent_OutResidRefIdeal (hOutResidRefIdeal := Cert.OutResidRefIdeal.Gen.facts) := fun m ρ _ =>
  (θ_run Cert.OutResidRefIdeal.defs _ _).mono (fun r h => ⟨fun c => (h c).2, Idealize.ShloMosaic.sem_eq_zero_of_no_sems (by decide) r.2⟩)
    (Cert.OutResidRefIdeal.Value.run (F := Ideal) m ρ)

theorem algebraic : algebraic_OutResidIdeal_OutResidRefIdeal (hOutResidIdeal := Cert.OutResidIdeal.Gen.facts) (hOutResidRefIdeal := Cert.OutResidRefIdeal.Gen.facts) := by
  intro m ρ m' ρ' _ hagree
  refine ⟨_, (θ_run Cert.OutResidIdeal.defs _ _).mono (fun _ h c => ⟨(h c).1.trans (Cert.OutResidIdeal.Value.final m c), (h c).2⟩)
    (Cert.OutResidIdeal.Value.run_blocks (F := Ideal) m ρ), ?_⟩
  refine (θ_run Cert.OutResidRefIdeal.defs _ _).mono (fun _ h c => ⟨(h c).1.trans ?_, (h c).2⟩) (Cert.OutResidRefIdeal.Value.run (F := Ideal) m' ρ')
  rw [(hagree c).1, (hagree c).2.1, (hagree c).2.2]
  funext i
  idx_vars i
  pointwise [Cert.OutResidIdeal.Value.resid]

end Cert.Proof.OutResidClaims

end
-- ==== Proof.Proj.Norm.lean ====
/- The norm before the projections: the call and the reference leave the same array. -/
module

public import proofs.«01_k».proof.Defs
public import proofs.«01_k».proof.Proof.Gen.NormIdeal
public import proofs.«01_k».proof.Proof.Gen.NormIdeal.Value
public import proofs.«01_k».proof.Proof.Gen.NormRefIdeal
public import proofs.«01_k».proof.Proof.Gen.NormRefIdeal.Run
public import Idealize.ShloMosaic.Lib.Pipeline.ValueKit
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.NormIdeal.Value

open Cert.NormIdeal Cert.NormIdeal.Gen

/-- Each row over the root of its mean square, times the gain. -/
def spec (X : FVec Ideal S8192x4096 .f32) (G : FVec Ideal S4096 .f32) : FVec Ideal S8192x4096 .bf16 :=
  fun i => (X i * Ideal.rsqrt (Ideal.div (∑ k : Fin 4096, X (ix2 (i 0) k) * X (ix2 (i 0) k)) (Ideal.ofBits .f32 0x45800000#32)
    + Ideal.ofBits .f32 0x358637BD#32) * G (ix1 (i 1)) : EReal)

variable (m : (ℓ : Loc nD τ sig) → Buf (Elt Ideal) ℓ)

theorem idx : ∀ t : Fin cfg0.N, win0_0.index t = ![(grid0.coords t 0).val, 0]
    ∧ win0_1.index t = ![0, 0]
    ∧ win0_2.index t = ![(grid0.coords t 0).val, 0] :=
  (by decide +kernel : ∀ t : Fin grid0.N, _)

/-- The array after the run. -/
theorem final (c : Dev nD) : (dats m 0 c).arrAt 2 (cfgs 0).N
    = spec (m ((c : Thread nD τ).loc main_arg0)) (m ((c : Thread nD τ).loc main_arg1)) := by
  refine (dats m 0 c).arrAt_eq_of_covers 2 _ (by decide +kernel) fun t _ y => ?_
  blk_simp
  rw [after0_2]
  frame_out
  pointwise [k0_pay1, spec]
  blk_point [iblk, V, idx t]

end Cert.NormIdeal.Value

namespace Cert.Proof.NormClaims

theorem frame_r : quiescent_NormRefIdeal (hNormRefIdeal := Cert.NormRefIdeal.Gen.facts) := fun m ρ _ =>
  (θ_run Cert.NormRefIdeal.defs _ _).mono (fun r h => ⟨fun c => (h c).2, Idealize.ShloMosaic.sem_eq_zero_of_no_sems (by decide) r.2⟩)
    (Cert.NormRefIdeal.Value.run (F := Ideal) m ρ)

theorem algebraic : algebraic_NormIdeal_NormRefIdeal (hNormIdeal := Cert.NormIdeal.Gen.facts) (hNormRefIdeal := Cert.NormRefIdeal.Gen.facts) := by
  intro m ρ m' ρ' _ hagree
  refine ⟨_, (θ_run Cert.NormIdeal.defs _ _).mono (fun _ h c => ⟨(h c).1.trans (Cert.NormIdeal.Value.final m c), (h c).2⟩)
    (Cert.NormIdeal.Value.run_blocks (F := Ideal) m ρ), ?_⟩
  refine (θ_run Cert.NormRefIdeal.defs _ _).mono (fun _ h c => ⟨(h c).1.trans ?_, (h c).2⟩) (Cert.NormRefIdeal.Value.run (F := Ideal) m' ρ')
  rw [(hagree c).1, (hagree c).2]
  funext i
  idx_vars i
  pointwise [Cert.NormIdeal.Value.spec]

end Cert.Proof.NormClaims

end
-- ==== Proof.Route.Pick.lean ====
/- The best and the second best of eight, as the first two places of a stable sort, and how a row of 128 lanes finds them. -/
module

public import proofs.«01_k».proof.Proof.Attn.TopK

@[expose] public section

noncomputable section

open Idealize.ShloMosaic

namespace Cert.Route

open Cert.Attn

/-- The position of the entry at place `k` of the stable sort, greater first. -/
def pick (f : Fin 8 → EReal) (k : Fin 8) : Fin 8 := sortedFrom (before f) k

variable (f : Fin 8 → EReal)

open Classical in
/-- Nothing beats the first. -/
theorem not_beats_first (i : Fin 8) : ¬ Beats f i (pick f 0) := by
  have h : (Finset.univ.filter fun i => Beats f i (pick f 0)).card = 0 := rank_sorted f 0
  intro hb
  rw [Finset.card_eq_zero] at h
  have : i ∈ Finset.univ.filter fun i => Beats f i (pick f 0) := Finset.mem_filter.mpr ⟨Finset.mem_univ i, hb⟩
  rw [h] at this
  exact absurd this (Finset.notMem_empty i)

theorem le_first (i : Fin 8) : f i ≤ f (pick f 0) :=
  not_lt.mp fun h => not_beats_first f i (.inl h)

theorem first_le (i : Fin 8) (h : f i = f (pick f 0)) : pick f 0 ≤ i :=
  not_lt.mp fun hl => not_beats_first f i (.inr ⟨h, hl⟩)

theorem second_ne : pick f 1 ≠ pick f 0 := fun e => absurd (sortedFrom_injective (before f) e) (by decide)

open Classical in
/-- Only the first beats the second. -/
theorem eq_first_of_beats (i : Fin 8) (h : Beats f i (pick f 1)) : i = pick f 0 := by
  have hc : (Finset.univ.filter fun i => Beats f i (pick f 1)).card = 1 := rank_sorted f 1
  have h0 : Beats f (pick f 0) (pick f 1) := by
    by_contra hn
    unfold Beats at hn
    push Not at hn
    have e := le_antisymm hn.1 (le_first f (pick f 1))
    exact absurd (hn.2 e) (not_le.mpr (lt_of_le_of_ne (first_le f _ e.symm) (second_ne f).symm))
  obtain ⟨a, ha⟩ := Finset.card_eq_one.mp hc
  have mem : ∀ i, Beats f i (pick f 1) → i = a := fun i hi => by
    have : i ∈ Finset.univ.filter fun i => Beats f i (pick f 1) := Finset.mem_filter.mpr ⟨Finset.mem_univ i, hi⟩
    rw [ha] at this
    exact Finset.mem_singleton.mp this
  rw [mem i h, mem _ h0]

theorem le_second (i : Fin 8) (h : i ≠ pick f 0) : f i ≤ f (pick f 1) :=
  not_lt.mp fun hl => h (eq_first_of_beats f i (.inl hl))

theorem second_le (i : Fin 8) (h : i ≠ pick f 0) (e : f i = f (pick f 1)) : pick f 1 ≤ i :=
  not_lt.mp fun hl => h (eq_first_of_beats f i (.inr ⟨e, hl⟩))

/-! ## A row of 128 lanes -/

variable (v : Fin 128 → EReal) (p : Fin 128)

/-- The largest lane. -/
theorem fold_max (h : ∀ l, v l ≤ v p) : Finset.univ.fold max ⊥ v = v p :=
  le_antisymm (Finset.fold_max_le _ |>.mpr ⟨bot_le, fun l _ => h l⟩) ((Finset.le_fold_max _).mpr (.inr ⟨p, Finset.mem_univ p, le_rfl⟩))

/-- The first of the largest lanes: the least lane number among them, 128 standing for the others. -/
theorem fold_min (x : EReal) [∀ l, Decidable (v l = x)] (hx : x = v p) (h : ∀ l, v l = v p → p ≤ l) :
    Finset.univ.fold min ⊤ (fun l : Fin 128 => if v l = x then (((l : ℕ) : ℝ) : EReal) else ((128 : ℝ) : EReal)) = (((p : ℕ) : ℝ) : EReal) := by
  subst hx
  refine le_antisymm ((Finset.fold_min_le _).mpr (.inr ⟨p, Finset.mem_univ p, by rw [if_pos rfl]⟩)) ((Finset.le_fold_min _).mpr ⟨le_top, fun l _ => ?_⟩)
  split
  · next e => rw [EReal.coe_le_coe_iff]; exact_mod_cast h l e
  · rw [EReal.coe_le_coe_iff]; exact_mod_cast p.isLt.le

/-- The lanes from `o` on hold `f`, the others nothing. -/
def lanes (o : ℕ) (l : Fin 128) : EReal :=
  if h : o ≤ (l : ℕ) ∧ (l : ℕ) < o + 8 then f ⟨l - o, by omega⟩ else ⊥

/-- The lane of place `j`. -/
def lane (o : ℕ) (ho : o ≤ 120) (j : Fin 8) : Fin 128 := ⟨o + j, by omega⟩

theorem lanes_lane (o : ℕ) (ho : o ≤ 120) (j : Fin 8) : lanes f o (lane o ho j) = f j := by
  unfold lanes lane
  rw [dif_pos ⟨by dsimp only; omega, by dsimp only; omega⟩]
  exact congrArg f (Fin.ext (by dsimp only; omega))

/-- A lane is that of a place, or it holds nothing. -/
theorem lane_or (o : ℕ) (ho : o ≤ 120) (l : Fin 128) : (∃ j, l = lane o ho j) ∨ lanes f o l = ⊥ := by
  by_cases h : o ≤ (l : ℕ) ∧ (l : ℕ) < o + 8
  · exact .inl ⟨⟨l - o, by omega⟩, Fin.ext (by unfold lane; dsimp only; omega)⟩
  · exact .inr (dif_neg h)

variable (o : ℕ) (ho : o ≤ 120)

theorem lanes_le (l : Fin 128) : lanes f o l ≤ lanes f o (lane o ho (pick f 0)) := by
  rw [lanes_lane]
  rcases lane_or f o ho l with ⟨j, rfl⟩ | h
  · rw [lanes_lane]; exact le_first f j
  · rw [h]; exact bot_le

theorem lanes_first (hf : ∀ j, f j ≠ ⊥) (l : Fin 128) (e : lanes f o l = lanes f o (lane o ho (pick f 0))) : lane o ho (pick f 0) ≤ l := by
  rw [lanes_lane] at e
  rcases lane_or f o ho l with ⟨j, rfl⟩ | h
  · rw [lanes_lane] at e
    have := first_le f j e
    unfold lane
    rw [Fin.le_def] at *
    dsimp only; omega
  · exact absurd (e.symm.trans h) (hf _)

/-- The lanes without the first. -/
def rest (l : Fin 128) : EReal := if l = lane o ho (pick f 0) then ⊥ else lanes f o l

theorem lane_inj {i j : Fin 8} (h : lane o ho i = lane o ho j) : i = j := by
  have := congrArg Fin.val h
  unfold lane at this
  dsimp only at this
  exact Fin.ext (by omega)

theorem rest_second : rest f o ho (lane o ho (pick f 1)) = f (pick f 1) := by
  unfold rest
  rw [if_neg fun h => second_ne f (lane_inj o ho h), lanes_lane]

theorem rest_le (l : Fin 128) : rest f o ho l ≤ rest f o ho (lane o ho (pick f 1)) := by
  rw [rest_second]
  unfold rest
  split
  · exact bot_le
  · next hn =>
    rcases lane_or f o ho l with ⟨j, rfl⟩ | h
    · rw [lanes_lane]; exact le_second f j fun e => hn (e ▸ rfl)
    · rw [h]; exact bot_le

theorem rest_first (hf : ∀ j, f j ≠ ⊥) (l : Fin 128) (e : rest f o ho l = rest f o ho (lane o ho (pick f 1))) : lane o ho (pick f 1) ≤ l := by
  rw [rest_second] at e
  unfold rest at e
  split at e
  · exact absurd e.symm (hf _)
  · next hn =>
    rcases lane_or f o ho l with ⟨j, rfl⟩ | h
    · rw [lanes_lane] at e
      have := second_le f j (fun e => hn (e ▸ rfl)) e
      unfold lane
      rw [Fin.le_def] at *
      dsimp only; omega
    · exact absurd (e.symm.trans h) (hf _)

end Cert.Route

end
-- ==== Proof.Route.Spec.lean ====
/- What the router leaves for a row, from its 8 group logits followed by its 64 expert logits. -/
module

public import proofs.«01_k».proof.Proof.Route.Pick

@[expose] public section

noncomputable section

open Idealize.ShloMosaic

namespace Cert.Route

/-- A row's logits: the groups' first, then the experts', group after group. -/
abbrev Logits := Fin 72 → EReal

def groups (L : Logits) : Fin 8 → EReal := fun j => L ⟨j, by omega⟩

/-- The chosen group. -/
def group (L : Logits) : Fin 8 := pick (groups L) 0

/-- The logits of the chosen group's experts. -/
def experts (L : Logits) : Fin 8 → EReal := fun j => L ⟨8 + 8 * (group L : ℕ) + j, by omega⟩

/-- The `k`-th chosen expert, counted over all groups. -/
def expert (L : Logits) (k : Fin 8) : ℕ := 8 * (group L : ℕ) + (pick (experts L) k : ℕ)

theorem expert_lt (L : Logits) (k : Fin 8) : expert L k < 64 := by unfold expert; omega

/-- The chosen group's weight among the groups. -/
def share (L : Logits) : EReal := Ideal.div 1 (∑ j : Fin 8, Ideal.exp (groups L j - groups L (group L)))

/-- The second expert's weight beside the first's. -/
def ratio (L : Logits) : EReal := Ideal.exp (experts L (pick (experts L) 1) - experts L (pick (experts L) 0))

/-- The two experts' numbers in the first two lanes. -/
def ids (L : Logits) (l : Fin 128) : BitVec 32 :=
  if (l : ℕ) = 0 then BitVec.ofNat 32 (expert L 0) else if (l : ℕ) = 1 then BitVec.ofNat 32 (expert L 1) else 0#32

/-- Their weights in the first two lanes. -/
def weights (L : Logits) (l : Fin 128) : EReal :=
  if (l : ℕ) = 0 then Ideal.div (share L) (1 + ratio L) else if (l : ℕ) = 1 then Ideal.div (share L * ratio L) (1 + ratio L) else 0

/-- How many of a block's rows chose the expert a lane stands for, lane 8 being the first expert's. -/
def counts (L : Fin 256 → Logits) (l : Fin 128) : EReal :=
  ∑ r, ((if (l : ℕ) = 8 + expert (L r) 0 then (1 : EReal) else 0) + if (l : ℕ) = 8 + expert (L r) 1 then (1 : EReal) else 0)

end Cert.Route

end
-- ==== Proof.Route.Kernel.lean ====
/- What the router's body finds in a row of logits: the best group, the two best of its experts, and their weights. -/
module

public import proofs.«01_k».proof.Proof.Route.Spec
public import proofs.«01_k».proof.Proof.Attn.Consts
public import proofs.«01_k».proof.Proof.Gen.RouterIdeal
public import proofs.«01_k».proof.Proof.Gen.RouterIdeal.Frame
public import Idealize.ShloMosaic.Lib.Pipeline.ValueKit

@[expose] public section

set_option maxRecDepth 16384

noncomputable section

open Idealize.ShloMosaic Idealize.ShloMosaic.TcCoe Idealize.SL.Sem

namespace Cert.Route

theorem w_128 : Ideal.ofBits .f32 0x43000000#32 = ((128 : ℝ) : EReal) := by
  simp [Ideal.ofBits, Ideal.ieee, -EReal.coe_mul]; norm_num

theorem w_8 : Ideal.ofBits .f32 0x41000000#32 = ((8 : ℝ) : EReal) := by
  simp [Ideal.ofBits, Ideal.ieee, -EReal.coe_mul]; norm_num

theorem select_and (p q : Prop) [Decidable p] [Decidable q] (a b : EReal) :
    Scalar.select (IntOp.andi (BitVec.ofBool (decide p)) (BitVec.ofBool (decide q))) a b = if p ∧ q then a else b := by
  by_cases hp : p <;> by_cases hq : q <;> simp [hp, hq, Scalar.select, IntOp.andi]

/-- A lane number, converted, is the number. -/
theorem lane_word : ∀ l : Fin 128, (BitVec.ofNat 32 (l : ℕ)).toInt = ((l : ℕ) : ℤ) := by
  decide +kernel

theorem lane_real (l : Fin 128) : FloatOps.sitofp (F := Ideal) FTy.f32 (BitVec.ofNat 32 (l : ℕ)) = (((l : ℕ) : ℝ) : EReal) := by
  show ((((BitVec.ofNat 32 (l : ℕ)).toInt : ℤ) : ℝ) : EReal) = _
  rw [lane_word]
  norm_cast

theorem lane_lt : ∀ l : Fin 128, IntOp.cmpi .slt (BitVec.ofNat 32 (l : ℕ)) 8#32 = BitVec.ofBool (decide ((l : ℕ) < 8)) := by
  decide +kernel

/-- The expert of a lane number, converted back to an integer. -/
theorem expert_word (n : ℕ) (hn : n < 64) : FloatOps.fptosi (F := Ideal) (φ := .f32) 32 ((((8 + n : ℕ) : ℝ) : EReal) - ((8 : ℝ) : EReal)) = BitVec.ofNat 32 n := by
  have e : ((((8 + n : ℕ) : ℝ) : EReal) - ((8 : ℝ) : EReal)) = (((n : ℕ) : ℝ) : EReal) := by
    rw [← EReal.coe_sub]; congr 1; push_cast; ring
  rw [e]
  show BitVec.ofInt 32 (max _ (min _ (if (0 : ℝ) ≤ (n : ℝ) then ⌊(n : ℝ)⌋ else ⌈(n : ℝ)⌉))) = _
  rw [if_pos (Nat.cast_nonneg n), Int.floor_natCast, min_eq_right (by norm_num; omega), max_eq_right (by norm_num)]
  rfl

end Cert.Route

namespace Cert.RouterIdeal.Route

open Cert.RouterIdeal Cert.RouterIdeal.Gen Cert.Route Cert.Attn

theorem pay3_at (r : Fin 256) (l : Fin 128) : k0_pay3 (F := Ideal) (ix2 r l) = (((l : ℕ) : ℝ) : EReal) := by
  pointwise [k0_pay3]
  exact lane_real l

/-- The lanes of the groups, the others masked. -/
theorem pay4_at (x0 : Vec Ideal S256x4096 .f32) (x1 : Vec Ideal S1x4096 .f32) (x2 x3 : Vec Ideal S4096x128 .bf16) (x4 : Vec Ideal S1x128 .f32)
    (r : Fin 256) (l : Fin 128) :
    k0_pay4 x0 x1 x2 x3 x4 (ix2 r l) = lanes (fun j => k0_pay2 x0 x1 x2 x3 x4 (ix2 r ⟨j, by omega⟩)) 0 l := by
  pointwise [k0_pay4]
  rw [lane_lt, Consts.w_bot]
  unfold lanes
  by_cases h : (l : ℕ) < 8
  · rw [dif_pos ⟨Nat.zero_le _, by omega⟩]; simp [h, Scalar.select]
  · rw [dif_neg (by omega)]; simp [h, Scalar.select]

variable (A v37 : FVec Ideal S256x128 .f32) (v39 : FVec Ideal S256x1 .f32) (r : Fin 256)

/-- A row of the logits: the groups', and those of the chosen group's experts. -/
structure Row (g e : Fin 8 → EReal) : Prop where
  groups : ∀ l, v37 (ix2 r l) = lanes g 0 l
  best : v39 (ix2 r 0) = g (pick g 0)
  experts : ∀ j : Fin 8, A (ix2 r ⟨8 + 8 * (pick g 0 : ℕ) + j, by omega⟩) = e j
  g_bot : ∀ j, g j ≠ ⊥
  e_bot : ∀ j, e j ≠ ⊥

variable {A v37 v39 r} {g e : Fin 8 → EReal} (h : Row A v37 v39 r g e)
include h

/-- The lane where the chosen group's experts begin. -/
theorem start_le : 8 + 8 * (pick g 0 : ℕ) ≤ 120 := by omega

/-- The lane of the `k`-th choice. -/
abbrev choice (g e : Fin 8 → EReal) (k : Fin 8) : Fin 128 := lane (8 + 8 * (pick g 0 : ℕ)) (by omega) (pick e k)

omit h in
theorem real_le (a b : ℕ) : ((a : ℝ) : EReal) ≤ ((b : ℝ) : EReal) ↔ a ≤ b := by
  rw [EReal.coe_le_coe_iff]; exact Nat.cast_le

omit h in
theorem real_lt (a b : ℕ) : ((a : ℝ) : EReal) < ((b : ℝ) : EReal) ↔ a < b := by
  rw [EReal.coe_lt_coe_iff]; exact Nat.cast_lt

/-- The lanes of the chosen group's experts, the others masked. -/
theorem pay7_at (l : Fin 128) : k0_pay7 A k0_pay3 v37 v39 (ix2 r l) = lanes e (8 + 8 * (pick g 0 : ℕ)) l := by
  have hm := fold_min (lanes g 0) (lane 0 (by omega) (pick g 0)) (g (pick g 0)) (lanes_lane g 0 (by omega) _).symm
    (lanes_first g 0 (by omega) h.g_bot)
  pointwise [k0_pay7]
  simp only [pay3_at, h.groups, h.best, w_128, w_8, Consts.w_bot, Consts.w_top, select_and]
  rw [hm, show (((lane 0 (by omega) (pick g 0) : Fin 128) : ℕ) : ℝ) = ((pick g 0 : ℕ) : ℝ) by unfold lane; simp]
  have e1 : ((8 : ℝ) : EReal) + (((pick g 0 : ℕ) : ℝ) : EReal) * ((8 : ℝ) : EReal) = (((8 + 8 * (pick g 0 : ℕ) : ℕ) : ℝ) : EReal) := by
    rw [← EReal.coe_mul, ← EReal.coe_add]; congr 1; push_cast; ring
  have e2 : (((8 + 8 * (pick g 0 : ℕ) : ℕ) : ℝ) : EReal) + ((8 : ℝ) : EReal) = (((8 + 8 * (pick g 0 : ℕ) + 8 : ℕ) : ℝ) : EReal) := by
    rw [← EReal.coe_add]; congr 1; push_cast; ring
  rw [e1, e2]
  unfold lanes
  simp only [real_le, real_lt]
  by_cases hl : 8 + 8 * (pick g 0 : ℕ) ≤ (l : ℕ) ∧ (l : ℕ) < 8 + 8 * (pick g 0 : ℕ) + 8
  · rw [if_pos hl, dif_pos hl, ← h.experts]
    refine congrArg A (congrArg (ix2 r) (Fin.ext ?_))
    dsimp only; omega
  · rw [if_neg hl, dif_neg hl]

theorem pay8_at : k0_pay8 A k0_pay3 v37 v39 (ix2 r 0) = e (pick e 0) := by
  pointwise [k0_pay8]
  simp only [pay7_at h, Consts.w_bot]
  rw [fold_max _ (choice g e 0) (lanes_le e _ _), lanes_lane]

theorem pay9_at : k0_pay9 A k0_pay3 v37 v39 (ix2 r 0) = (((choice g e 0 : ℕ) : ℝ) : EReal) := by
  pointwise [k0_pay9]
  simp only [pay7_at h, pay8_at h, pay3_at, w_128, Consts.w_top]
  exact fold_min _ (choice g e 0) _ (lanes_lane e _ _ _).symm (lanes_first e _ _ h.e_bot)

theorem pay10_at (l : Fin 128) : k0_pay10 A k0_pay3 v37 v39 (ix2 r l) = rest e (8 + 8 * (pick g 0 : ℕ)) (by omega) l := by
  pointwise [k0_pay10]
  simp only [pay7_at h, pay9_at h, pay3_at, Consts.w_bot]
  unfold rest
  refine if_congr ?_ rfl rfl
  rw [EReal.coe_eq_coe_iff, Nat.cast_inj, Fin.ext_iff]

theorem pay11_at : k0_pay11 A k0_pay3 v37 v39 (ix2 r 0) = e (pick e 1) := by
  pointwise [k0_pay11]
  simp only [pay10_at h, Consts.w_bot]
  rw [fold_max _ (choice g e 1) (rest_le e _ _), rest_second]

theorem pay12_at : k0_pay12 A k0_pay3 v37 v39 (ix1 r) = (((choice g e 1 : ℕ) : ℝ) : EReal) := by
  pointwise [k0_pay12]
  simp only [pay10_at h, pay11_at h, pay3_at, w_128, Consts.w_top]
  exact fold_min _ (choice g e 1) _ (rest_second e _ _).symm (rest_first e _ _ h.e_bot)

omit h in
theorem sum_lanes (x : EReal) : ∑ l : Fin 128, Ideal.exp (lanes g 0 l - x) = ∑ j : Fin 8, Ideal.exp (g j - x) := by
  refine (Fin.sum_univ_add (a := 8) (b := 120) fun l : Fin 128 => Ideal.exp (lanes g 0 l - x)).trans ?_
  have e1 : ∀ j : Fin 8, lanes g 0 (Fin.castAdd 120 j : Fin 128) = g j := fun j => by
    unfold lanes
    rw [dif_pos ⟨Nat.zero_le _, by simp⟩]
    rfl
  have e2 : ∀ j : Fin 120, lanes g 0 (Fin.natAdd 8 j : Fin 128) = ⊥ := fun j => dif_neg (by simp)
  simp only [e1, e2, sub_eq_add_neg, EReal.bot_add, Ideal.exp_bot, Finset.sum_const_zero, add_zero]

/-- The weight of the chosen group. -/
theorem pay6_at : k0_pay6 v37 v39 (ix2 r 0) = Ideal.div 1 (∑ j : Fin 8, Ideal.exp (g j - g (pick g 0))) := by
  pointwise [k0_pay6]
  simp only [h.groups, h.best, sum_lanes]

end Cert.RouterIdeal.Route

end
-- ==== Proof.Route.Body.lean ====
/- What the router's body leaves for a row, in terms of the row's logits. -/
module

public import proofs.«01_k».proof.Proof.Route.Kernel

@[expose] public section

set_option maxRecDepth 16384

noncomputable section

open Idealize.ShloMosaic Idealize.ShloMosaic.TcCoe Idealize.SL.Sem

namespace Cert.RouterIdeal.Route

open Cert.RouterIdeal Cert.RouterIdeal.Gen Cert.Route Cert.Attn

theorem lane_is0 : ∀ l : Fin 128, IntOp.cmpi .eq (BitVec.ofNat 32 (l : ℕ)) 0#32 = BitVec.ofBool (decide ((l : ℕ) = 0)) := by
  decide +kernel

theorem lane_is1 : ∀ l : Fin 128, IntOp.cmpi .eq (BitVec.ofNat 32 (l : ℕ)) 1#32 = BitVec.ofBool (decide ((l : ℕ) = 1)) := by
  decide +kernel

theorem select_ofBool {α : Type} (p : Prop) [Decidable p] (a b : α) : Scalar.select (BitVec.ofBool (decide p)) a b = if p then a else b := by
  by_cases hp : p <;> simp [hp, Scalar.select]

variable (x0 : Vec Ideal S256x4096 .f32) (x1 : Vec Ideal S1x4096 .f32) (x2 x3 : Vec Ideal S4096x128 .bf16) (x4 : Vec Ideal S1x128 .f32)
  (r : Fin 256) (L : Logits)

/-- The body's logits of a row are `L`, all real. -/
structure Reads : Prop where
  logit : ∀ l : Fin 72, k0_pay2 x0 x1 x2 x3 x4 (ix2 r ⟨l, by omega⟩) = L l
  bot : ∀ l, L l ≠ ⊥

variable {x0 x1 x2 x3 x4 r L} (h : Reads x0 x1 x2 x3 x4 r L)
include h

theorem row : Row (k0_pay2 x0 x1 x2 x3 x4) (k0_pay4 x0 x1 x2 x3 x4) (k0_pay5 x0 x1 x2 x3 x4) r (groups L) (experts L) where
  groups l := by
    rw [pay4_at]
    exact congrArg (fun g => lanes g 0 l) (funext fun j => h.logit ⟨j, by omega⟩)
  best := by
    have e : (fun j : Fin 8 => k0_pay2 x0 x1 x2 x3 x4 (ix2 r ⟨j, by omega⟩)) = groups L := funext fun j => h.logit ⟨j, by omega⟩
    pointwise [k0_pay5]
    simp only [pay4_at, e, Consts.w_bot]
    rw [fold_max _ (lane 0 (by omega) (pick (groups L) 0)) (lanes_le _ 0 (by omega)), lanes_lane]
  experts j := h.logit ⟨8 + 8 * (pick (groups L) 0 : ℕ) + j, by omega⟩
  g_bot j := h.bot _
  e_bot j := h.bot _

omit h in
theorem choice_val (k : Fin 8) : ((choice (groups L) (experts L) k : Fin 128) : ℕ) = 8 + expert L k := by
  unfold choice lane expert group
  dsimp only; omega

theorem ids_at (l : Fin 128) : k0_pay14 (F := Ideal) (iota .tc S256x128 32 [1] iota_S256x128_d1_w32)
    (k0_pay9 (k0_pay2 x0 x1 x2 x3 x4) (k0_pay3 (F := Ideal)) (k0_pay4 x0 x1 x2 x3 x4) (k0_pay5 x0 x1 x2 x3 x4))
    (k0_pay12 (k0_pay2 x0 x1 x2 x3 x4) (k0_pay3 (F := Ideal)) (k0_pay4 x0 x1 x2 x3 x4) (k0_pay5 x0 x1 x2 x3 x4)) (ix2 r l) = ids L l := by
  pointwise [k0_pay14, k0_pay13]
  rw [pay9_at (row h), pay12_at (row h), w_8, choice_val, choice_val, expert_word _ (expert_lt L 0), expert_word _ (expert_lt L 1),
    lane_is0, lane_is1, select_ofBool, select_ofBool]
  rfl

theorem weights_at (l : Fin 128) : k0_pay15 (F := Ideal) (iota .tc S256x128 32 [1] iota_S256x128_d1_w32)
    (k0_pay6 (k0_pay4 x0 x1 x2 x3 x4) (k0_pay5 x0 x1 x2 x3 x4))
    (k0_pay8 (k0_pay2 x0 x1 x2 x3 x4) (k0_pay3 (F := Ideal)) (k0_pay4 x0 x1 x2 x3 x4) (k0_pay5 x0 x1 x2 x3 x4))
    (k0_pay11 (k0_pay2 x0 x1 x2 x3 x4) (k0_pay3 (F := Ideal)) (k0_pay4 x0 x1 x2 x3 x4) (k0_pay5 x0 x1 x2 x3 x4)) (ix2 r l) = weights L l := by
  pointwise [k0_pay15]
  rw [pay6_at (row h), pay8_at (row h), pay11_at (row h), lane_is0, lane_is1, select_ofBool, select_ofBool]
  rfl

omit h in
theorem counts_at (L : Fin 256 → Logits) (h : ∀ r, Reads x0 x1 x2 x3 x4 r (L r)) (k : Fin 8) (l : Fin 128) :
    k0_pay1 (F := Ideal) (k0_pay3 (F := Ideal))
      (k0_pay13 (k0_pay12 (k0_pay2 x0 x1 x2 x3 x4) (k0_pay3 (F := Ideal)) (k0_pay4 x0 x1 x2 x3 x4) (k0_pay5 x0 x1 x2 x3 x4)))
      (k0_pay16 (k0_pay3 (F := Ideal)) (k0_pay9 (k0_pay2 x0 x1 x2 x3 x4) (k0_pay3 (F := Ideal)) (k0_pay4 x0 x1 x2 x3 x4) (k0_pay5 x0 x1 x2 x3 x4)))
      (Scalar.ofBits .f32 0x3F800000#32) (Scalar.ofBits .f32 0x00000000#32) (ix3 0 k l) = counts L l := by
  pointwise [k0_pay1, k0_pay16, k0_pay13, counts]
  refine Finset.sum_congr rfl fun r _ => ?_
  rw [pay9_at (row (h r)), pay12_at (row (h r)), pay3_at, choice_val, choice_val]
  simp only [EReal.coe_eq_coe_iff, Nat.cast_inj]

end Cert.RouterIdeal.Route

end
-- ==== Proof.Route.Logit.lean ====
/- A row's logit, from the row, the gain, a weight column and its bias; and what it is when the factors are split in two parts each. -/
module

public import proofs.«01_k».proof.Proof.Attn.Real

@[expose] public section

noncomputable section

open Idealize.ShloMosaic

namespace Cert.Route

open Cert.Attn

variable (x g w : Fin 4096 → EReal) (b : EReal)

/-- A row over the root of its mean square, times the gain. -/
def normal (k : Fin 4096) : EReal :=
  x k * Ideal.rsqrt (Ideal.div (∑ k, x k * x k) (Ideal.ofBits .f32 0x45800000#32) + Ideal.ofBits .f32 0x358637BD#32) * g k

def logit : EReal := ∑ k, normal x g k * w k + b

theorem w_4096 : Ideal.ofBits .f32 0x45800000#32 = ((4096 : ℝ) : EReal) := by
  simp [Ideal.ofBits, Ideal.ieee, -EReal.coe_mul]; norm_num

theorem w_eps : ∃ e : ℝ, 0 < e ∧ Ideal.ofBits .f32 0x358637BD#32 = (e : EReal) := by
  refine ⟨8796093 / 8796093022208, by norm_num, ?_⟩
  simp [Ideal.ofBits, Ideal.ieee, -EReal.coe_mul]; norm_num

abbrev Reals {ι : Type} (f : ι → EReal) : Prop := ∀ i, ∃ y : ℝ, f i = (y : EReal)

variable {x g w b}

theorem mul_self_top {a : EReal} (h : ¬ ∃ y : ℝ, a = (y : EReal)) : a * a = ⊤ := by
  induction a with
  | bot => rfl
  | top => rfl
  | coe y => exact absurd ⟨y, rfl⟩ h

theorem mul_self_nonneg' (a : EReal) : 0 ≤ a * a := by
  induction a with
  | bot => exact le_top
  | top => exact le_top
  | coe y => rw [← EReal.coe_mul]; exact EReal.coe_nonneg.mpr (mul_self_nonneg y)

/-- A row with an infinite entry has an infinite mean square, so it becomes zeros. -/
theorem normal_of_inf (h : ¬ ∀ k, ∃ y : ℝ, x k = (y : EReal)) (k : Fin 4096) : normal x g k = 0 := by
  push Not at h
  obtain ⟨j, hj⟩ := h
  obtain ⟨e, he, hE⟩ := w_eps
  have hs : ∑ k, x k * x k = ⊤ := by
    refine top_le_iff.mp ?_
    rw [← mul_self_top (a := x j) fun ⟨y, hy⟩ => hj y hy]
    exact Finset.single_le_sum (f := fun k => x k * x k) (fun k _ => mul_self_nonneg' (x k)) (Finset.mem_univ j)
  unfold normal
  rw [hs, w_4096, hE, Ideal.div_coe (by norm_num), EReal.top_mul_coe_of_pos (by norm_num), EReal.top_add_coe, Ideal.rsqrt_top, mul_zero, zero_mul]

variable (hg : Reals g) (hw : Reals w) (hb : ∃ y : ℝ, b = (y : EReal))

include hg in
/-- A normed row is real, whatever the row. -/
theorem normal_real : Reals (normal x g) := by
  by_cases hx : Reals x
  swap
  · exact fun k => ⟨0, normal_of_inf hx k⟩
  choose x' hx' using hx
  choose g' hg' using hg
  obtain ⟨e, he, hE⟩ := w_eps
  intro k
  have hs : ∑ k, x k * x k = ((∑ k, x' k * x' k : ℝ) : EReal) := by
    rw [coe_sum]
    exact Finset.sum_congr rfl fun k _ => by rw [hx', EReal.coe_mul]
  have h0 : 0 ≤ ∑ k, x' k * x' k := Finset.sum_nonneg fun k _ => mul_self_nonneg _
  have hp : 0 < (∑ k, x' k * x' k) * (1 / 4096) + e := by positivity
  unfold normal
  rw [hs, w_4096, hE, Ideal.div_coe (by norm_num), ← EReal.coe_mul, ← EReal.coe_add, Ideal.rsqrt_coe, if_neg (not_lt.mpr hp.le), if_neg hp.ne',
    hx', hg', ← EReal.coe_mul, ← EReal.coe_mul]
  exact ⟨_, rfl⟩

include hg hw hb in
theorem logit_real : ∃ y : ℝ, logit x g w b = (y : EReal) := by
  choose n' hn' using normal_real (x := x) hg
  choose w' hw' using hw
  obtain ⟨b', rfl⟩ := hb
  refine ⟨∑ k, n' k * w' k + b', ?_⟩
  unfold logit
  rw [EReal.coe_add, coe_sum]
  refine congrArg (· + _) (Finset.sum_congr rfl fun k _ => ?_)
  rw [hn', hw', EReal.coe_mul]

theorem sub_self_real {x : EReal} (h : ∃ y : ℝ, x = (y : EReal)) : x - x = 0 := by
  obtain ⟨y, rfl⟩ := h
  rw [← EReal.coe_sub, sub_self]
  rfl

include hg hw in
/-- The remainders of the split are nothing. -/
theorem logit_split : ∑ k, normal x g k * w k + (∑ k, normal x g k * (w k - w k) + ∑ k, (normal x g k - normal x g k) * w k) + b = logit x g w b := by
  have e1 : ∑ k, normal x g k * (w k - w k) = 0 := Finset.sum_eq_zero fun k _ => by rw [sub_self_real (hw k), mul_zero]
  have e2 : ∑ k, (normal x g k - normal x g k) * w k = 0 := Finset.sum_eq_zero fun k _ => by rw [sub_self_real (normal_real (x := x) hg k), zero_mul]
  rw [e1, e2, add_zero, add_zero]
  rfl

end Cert.Route

end
-- ==== Proof.Route.Final.lean ====
module

public import proofs.«01_k».proof.Proof.Route.Body
public import proofs.«01_k».proof.Proof.Route.Logit
public import proofs.«01_k».proof.Proof.Gen.RouterIdeal.Value
public import Idealize.ShloMosaic.Lib.StableHlo.ReadAt

/-! The router kernel over whole arrays: what each block holds, the 72 logits of a row, and the three results after the run. -/

@[expose] public section

set_option maxRecDepth 16384

noncomputable section

open Idealize.ShloMosaic Idealize.ShloMosaic.TcCoe Idealize.SL.Sem
open Idealize.ShloMosaic.Pipeline (Dat)

namespace Cert.RouterIdeal.Value

open Cert.RouterIdeal Cert.RouterIdeal.Gen Cert.Route Cert.RouterIdeal.Route

/-- Column `l` of the two weight tables side by side: eight groups, then the 64 experts. -/
def tableCol (Wg : FVec Ideal S4096x8 .f32) (We : FVec Ideal S4096x64 .f32) (l : Fin 72) (k : Fin 4096) : EReal :=
  if h : (l : ℕ) < 8 then Wg (ix2 k ⟨l, h⟩) else We (ix2 k ⟨(l : ℕ) - 8, by omega⟩)

/-- Entry `l` of the two biases side by side. -/
def tableBias (Bg : FVec Ideal S8 .f32) (Be : FVec Ideal S64 .f32) (l : Fin 72) : EReal :=
  if h : (l : ℕ) < 8 then Bg (ix1 ⟨l, h⟩) else Be (ix1 ⟨(l : ℕ) - 8, by omega⟩)

/-- The 72 logits of row `r`. -/
def rowLogits (X : FVec Ideal S8192x4096 .f32) (G : FVec Ideal S4096 .f32) (Wg : FVec Ideal S4096x8 .f32) (Bg : FVec Ideal S8 .f32)
    (We : FVec Ideal S4096x64 .f32) (Be : FVec Ideal S64 .f32) (r : Fin 8192) : Logits := fun l =>
  logit (fun k => X (ix2 r k)) (fun k => G (ix1 k)) (tableCol Wg We l) (tableBias Bg Be l)

theorem tableCol_real {Wg : FVec Ideal S4096x8 .f32} {We : FVec Ideal S4096x64 .f32} (hg : Reals Wg) (he : Reals We) (l : Fin 72) :
    Reals (tableCol Wg We l) := fun k => by
  unfold tableCol
  split
  · exact hg _
  · exact he _

theorem tableBias_real {Bg : FVec Ideal S8 .f32} {Be : FVec Ideal S64 .f32} (hg : Reals Bg) (he : Reals Be) (l : Fin 72) :
    ∃ y : ℝ, tableBias Bg Be l = y := by
  unfold tableBias
  split
  · exact hg _
  · exact he _

theorem rowLogits_real {X : FVec Ideal S8192x4096 .f32} {G : FVec Ideal S4096 .f32} {Wg : FVec Ideal S4096x8 .f32} {Bg : FVec Ideal S8 .f32}
    {We : FVec Ideal S4096x64 .f32} {Be : FVec Ideal S64 .f32} (hG : Reals G) (hWg : Reals Wg) (hBg : Reals Bg)
    (hWe : Reals We) (hBe : Reals Be) (r : Fin 8192) (l : Fin 72) : ∃ y : ℝ, rowLogits X G Wg Bg We Be r l = y :=
  logit_real (fun _ => hG _) (tableCol_real hWg hWe l) (tableBias_real hBg hBe l)

variable (m : (ℓ : Loc nD τ sig) → Buf (Elt Ideal) ℓ)

theorem idx : ∀ t : Fin cfg0.N, win0_0.index t = ![(grid0.coords t 0).val, 0]
    ∧ win0_1.index t = ![0, 0]
    ∧ win0_2.index t = ![0, 0]
    ∧ win0_3.index t = ![0, 0]
    ∧ win0_4.index t = ![0, 0]
    ∧ win0_5.index t = ![(grid0.coords t 0).val, 0]
    ∧ win0_6.index t = ![(grid0.coords t 0).val, 0]
    ∧ win0_7.index t = ![(grid0.coords t 0).val, 0, 0] :=
  (by decide +kernel : ∀ t : Fin grid0.N, _)

theorem row_lt (t : Fin cfg0.N) (r : Fin 256) : (grid0.coords t 0).val * 256 + (r : ℕ) < 8192 := by
  have h : (grid0.coords t 0).val < 32 := (grid0.coords t 0).isLt
  omega

/-! What the host hands to the region. -/

theorem V_gain (c : Dev nD) (k : Fin 4096) : V m c main_v9 (ix2 0 k) = m ((c : Thread nD τ).loc main_arg1) (ix1 k) := by
  unfold V
  simp only [List.flatten_cons, List.flatten_nil, List.append_nil, List.cons_append, List.nil_append]
  after_reads_at
  all_goals rfl

theorem V_bias (c : Dev nD) (l : Fin 72) : V m c main_v4 (ix2 0 ⟨l, by omega⟩)
    = tableBias (m ((c : Thread nD τ).loc main_arg3)) (m ((c : Thread nD τ).loc main_arg5)) l := by
  unfold V
  simp only [List.flatten_cons, List.flatten_nil, List.append_nil, List.cons_append, List.nil_append]
  after_reads_at
  all_goals rfl

theorem V_high (c : Dev nD) (k : Fin 4096) (l : Fin 72) : V m c main_v5 (ix2 k ⟨l, by omega⟩)
    = tableCol (m ((c : Thread nD τ).loc main_arg2)) (m ((c : Thread nD τ).loc main_arg4)) l k := by
  unfold V
  simp only [List.flatten_cons, List.flatten_nil, List.append_nil, List.cons_append, List.nil_append]
  after_reads_at
  all_goals rfl

theorem V_low (c : Dev nD) (k : Fin 4096) (l : Fin 72) : V m c main_v8 (ix2 k ⟨l, by omega⟩)
    = tableCol (m ((c : Thread nD τ).loc main_arg2)) (m ((c : Thread nD τ).loc main_arg4)) l k
      - tableCol (m ((c : Thread nD τ).loc main_arg2)) (m ((c : Thread nD τ).loc main_arg4)) l k := by
  unfold V
  simp only [List.flatten_cons, List.flatten_nil, List.append_nil, List.cons_append, List.nil_append]
  after_reads_at
  all_goals rfl

/-! What each block holds. -/

theorem blk0 (c : Dev nD) (t : Fin cfg0.N) (r : Fin 256) (k : Fin 4096) : iblk m c 0 t (ix2 r k)
    = m ((c : Thread nD τ).loc main_arg0) (ix2 ⟨(grid0.coords t 0).val * 256 + (r : ℕ), row_lt t r⟩ k) := by
  blk_point [iblk, V, idx t]

theorem blk1 (c : Dev nD) (t : Fin cfg0.N) (k : Fin 4096) : iblk m c 1 t (ix2 0 k) = m ((c : Thread nD τ).loc main_arg1) (ix1 k) := by
  rw [← V_gain m c k]
  blk_ext [iblk, idx t]

theorem blk4 (c : Dev nD) (t : Fin cfg0.N) (l : Fin 72) : iblk m c 4 t (ix2 0 ⟨l, by omega⟩)
    = tableBias (m ((c : Thread nD τ).loc main_arg3)) (m ((c : Thread nD τ).loc main_arg5)) l := by
  rw [← V_bias m c l]
  blk_ext [iblk, idx t]

theorem blk2 (c : Dev nD) (t : Fin cfg0.N) (k : Fin 4096) (l : Fin 72) : iblk m c 2 t (ix2 k ⟨l, by omega⟩)
    = tableCol (m ((c : Thread nD τ).loc main_arg2)) (m ((c : Thread nD τ).loc main_arg4)) l k := by
  rw [← V_high m c k l]
  blk_ext [iblk, idx t]

theorem blk3 (c : Dev nD) (t : Fin cfg0.N) (k : Fin 4096) (l : Fin 72) : iblk m c 3 t (ix2 k ⟨l, by omega⟩)
    = tableCol (m ((c : Thread nD τ).loc main_arg2)) (m ((c : Thread nD τ).loc main_arg4)) l k
      - tableCol (m ((c : Thread nD τ).loc main_arg2)) (m ((c : Thread nD τ).loc main_arg4)) l k := by
  rw [← V_low m c k l]
  blk_ext [iblk, idx t]

/-- The gain, the weights and the biases are real. -/
structure RealArgs (c : Dev nD) : Prop where
  g : Reals (ι := S4096.Idx) (m ((c : Thread nD τ).loc main_arg1))
  wg : Reals (ι := S4096x8.Idx) (m ((c : Thread nD τ).loc main_arg2))
  bg : Reals (ι := S8.Idx) (m ((c : Thread nD τ).loc main_arg3))
  we : Reals (ι := S4096x64.Idx) (m ((c : Thread nD τ).loc main_arg4))
  be : Reals (ι := S64.Idx) (m ((c : Thread nD τ).loc main_arg5))

/-- The logits of row `r` of the argument arrays. -/
abbrev argLogits (c : Dev nD) (r : Fin 8192) : Logits :=
  rowLogits (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) r

variable {m} in
theorem reads {c : Dev nD} (h : RealArgs m c) (t : Fin cfg0.N) (r : Fin 256) :
    Reads (iblk m c 0 t) (iblk m c 1 t) (iblk m c 2 t) (iblk m c 3 t) (iblk m c 4 t) r
      (argLogits m c ⟨(grid0.coords t 0).val * 256 + (r : ℕ), row_lt t r⟩) where
  logit l := by
    have hs := logit_split (x := fun k => m ((c : Thread nD τ).loc main_arg0) (ix2 ⟨(grid0.coords t 0).val * 256 + (r : ℕ), row_lt t r⟩ k))
      (g := fun k => m ((c : Thread nD τ).loc main_arg1) (ix1 k))
      (b := tableBias (m ((c : Thread nD τ).loc main_arg3)) (m ((c : Thread nD τ).loc main_arg5)) l)
      (fun _ => h.g _) (tableCol_real h.wg h.we l)
    refine Eq.trans ?_ hs
    pointwise [k0_pay2]
    simp only [blk0, blk1, blk2, blk3, blk4]
    rfl
  bot l := by
    obtain ⟨y, hy⟩ := rowLogits_real h.g h.wg h.bg h.we h.be ⟨(grid0.coords t 0).val * 256 + (r : ℕ), row_lt t r⟩ l
    rw [argLogits, hy]
    exact EReal.coe_ne_bot y

/-- Every row's two experts. -/
def idsOf (L : Fin 8192 → Logits) : IVec S8192x128 32 := fun i => ids (L (i 0)) (i 1)

/-- Every row's two weights. -/
def weightsOf (L : Fin 8192 → Logits) : FVec Ideal S8192x128 .f32 := fun i => weights (L (i 0)) (i 1)

/-- Every block of 256 rows' counts, the same in all eight sublanes. -/
def countsOf (L : Fin 8192 → Logits) : FVec Ideal S32x8x128 .f32 := fun i =>
  counts (fun r : Fin 256 => L ⟨(i 0).val * 256 + (r : ℕ), by have h : (i 0).val < 32 := (i 0).isLt; omega⟩) (i 2)

/-! Where a block's element sits in the array. -/

theorem at5 (t : Fin cfg0.N) (f : S8192x128.Idx → BitVec 32) (r : Fin 256) (l : Fin 128) :
    f (((View.whole main_v10_0).slice (win0_5.rect t)).emb (ix2 r l)) = f (ix2 ⟨(grid0.coords t 0).val * 256 + (r : ℕ), row_lt t r⟩ l) := by
  blk_ext [idx t]

theorem at6 (t : Fin cfg0.N) (f : S8192x128.Idx → EReal) (r : Fin 256) (l : Fin 128) :
    f (((View.whole main_v10_1).slice (win0_6.rect t)).emb (ix2 r l)) = f (ix2 ⟨(grid0.coords t 0).val * 256 + (r : ℕ), row_lt t r⟩ l) := by
  blk_ext [idx t]

theorem at7 (t : Fin cfg0.N) (f : S32x8x128.Idx → EReal) (k : Fin 8) (l : Fin 128) :
    f (((View.whole main_v10_2).slice (win0_7.rect t)).emb (ix3 0 k l)) = f (ix3 (grid0.coords t 0) k l) := by
  blk_ext [idx t]

/-! The results after the run. -/

variable {m} in
theorem final5 {c : Dev nD} (h : RealArgs m c) : (dats m 0 c).arrAt 5 (cfgs 0).N = idsOf (argLogits m c) := by
  refine (dats m 0 c).arrAt_eq_of_covers 5 _ (by decide +kernel) fun t _ y => ?_
  blk_simp
  rw [after0_5]
  unfold_out out0_5
  frame_out
  idx_vars y
  exact (ids_at (reads h t y0) y1).trans (at5 t (idsOf (argLogits m c)) y0 y1).symm

variable {m} in
theorem final6 {c : Dev nD} (h : RealArgs m c) : (dats m 0 c).arrAt 6 (cfgs 0).N = weightsOf (argLogits m c) := by
  refine (dats m 0 c).arrAt_eq_of_covers 6 _ (by decide +kernel) fun t _ y => ?_
  blk_simp
  rw [after0_6]
  unfold_out out0_6
  frame_out
  idx_vars y
  exact (weights_at (reads h t y0) y1).trans (at6 t (weightsOf (argLogits m c)) y0 y1).symm

variable {m} in
theorem final7 {c : Dev nD} (h : RealArgs m c) : (dats m 0 c).arrAt 7 (cfgs 0).N = countsOf (argLogits m c) := by
  refine (dats m 0 c).arrAt_eq_of_covers 7 _ (by decide +kernel) fun t _ y => ?_
  blk_simp
  rw [after0_7]
  unfold_out out0_7
  frame_out
  idx_vars y
  obtain rfl : y0 = 0 := Subsingleton.elim _ _
  exact (counts_at _ (reads h t) y1 y2).trans (at7 t (countsOf (argLogits m c)) y1 y2).symm

end Cert.RouterIdeal.Value

end
-- ==== Proof.Route.RefTerm.lean ====
/- The router's reference in named parts, each over arrays given as arguments: what its results are, part by part. -/
module

public import proofs.«01_k».proof.Proof.Gen.RouterRefIdeal
public import proofs.«01_k».proof.Proof.Gen.RouterRefIdeal.Run
public import Idealize.ShloMosaic.Lib.Pointwise

@[expose] public section

set_option maxRecDepth 16384

noncomputable section

open Idealize.ShloMosaic Idealize.ShloMosaic.TcCoe Idealize.SL.Sem

namespace Cert.RouterRefIdeal.Route

open Cert.RouterRefIdeal Cert.RouterRefIdeal.Gen

variable (X : FVec Ideal S8192x4096 .f32) (G : FVec Ideal S4096 .f32) (Wg : FVec Ideal S4096x8 .f32) (Bg : FVec Ideal S8 .f32)
  (We : FVec Ideal S4096x64 .f32) (Be : FVec Ideal S64 .f32)

/-- Each row over the root of its mean square, times the gain. -/
def normed : FVec Ideal S8192x4096 .f32 :=
  mulf (mulf X (broadcastInDim S8192x4096 ![0, 1] bcast_S8192x1_S8192x4096_0_1 (Host.rsqrt (addf
    (Host.divf (broadcastInDim S8192x1 ![0] bcast_S8192_S8192x1_0 (Host.reduceAdd (mulf X X) (constant S_ .f32 0x00000000#32) reducesTo_S8192x4096_S8192_d1 h_S_))
      (broadcastInDim S8192x1 ![] bcast_S_S8192x1 (constant S_ .f32 0x45800000#32)))
    (broadcastInDim S8192x1 ![] bcast_S_S8192x1 (constant S_ .f32 0x358637BD#32))))))
    (broadcastInDim S8192x4096 ![0, 1] bcast_S1x4096_S8192x4096_0_1 (broadcastInDim S1x4096 ![1] bcast_S4096_S1x4096_1 G))

/-- The groups' logits; -/
def groupLogits (N : FVec Ideal S8192x4096 .f32) : FVec Ideal S8192x8 .f32 :=
  addf (Host.dotGeneral dot_S8192x4096_S4096x8_S8192x8_1_0_0_1_n_n none N Wg)
    (broadcastInDim S8192x8 ![0, 1] bcast_S1x8_S8192x8_0_1 (broadcastInDim S1x8 ![1] bcast_S8_S1x8_1 Bg))

/-- the experts', group by group. -/
def expertLogits (N : FVec Ideal S8192x4096 .f32) : FVec Ideal S8192x8x8 .f32 :=
  shapeCast S8192x8x8 (addf (Host.dotGeneral dot_S8192x4096_S4096x64_S8192x64_1_0_0_1_n_n none N We)
    (broadcastInDim S8192x64 ![0, 1] bcast_S1x64_S8192x64_0_1 (broadcastInDim S1x64 ![1] bcast_S64_S1x64_1 Be))) shapeCasts_S8192x64_S8192x8x8

variable (L : FVec Ideal S8192x8 .f32) (E : FVec Ideal S8192x8x8 .f32) (s : IVec S8192x1 32) (V : FVec Ideal S8192x2 .f32)
  (J : IVec S8192x2 32)

/-- A row of eight less its greatest, exponentiated; -/
def ex8 : FVec Ideal S8192x8 .f32 :=
  Host.exp (subf L (broadcastInDim S8192x8 ![0, 1] bcast_S8192x1_S8192x8_0_1 (broadcastInDim S8192x1 ![0] bcast_S8192_S8192x1_0
    (maximumf (broadcastInDim S8192 ![] bcast_S_S8192 (constant S_ .f32 0xFF800000#32))
      (Host.reduce FloatOps.maximumf L (constant S_ .f32 0xFF800000#32) reducesTo_S8192x8_S8192_d1 h_S_)))))

/-- over its sum. -/
def quot8 (x : FVec Ideal S8192x8 .f32) : FVec Ideal S8192x8 .f32 :=
  Host.divf x (broadcastInDim S8192x8 ![0, 1] bcast_S8192x1_S8192x8_0_1 (broadcastInDim S8192x1 ![0] bcast_S8192_S8192x1_0
    (Host.reduceAdd x (constant S_ .f32 0x00000000#32) reducesTo_S8192x8_S8192_d1 h_S_)))

/-- The same of a row of two. -/
def ex2 : FVec Ideal S8192x2 .f32 :=
  Host.exp (subf V (broadcastInDim S8192x2 ![0, 1] bcast_S8192x1_S8192x2_0_1 (broadcastInDim S8192x1 ![0] bcast_S8192_S8192x1_0
    (maximumf (broadcastInDim S8192 ![] bcast_S_S8192 (constant S_ .f32 0xFF800000#32))
      (Host.reduce FloatOps.maximumf V (constant S_ .f32 0xFF800000#32) reducesTo_S8192x2_S8192_d1 h_S_)))))

def quot2 (x : FVec Ideal S8192x2 .f32) : FVec Ideal S8192x2 .f32 :=
  Host.divf x (broadcastInDim S8192x2 ![0, 1] bcast_S8192x1_S8192x2_0_1 (broadcastInDim S8192x1 ![0] bcast_S8192_S8192x1_0
    (Host.reduceAdd x (constant S_ .f32 0x00000000#32) reducesTo_S8192x2_S8192_d1 h_S_)))

/-- The position of a row's greatest; -/
def best : IVec S8192x1 32 := (Host.topK S8192x1 1 (FloatOps.cmpfTotal .gt) L sliceFits_S8192x8_S8192x1).2

/-- the two greatest, and their positions. -/
def two : FVec Ideal S8192x2 .f32 := (Host.topK S8192x2 1 (FloatOps.cmpfTotal .gt) L sliceFits_S8192x8_S8192x2).1

def twoAt : IVec S8192x2 32 := (Host.topK S8192x2 1 (FloatOps.cmpfTotal .gt) L sliceFits_S8192x8_S8192x2).2

/-- A negative position counts from the end; -/
def wrap : IVec S8192x1x1 32 :=
  shapeCast S8192x1x1 (select (cmpi .slt s (broadcastInDim S8192x1 ![] bcast_S_S8192x1 (constantI S_ 32 0#32)))
    (addi s (broadcastInDim S8192x1 ![] bcast_S_S8192x1 (constantI S_ 32 8#32))) s) shapeCasts_S8192x1_S8192x1x1

def wrap3 (s : IVec S8192x1x1 32) : IVec S8192x1x1 32 :=
  select (cmpi .slt s (broadcastInDim S8192x1x1 ![] bcast_S_S8192x1x1 (constantI S_ 32 0#32)))
    (addi s (broadcastInDim S8192x1x1 ![] bcast_S_S8192x1x1 (constantI S_ 32 8#32))) s

/-- whether a position is one of the eight. -/
def inside (i : IVec S8192x1x1 32) : IVec S8192x1 1 :=
  Host.reduce IntOp.andi (andi (cmpi .sge i (broadcastInDim S8192x1x1 ![] bcast_S_S8192x1x1 (constantI S_ 32 0#32)))
    (cmpi .sle i (broadcastInDim S8192x1x1 ![0, 1, 2] bcast_S1x1x1_S8192x1x1_0_1_2 (broadcastInDim S1x1x1 ![2] bcast_S1_S1x1x1_2 (constantI S1 32 7#32)))))
    (constantI S_ 1 1#1) reducesTo_S8192x1x1_S8192x1_d2 h_S_

/-- The entry of a row at a position; -/
def takeOne (i : IVec S8192x1x1 32) : FVec Ideal S8192x1 .f32 :=
  select (inside i) (Host.gather gather_S8192x8_S8192x1x1_S8192x1_n_1_0_0_1_2_11 L i)
    (broadcastInDim S8192x1 ![] bcast_S_S8192x1 (constant S_ .f32 0x7FC00000#32))

/-- the group of a row at a position. -/
def takeGroup (i : IVec S8192x1x1 32) : FVec Ideal S8192x8 .f32 :=
  shapeCast S8192x8 (select (broadcastInDim S8192x1x8 ![0, 1] bcast_S8192x1_S8192x1x8_0_1 (inside i))
    (Host.gather gather_S8192x8x8_S8192x1x1_S8192x1x8_2_1_0_0_1_2_118 E i)
    (broadcastInDim S8192x1x8 ![] bcast_S_S8192x1x8 (constant S_ .f32 0x7FC00000#32))) shapeCasts_S8192x1x8_S8192x8

/-- The chosen group's experts' logits. -/
def chosen : FVec Ideal S8192x8 .f32 :=
  takeGroup E (wrap3 (broadcastInDim S8192x1x1 ![0, 1] bcast_S8192x1_S8192x1x1_0_1 s))

/-- The two experts, counted over all groups; -/
def eid : IVec S8192x2 32 :=
  addi (broadcastInDim S8192x2 ![0, 1] bcast_S8192x1_S8192x2_0_1 (muli s (broadcastInDim S8192x1 ![] bcast_S_S8192x1 (constantI S_ 32 8#32)))) J

/-- their weights; -/
def weight (p : FVec Ideal S8192x1 .f32) : FVec Ideal S8192x2 .f32 :=
  mulf (broadcastInDim S8192x2 ![0, 1] bcast_S8192x1_S8192x2_0_1 p) (quot2 (ex2 V))

/-- a row's count of each expert; -/
def hits : FVec Ideal S8192x64 .f32 :=
  Host.reduceAdd (uitofp (F := Ideal) .f32 (cmpi .eq
    (broadcastInDim S8192x2x64 ![0, 1, 2] bcast_S8192x2x1_S8192x2x64_0_1_2 (broadcastInDim S8192x2x1 ![0, 1] bcast_S8192x2_S8192x2x1_0_1 J))
    (broadcastInDim S8192x2x64 ![0, 1, 2] bcast_S1x1x64_S8192x2x64_0_1_2 (iotaInDim S1x1x64 32 2))))
    (constant S_ .f32 0x00000000#32) reducesTo_S8192x2x64_S8192x64_d1 h_S_

/-- a block of rows' counts. -/
def sums (H : FVec Ideal S8192x64 .f32) : FVec Ideal S32x64 .f32 :=
  Host.reduceAdd (shapeCast S32x256x64 H shapeCasts_S8192x64_S32x256x64) (constant S_ .f32 0x00000000#32) reducesTo_S32x256x64_S32x64_d1 h_S_

/-- The results in their layout. -/
def lay0 : IVec S8192x128 32 :=
  pad S8192x128 ![0, 0] ![0, 126] ![0, 0] J (id (constantI S_ 32 0#32)) pads_S8192x2_S8192x128_000_01260 h_S_

def lay1 : FVec Ideal S8192x128 .f32 :=
  pad S8192x128 ![0, 0] ![0, 126] ![0, 0] V (sitofp (F := Ideal) .f32 (constantI S_ 32 0#32)) pads_S8192x2_S8192x128_000_01260 h_S_

def lay2 (C : FVec Ideal S32x64 .f32) : FVec Ideal S32x8x128 .f32 :=
  broadcastInDim S32x8x128 ![0, 1, 2] bcast_S32x1x128_S32x8x128_0_1_2 (broadcastInDim S32x1x128 ![0, 2] bcast_S32x128_S32x1x128_0_2
    (pad S32x128 ![0, 8] ![0, 56] ![0, 0] C (sitofp (F := Ideal) .f32 (constantI S_ 32 0#32)) pads_S32x64_S32x128_000_8560 h_S_))

/-- From the logits: the experts and their weights. -/
def picked : IVec S8192x2 32 := eid (best L) (twoAt (chosen E (best L)))

def weighed : FVec Ideal S8192x2 .f32 := weight (two (chosen E (best L))) (takeOne (quot8 (ex8 L)) (wrap (best L)))

section

variable (m : (ℓ : Loc nD τ sig) → Buf (Elt Ideal) ℓ) (c : Dev nD)

/-- The launch's logits. -/
def gl : FVec Ideal S8192x8 .f32 :=
  groupLogits (m ((c.tc : Thread nD τ).loc main_arg2)) (m ((c.tc : Thread nD τ).loc main_arg3))
    (normed (m ((c.tc : Thread nD τ).loc main_arg0)) (m ((c.tc : Thread nD τ).loc main_arg1)))

def el : FVec Ideal S8192x8x8 .f32 :=
  expertLogits (m ((c.tc : Thread nD τ).loc main_arg4)) (m ((c.tc : Thread nD τ).loc main_arg5))
    (normed (m ((c.tc : Thread nD τ).loc main_arg0)) (m ((c.tc : Thread nD τ).loc main_arg1)))

/-- The run's results are these parts composed. -/
theorem out0_eq : Cert.RouterRefIdeal.Value.res_main_v59 m c = lay0 (picked (gl m c) (el m c)) := by
  unfold Cert.RouterRefIdeal.Value.res_main_v59
  rfl

theorem out1_eq : Cert.RouterRefIdeal.Value.res_main_v60 m c = lay1 (weighed (gl m c) (el m c)) := by
  unfold Cert.RouterRefIdeal.Value.res_main_v60
  rfl

theorem out2_eq : Cert.RouterRefIdeal.Value.res_main_v62 m c = lay2 (sums (hits (picked (gl m c) (el m c)))) := by
  unfold Cert.RouterRefIdeal.Value.res_main_v62
  rfl

end

end Cert.RouterRefIdeal.Route

end
-- ==== Proof.Route.Gather.lean ====
/- The two gathers of the router's reference, read at an index: a row's entry, or a row's group, at the row's own position. -/
module

public import proofs.«01_k».proof.Proof.Route.RefTerm

@[expose] public section

set_option maxRecDepth 16384

noncomputable section

open Idealize.ShloMosaic Idealize.ShloMosaic.TcCoe Idealize.SL.Sem

namespace Cert.RouterRefIdeal.Route

open Cert.RouterRefIdeal Cert.RouterRefIdeal.Gen

variable (L : FVec Ideal S8192x8 .f32) (E : FVec Ideal S8192x8x8 .f32) (i : IVec S8192x1x1 32) (r : Fin 8192) (j : Fin 8)

abbrev d1 : GatherDims S8192x8 S8192x1x1 S8192x1 := gather_S8192x8_S8192x1x1_S8192x1_n_1_0_0_1_2_11

abbrev d2 : GatherDims S8192x8x8 S8192x1x1 S8192x1x8 := gather_S8192x8x8_S8192x1x1_S8192x1x8_2_1_0_0_1_2_118

/-- A row's entry at the row's position. -/
theorem gather_one : Host.gather d1 L i (ix2 r 0)
    = L (ix2 r ⟨min (i (ix3 r 0 0)).toInt.toNat 7, by omega⟩) := by
  unfold Host.gather
  congr 1
  funext a
  refine Fin.ext ?_
  show d1.start (ix2 r 0) i a
    + d1.batchCoord (ix2 r 0) a
    + d1.offCoord (ix2 r 0) a = _
  match a with
  | 0 =>
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ d1.operandBatchingDims from List.mem_singleton.mpr rfl)]
    rfl
  | 1 =>
    rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ d1.startIndexMap from List.mem_singleton.mpr rfl)]
    have e : d1.siIdx (ix2 r 0) ⟨List.idxOf (1 : Fin 2)
        d1.startIndexMap, List.idxOf_lt_length_iff.2 (List.mem_singleton.mpr rfl)⟩ = ix3 r 0 0 := by
      funext b
      match b with
      | 0 => rfl
      | 1 => rfl
      | 2 => rfl
    rw [e]
    rfl

/-- A row's group at the row's position. -/
theorem gather_group : Host.gather d2 E i (ix3 r 0 j)
    = E (ix3 r ⟨min (i (ix3 r 0 0)).toInt.toNat 7, by omega⟩ j) := by
  unfold Host.gather
  congr 1
  funext a
  refine Fin.ext ?_
  show d2.start (ix3 r 0 j) i a
    + d2.batchCoord (ix3 r 0 j) a
    + d2.offCoord (ix3 r 0 j) a = _
  match a with
  | 0 =>
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 3) ∈ d2.operandBatchingDims from List.mem_singleton.mpr rfl)]
    rfl
  | 1 =>
    rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ d2.startIndexMap from List.mem_singleton.mpr rfl)]
    have e : d2.siIdx (ix3 r 0 j) ⟨List.idxOf (1 : Fin 3)
        d2.startIndexMap, List.idxOf_lt_length_iff.2 (List.mem_singleton.mpr rfl)⟩ = ix3 r 0 0 := by
      funext b
      match b with
      | 0 => rfl
      | 1 => rfl
      | 2 => rfl
    rw [e]
    rfl
  | 2 =>
    rw [GatherDims.batchCoord_eq_zero _ _ _ (fun h => absurd (List.mem_singleton.mp h) (by decide))]
    unfold GatherDims.start
    rw [dif_neg (show (2 : Fin 3) ∉ d2.startIndexMap from fun h => absurd (List.mem_singleton.mp h) (by decide))]
    simp only [Nat.zero_add]
    unfold GatherDims.offCoord
    rw [dif_pos (show (2 : Fin 3) ∈ d2.sKept from (GatherDims.mem_sKept _ _).mpr ⟨fun h => absurd (List.mem_singleton.mp h) (by decide), fun h => absurd (List.mem_singleton.mp h) (by decide)⟩)]
    rfl

end Cert.RouterRefIdeal.Route

end
-- ==== Proof.Route.RefRead.lean ====
/- The parts of the router's reference, read for one row: the group, the experts and the weights they are. -/
module

public import proofs.«01_k».proof.Proof.Route.Spec
public import proofs.«01_k».proof.Proof.Route.Gather
public import proofs.«01_k».proof.Proof.Attn.Consts

@[expose] public section

set_option maxRecDepth 16384

noncomputable section

open Idealize.ShloMosaic Idealize.ShloMosaic.TcCoe Idealize.SL.Sem

namespace Cert.RouterRefIdeal.Route

open Cert.RouterRefIdeal Cert.RouterRefIdeal.Gen Cert.Route Cert.Attn

variable (L : FVec Ideal S8192x8 .f32) (E : FVec Ideal S8192x8x8 .f32) (V : FVec Ideal S8192x2 .f32) (J : IVec S8192x2 32) (r : Fin 8192)

/-! ## The sorts -/

theorem along_last (j k : Fin 8) : (ix2 r j : S8192x8.Idx).along 1 k = ix2 r k := by
  funext a
  match a with
  | 0 => rfl
  | 1 => rfl

open Classical in
theorem gt_word (x y : EReal) : (FloatOps.cmpfTotal (F := Ideal) (φ := .f32) CmpDirection.gt x y == 1#1) = decide (y < x) := by
  show (BitVec.ofBool (decide (y < x)) == 1#1) = _
  by_cases h : y < x <;> simp [h]

/-- A row, entry by entry. -/
abbrev rowOf8 (j : Fin 8) : EReal := L (ix2 r j)

theorem before_row (j : Fin 8) : (fun k k' : Fin 8 => FloatOps.cmpfTotal CmpDirection.gt (L ((ix2 r j : S8192x8.Idx).along 1 k))
    (L ((ix2 r j : S8192x8.Idx).along 1 k')) == 1#1) = before (rowOf8 L r) := by
  funext k k'
  rw [along_last, along_last]
  exact gt_word _ _

theorem best_at : best L (ix2 r 0) = BitVec.ofNat 32 (pick (rowOf8 L r) 0 : ℕ) := by
  unfold best Host.topK Host.sort2
  simp only [show (1 : ℕ) < S8192x8.rank from by decide, dif_pos]
  pointwise
  refine (congrArg (fun i : S8192x8.Idx => BitVec.ofNat 32 (i 1 : ℕ)) (along_last r _ _)).trans ?_
  exact congrArg (fun B => BitVec.ofNat 32 (sortedFrom B (0 : Fin 8) : ℕ)) (before_row L r _)

theorem twoAt_at (k : Fin 2) : twoAt L (ix2 r k) = BitVec.ofNat 32 (pick (rowOf8 L r) ⟨k, by omega⟩ : ℕ) := by
  unfold twoAt Host.topK Host.sort2
  simp only [show (1 : ℕ) < S8192x8.rank from by decide, dif_pos]
  pointwise
  refine (congrArg (fun i : S8192x8.Idx => BitVec.ofNat 32 (i 1 : ℕ)) (along_last r _ _)).trans ?_
  exact congrArg (fun B => BitVec.ofNat 32 (sortedFrom B (⟨k, by omega⟩ : Fin 8) : ℕ)) (before_row L r _)

theorem two_at (k : Fin 2) : two L (ix2 r k) = rowOf8 L r (pick (rowOf8 L r) ⟨k, by omega⟩) := by
  unfold two Host.topK Host.sort2
  simp only [show (1 : ℕ) < S8192x8.rank from by decide, dif_pos]
  pointwise
  refine (congrArg L (along_last r _ _)).trans ?_
  exact congrArg (fun B => L (ix2 r (sortedFrom B (⟨k, by omega⟩ : Fin 8)))) (before_row L r _)

/-! ## Taking an entry at a position -/

theorem wrap_word : ∀ j : Fin 8, Scalar.select (IntOp.cmpi .slt (BitVec.ofNat 32 (j : ℕ)) 0#32) (IntOp.addi (BitVec.ofNat 32 (j : ℕ)) 8#32)
    (BitVec.ofNat 32 (j : ℕ)) = BitVec.ofNat 32 (j : ℕ) := by
  decide

theorem inside_word : ∀ j : Fin 8, IntOp.andi (IntOp.cmpi .sge (BitVec.ofNat 32 (j : ℕ)) 0#32) (IntOp.cmpi .sle (BitVec.ofNat 32 (j : ℕ)) 7#32) = 1#1 := by
  decide

theorem at_word : ∀ j : Fin 8, min (BitVec.ofNat 32 (j : ℕ)).toInt.toNat 7 = (j : ℕ) := by
  decide

theorem wrap_at (s : IVec S8192x1 32) (j : Fin 8) (h : s (ix2 r 0) = BitVec.ofNat 32 (j : ℕ)) : wrap s (ix3 r 0 0) = BitVec.ofNat 32 (j : ℕ) := by
  pointwise [wrap]
  rw [h, wrap_word]

theorem wrap3_at (s : IVec S8192x1x1 32) (j : Fin 8) (h : s (ix3 r 0 0) = BitVec.ofNat 32 (j : ℕ)) : wrap3 s (ix3 r 0 0) = BitVec.ofNat 32 (j : ℕ) := by
  pointwise [wrap3]
  rw [h, wrap_word]

theorem inside_at (i : IVec S8192x1x1 32) (j : Fin 8) (h : i (ix3 r 0 0) = BitVec.ofNat 32 (j : ℕ)) : inside i (ix2 r 0) = 1#1 := by
  pointwise [inside]
  rw [show (Finset.univ : Finset (Fin 1)) = {0} from rfl, Finset.fold_singleton, h, inside_word]
  rfl

theorem takeOne_at (i : IVec S8192x1x1 32) (j : Fin 8) (h : i (ix3 r 0 0) = BitVec.ofNat 32 (j : ℕ)) : takeOne L i (ix2 r 0) = L (ix2 r j) := by
  pointwise [takeOne]
  rw [inside_at r i j h, gather_one]
  refine congrArg (fun j => L (ix2 r j)) (Fin.ext ?_)
  show min (i (ix3 r 0 0)).toInt.toNat 7 = _
  rw [h, at_word]

theorem takeGroup_at (i : IVec S8192x1x1 32) (j k : Fin 8) (h : i (ix3 r 0 0) = BitVec.ofNat 32 (j : ℕ)) :
    takeGroup E i (ix2 r k) = E (ix3 r j k) := by
  pointwise [takeGroup]
  rw [inside_at r i j h, gather_group]
  refine congrArg (fun j => E (ix3 r j k)) (Fin.ext ?_)
  show min (i (ix3 r 0 0)).toInt.toNat 7 = _
  rw [h, at_word]

theorem chosen_at (k : Fin 8) : chosen E (best L) (ix2 r k) = E (ix3 r (pick (rowOf8 L r) 0) k) := by
  unfold chosen
  refine takeGroup_at E r _ _ k (wrap3_at r _ _ ?_)
  pointwise
  exact best_at L r

/-! ## A row's logits -/

/-- A row's logits, the groups' before the experts'. -/
def logits (l : Fin 72) : EReal :=
  if h : (l : ℕ) < 8 then L (ix2 r ⟨l, h⟩) else E (ix3 r ⟨((l : ℕ) - 8) / 8, by omega⟩ ⟨((l : ℕ) - 8) % 8, by omega⟩)

theorem groups_eq : groups (logits L E r) = rowOf8 L r := by
  funext j
  unfold groups logits
  rw [dif_pos (show (j : ℕ) < 8 from j.isLt)]

theorem group_eq : group (logits L E r) = pick (rowOf8 L r) 0 := by
  unfold group
  rw [groups_eq]

theorem experts_eq : experts (logits L E r) = rowOf8 (chosen E (best L)) r := by
  funext j
  unfold experts logits rowOf8
  rw [chosen_at, dif_neg (by dsimp only; omega), ← group_eq L E]
  have e1 : (⟨(8 + 8 * (group (logits L E r) : ℕ) + (j : ℕ) - 8) / 8, by omega⟩ : Fin 8) = group (logits L E r) := Fin.ext (by dsimp only; omega)
  have e2 : (⟨(8 + 8 * (group (logits L E r) : ℕ) + (j : ℕ) - 8) % 8, by omega⟩ : Fin 8) = j := Fin.ext (by dsimp only; omega)
  exact congrArg₂ (fun a b => E (ix3 r a b)) e1 e2

/-! ## The experts and their counts -/

theorem eid_word : ∀ s j : Fin 8, IntOp.addi (IntOp.muli (BitVec.ofNat 32 (s : ℕ)) 8#32) (BitVec.ofNat 32 (j : ℕ))
    = BitVec.ofNat 32 (8 * (s : ℕ) + (j : ℕ)) := by
  decide +kernel

theorem picked_at (k : Fin 2) : picked L E (ix2 r k) = BitVec.ofNat 32 (expert (logits L E r) ⟨k, by omega⟩) := by
  pointwise [picked, eid]
  rw [best_at, twoAt_at, eid_word]
  unfold expert
  rw [group_eq, experts_eq]

theorem hit_word : ∀ n l : Fin 64, IntOp.cmpi .eq (BitVec.ofNat 32 (n : ℕ)) (BitVec.ofNat 32 (l : ℕ)) = BitVec.ofBool (decide ((l : ℕ) = (n : ℕ))) := by
  decide +kernel

theorem hit (n : ℕ) (hn : n < 64) (l : Fin 64) : FloatOps.uitofp (F := Ideal) FTy.f32 (IntOp.cmpi .eq (BitVec.ofNat 32 n) (BitVec.ofNat 32 (l : ℕ)))
    = if (l : ℕ) = n then (1 : EReal) else 0 := by
  rw [hit_word ⟨n, hn⟩ l]
  show ((((BitVec.ofBool (decide ((l : ℕ) = n))).toNat : ℕ) : ℝ) : EReal) = _
  by_cases h : (l : ℕ) = n <;> simp [h]

theorem hits_at (l : Fin 64) : hits (picked L E) (ix2 r l)
    = (if (l : ℕ) = expert (logits L E r) 0 then (1 : EReal) else 0) + if (l : ℕ) = expert (logits L E r) 1 then (1 : EReal) else 0 := by
  pointwise [hits]
  rw [Fin.sum_univ_two, picked_at, picked_at]
  exact congrArg₂ _ (hit _ (expert_lt _ _) l) (hit _ (expert_lt _ _) l)

theorem ids_eq (l : Fin 128) : lay0 (picked L E) (ix2 r l) = ids (logits L E r) l := by
  pointwise [lay0]
  unfold ids
  split
  · next h =>
    rw [picked_at]
    rcases (by omega : (l : ℕ) = 0 ∨ (l : ℕ) = 1) with e | e
    · rw [if_pos e]; simp only [e]; rfl
    · rw [if_neg (by omega), if_pos e]; simp only [e]; rfl
  · rw [if_neg (by omega), if_neg (by omega)]; rfl

theorem zero_word : FloatOps.sitofp (F := Ideal) FTy.f32 (0#32) = (0 : EReal) := by
  show (((((0#32 : BitVec 32)).toInt : ℤ) : ℝ) : EReal) = 0
  simp

theorem counts_eq (b : Fin 32) (k : Fin 8) (l : Fin 128) : lay2 (sums (hits (picked L E))) (ix3 b k l)
    = counts (fun r => logits L E ⟨(b : ℕ) * 256 + (r : ℕ), by omega⟩) l := by
  pointwise [lay2, sums, counts]
  split
  · next h =>
    refine Finset.sum_congr rfl fun r _ => ?_
    rw [hits_at]
    refine congrArg₂ _ (if_congr ?_ rfl rfl) (if_congr ?_ rfl rfl)
    · dsimp only; omega
    · dsimp only; omega
  · next h =>
    rw [zero_word]
    refine (Finset.sum_eq_zero fun r _ => ?_).symm
    have h0 := expert_lt (logits L E ⟨(b : ℕ) * 256 + (r : ℕ), by omega⟩) 0
    have h1 := expert_lt (logits L E ⟨(b : ℕ) * 256 + (r : ℕ), by omega⟩) 1
    rw [if_neg (by omega), if_neg (by omega), add_zero]

end Cert.RouterRefIdeal.Route

end
-- ==== Proof.Route.RefWeights.lean ====
/- The weights of the router's reference for one row. -/
module

public import proofs.«01_k».proof.Proof.Route.RefRead

@[expose] public section

set_option maxRecDepth 16384

noncomputable section

open Idealize.ShloMosaic Idealize.ShloMosaic.TcCoe Idealize.SL.Sem

namespace Cert.RouterRefIdeal.Route

open Cert.RouterRefIdeal Cert.RouterRefIdeal.Gen Cert.Route Cert.Attn

variable (L : FVec Ideal S8192x8 .f32) (E : FVec Ideal S8192x8x8 .f32) (r : Fin 8192)

theorem exp_self (x : EReal) (h : ∃ y : ℝ, x = (y : EReal)) : Ideal.exp (x - x) = 1 := by
  obtain ⟨y, rfl⟩ := h
  rw [← EReal.coe_sub, sub_self, Ideal.exp_coe, Real.exp_zero]
  rfl

theorem fold_max8 (g : Fin 8 → EReal) : max ⊥ (Finset.univ.fold max ⊥ g) = g (pick g 0) := by
  rw [bot_sup_eq]
  exact le_antisymm ((Finset.fold_max_le _).mpr ⟨bot_le, fun j _ => le_first g j⟩) ((Finset.le_fold_max _).mpr (.inr ⟨_, Finset.mem_univ _, le_rfl⟩))

theorem fold_max2 (v : Fin 2 → EReal) (h : v 1 ≤ v 0) : max ⊥ (Finset.univ.fold max ⊥ v) = v 0 := by
  rw [bot_sup_eq]
  refine le_antisymm ((Finset.fold_max_le _).mpr ⟨bot_le, fun j _ => ?_⟩) ((Finset.le_fold_max _).mpr (.inr ⟨_, Finset.mem_univ _, le_rfl⟩))
  match j with
  | 0 => exact le_rfl
  | 1 => exact h

/-- The chosen group's weight. -/
theorem share_eq (h : ∀ l, ∃ y : ℝ, logits L E r l = (y : EReal)) : takeOne (quot8 (ex8 L)) (wrap (best L)) (ix2 r 0) = share (logits L E r) := by
  rw [takeOne_at _ r _ _ (wrap_at r _ _ (best_at L r))]
  pointwise [quot8, ex8, share]
  simp only [Consts.w_bot]
  have e := fold_max8 (rowOf8 L r)
  unfold rowOf8 at e
  rw [e, exp_self, groups_eq, group_eq]
  have := h ⟨(pick (rowOf8 L r) 0 : ℕ), by omega⟩
  rwa [show logits L E r ⟨(pick (rowOf8 L r) 0 : ℕ), by omega⟩ = groups (logits L E r) (pick (rowOf8 L r) 0) from rfl, groups_eq] at this

theorem quot_first (P : EReal) (x : ℝ) : P * Ideal.div 1 (1 + Ideal.exp (x : EReal)) = Ideal.div P (1 + Ideal.exp (x : EReal)) := by
  have e : (1 : EReal) + Ideal.exp (x : EReal) = ((1 + Real.exp x : ℝ) : EReal) := by
    rw [Ideal.exp_coe, EReal.coe_add, EReal.coe_one]
  have hn : (1 + Real.exp x : ℝ) ≠ 0 := by positivity
  rw [e, Ideal.div_coe hn, Ideal.div_coe hn, one_mul]

theorem quot_second (P : EReal) (x : ℝ) : P * Ideal.div (Ideal.exp (x : EReal)) (1 + Ideal.exp (x : EReal))
    = Ideal.div (P * Ideal.exp (x : EReal)) (1 + Ideal.exp (x : EReal)) := by
  have e : (1 : EReal) + Ideal.exp (x : EReal) = ((1 + Real.exp x : ℝ) : EReal) := by
    rw [Ideal.exp_coe, EReal.coe_add, EReal.coe_one]
  have hn : (1 + Real.exp x : ℝ) ≠ 0 := by positivity
  rw [e, Ideal.div_coe hn, Ideal.div_coe hn, mul_assoc]

/-- The weights of a pair, the first the greater. -/
theorem weight_at (V : FVec Ideal S8192x2 .f32) (p : FVec Ideal S8192x1 .f32) (a b : ℝ) (h0 : V (ix2 r 0) = (a : EReal)) (h1 : V (ix2 r 1) = (b : EReal))
    (hle : b ≤ a) (k : Fin 2) : weight V p (ix2 r k) = if (k : ℕ) = 0 then Ideal.div (p (ix2 r 0)) (1 + Ideal.exp ((b : EReal) - (a : EReal)))
      else Ideal.div (p (ix2 r 0) * Ideal.exp ((b : EReal) - (a : EReal))) (1 + Ideal.exp ((b : EReal) - (a : EReal))) := by
  pointwise [weight, quot2, ex2]
  simp only [Consts.w_bot]
  rw [fold_max2 (fun x => V (ix2 r x)) (by rw [h0, h1]; exact_mod_cast hle), Fin.sum_univ_two, h1, h0,
    exp_self _ ⟨a, rfl⟩, ← EReal.coe_sub]
  match k with
  | 0 =>
    rw [h0, exp_self _ ⟨a, rfl⟩]
    exact (quot_first _ _).trans (if_pos rfl).symm
  | 1 =>
    rw [h1, ← EReal.coe_sub]
    exact (quot_second _ _).trans (if_neg (by decide)).symm

theorem weights_eq (h : ∀ l, ∃ y : ℝ, logits L E r l = (y : EReal)) (l : Fin 128) : lay1 (weighed L E) (ix2 r l) = weights (logits L E r) l := by
  have hx : ∀ j, ∃ y : ℝ, rowOf8 (chosen E (best L)) r j = (y : EReal) := fun j => by
    rw [← experts_eq]
    exact h _
  obtain ⟨a, ha⟩ := hx (pick (rowOf8 (chosen E (best L)) r) 0)
  obtain ⟨b, hb⟩ := hx (pick (rowOf8 (chosen E (best L)) r) 1)
  have hle : b ≤ a := by
    have := le_first (rowOf8 (chosen E (best L)) r) (pick (rowOf8 (chosen E (best L)) r) 1)
    rw [ha, hb] at this
    exact_mod_cast this
  have e0 : two (chosen E (best L)) (ix2 r 0) = (a : EReal) := (two_at _ r 0).trans ha
  have e1 : two (chosen E (best L)) (ix2 r 1) = (b : EReal) := (two_at _ r 1).trans hb
  have er : ratio (logits L E r) = Ideal.exp ((b : EReal) - (a : EReal)) := by
    unfold ratio
    rw [experts_eq, ha, hb]
  pointwise [lay1]
  unfold weights
  rw [er]
  split
  · next hl =>
    unfold weighed
    rw [weight_at r _ _ a b e0 e1 hle, share_eq L E r h]
    rcases (by omega : (l : ℕ) = 0 ∨ (l : ℕ) = 1) with e | e
    · rw [if_pos e, if_pos e]
    · rw [if_neg (by dsimp only; omega), if_neg (by omega), if_pos e]
  · rw [if_neg (by omega), if_neg (by omega), zero_word]

end Cert.RouterRefIdeal.Route

end
-- ==== Proof.Route.Finite.lean ====
/- What the router's precondition says: every entry of the gain, the weights and the biases is a real. -/
module

public import proofs.«01_k».proof.Pre_finite_router
public import proofs.«01_k».proof.Proof.Attn.Finite
public import proofs.«01_k».proof.Proof.Route.Logit

@[expose] public section

noncomputable section

open Idealize.ShloMosaic

namespace Cert.Pre_finite_router

open Cert.Route

/-- The shape relations of the precondition. -/
theorem facts : Facts where
  h_S_ := by decide
  bcast_S_S4096 := by decide
  reducesTo_S4096_S_d0 := by decide
  bcast_S_S4096x8 := by decide
  reducesTo_S4096x8_S_d0_1 := by decide
  bcast_S_S8 := by decide
  reducesTo_S8_S_d0 := by decide
  bcast_S_S4096x64 := by decide
  reducesTo_S4096x64_S_d0_1 := by decide
  bcast_S_S64 := by decide
  reducesTo_S64_S_d0 := by decide

theorem both {p q : BitVec 1} (h : IntOp.andi p q = 1#1) : p = 1#1 ∧ q = 1#1 := by
  revert p q
  decide

variable (X : FVec Ideal S8192x4096 .f32) (G : FVec Ideal S4096 .f32) (Wg : FVec Ideal S4096x8 .f32) (Bg : FVec Ideal S8 .f32)
  (We : FVec Ideal S4096x64 .f32) (Be : FVec Ideal S64 .f32)

/-- The precondition, read array by array. -/
theorem reals (hF : Facts) (h : fn (F := Ideal) X G Wg Bg We Be = fun _ => 1#1) :
    Reals G ∧ Reals Wg ∧ Reals Bg ∧ Reals We ∧ Reals Be := by
  have e := congrFun h (fun k => k.elim0)
  unfold fn fn_part1 at e
  obtain ⟨e, e4⟩ := both e
  obtain ⟨e, e3⟩ := both e
  obtain ⟨e, e2⟩ := both e
  obtain ⟨e0, e1⟩ := both e
  exact ⟨fun i => Cert.Pre_finite_qk.real_of_bit _ (Host.reduce_andi_all _ _ _ _ _ e0 i),
    fun i => Cert.Pre_finite_qk.real_of_bit _ (Host.reduce_andi_all _ _ _ _ _ e1 i),
    fun i => Cert.Pre_finite_qk.real_of_bit _ (Host.reduce_andi_all _ _ _ _ _ e2 i),
    fun i => Cert.Pre_finite_qk.real_of_bit _ (Host.reduce_andi_all _ _ _ _ _ e3 i),
    fun i => Cert.Pre_finite_qk.real_of_bit _ (Host.reduce_andi_all _ _ _ _ _ e4 i)⟩

end Cert.Pre_finite_router

end
-- ==== Proof.Route.Claims.lean ====
/- The claims about the router, from the kernel's three arrays and the reference's terms. -/
module

public import proofs.«01_k».proof.Defs
public import proofs.«01_k».proof.Proof.Route.Final
public import proofs.«01_k».proof.Proof.Route.RefWeights
public import proofs.«01_k».proof.Proof.Route.Finite
public import proofs.«01_k».proof.Proof.Gen.RouterIdeal
public import proofs.«01_k».proof.Proof.Gen.RouterRefIdeal
public import proofs.«01_k».proof.Proof.Gen.RouterRefIdeal.Run
public import Idealize.ShloMosaic.Adequacy
public import Idealize.ShloMosaic.Init

@[expose] public section

set_option maxRecDepth 16384

noncomputable section

open Idealize.ShloMosaic Idealize.ShloMosaic.TcCoe Idealize.SL.Sem

namespace Cert.Proof.RouteClaims

open Cert.Route

section

variable (X : FVec Ideal Cert.RouterRefIdeal.S8192x4096 .f32) (G : FVec Ideal Cert.RouterRefIdeal.S4096 .f32)
  (Wg : FVec Ideal Cert.RouterRefIdeal.S4096x8 .f32) (Bg : FVec Ideal Cert.RouterRefIdeal.S8 .f32)
  (We : FVec Ideal Cert.RouterRefIdeal.S4096x64 .f32) (Be : FVec Ideal Cert.RouterRefIdeal.S64 .f32)

/-- A group's logit in the reference. -/
theorem group_logit (r : Fin 8192) (j : Fin 8) : Cert.RouterRefIdeal.Route.groupLogits Wg Bg (Cert.RouterRefIdeal.Route.normed X G) (ix2 r j)
    = logit (fun k => X (ix2 r k)) (fun k => G (ix1 k)) (fun k => Wg (ix2 k j)) (Bg (ix1 j)) := by
  pointwise [Cert.RouterRefIdeal.Route.groupLogits, Cert.RouterRefIdeal.Route.normed]
  rfl

/-- An expert's, by its group and its place there. -/
theorem expert_logit (r : Fin 8192) (a b : Fin 8) (j : Fin 64) (hj : (j : ℕ) = (a : ℕ) * 8 + (b : ℕ)) :
    Cert.RouterRefIdeal.Route.expertLogits We Be (Cert.RouterRefIdeal.Route.normed X G) (ix3 r a b)
    = logit (fun k => X (ix2 r k)) (fun k => G (ix1 k)) (fun k => We (ix2 k j)) (Be (ix1 j)) := by
  have e : j = ⟨(a : ℕ) * 8 + (b : ℕ), by have := a.isLt; have := b.isLt; omega⟩ := Fin.ext hj
  rw [e]
  pointwise [Cert.RouterRefIdeal.Route.expertLogits, Cert.RouterRefIdeal.Route.normed]
  rfl

/-- The reference's 72 logits of a row are the kernel's. -/
theorem logits_eq (r : Fin 8192) : Cert.RouterRefIdeal.Route.logits (Cert.RouterRefIdeal.Route.groupLogits Wg Bg (Cert.RouterRefIdeal.Route.normed X G))
    (Cert.RouterRefIdeal.Route.expertLogits We Be (Cert.RouterRefIdeal.Route.normed X G)) r = Cert.RouterIdeal.Value.rowLogits X G Wg Bg We Be r := by
  funext l
  unfold Cert.RouterRefIdeal.Route.logits Cert.RouterIdeal.Value.rowLogits Cert.RouterIdeal.Value.tableBias
  split
  · next h =>
    rw [group_logit]
    refine congrArg (fun w => logit _ _ w _) (funext fun k => ?_)
    unfold Cert.RouterIdeal.Value.tableCol
    rw [dif_pos h]
  · next h =>
    rw [expert_logit X G We Be r _ _ ⟨(l : ℕ) - 8, by omega⟩ (Nat.div_add_mod' _ _).symm]
    refine congrArg (fun w => logit _ _ w _) (funext fun k => ?_)
    unfold Cert.RouterIdeal.Value.tableCol
    rw [dif_neg h]

end

/-- The reference runs, its arguments unchanged and every semaphore back at zero. -/
theorem frame_r : quiescent_RouterRefIdeal (hRouterRefIdeal := Cert.RouterRefIdeal.Gen.facts) := fun m ρ _ =>
  (θ_run Cert.RouterRefIdeal.defs _ _).mono (fun r h => ⟨fun c => (h c).2.2.2, Idealize.ShloMosaic.sem_eq_zero_of_no_sems (by decide) r.2⟩)
    (Cert.RouterRefIdeal.Value.run (F := Ideal) m ρ)

theorem frame_r_pre : quiescent_RouterRefIdeal_pre_finite_router (hRouterRefIdeal := Cert.RouterRefIdeal.Gen.facts)
    (hPre_finite_router := Cert.Pre_finite_router.facts) :=
  fun m ρ _ => frame_r m ρ trivial

/-- The kernel and the reference leave the same three arrays. -/
theorem algebraic : algebraic_RouterIdeal_RouterRefIdeal_pre_finite_router (hRouterIdeal := Cert.RouterIdeal.Gen.facts)
    (hRouterRefIdeal := Cert.RouterRefIdeal.Gen.facts) (hPre_finite_router := Cert.Pre_finite_router.facts) := by
  intro m ρ m' ρ' hpre hagree
  have hA : ∀ c, Cert.RouterIdeal.Value.RealArgs m c := fun c => by
    obtain ⟨h1, h2, h3, h4, h5⟩ := Cert.Pre_finite_router.reals _ _ _ _ _ _ Cert.Pre_finite_router.facts (hpre c)
    exact ⟨h1, h2, h3, h4, h5⟩
  have hL : ∀ c r, Cert.RouterRefIdeal.Route.logits (Cert.RouterRefIdeal.Route.gl m' c) (Cert.RouterRefIdeal.Route.el m' c) r
      = Cert.RouterIdeal.Value.argLogits m c r := fun c r => by
    unfold Cert.RouterRefIdeal.Route.gl Cert.RouterRefIdeal.Route.el
    rw [(hagree c).1, (hagree c).2.1, (hagree c).2.2.1, (hagree c).2.2.2.1, (hagree c).2.2.2.2.1, (hagree c).2.2.2.2.2]
    exact logits_eq _ _ _ _ _ _ r
  refine ⟨fun c => Cert.RouterIdeal.Value.idsOf (Cert.RouterIdeal.Value.argLogits m c),
    fun c => Cert.RouterIdeal.Value.weightsOf (Cert.RouterIdeal.Value.argLogits m c),
    fun c => Cert.RouterIdeal.Value.countsOf (Cert.RouterIdeal.Value.argLogits m c), ?_, ?_⟩
  · exact (θ_run Cert.RouterIdeal.defs _ _).mono (fun _ h c => ⟨(h c).1.trans (Cert.RouterIdeal.Value.final5 (hA c)),
      (h c).2.1.trans (Cert.RouterIdeal.Value.final6 (hA c)), (h c).2.2.1.trans (Cert.RouterIdeal.Value.final7 (hA c)), (h c).2.2.2⟩)
      (Cert.RouterIdeal.Value.run_blocks (F := Ideal) m ρ)
  · refine (θ_run Cert.RouterRefIdeal.defs _ _).mono (fun _ h c => ⟨(h c).1.trans ?_, (h c).2.1.trans ?_, (h c).2.2.1.trans ?_, (h c).2.2.2⟩)
      (Cert.RouterRefIdeal.Value.run (F := Ideal) m' ρ')
    · rw [Cert.RouterRefIdeal.Route.out0_eq]
      funext i
      idx_vars i
      rw [Cert.RouterRefIdeal.Route.ids_eq, hL]
      rfl
    · rw [Cert.RouterRefIdeal.Route.out1_eq]
      funext i
      idx_vars i
      rw [Cert.RouterRefIdeal.Route.weights_eq, hL]
      · rfl
      · intro l
        rw [hL]
        exact Cert.RouterIdeal.Value.rowLogits_real (hA c).g (hA c).wg (hA c).bg (hA c).we (hA c).be _ l
    · rw [Cert.RouterRefIdeal.Route.out2_eq]
      funext i
      idx_vars i
      rw [Cert.RouterRefIdeal.Route.counts_eq]
      simp only [hL]
      rfl

end Cert.Proof.RouteClaims

end
-- ==== Proof.Disp.Spec.lean ====
/- The places of the tokens' copies: the start of the expert's rows, and one more row for every earlier copy to the expert. -/
module

public import Idealize.ShloMosaic.PureOps.Ideal
public import Idealize.ShloMosaic.Lib.Pointwise

@[expose] public section

noncomputable section

open Idealize.ShloMosaic Finset

namespace Cert.Disp

/-- Below 2³¹ words compare as the numbers they hold. -/
theorem slt_words {a b : ℕ} (ha : a < 2 ^ 31) (hb : b < 2 ^ 31) :
    IntOp.cmpi .slt (BitVec.ofNat 32 a) (BitVec.ofNat 32 b) = BitVec.ofBool (decide (a < b)) := by
  have hs : BitVec.slt (BitVec.ofNat 32 a) (BitVec.ofNat 32 b) = decide (a < b) := by
    rw [BitVec.slt_eq_decide, BitVec.toInt_eq_toNat_of_lt (by rw [BitVec.toNat_ofNat]; omega),
      BitVec.toInt_eq_toNat_of_lt (by rw [BitVec.toNat_ofNat]; omega), BitVec.toNat_ofNat, BitVec.toNat_ofNat]
    congr 1
    rw [Nat.mod_eq_of_lt (by omega), Nat.mod_eq_of_lt (by omega), Nat.cast_lt]
  exact congrArg BitVec.ofBool hs

theorem eq_words (a b : BitVec 32) : IntOp.cmpi .eq a b = BitVec.ofBool (decide (a = b)) := by
  show BitVec.ofBool (a == b) = _
  rw [beq_eq_decide]

theorem select_ofBool {α : Type} (p : Prop) [Decidable p] (a b : α) : Scalar.select (BitVec.ofBool (decide p)) a b = if p then a else b := by
  by_cases h : p <;> simp [Scalar.select, h]

/-- One where the expert's number is the lane. -/
def hit (e : BitVec 32) (l : Fin 128) : EReal := if BitVec.ofNat 32 (l : ℕ) = e then 1 else 0

/-- Every token's two experts, by the token's number. -/
abbrev Experts := ℕ → Fin 2 → BitVec 32

/-- How many of a token's copies go to expert `l`. -/
def hits (e : Experts) (l : Fin 128) (t : ℕ) : EReal := hit (e t 0) l + hit (e t 1) l

/-- Where the next copy to expert `l` goes after the first `t` tokens. -/
def place (e : Experts) (start : Fin 128 → EReal) (t : ℕ) (l : Fin 128) : EReal := start l + ∑ n ∈ range t, hits e l n

/-- The place of token `t`'s copy `k`, read off the lanes. -/
def dest (e : Experts) (start : Fin 128 → EReal) (t : ℕ) (k : Fin 2) : BitVec 32 :=
  FloatOps.fptosi (F := Ideal) (φ := .f32) 32 (∑ l, hit (e t k) l * place e start t l)

/-- Both places of a token in the first two lanes. -/
def lanes (e : Experts) (start : Fin 128 → EReal) (t : ℕ) (l : Fin 128) : BitVec 32 :=
  if (l : ℕ) = 0 then dest e start t 0 else if (l : ℕ) = 1 then dest e start t 1 else 0

/-- The lane of an expert's number picks its place. -/
theorem sum_hit {e : BitVec 32} {i : Fin 128} (h : e = BitVec.ofNat 32 (i : ℕ)) (f : Fin 128 → EReal) : ∑ l, hit e l * f l = f i := by
  have hi : ∀ l : Fin 128, hit e l * f l = if l = i then f l else 0 := fun l => by
    have hl : BitVec.ofNat 32 (l : ℕ) = e ↔ l = i := by
      rw [h]
      refine ⟨fun q => Fin.ext ?_, fun q => by rw [q]⟩
      have := congrArg BitVec.toNat q
      rw [BitVec.toNat_ofNat, BitVec.toNat_ofNat] at this
      omega
    unfold hit
    simp only [hl]
    split <;> simp
  simp only [hi, sum_ite_eq', mem_univ, if_true]

/-- The places of a tile's tokens: those of the tokens before the tile, and of the earlier ones in it. -/
theorem place_add (e : Experts) (start : Fin 128 → EReal) (b r : ℕ) (l : Fin 128) :
    place e start (b + r) l = place e start b l + ∑ x ∈ range r, hits e l (b + x) := by
  unfold place
  rw [sum_range_add, add_assoc]

/-- A sum over the earlier tokens as one over all, the later ones giving nothing. -/
theorem sum_earlier {n r : ℕ} (h : r ≤ n) (f : ℕ → EReal) : ∑ x : Fin n, (if (x : ℕ) < r then f x else 0) = ∑ x ∈ range r, f x := by
  rw [Fin.sum_univ_eq_sum_range (fun x => if x < r then f x else 0) n, ← sum_filter]
  refine sum_congr (Finset.ext fun x => ?_) fun _ _ => rfl
  rw [mem_filter, mem_range, mem_range]
  omega

end Cert.Disp

end
-- ==== Proof.Disp.Kernel.lean ====
/- The dispatch kernel over whole arrays: what its two carried scratches hold after a tile, and the array of places after the run. -/
module

public import proofs.«01_k».proof.Proof.Disp.Spec
public import proofs.«01_k».proof.Proof.Gen.DispatchIdeal
public import proofs.«01_k».proof.Proof.Gen.DispatchIdeal.Value
public import Idealize.ShloMosaic.Lib.Pipeline.ValueKit
public import Idealize.ShloMosaic.Lib.Pipeline.ValueKit.Held
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.DispatchIdeal.Value

open Cert.DispatchIdeal Cert.DispatchIdeal.Gen Cert.Disp

/-! The body's words, at an index. -/

section

variable (v : IVec S256x128 32) (T : Vec Ideal S256x256 .bf16) (w : Vec Ideal S1x128 .f32) (r : Fin 256) (l : Fin 128)

theorem pay2_at (h : FVec Ideal S256x128 .f32) (b : Vec Ideal S8x128 .f32) : k0_pay2 h b (ix2 0 l) = b (ix2 0 l) + ∑ x, h (ix2 x l) := by
  pointwise [k0_pay2]

theorem pay3_at (b : Vec Ideal S8x128 .f32) (i : Fin 8) : k0_pay3 b (ix2 i l) = b (ix2 i l) := by
  pointwise [k0_pay3]

/-- The triangle: one where the column comes before the row. -/
theorem pay4_at (j : Fin 256) : k0_pay4 (F := Ideal) (ix2 r j) = if (j : ℕ) < r then 1 else 0 := by
  pointwise [k0_pay4]
  rw [slt_words (by omega) (by omega), select_ofBool]

theorem pay5_at : k0_pay5 (F := Ideal) v (ix2 r l) = hit (v (ix2 r 0)) l := by
  pointwise [k0_pay5]
  rw [eq_words, select_ofBool]
  rfl

theorem pay6_at : k0_pay6 (F := Ideal) v (ix2 r l) = hit (v (ix2 r 1)) l := by
  pointwise [k0_pay6]
  rw [eq_words, select_ofBool]
  rfl

theorem pay7_at : k0_pay7 (F := Ideal) v (ix2 r l) = hit (v (ix2 r 0)) l + hit (v (ix2 r 1)) l := by
  pointwise [k0_pay7]
  rw [pay5_at, pay6_at]

theorem pay8_at : k0_pay8 (F := Ideal) v T w (ix2 r l) = ∑ x, (T (ix2 r x) : EReal) * (k0_pay7 (F := Ideal) v (ix2 x l) : EReal) + (w (ix2 0 l) : EReal) := by
  pointwise [k0_pay8]

theorem pay1_at : k0_pay1 (k0_pay9 (F := Ideal) v T w) k0_pay10 (k0_pay11 (F := Ideal) v T w) (ix2 r l)
    = if (l : ℕ) = 0 then FloatOps.fptosi (F := Ideal) (φ := .f32) 32 (∑ x, hit (v (ix2 r 0)) x * k0_pay8 v T w (ix2 r x))
      else if (l : ℕ) = 1 then FloatOps.fptosi (F := Ideal) (φ := .f32) 32 (∑ x, hit (v (ix2 r 1)) x * k0_pay8 v T w (ix2 r x)) else 0 := by
  pointwise [k0_pay1, k0_pay9, k0_pay10, k0_pay11]
  have h0 : (BitVec.ofNat 32 (l : ℕ) = 0#32) = ((l : ℕ) = 0) := by
    rw [BitVec.toNat_eq, BitVec.toNat_ofNat]; simp; omega
  have h1 : (BitVec.ofNat 32 (l : ℕ) = 1#32) = ((l : ℕ) = 1) := by
    rw [BitVec.toNat_eq, BitVec.toNat_ofNat]; simp; omega
  simp only [eq_words, select_ofBool, h0, h1, pay5_at, pay6_at]
  rfl

end

variable (m : (ℓ : Loc nD τ sig) → Buf (Elt Ideal) ℓ)

theorem idx : ∀ t : Fin cfg0.N, win0_0.index t = ![t.val, 0] ∧ win0_1.index t = ![0, 0] ∧ win0_2.index t = ![t.val, 0] :=
  (by decide +kernel : ∀ t : Fin grid0.N, _)

theorem row_lt (t : Fin cfg0.N) (r : Fin 256) : t.val * 256 + (r : ℕ) < 8192 := by
  have h : t.val < 32 := t.isLt
  omega

/-- The experts and the starts in the argument arrays. -/
def expertsOf (X : IVec S8192x128 32) : Experts := fun t k => if h : t < 8192 then X (ix2 ⟨t, h⟩ ⟨k, by omega⟩) else 0

def startsOf (S : FVec Ideal S8x128 .f32) (l : Fin 128) : EReal := S (ix2 0 l)

abbrev ex (c : Dev nD) : Experts := expertsOf (m ((c : Thread nD τ).loc main_arg0))

abbrev st (c : Dev nD) : Fin 128 → EReal := startsOf (m ((c : Thread nD τ).loc main_arg1))

/-! What each block holds. -/

theorem blk0 (c : Dev nD) (t : Fin cfg0.N) (r : Fin 256) (k : Fin 2) : iblk m c 0 t (ix2 r ⟨k, by omega⟩) = ex m c (t.val * 256 + (r : ℕ)) k := by
  unfold ex expertsOf
  rw [dif_pos (row_lt t r)]
  blk_point [iblk, V, idx t]

theorem blk1 (c : Dev nD) (t : Fin cfg0.N) (l : Fin 128) : iblk m c 1 t (ix2 0 l) = st m c l := by
  unfold st startsOf
  blk_point [iblk, V, idx t]

theorem hits_at (c : Dev nD) (t : Fin cfg0.N) (r : Fin 256) (l : Fin 128) :
    k0_pay7 (F := Ideal) (iblk m c 0 t) (ix2 r l) = hits (ex m c) l (t.val * 256 + (r : ℕ)) := by
  rw [pay7_at]
  exact congrArg₂ (fun a b => hit a l + hit b l) (blk0 m c t r 0) (blk0 m c t r 1)

/-! What the scratches hold after a tile. -/

theorem tri (c : Dev nD) (t : Fin cfg0.N) (i : S256x256.Idx) : (outsAt0 m c t.val t.isLt).2.2 i = k0_pay4 (F := Ideal) i := by
  rw [Pipeline.eq_of_write_hold_apply (fun n h => (outsAt0 m c n h).2.2) 32 (fun _ => k0_pay4 (F := Ideal))
    (fun t h i => by rw [outsAt0_A m c t h]; frame_out) (fun t h i => by rw [outsAt0_B m c t h]; rfl) t i]

/-- The place of the next copy, after tile `n`'s tokens. -/
theorem base (c : Dev nD) (l : Fin 128) : ∀ (n : ℕ) (hn : n < cfg0.N), (outsAt0 m c n hn).2.1 (ix2 0 l) = place (ex m c) (st m c) ((n + 1) * 256) l := by
  have tile : ∀ (t : Fin cfg0.N) (b : EReal), b = place (ex m c) (st m c) (t.val * 256) l →
      b + ∑ x, k0_pay7 (F := Ideal) (iblk m c 0 t) (ix2 x l) = place (ex m c) (st m c) ((t.val + 1) * 256) l := fun t b hb => by
    rw [add_one_mul, place_add, hb, ← Fin.sum_univ_eq_sum_range (fun x => hits (ex m c) l (t.val * 256 + x)) 256]
    simp only [hits_at]
  intro n
  induction n with
  | zero =>
    intro hn
    rw [outsAt0_A m c ⟨0, hn⟩ rfl]
    frame_out
    rw [pay2_at]
    refine tile ⟨0, hn⟩ _ ?_
    rw [pay3_at, blk1]
    simp [place]
  | succ n ih =>
    intro hn
    have hm : ¬ (⟨n + 1, hn⟩ : Fin cfg0.N).val % 32 = 0 := by
      have : n + 1 < 32 := hn
      show ¬ (n + 1) % 32 = 0
      omega
    rw [outsAt0_B m c ⟨n + 1, hn⟩ hm]
    frame_out
    rw [pay2_at, read_unread_whole]
    exact tile ⟨n + 1, hn⟩ _ (ih _)

/-- A tile's places, over a triangle and the place before the tile. -/
theorem tile_places (c : Dev nD) (t : Fin cfg0.N) (T : Vec Ideal S256x256 .bf16) (w : Vec Ideal S1x128 .f32)
    (hT : ∀ i, T i = k0_pay4 (F := Ideal) i) (hw : ∀ l, w (ix2 0 l) = place (ex m c) (st m c) (t.val * 256) l) (r : Fin 256) (l : Fin 128) :
    k0_pay1 (k0_pay9 (F := Ideal) (iblk m c 0 t) T w) k0_pay10 (k0_pay11 (F := Ideal) (iblk m c 0 t) T w) (ix2 r l)
      = lanes (ex m c) (st m c) (t.val * 256 + (r : ℕ)) l := by
  have h8 : ∀ x, k0_pay8 (F := Ideal) (iblk m c 0 t) T w (ix2 r x) = place (ex m c) (st m c) (t.val * 256 + (r : ℕ)) x := fun x => by
    rw [pay8_at, hw, place_add, add_comm, ← sum_earlier r.isLt.le]
    congr 1
    refine Finset.sum_congr rfl fun y _ => ?_
    rw [hT, pay4_at, hits_at]
    split <;> simp
  rw [pay1_at]
  unfold lanes dest
  simp only [h8]
  rw [← blk0 m c t r 0, ← blk0 m c t r 1]
  rfl

/-- The first row of a scratch, -/
theorem row_at (Z : Vec Ideal S8x128 .f32) (l : Fin 128) :
    View.ld Z (Rect.unit (s := S8x128) ![0, 0] ![1, 128] inb_S8x128_S1x128_0_0) (ix2 0 l) = Z (ix2 0 l) := by
  unfold View.ld
  blk_ext []
  · rfl
  · exact (Nat.zero_add _).trans (Nat.one_mul _)

/-- and of one just filled. -/
theorem row_filled (v : View sig .tc .vmem S8x128 .f32) (Z : Vec Ideal S8x128 .f32) (l : Fin 128) :
    v.readCov [(⟨Rect.unit (s := S8x128) ![0, 0] S8x128.size inb_S8x128_S8x128_0_0, Z⟩ : View.Piece (Elt Ideal) S8x128 .f32)]
      (Rect.unit (s := S8x128) ![0, 0] ![1, 128] inb_S8x128_S1x128_0_0).toLoadRect (ix2 0 l) = Z (ix2 0 l) := by
  rw [View.readCov_fill v inb_S8x128_S8x128_0_0 Z [] (Rect.unit (s := S8x128) ![0, 0] ![1, 128] inb_S8x128_S1x128_0_0) (by decide)]
  exact row_at Z l

/-- Every token's two places. -/
def placesOf (X : IVec S8192x128 32) (S : FVec Ideal S8x128 .f32) : IVec S8192x128 32 := fun i =>
  lanes (expertsOf X) (startsOf S) (i 0 : ℕ) (i 1)

theorem at2 (t : Fin cfg0.N) (f : S8192x128.Idx → BitVec 32) (r : Fin 256) (l : Fin 128) :
    f (((View.whole main_v0).slice (win0_2.rect t)).emb (ix2 r l)) = f (ix2 ⟨t.val * 256 + (r : ℕ), row_lt t r⟩ l) := by
  blk_ext [idx t]

/-- The array of places after the run. -/
theorem final (c : Dev nD) : (dats m 0 c).arrAt 2 (cfgs 0).N
    = placesOf (m ((c : Thread nD τ).loc main_arg0)) (m ((c : Thread nD τ).loc main_arg1)) := by
  refine (dats m 0 c).arrAt_eq_of_covers 2 _ (by decide +kernel) fun t _ y => ?_
  blk_simp
  rw [after0_2]
  by_cases h : t.val % 32 = 0
  · rw [outsAt0_A m c t h]
    frame_out
    idx_vars y
    refine (tile_places m c t _ _ (fun _ => rfl) (fun l => ?_) y0 y1).trans (at2 t (placesOf _ _) y0 y1).symm
    refine (row_filled (View.whole cc0_scratch0) (k0_pay3 (iblk m c 1 t)) l).trans ?_
    refine (pay3_at l (iblk m c 1 t) 0).trans ((blk1 m c t l).trans ?_)
    rw [show t.val = 0 by have : t.val < 32 := t.isLt; omega]
    simp [place]
  · rw [outsAt0_B m c t h]
    frame_out
    rw [read_unread_whole, read_unread_whole]
    idx_vars y
    refine (tile_places m c t _ _ (tri m c ⟨t.val - 1, lt_of_le_of_lt (Nat.sub_le _ _) t.isLt⟩) (fun l => ?_) y0 y1).trans (at2 t (placesOf _ _) y0 y1).symm
    refine (row_at _ l).trans ((base m c l _ _).trans ?_)
    rw [Nat.sub_add_cancel (by omega)]

end Cert.DispatchIdeal.Value

end
-- ==== Proof.Disp.Ref.lean ====
/- The dispatch reference, read at an index: a place is the start of the expert's rows and the number of earlier copies to the expert. -/
module

public import proofs.«01_k».proof.Proof.Disp.Spec
public import proofs.«01_k».proof.Proof.Gen.DispatchRefIdeal
public import proofs.«01_k».proof.Proof.Gen.DispatchRefIdeal.Run

@[expose] public section

set_option maxRecDepth 16384

noncomputable section

open Idealize.ShloMosaic Idealize.ShloMosaic.TcCoe Idealize.SL.Sem

namespace Cert.DispatchRefIdeal.Disp

open Cert.DispatchRefIdeal Cert.DispatchRefIdeal.Gen Cert.Disp

abbrev gd : GatherDims S128 S8192x2x1 S8192x2 := gather_S128_S8192x2x1_S8192x2_n_0_n_n_0_2_1

/-- An entry of the starts, at a token's position. -/
theorem gather_at (L : FVec Ideal S128 .f32) (i : IVec S8192x2x1 32) (r : Fin 8192) (k : Fin 2) : Host.gather gd L i (ix2 r k)
    = L (ix1 ⟨min (i (ix3 r k 0)).toInt.toNat 127, by omega⟩) := by
  unfold Host.gather
  congr 1
  funext a
  refine Fin.ext ?_
  show gd.start (ix2 r k) i a + gd.batchCoord (ix2 r k) a + gd.offCoord (ix2 r k) a = _
  match a with
  | 0 =>
    rw [GatherDims.batchCoord_eq_zero _ _ _ (fun h => absurd h List.not_mem_nil),
      GatherDims.offCoord_eq_zero _ _ _ (fun h => ((GatherDims.mem_sKept _ _).mp h).1 (List.mem_singleton.mpr rfl))]
    simp only [Nat.add_zero]
    unfold GatherDims.start
    rw [dif_pos (show (0 : Fin 1) ∈ gd.startIndexMap from List.mem_singleton.mpr rfl)]
    have e : gd.siIdx (ix2 r k) ⟨List.idxOf (0 : Fin 1)
        gd.startIndexMap, List.idxOf_lt_length_iff.2 (List.mem_singleton.mpr rfl)⟩ = ix3 r k 0 := by
      funext b
      match b with
      | 0 => rfl
      | 1 => rfl
      | 2 => rfl
    rw [e]
    rfl

variable (X : IVec S8192x128 32) (S : FVec Ideal S8x128 .f32)

/-- The two experts of every token, a negative number counting from the end, -/
def experts : IVec S8192x2 32 := extractStridedSlice S8192x2 ![0, 0] X slices_S8192x128_S8192x2_0_0

def wrap (e : IVec S8192x2 32) : IVec S8192x2x1 32 :=
  broadcastInDim S8192x2x1 ![0, 1] bcast_S8192x2_S8192x2x1_0_1 (select (cmpi .slt e (broadcastInDim S8192x2 ![] bcast_S_S8192x2 (constantI S_ 32 0#32)))
    (addi e (broadcastInDim S8192x2 ![] bcast_S_S8192x2 (constantI S_ 32 128#32))) e)

/-- where their rows start, -/
def starts (e : IVec S8192x2 32) : FVec Ideal S8192x2 .f32 :=
  Host.gather gd (shapeCast S128 (extractStridedSlice S1x128 ![0, 0] S slices_S8x128_S1x128_0_0) shapeCasts_S1x128_S128) (wrap e)

/-- how many copies of a token go to the expert of another's copy, -/
def same (e : IVec S8192x2 32) : FVec Ideal S8192x2x8192 .f32 :=
  Host.reduceAdd (uitofp (F := Ideal) .f32 (cmpi .eq
    (broadcastInDim S8192x2x8192x2 ![0, 1, 2, 3] bcast_S8192x2x1x1_S8192x2x8192x2_0_1_2_3 (broadcastInDim S8192x2x1x1 ![0, 1] bcast_S8192x2_S8192x2x1x1_0_1 e))
    (broadcastInDim S8192x2x8192x2 ![0, 1, 2, 3] bcast_S1x1x8192x2_S8192x2x8192x2_0_1_2_3 (broadcastInDim S1x1x8192x2 ![2, 3] bcast_S8192x2_S1x1x8192x2_2_3 e))))
    (constant S_ .f32 0x00000000#32) reducesTo_S8192x2x8192x2_S8192x2x8192_d3 h_S_

/-- which token comes before which, -/
def earlier : IVec S8192x2x8192 1 :=
  broadcastInDim S8192x2x8192 ![0, 1, 2] bcast_S8192x1x8192_S8192x2x8192_0_1_2 (broadcastInDim S8192x1x8192 ![0, 2] bcast_S8192x8192_S8192x1x8192_0_2
    (cmpi .slt (broadcastInDim S8192x8192 ![0, 1] bcast_S1x8192_S8192x8192_0_1 (broadcastInDim S1x8192 ![1] bcast_S8192_S1x8192_1 (iotaInDim S8192 32 0)))
      (broadcastInDim S8192x8192 ![0, 1] bcast_S8192x1_S8192x8192_0_1 (broadcastInDim S8192x1 ![0] bcast_S8192_S8192x1_0 (iotaInDim S8192 32 0)))))

/-- the copies of earlier tokens to the same expert, -/
def rank (e : IVec S8192x2 32) : FVec Ideal S8192x2 .f32 :=
  Host.reduceAdd (select earlier (same e) (broadcastInDim S8192x2x8192 ![] bcast_S_S8192x2x8192 (constant S_ .f32 0x00000000#32)))
    (constant S_ .f32 0x00000000#32) reducesTo_S8192x2x8192_S8192x2_d2 h_S_

/-- and the places. -/
def places : IVec S8192x128 32 :=
  pad S8192x128 ![0, 0] ![0, 126] ![0, 0] (fptosi 32 (addf (starts S (experts X)) (rank (experts X)))) (constantI S_ 32 0#32) pads_S8192x2_S8192x128_000_01260 h_S_

variable {X}

theorem experts_at (r : Fin 8192) (k : Fin 2) : experts X (ix2 r k) = X (ix2 r ⟨k, by omega⟩) := by
  pointwise [experts]

theorem earlier_at (r : Fin 8192) (k : Fin 2) (t : Fin 8192) : earlier (ix3 r k t) = BitVec.ofBool (decide ((t : ℕ) < r)) := by
  pointwise [earlier]
  rw [slt_words (by omega) (by omega)]

theorem uitofp_bit (p : Prop) [Decidable p] : FloatOps.uitofp (F := Ideal) FTy.f32 (BitVec.ofBool (decide p)) = (if p then 1 else 0 : EReal) := by
  by_cases h : p <;> simp [h, FloatOps.uitofp]

theorem same_at (e : IVec S8192x2 32) (r : Fin 8192) (k : Fin 2) (t : Fin 8192) (i : Fin 128) (hi : e (ix2 r k) = BitVec.ofNat 32 (i : ℕ)) :
    same e (ix3 r k t) = hit (e (ix2 t 0)) i + hit (e (ix2 t 1)) i := by
  pointwise [same]
  rw [Fin.sum_univ_two, hi]
  simp only [eq_words, uitofp_bit]
  rfl

theorem rank_at (e : IVec S8192x2 32) (r : Fin 8192) (k : Fin 2) :
    rank e (ix2 r k) = ∑ t : Fin 8192, if (t : ℕ) < r then same e (ix3 r k t) else 0 := by
  pointwise [rank]
  simp only [earlier_at, select_ofBool]

theorem wrap_at (e : IVec S8192x2 32) (r : Fin 8192) (k : Fin 2) (i : Fin 128) (hi : e (ix2 r k) = BitVec.ofNat 32 (i : ℕ)) :
    wrap e (ix3 r k 0) = BitVec.ofNat 32 (i : ℕ) := by
  pointwise [wrap]
  rw [hi, slt_words (a := (i : ℕ)) (b := 0) (by omega) (by omega), select_ofBool, if_neg (Nat.not_lt_zero _)]

theorem row_at (i : Fin 128) :
    (shapeCast S128 (extractStridedSlice S1x128 ![0, 0] S slices_S8x128_S1x128_0_0) shapeCasts_S1x128_S128) (ix1 i) = S (ix2 0 i) := by
  pointwise

theorem starts_at (e : IVec S8192x2 32) (r : Fin 8192) (k : Fin 2) (i : Fin 128) (hi : e (ix2 r k) = BitVec.ofNat 32 (i : ℕ)) :
    starts S e (ix2 r k) = S (ix2 0 i) := by
  unfold starts
  rw [gather_at, ← row_at S i]
  congr 2
  refine Fin.ext ?_
  show min (wrap e (ix3 r k 0)).toInt.toNat 127 = i
  rw [wrap_at e r k i hi, BitVec.toInt_eq_toNat_of_lt (by rw [BitVec.toNat_ofNat]; omega), BitVec.toNat_ofNat, Nat.mod_eq_of_lt (by omega)]
  omega

/-- The reference's places are the ones the lanes give, when every expert has a lane. -/
theorem places_at (E : Experts) (st : Fin 128 → EReal) (hE : ∀ (r : Fin 8192) (k : Fin 2), experts X (ix2 r k) = E r k) (hS : ∀ i, S (ix2 0 i) = st i)
    (hr : ∀ (r : Fin 8192) (k : Fin 2), ∃ i : Fin 128, experts X (ix2 r k) = BitVec.ofNat 32 (i : ℕ)) (r : Fin 8192) (l : Fin 128) :
    places X S (ix2 r l) = lanes E st r l := by
  have hd : ∀ k : Fin 2, FloatOps.fptosi (F := Ideal) (φ := .f32) 32 (starts S (experts X) (ix2 r k) + rank (experts X) (ix2 r k)) = dest E st r k := fun k => by
    obtain ⟨i, hi⟩ := hr r k
    unfold dest
    rw [sum_hit ((hE r k).symm.trans hi), starts_at S _ r k i hi, rank_at, hS]
    unfold place
    rw [← sum_earlier r.isLt.le]
    simp only [same_at _ r k _ i hi, hE]
    rfl
  pointwise [places]
  unfold lanes
  by_cases h0 : (l : ℕ) = 0
  · rw [dif_pos (by omega), if_pos h0, ← hd 0]
    simp only [h0]
    rfl
  · rw [if_neg h0]
    by_cases h1 : (l : ℕ) = 1
    · rw [dif_pos (by omega), if_pos h1, ← hd 1]
      simp only [h1]
      rfl
    · rw [dif_neg (by omega), if_neg h1]
      rfl

end Cert.DispatchRefIdeal.Disp

end
-- ==== Proof.Disp.Range.lean ====
/- What the dispatch's precondition says: the first two lanes of every token hold the number of a lane. -/
module

public import proofs.«01_k».proof.Pre_expert_numbers
public import proofs.«01_k».proof.Proof.Disp.Spec
public import Idealize.ShloMosaic.Lib.ReduceAll
public import Idealize.ShloMosaic.Lib.WordArith

@[expose] public section

set_option maxRecDepth 16384

noncomputable section

open Idealize.ShloMosaic

namespace Cert.Pre_expert_numbers

/-- The shape relations of the precondition. -/
theorem facts : Facts where
  slices_S8192x128_S8192x2_0_0 := by decide
  bcast_S_S8192x2 := by decide
  reducesTo_S8192x2_S_d0_1 := by decide
  h_S_ := by decide

/-- A word between zero and 128, as signed words compare, is a lane's number. -/
theorem lane_of_bits {e : BitVec 32} (h : IntOp.andi (IntOp.cmpi .sge e 0#32) (IntOp.cmpi .slt e 128#32) = 1#1) : ∃ i : Fin 128, e = BitVec.ofNat 32 (i : ℕ) := by
  have both : ∀ p q : Bool, IntOp.andi (BitVec.ofBool p) (BitVec.ofBool q) = 1#1 → p = true ∧ q = true := by decide
  obtain ⟨h0, h1⟩ := both (BitVec.sle 0#32 e) (BitVec.slt e 128#32) h
  have hl : e.toNat < 128 := WordArith.toNat_lt_of_zero_sle_of_slt_ofNat e 128 (by decide) h0 h1
  exact ⟨⟨e.toNat, hl⟩, by rw [BitVec.ofNat_toNat, BitVec.setWidth_eq]⟩

/-- The precondition, read at a token and one of its copies. -/
theorem lane (X : IVec S8192x128 32) (S : FVec Ideal S8x128 .f32) (hF : Facts) (h : fn (F := Ideal) X S = fun _ => 1#1) (r : Fin 8192) (k : Fin 2) :
    ∃ i : Fin 128, X (ix2 r ⟨k, by omega⟩) = BitVec.ofNat 32 (i : ℕ) := by
  have e := congrFun h (fun k => k.elim0)
  unfold fn at e
  have b := Host.reduce_andi_all _ _ _ _ _ e (ix2 r k)
  have hx : (extractStridedSlice S8192x2 ![0, 0] X hF.slices_S8192x128_S8192x2_0_0) (ix2 r k) = X (ix2 r ⟨k, by omega⟩) := by
    pointwise
  rw [← hx]
  exact lane_of_bits b

end Cert.Pre_expert_numbers

end
-- ==== Proof.Disp.Claims.lean ====
/- The claims about the dispatch, from the kernel's array of places and the reference's. -/
module

public import proofs.«01_k».proof.Defs
public import proofs.«01_k».proof.Proof.Disp.Kernel
public import proofs.«01_k».proof.Proof.Disp.Ref
public import proofs.«01_k».proof.Proof.Disp.Range
public import proofs.«01_k».proof.Proof.Gen.DispatchIdeal
public import proofs.«01_k».proof.Proof.Gen.DispatchRefIdeal
public import proofs.«01_k».proof.Proof.Gen.DispatchRefIdeal.Run
public import Idealize.ShloMosaic.Adequacy
public import Idealize.ShloMosaic.Init

@[expose] public section

set_option maxRecDepth 16384

noncomputable section

open Idealize.ShloMosaic Idealize.ShloMosaic.TcCoe Idealize.SL.Sem

namespace Cert.Proof.DispClaims

open Cert.Disp

/-- The reference runs, its arguments unchanged and every semaphore back at zero. -/
theorem frame_r : quiescent_DispatchRefIdeal (hDispatchRefIdeal := Cert.DispatchRefIdeal.Gen.facts) := fun m ρ _ =>
  (θ_run Cert.DispatchRefIdeal.defs _ _).mono (fun r h => ⟨fun c => (h c).2, Idealize.ShloMosaic.sem_eq_zero_of_no_sems (by decide) r.2⟩)
    (Cert.DispatchRefIdeal.Value.run (F := Ideal) m ρ)

theorem frame_r_pre : quiescent_DispatchRefIdeal_pre_expert_numbers (hDispatchRefIdeal := Cert.DispatchRefIdeal.Gen.facts)
    (hPre_expert_numbers := Cert.Pre_expert_numbers.facts) :=
  fun m ρ _ => frame_r m ρ trivial

/-- The kernel and the reference leave the same places. -/
theorem algebraic : algebraic_DispatchIdeal_DispatchRefIdeal_pre_expert_numbers (hDispatchIdeal := Cert.DispatchIdeal.Gen.facts)
    (hDispatchRefIdeal := Cert.DispatchRefIdeal.Gen.facts) (hPre_expert_numbers := Cert.Pre_expert_numbers.facts) := by
  intro m ρ m' ρ' hpre hagree
  refine ⟨fun c => Cert.DispatchIdeal.Value.placesOf (m ((c.tc : Thread Cert.DispatchIdeal.nD Cert.DispatchIdeal.τ).loc Cert.DispatchIdeal.main_arg0))
    (m ((c.tc : Thread Cert.DispatchIdeal.nD Cert.DispatchIdeal.τ).loc Cert.DispatchIdeal.main_arg1)), ?_, ?_⟩
  · exact (θ_run Cert.DispatchIdeal.defs _ _).mono (fun _ h c => ⟨(h c).1.trans (Cert.DispatchIdeal.Value.final m c), (h c).2⟩)
      (Cert.DispatchIdeal.Value.run_blocks (F := Ideal) m ρ)
  · refine (θ_run Cert.DispatchRefIdeal.defs _ _).mono (fun _ h c => ⟨(h c).1.trans ?_, (h c).2⟩)
      (Cert.DispatchRefIdeal.Value.run (F := Ideal) m' ρ')
    change Cert.DispatchRefIdeal.Disp.places _ _ = _
    rw [(hagree c).1, (hagree c).2]
    funext i
    idx_vars i
    refine Cert.DispatchRefIdeal.Disp.places_at _ _ _ (fun r k => ?_) (fun _ => rfl) (fun r k => ?_) _ _
    · rw [Cert.DispatchRefIdeal.Disp.experts_at]
      unfold Cert.DispatchIdeal.Value.expertsOf
      rw [dif_pos r.isLt]
    · rw [Cert.DispatchRefIdeal.Disp.experts_at]
      exact Cert.Pre_expert_numbers.lane _ _ Cert.Pre_expert_numbers.facts (hpre c) r k

end Cert.Proof.DispClaims

end
-- ==== Proof.Scan.Spec.lean ====
/-
  The scan, as plain mathematics: each state's recurrence along the tokens, and each channel's result.
-/
module

public import Idealize.ShloMosaic.Lib.Pointwise

@[expose] public section

noncomputable section

open Idealize.ShloMosaic

namespace Cert.Scan

/-- An array by natural indices: zero outside. -/
def at3 {a b c : ℕ} (f : (⟨3, ![a, b, c]⟩ : Shape).Idx → EReal) (i j k : ℕ) : EReal :=
  if h : i < a ∧ j < b ∧ k < c then f (ix3 (⟨i, h.1⟩ : Fin a) (⟨j, h.2.1⟩ : Fin b) (⟨k, h.2.2⟩ : Fin c)) else 0

def at2 {a b : ℕ} (f : (⟨2, ![a, b]⟩ : Shape).Idx → EReal) (i j : ℕ) : EReal :=
  if h : i < a ∧ j < b then f (ix2 (⟨i, h.1⟩ : Fin a) (⟨j, h.2⟩ : Fin b)) else 0

theorem at3_pt {a b c : ℕ} (f : (⟨3, ![a, b, c]⟩ : Shape).Idx → EReal) (i j k : ℕ) (hi : i < a) (hj : j < b) (hk : k < c) :
    at3 f i j k = f (ix3 (⟨i, hi⟩ : Fin a) (⟨j, hj⟩ : Fin b) (⟨k, hk⟩ : Fin c)) := dif_pos ⟨hi, hj, hk⟩

theorem at2_pt {a b : ℕ} (f : (⟨2, ![a, b]⟩ : Shape).Idx → EReal) (i j : ℕ) (hi : i < a) (hj : j < b) :
    at2 f i j = f (ix2 (⟨i, hi⟩ : Fin a) (⟨j, hj⟩ : Fin b)) := dif_pos ⟨hi, hj⟩

/-- The arguments, by natural indices. -/
structure Args where
  P : ℕ → ℕ → ℕ → EReal
  B : ℕ → ℕ → ℕ → EReal
  C : ℕ → ℕ → ℕ → EReal
  Ar : ℕ → ℕ → ℕ → EReal
  Ai : ℕ → ℕ → ℕ → EReal
  D : ℕ → ℕ → EReal

variable (A : Args)

/-- What drives state `q` of tile `n` at token `k`: its group's channels through the input matrix, the real part or the imaginary. -/
def drv (part s n q k : ℕ) : EReal := ∑ h : Fin 16, A.P s k (4096 + n * 256 + (q / 64 * 16 + h)) * A.B n h (part * 1024 + q)

/-- State `q` of tile `n` in sequence `s` after `k` tokens. -/
def st (s n q : ℕ) : ℕ → EReal × EReal
  | 0 => (0, 0)
  | k + 1 => (A.Ar n (q / 128) (q % 128) * (st s n q k).1 - A.Ai n (q / 128) (q % 128) * (st s n q k).2 + drv A 0 s n q k,
    A.Ar n (q / 128) (q % 128) * (st s n q k).2 + A.Ai n (q / 128) (q % 128) * (st s n q k).1 + drv A 1 s n q k)

/-- Channel `c` of tile `n` before the activation. -/
def lin (s k n c : ℕ) : EReal :=
  (∑ p : Fin 64, (st A s n (c / 16 * 64 + p) (k + 1)).1 * A.C n p c + ∑ p : Fin 64, (st A s n (c / 16 * 64 + p) (k + 1)).2 * A.C n (64 + p) c)
    + A.D 0 (n * 256 + c) * A.P s k (4096 + n * 256 + c)

/-- The arguments of a call. -/
def argsOf (a0 : (⟨3, ![4, 2048, 14336]⟩ : Shape).Idx → EReal) (a1 : (⟨3, ![8, 16, 2048]⟩ : Shape).Idx → EReal) (a2 : (⟨3, ![8, 128, 256]⟩ : Shape).Idx → EReal) (a3 a4 : (⟨3, ![8, 8, 128]⟩ : Shape).Idx → EReal) (a5 : (⟨2, ![1, 2048]⟩ : Shape).Idx → EReal) : Args :=
  ⟨at3 (a := 4) (b := 2048) (c := 14336) a0, at3 (a := 8) (b := 16) (c := 2048) a1, at3 (a := 8) (b := 128) (c := 256) a2, at3 (a := 8) (b := 8) (c := 128) a3, at3 (a := 8) (b := 8) (c := 128) a4, at2 (a := 1) (b := 2048) a5⟩

/-- The activation. -/
def act (y : EReal) : EReal :=
  y * (Ideal.ofBits .f32 1056964608#32 * (1 + Ideal.tanh (Ideal.ofBits .f32 1061962282#32 * (y + Ideal.ofBits .f32 1027024659#32 * (y * (y * y))))))

/-- The result. -/
def resOf (A : Args) : (⟨3, ![4, 2048, 2048]⟩ : Shape).Idx → EReal := fun y => act (lin A (y 0).val (y 1).val ((y 2).val / 256) ((y 2).val % 256))

/-- A sum over rows that keeps one block of them. -/
theorem sum_block (a b : ℕ) (f : ℕ → EReal) (g : ℕ) (hg : g < a) :
    ∑ r : Fin (a * b), (if r.val / b = g then f r.val else 0) = ∑ h : Fin b, f (g * b + h) := by
  rw [← finProdFinEquiv.sum_comp, Fintype.sum_prod_type, Finset.sum_eq_single (⟨g, hg⟩ : Fin a)]
  · refine Finset.sum_congr rfl fun h _ => ?_
    have hb : 0 < b := Nat.lt_of_le_of_lt (Nat.zero_le _) h.isLt
    have e : (finProdFinEquiv ((⟨g, hg⟩ : Fin a), h)).val = h.val + b * g := rfl
    rw [e, if_pos, add_comm, mul_comm]
    rw [Nat.add_mul_div_left _ _ hb, Nat.div_eq_of_lt h.isLt, zero_add]
  · intro i _ hi
    refine Finset.sum_eq_zero fun h _ => ?_
    have hb : 0 < b := Nat.lt_of_le_of_lt (Nat.zero_le _) h.isLt
    have e : (finProdFinEquiv (i, h)).val = h.val + b * i.val := rfl
    rw [e, if_neg]
    rw [Nat.add_mul_div_left _ _ hb, Nat.div_eq_of_lt h.isLt, zero_add]
    exact fun h => hi (Fin.ext h)
  · exact fun h => absurd (Finset.mem_univ _) h

/-- The two halves of the output sum, each keeping one block. -/
theorem sum_blocks (f : ℕ → EReal) (g : ℕ) (hg : g < 16) :
    ∑ j : Fin 2048, (if j.val % 1024 / 64 = g then f j.val else 0) = ∑ p : Fin 64, f (g * 64 + p) + ∑ p : Fin 64, f (1024 + (g * 64 + p)) := by
  refine (Fin.sum_univ_add (fun j : Fin (1024 + 1024) => if j.val % 1024 / 64 = g then f j.val else 0)).trans ?_
  refine congrArg₂ (· + ·) ?_ ?_
  · refine Eq.trans (Finset.sum_congr rfl fun j _ => ?_) (sum_block 16 64 f g hg)
    have e : (Fin.castAdd 1024 j).val = j.val := rfl
    have : j.val < 1024 := j.isLt
    rw [e, Nat.mod_eq_of_lt this]
  · refine Eq.trans (Finset.sum_congr rfl fun j _ => ?_) (sum_block 16 64 (fun i => f (1024 + i)) g hg)
    have e : (Fin.natAdd 1024 j).val = 1024 + j.val := rfl
    have : j.val < 1024 := j.isLt
    rw [e, Nat.add_mod_left, Nat.mod_eq_of_lt this]

end Cert.Scan

end
-- ==== Proof.Scan.TripIdeal.lean ====
/-
  The scan's counted loop, a trip at a symbolic token: what the eight strided stores put into the state scratch, what
  is carried on, and the loop's invariant — the scratch and the carried states at the fold of the trips before.
-/
module

public import proofs.«01_k».proof.Proof.Gen.SsmIdeal.Frame
public import proofs.«01_k».proof.Proof.Gen.SsmIdeal.Loops

@[expose] public section

set_option maxRecDepth 16384

noncomputable section

namespace Cert.SsmIdeal.Scan

open Cert.SsmIdeal Cert.SsmIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The four sequences' states, real and imaginary in turn. -/
abbrev Acc (F : FTy → Type) : Type :=
  FVec F S8x128 .f32 × FVec F S8x128 .f32 × FVec F S8x128 .f32 × FVec F S8x128 .f32 × FVec F S8x128 .f32 × FVec F S8x128 .f32 × FVec F S8x128 .f32 × FVec F S8x128 .f32

/-- The condition under which the body spreads the packed matrices, from the grid's coordinates; -/
abbrev cond0_0 (i : grid0.Coords) : Prop := (Scalar.cmpi .ne (Scalar.extui (Scalar.cmpi .eq (BitVec.ofNat 32 (i 1).val) 0#32)) 0#32) = 1#1
/-- and the one under which it zeroes the states. -/
abbrev cond0_1 (i : grid0.Coords) : Prop := (Scalar.cmpi .ne (Scalar.extui (Scalar.cmpi .eq (Scalar.select (Scalar.andi (Scalar.xori (Scalar.cmpi .slt (Scalar.remsi (BitVec.ofNat 32 (i 1).val) (Scalar.select (Scalar.cmpi .eq 4#32 0#32) 1#32 4#32)) 0#32) (Scalar.cmpi .slt (Scalar.select (Scalar.cmpi .eq 4#32 0#32) 1#32 4#32) 0#32)) (Scalar.cmpi .ne (Scalar.remsi (BitVec.ofNat 32 (i 1).val) (Scalar.select (Scalar.cmpi .eq 4#32 0#32) 1#32 4#32)) 0#32)) (Scalar.addi (Scalar.remsi (BitVec.ofNat 32 (i 1).val) (Scalar.select (Scalar.cmpi .eq 4#32 0#32) 1#32 4#32)) (Scalar.select (Scalar.cmpi .eq 4#32 0#32) 1#32 4#32)) (Scalar.remsi (BitVec.ofNat 32 (i 1).val) (Scalar.select (Scalar.cmpi .eq 4#32 0#32) 1#32 4#32))) 0#32)) 0#32) = 1#1

/-- Each holds at the first of a tile's four blocks, -/
theorem hcond0_0 : ∀ t : Fin cfg0.N, cond0_0 (grid0.coords t) ↔ t.val % 4 = 0 :=
  (by decide +kernel : ∀ t : Fin grid0.N, cond0_0 (grid0.coords t) ↔ t.val % 4 = 0)
/-- and nowhere else. -/
theorem hcond0_1 : ∀ t : Fin cfg0.N, cond0_1 (grid0.coords t) ↔ t.val % 4 = 0 :=
  (by decide +kernel : ∀ t : Fin grid0.N, cond0_1 (grid0.coords t) ↔ t.val % 4 = 0)

section Trip

variable (c : Dev nD) (i : grid0.Coords) (arg2 : Memref sig .tc .vmem S4x512x256 .f32) (harg2 : arg2.IsWhole) (arg3 : Memref sig .tc .vmem S1x16x2048 .f32) (harg3 : arg3.IsWhole) (arg4 : Memref sig .tc .vmem S1x128x256 .f32) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S1x256 .f32) (harg7 : arg7.IsWhole) (arg8 : Memref sig .tc .vmem S4x512x256 .bf16) (harg8 : arg8.IsWhole) (arg9 : Memref sig .tc .vmem S4x8320x128 .f32) (harg9 : arg9.IsWhole) (arg10 : Memref sig .tc .vmem S4x16x128 .f32) (harg10 : arg10.IsWhole) (arg11 : Memref sig .tc .vmem S256x2048 .bf16) (harg11 : arg11.IsWhole) (arg12 : Memref sig .tc .vmem S2048x256 .bf16) (harg12 : arg12.IsWhole)
  (v293 v295 : FVec F S8x128 .f32) (v296 : Vec F S1x8x128 .f32)

/-- The scratch held at `f`. -/
abbrev xP (f : Buf (Elt F) (arg9.view.loc (c : Thread nD τ))) : sProp 𝕄 := arg9.view.loc (c : Thread nD τ) ↦[arg9.view.set]{fullShare} f

set_option backward.proofsInPublic true in
set_option maxHeartbeats 1000000 in
/-- One trip, from any contents of the scratch and any carried states: the pieces its stores write, and the states it
    carries on, as the run finds them. -/
def tripRun (k : Fin k0_t1_loop.trips) (a : Acc F) (f : Buf (Elt F) (arg9.view.loc (c : Thread nD τ))) :
    Σ' L : List (View.Piece (Elt F) S4x8320x128 .f32), { a' : Acc F //
      xP c arg9 f ⊢ wp frame (wpE (defs₀ (F := F)) Variants.none (c : Thread nD τ) none) Set.univ
        (k0_t1_body (F := F) i arg2 harg2 arg3 harg3 arg4 harg4 arg5 harg5 arg6 harg6 arg7 harg7 arg8 harg8 arg9 harg9 arg10 harg10 arg11 harg11 arg12 harg12 v293 v295 v296 k a)
        (fun b => iprop(⌜b = a'⌝ ∗ xP c arg9 (arg9.view.writes (Elt F) f L))) } := by
  obtain ⟨a0, a1, a2, a3, a4, a5, a6, a7⟩ := a
  refine ⟨?_, ?_, ?run⟩
  case run =>
    unfold k0_t1_body
    simp only [k0_part5_eq_skeleton, k0_part6_eq_skeleton]
    iintro H
    sl_exec
    sl_step
    isplitr
    · ipureintro; rfl
    iexact H

/-- Trip `k` (when there is one) from the scratch's contents and the carried states before it. -/
def foldStep (k : ℕ) (r : Buf (Elt F) (arg9.view.loc (c : Thread nD τ)) × Acc F) : Buf (Elt F) (arg9.view.loc (c : Thread nD τ)) × Acc F :=
  if h : k < k0_t1_loop.trips then
    (arg9.view.writes (Elt F) r.1 (tripRun c i arg2 harg2 arg3 harg3 arg4 harg4 arg5 harg5 arg6 harg6 arg7 harg7 arg8 harg8 arg9 harg9 arg10 harg10 arg11 harg11 arg12 harg12 v293 v295 v296 ⟨k, h⟩ r.2 r.1).1,
      (tripRun c i arg2 harg2 arg3 harg3 arg4 harg4 arg5 harg5 arg6 harg6 arg7 harg7 arg8 harg8 arg9 harg9 arg10 harg10 arg11 harg11 arg12 harg12 v293 v295 v296 ⟨k, h⟩ r.2 r.1).2.1)
  else r

/-- The scratch's contents and the carried states before trip `k`: the fold of the trips before it. -/
abbrev foldAt (f₀ : Buf (Elt F) (arg9.view.loc (c : Thread nD τ))) (a₀ : Acc F) (k : ℕ) : Buf (Elt F) (arg9.view.loc (c : Thread nD τ)) × Acc F :=
  Nat.rec (motive := fun _ => Buf (Elt F) (arg9.view.loc (c : Thread nD τ)) × Acc F) (f₀, a₀)
    (fun k r => foldStep c i arg2 harg2 arg3 harg3 arg4 harg4 arg5 harg5 arg6 harg6 arg7 harg7 arg8 harg8 arg9 harg9 arg10 harg10 arg11 harg11 arg12 harg12 v293 v295 v296 k r) k

/-- The loop's invariant before trip `k`: the entry's contents at the first, afterwards the fold's. -/
def invAt (f₀ : Buf (Elt F) (arg9.view.loc (c : Thread nD τ))) (a₀ : Acc F) (k : ℕ) (a : Acc F) : sProp 𝕄 :=
  iprop(⌜a = ((foldAt c i arg2 harg2 arg3 harg3 arg4 harg4 arg5 harg5 arg6 harg6 arg7 harg7 arg8 harg8 arg9 harg9 arg10 harg10 arg11 harg11 arg12 harg12 v293 v295 v296 f₀ a₀ k).2.1, (foldAt c i arg2 harg2 arg3 harg3 arg4 harg4 arg5 harg5 arg6 harg6 arg7 harg7 arg8 harg8 arg9 harg9 arg10 harg10 arg11 harg11 arg12 harg12 v293 v295 v296 f₀ a₀ k).2.2.1, (foldAt c i arg2 harg2 arg3 harg3 arg4 harg4 arg5 harg5 arg6 harg6 arg7 harg7 arg8 harg8 arg9 harg9 arg10 harg10 arg11 harg11 arg12 harg12 v293 v295 v296 f₀ a₀ k).2.2.2.1, (foldAt c i arg2 harg2 arg3 harg3 arg4 harg4 arg5 harg5 arg6 harg6 arg7 harg7 arg8 harg8 arg9 harg9 arg10 harg10 arg11 harg11 arg12 harg12 v293 v295 v296 f₀ a₀ k).2.2.2.2.1, (foldAt c i arg2 harg2 arg3 harg3 arg4 harg4 arg5 harg5 arg6 harg6 arg7 harg7 arg8 harg8 arg9 harg9 arg10 harg10 arg11 harg11 arg12 harg12 v293 v295 v296 f₀ a₀ k).2.2.2.2.2.1, (foldAt c i arg2 harg2 arg3 harg3 arg4 harg4 arg5 harg5 arg6 harg6 arg7 harg7 arg8 harg8 arg9 harg9 arg10 harg10 arg11 harg11 arg12 harg12 v293 v295 v296 f₀ a₀ k).2.2.2.2.2.2.1, (foldAt c i arg2 harg2 arg3 harg3 arg4 harg4 arg5 harg5 arg6 harg6 arg7 harg7 arg8 harg8 arg9 harg9 arg10 harg10 arg11 harg11 arg12 harg12 v293 v295 v296 f₀ a₀ k).2.2.2.2.2.2.2.1, (foldAt c i arg2 harg2 arg3 harg3 arg4 harg4 arg5 harg5 arg6 harg6 arg7 harg7 arg8 harg8 arg9 harg9 arg10 harg10 arg11 harg11 arg12 harg12 v293 v295 v296 f₀ a₀ k).2.2.2.2.2.2.2.2)⌝ ∗ xP c arg9 (foldAt c i arg2 harg2 arg3 harg3 arg4 harg4 arg5 harg5 arg6 harg6 arg7 harg7 arg8 harg8 arg9 harg9 arg10 harg10 arg11 harg11 arg12 harg12 v293 v295 v296 f₀ a₀ k).1)

/-- What the loop leaves in the scratch, -/
def loopBuf (f₀ : Buf (Elt F) (arg9.view.loc (c : Thread nD τ))) (a₀ : Acc F) : Buf (Elt F) (arg9.view.loc (c : Thread nD τ)) :=
  (foldAt c i arg2 harg2 arg3 harg3 arg4 harg4 arg5 harg5 arg6 harg6 arg7 harg7 arg8 harg8 arg9 harg9 arg10 harg10 arg11 harg11 arg12 harg12 v293 v295 v296 f₀ a₀ k0_t1_loop.trips).1
/-- and the states it ends with. -/
def loopAcc (f₀ : Buf (Elt F) (arg9.view.loc (c : Thread nD τ))) (a₀ : Acc F) : Acc F :=
  (foldAt c i arg2 harg2 arg3 harg3 arg4 harg4 arg5 harg5 arg6 harg6 arg7 harg7 arg8 harg8 arg9 harg9 arg10 harg10 arg11 harg11 arg12 harg12 v293 v295 v296 f₀ a₀ k0_t1_loop.trips).2

set_option warn.classDefReducibility false in
/-- The loop's invariant: the scratch and the carried states at the fold. -/
@[sl_loop] def loopInv (f₀ : Buf (Elt F) (arg9.view.loc (c : Thread nD τ))) (a₀ : Acc F) :
    LoopInvTy_k0_t1 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 v293 v295 v296 a₀ where
  inv k a := Nat.rec (motive := fun _ => sProp 𝕄) iprop(⌜a = a₀⌝ ∗ xP c arg9 f₀)
    (fun j _ => invAt c i arg2 harg2 arg3 harg3 arg4 harg4 arg5 harg5 arg6 harg6 arg7 harg7 arg8 harg8 arg9 harg9 arg10 harg10 arg11 harg11 arg12 harg12 v293 v295 v296 f₀ a₀ (j + 1) a) k
  step k a := by
    have e : (foldAt c i arg2 harg2 arg3 harg3 arg4 harg4 arg5 harg5 arg6 harg6 arg7 harg7 arg8 harg8 arg9 harg9 arg10 harg10 arg11 harg11 arg12 harg12 v293 v295 v296 f₀ a₀ (k.val + 1))
        = (arg9.view.writes (Elt F) (foldAt c i arg2 harg2 arg3 harg3 arg4 harg4 arg5 harg5 arg6 harg6 arg7 harg7 arg8 harg8 arg9 harg9 arg10 harg10 arg11 harg11 arg12 harg12 v293 v295 v296 f₀ a₀ k.val).1 (tripRun c i arg2 harg2 arg3 harg3 arg4 harg4 arg5 harg5 arg6 harg6 arg7 harg7 arg8 harg8 arg9 harg9 arg10 harg10 arg11 harg11 arg12 harg12 v293 v295 v296 k (foldAt c i arg2 harg2 arg3 harg3 arg4 harg4 arg5 harg5 arg6 harg6 arg7 harg7 arg8 harg8 arg9 harg9 arg10 harg10 arg11 harg11 arg12 harg12 v293 v295 v296 f₀ a₀ k.val).2 (foldAt c i arg2 harg2 arg3 harg3 arg4 harg4 arg5 harg5 arg6 harg6 arg7 harg7 arg8 harg8 arg9 harg9 arg10 harg10 arg11 harg11 arg12 harg12 v293 v295 v296 f₀ a₀ k.val).1).1,
          (tripRun c i arg2 harg2 arg3 harg3 arg4 harg4 arg5 harg5 arg6 harg6 arg7 harg7 arg8 harg8 arg9 harg9 arg10 harg10 arg11 harg11 arg12 harg12 v293 v295 v296 k (foldAt c i arg2 harg2 arg3 harg3 arg4 harg4 arg5 harg5 arg6 harg6 arg7 harg7 arg8 harg8 arg9 harg9 arg10 harg10 arg11 harg11 arg12 harg12 v293 v295 v296 f₀ a₀ k.val).2 (foldAt c i arg2 harg2 arg3 harg3 arg4 harg4 arg5 harg5 arg6 harg6 arg7 harg7 arg8 harg8 arg9 harg9 arg10 harg10 arg11 harg11 arg12 harg12 v293 v295 v296 f₀ a₀ k.val).1).2.1) := dif_pos k.isLt
    have e₀ : (Nat.rec (motive := fun _ => sProp 𝕄) iprop(⌜a = a₀⌝ ∗ xP c arg9 f₀)
        (fun j _ => invAt c i arg2 harg2 arg3 harg3 arg4 harg4 arg5 harg5 arg6 harg6 arg7 harg7 arg8 harg8 arg9 harg9 arg10 harg10 arg11 harg11 arg12 harg12 v293 v295 v296 f₀ a₀ (j + 1) a) k.val : sProp 𝕄)
        = invAt c i arg2 harg2 arg3 harg3 arg4 harg4 arg5 harg5 arg6 harg6 arg7 harg7 arg8 harg8 arg9 harg9 arg10 harg10 arg11 harg11 arg12 harg12 v293 v295 v296 f₀ a₀ k.val a := by
      cases k.val with
      | zero => rfl
      | succ n => rfl
    rw [e₀]
    show _ ⊢ wp frame _ _ _ (invAt c i arg2 harg2 arg3 harg3 arg4 harg4 arg5 harg5 arg6 harg6 arg7 harg7 arg8 harg8 arg9 harg9 arg10 harg10 arg11 harg11 arg12 harg12 v293 v295 v296 f₀ a₀ (k.val + 1))
    unfold invAt
    rw [e]
    generalize (foldAt c i arg2 harg2 arg3 harg3 arg4 harg4 arg5 harg5 arg6 harg6 arg7 harg7 arg8 harg8 arg9 harg9 arg10 harg10 arg11 harg11 arg12 harg12 v293 v295 v296 f₀ a₀ k.val) = r
    iintro ⟨%ha, H⟩
    subst ha
    iapply (tripRun c i arg2 harg2 arg3 harg3 arg4 harg4 arg5 harg5 arg6 harg6 arg7 harg7 arg8 harg8 arg9 harg9 arg10 harg10 arg11 harg11 arg12 harg12 v293 v295 v296 k r.2 r.1).2.2
    iexact H

set_option warn.classDefReducibility false in
/-- What the run goes on from after the loop. -/
@[instance] def loopExit (f₀ : Buf (Elt F) (arg9.view.loc (c : Thread nD τ))) (a₀ : Acc F) :
    LoopExit (loopInv c i arg2 harg2 arg3 harg3 arg4 harg4 arg5 harg5 arg6 harg6 arg7 harg7 arg8 harg8 arg9 harg9 arg10 harg10 arg11 harg11 arg12 harg12 v293 v295 v296 f₀ a₀) where
  post a := iprop(⌜a = ((loopAcc c i arg2 harg2 arg3 harg3 arg4 harg4 arg5 harg5 arg6 harg6 arg7 harg7 arg8 harg8 arg9 harg9 arg10 harg10 arg11 harg11 arg12 harg12 v293 v295 v296 f₀ a₀).1, (loopAcc c i arg2 harg2 arg3 harg3 arg4 harg4 arg5 harg5 arg6 harg6 arg7 harg7 arg8 harg8 arg9 harg9 arg10 harg10 arg11 harg11 arg12 harg12 v293 v295 v296 f₀ a₀).2.1, (loopAcc c i arg2 harg2 arg3 harg3 arg4 harg4 arg5 harg5 arg6 harg6 arg7 harg7 arg8 harg8 arg9 harg9 arg10 harg10 arg11 harg11 arg12 harg12 v293 v295 v296 f₀ a₀).2.2.1, (loopAcc c i arg2 harg2 arg3 harg3 arg4 harg4 arg5 harg5 arg6 harg6 arg7 harg7 arg8 harg8 arg9 harg9 arg10 harg10 arg11 harg11 arg12 harg12 v293 v295 v296 f₀ a₀).2.2.2.1, (loopAcc c i arg2 harg2 arg3 harg3 arg4 harg4 arg5 harg5 arg6 harg6 arg7 harg7 arg8 harg8 arg9 harg9 arg10 harg10 arg11 harg11 arg12 harg12 v293 v295 v296 f₀ a₀).2.2.2.2.1, (loopAcc c i arg2 harg2 arg3 harg3 arg4 harg4 arg5 harg5 arg6 harg6 arg7 harg7 arg8 harg8 arg9 harg9 arg10 harg10 arg11 harg11 arg12 harg12 v293 v295 v296 f₀ a₀).2.2.2.2.2.1, (loopAcc c i arg2 harg2 arg3 harg3 arg4 harg4 arg5 harg5 arg6 harg6 arg7 harg7 arg8 harg8 arg9 harg9 arg10 harg10 arg11 harg11 arg12 harg12 v293 v295 v296 f₀ a₀).2.2.2.2.2.2.1, (loopAcc c i arg2 harg2 arg3 harg3 arg4 harg4 arg5 harg5 arg6 harg6 arg7 harg7 arg8 harg8 arg9 harg9 arg10 harg10 arg11 harg11 arg12 harg12 v293 v295 v296 f₀ a₀).2.2.2.2.2.2.2)⌝
    ∗ xP c arg9 (loopBuf c i arg2 harg2 arg3 harg3 arg4 harg4 arg5 harg5 arg6 harg6 arg7 harg7 arg8 harg8 arg9 harg9 arg10 harg10 arg11 harg11 arg12 harg12 v293 v295 v296 f₀ a₀))
  exit a := by
    have e₀ : ∀ n : ℕ, (Nat.rec (motive := fun _ => sProp 𝕄) iprop(⌜a = a₀⌝ ∗ xP c arg9 f₀)
        (fun j _ => invAt c i arg2 harg2 arg3 harg3 arg4 harg4 arg5 harg5 arg6 harg6 arg7 harg7 arg8 harg8 arg9 harg9 arg10 harg10 arg11 harg11 arg12 harg12 v293 v295 v296 f₀ a₀ (j + 1) a) n : sProp 𝕄)
        = invAt c i arg2 harg2 arg3 harg3 arg4 harg4 arg5 harg5 arg6 harg6 arg7 harg7 arg8 harg8 arg9 harg9 arg10 harg10 arg11 harg11 arg12 harg12 v293 v295 v296 f₀ a₀ n a := fun n => by
      cases n with
      | zero => rfl
      | succ n => rfl
    exact (e₀ k0_t1_loop.trips).le

end Trip

end Cert.SsmIdeal.Scan

end
-- ==== Proof.Scan.RunAIdeal.lean ====
/-
  The scan's body at one grid point, run once: at the first block of a tile, which zeroes the states and spreads the packed matrices.
-/
module

public import proofs.«01_k».proof.Proof.Scan.TripIdeal

@[expose] public section

set_option maxRecDepth 16384

noncomputable section

namespace Cert.SsmIdeal.Scan

open Cert.SsmIdeal Cert.SsmIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option backward.proofsInPublic true in
set_option maxHeartbeats 4000000 in
/-- The pieces the body's stores leave in the result's block and in the scratch it carries, the state scratch at `f9` before. -/
def runA (c : Dev nD) (i : grid0.Coords) (arg2 : Memref sig .tc .vmem S4x512x256 .f32) (harg2 : arg2.IsWhole) (arg3 : Memref sig .tc .vmem S1x16x2048 .f32) (harg3 : arg3.IsWhole) (arg4 : Memref sig .tc .vmem S1x128x256 .f32) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S1x256 .f32) (harg7 : arg7.IsWhole) (arg8 : Memref sig .tc .vmem S4x512x256 .bf16) (harg8 : arg8.IsWhole) (arg9 : Memref sig .tc .vmem S4x8320x128 .f32) (harg9 : arg9.IsWhole) (arg10 : Memref sig .tc .vmem S4x16x128 .f32) (harg10 : arg10.IsWhole) (arg11 : Memref sig .tc .vmem S256x2048 .bf16) (harg11 : arg11.IsWhole) (arg12 : Memref sig .tc .vmem S2048x256 .bf16) (harg12 : arg12.IsWhole) (hc0 : cond0_0 i) (hc1 : cond0_1 i)
    (x0 : Vec F S4x512x256 .f32) (x1 : Vec F S1x16x2048 .f32) (x2 : Vec F S1x128x256 .f32) (x3 : Vec F S1x8x128 .f32) (x4 : Vec F S1x8x128 .f32) (x5 : Vec F S1x256 .f32) (f9 : Buf (Elt F) (arg9.view.loc (c : Thread nD τ))) :
    Σ' (L6 : List (View.Piece (Elt F) S4x512x256 .bf16)), Σ' (LS1 : List (View.Piece (Elt F) S4x16x128 .f32)), Σ' (LS2 : List (View.Piece (Elt F) S256x2048 .bf16)), { LS3 : List (View.Piece (Elt F) S2048x256 .bf16) //
      ∀ (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ xP c arg9 f9 ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, xP c arg9 f) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3)) -∗ K ⟨⟩))
          ⊢ wp frame (wpE (defs₀ (F := F)) Variants.none c none) Set.univ (cc0_s5_scan i arg2 harg2 arg3 harg3 arg4 harg4 arg5 harg5 arg6 harg6 arg7 harg7 arg8 harg8 arg9 harg9 arg10 harg10 arg11 harg11 arg12 harg12) K } := by
  refine ⟨?_, ?_, ?_, ?_, fun K => ?run⟩
  case run =>
    simp only [cc0_s5_scan_eq_skeleton]; unfold cc0_s5_scan_skel
    simp only [k0_part1_eq_skeleton, k0_part2_eq_skeleton, k0_part3_eq_skeleton, k0_part4_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, HS0, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]; · iexists _; iexact HS0
    isplitl [HS1]; · iexists _; iexact HS1
    isplitl [HS2]; · iexists _; iexact HS2
    iexists _; iexact HS3

end Cert.SsmIdeal.Scan

end
-- ==== Proof.Scan.RunBIdeal.lean ====
/-
  The scan's body at one grid point, run once: at a later block of a tile, which goes on from what the block before left.
-/
module

public import proofs.«01_k».proof.Proof.Scan.RunAIdeal

@[expose] public section

set_option maxRecDepth 16384

noncomputable section

namespace Cert.SsmIdeal.Scan

open Cert.SsmIdeal Cert.SsmIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option backward.proofsInPublic true in
set_option maxHeartbeats 4000000 in
/-- The pieces the body's stores leave in the result's block and in the scratch it carries, the state scratch at `f9` before. -/
def runB (c : Dev nD) (i : grid0.Coords) (arg2 : Memref sig .tc .vmem S4x512x256 .f32) (harg2 : arg2.IsWhole) (arg3 : Memref sig .tc .vmem S1x16x2048 .f32) (harg3 : arg3.IsWhole) (arg4 : Memref sig .tc .vmem S1x128x256 .f32) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S1x256 .f32) (harg7 : arg7.IsWhole) (arg8 : Memref sig .tc .vmem S4x512x256 .bf16) (harg8 : arg8.IsWhole) (arg9 : Memref sig .tc .vmem S4x8320x128 .f32) (harg9 : arg9.IsWhole) (arg10 : Memref sig .tc .vmem S4x16x128 .f32) (harg10 : arg10.IsWhole) (arg11 : Memref sig .tc .vmem S256x2048 .bf16) (harg11 : arg11.IsWhole) (arg12 : Memref sig .tc .vmem S2048x256 .bf16) (harg12 : arg12.IsWhole) (hc0 : ¬cond0_0 i) (hc1 : ¬cond0_1 i)
    (x0 : Vec F S4x512x256 .f32) (x1 : Vec F S1x16x2048 .f32) (x2 : Vec F S1x128x256 .f32) (x3 : Vec F S1x8x128 .f32) (x4 : Vec F S1x8x128 .f32) (x5 : Vec F S1x256 .f32) (xs1 : Vec F S4x16x128 .f32) (xs2 : Vec F S256x2048 .bf16) (xs3 : Vec F S2048x256 .bf16) (f9 : Buf (Elt F) (arg9.view.loc (c : Thread nD τ))) :
    Σ' (L6 : List (View.Piece (Elt F) S4x512x256 .bf16)), { LS1 : List (View.Piece (Elt F) S4x16x128 .f32) //
      ∀ (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ xP c arg9 f9 ∗ owns (c : Thread nD τ) arg10 fullShare xs1 ∗ owns (c : Thread nD τ) arg11 fullShare xs2 ∗ owns (c : Thread nD τ) arg12 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, xP c arg9 f) ∗ (∃ f, arg10.view.loc (c : Thread nD τ) ↦[arg10.view.set]{fullShare} arg10.view.writes (Elt F) f LS1) ∗ owns (c : Thread nD τ) arg11 fullShare xs2 ∗ owns (c : Thread nD τ) arg12 fullShare xs3) -∗ K ⟨⟩))
          ⊢ wp frame (wpE (defs₀ (F := F)) Variants.none c none) Set.univ (cc0_s5_scan i arg2 harg2 arg3 harg3 arg4 harg4 arg5 harg5 arg6 harg6 arg7 harg7 arg8 harg8 arg9 harg9 arg10 harg10 arg11 harg11 arg12 harg12) K } := by
  refine ⟨?_, ?_, fun K => ?run⟩
  case run =>
    simp only [cc0_s5_scan_eq_skeleton]; unfold cc0_s5_scan_skel
    simp only [k0_part1_eq_skeleton, k0_part2_eq_skeleton, k0_part3_eq_skeleton, k0_part4_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, HS0, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg10.eq_unread hfs1; obtain rfl := harg11.eq_unread hfs2; obtain rfl := harg12.eq_unread hfs3
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]; · iexists _; iexact HS0
    isplitl [HS1]; · iexists _; iexact HS1
    isplitl [HS2]
    · iexists _; isplitr; · ipureintro; exact harg11.read_unread _
      iexact HS2
    iexists _; isplitr; · ipureintro; exact harg12.read_unread _
    iexact HS3

end Cert.SsmIdeal.Scan

end
-- ==== Proof.Scan.ShapeIdeal.lean ====
/-
  What the body of the scan leaves, in terms of what its loop leaves in the state scratch.
-/
module

public import proofs.«01_k».proof.Proof.Scan.RunBIdeal

@[expose] public section

set_option maxRecDepth 16384

noncomputable section

namespace Cert.SsmIdeal.Scan

open Cert.SsmIdeal Cert.SsmIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- A sequence's tokens times the spread input matrix: its driving terms, one column per state and part. -/
abbrev drive (u : Vec F S1x512x256 .f32) (bm : Vec F S256x2048 .bf16) : FVec F S512x2048 .f32 := k0_pay33 u bm

/-- The driving terms as the body lays them in the state scratch, a slab of 128 columns to 512 rows, eight rows apart. -/
def entryL (V : Fin 4 → FVec F S512x2048 .f32) : List (View.Piece (Elt F) S4x8320x128 .f32) :=
  [⟨Rect.unit ![3, 7800, 0] S1x512x128.size inb_S4x8320x128_S1x512x128_3_7800_0, shapeCast S1x512x128 (extractStridedSlice S512x128 ![0, 1920] (V 3) slices_S512x2048_o0_1920_S512x128) shapeCasts_S512x128_S1x512x128⟩,
   ⟨Rect.unit ![3, 7280, 0] S1x512x128.size inb_S4x8320x128_S1x512x128_3_7280_0, shapeCast S1x512x128 (extractStridedSlice S512x128 ![0, 1792] (V 3) slices_S512x2048_o0_1792_S512x128) shapeCasts_S512x128_S1x512x128⟩,
   ⟨Rect.unit ![3, 6760, 0] S1x512x128.size inb_S4x8320x128_S1x512x128_3_6760_0, shapeCast S1x512x128 (extractStridedSlice S512x128 ![0, 1664] (V 3) slices_S512x2048_o0_1664_S512x128) shapeCasts_S512x128_S1x512x128⟩,
   ⟨Rect.unit ![3, 6240, 0] S1x512x128.size inb_S4x8320x128_S1x512x128_3_6240_0, shapeCast S1x512x128 (extractStridedSlice S512x128 ![0, 1536] (V 3) slices_S512x2048_o0_1536_S512x128) shapeCasts_S512x128_S1x512x128⟩,
   ⟨Rect.unit ![3, 5720, 0] S1x512x128.size inb_S4x8320x128_S1x512x128_3_5720_0, shapeCast S1x512x128 (extractStridedSlice S512x128 ![0, 1408] (V 3) slices_S512x2048_o0_1408_S512x128) shapeCasts_S512x128_S1x512x128⟩,
   ⟨Rect.unit ![3, 5200, 0] S1x512x128.size inb_S4x8320x128_S1x512x128_3_5200_0, shapeCast S1x512x128 (extractStridedSlice S512x128 ![0, 1280] (V 3) slices_S512x2048_o0_1280_S512x128) shapeCasts_S512x128_S1x512x128⟩,
   ⟨Rect.unit ![3, 4680, 0] S1x512x128.size inb_S4x8320x128_S1x512x128_3_4680_0, shapeCast S1x512x128 (extractStridedSlice S512x128 ![0, 1152] (V 3) slices_S512x2048_o0_1152_S512x128) shapeCasts_S512x128_S1x512x128⟩,
   ⟨Rect.unit ![3, 4160, 0] S1x512x128.size inb_S4x8320x128_S1x512x128_3_4160_0, shapeCast S1x512x128 (extractStridedSlice S512x128 ![0, 1024] (V 3) slices_S512x2048_o0_1024_S512x128) shapeCasts_S512x128_S1x512x128⟩,
   ⟨Rect.unit ![3, 3640, 0] S1x512x128.size inb_S4x8320x128_S1x512x128_3_3640_0, shapeCast S1x512x128 (extractStridedSlice S512x128 ![0, 896] (V 3) slices_S512x2048_o0_896_S512x128) shapeCasts_S512x128_S1x512x128⟩,
   ⟨Rect.unit ![3, 3120, 0] S1x512x128.size inb_S4x8320x128_S1x512x128_3_3120_0, shapeCast S1x512x128 (extractStridedSlice S512x128 ![0, 768] (V 3) slices_S512x2048_o0_768_S512x128) shapeCasts_S512x128_S1x512x128⟩,
   ⟨Rect.unit ![3, 2600, 0] S1x512x128.size inb_S4x8320x128_S1x512x128_3_2600_0, shapeCast S1x512x128 (extractStridedSlice S512x128 ![0, 640] (V 3) slices_S512x2048_o0_640_S512x128) shapeCasts_S512x128_S1x512x128⟩,
   ⟨Rect.unit ![3, 2080, 0] S1x512x128.size inb_S4x8320x128_S1x512x128_3_2080_0, shapeCast S1x512x128 (extractStridedSlice S512x128 ![0, 512] (V 3) slices_S512x2048_o0_512_S512x128) shapeCasts_S512x128_S1x512x128⟩,
   ⟨Rect.unit ![3, 1560, 0] S1x512x128.size inb_S4x8320x128_S1x512x128_3_1560_0, shapeCast S1x512x128 (extractStridedSlice S512x128 ![0, 384] (V 3) slices_S512x2048_o0_384_S512x128) shapeCasts_S512x128_S1x512x128⟩,
   ⟨Rect.unit ![3, 1040, 0] S1x512x128.size inb_S4x8320x128_S1x512x128_3_1040_0, shapeCast S1x512x128 (extractStridedSlice S512x128 ![0, 256] (V 3) slices_S512x2048_o0_256_S512x128) shapeCasts_S512x128_S1x512x128⟩,
   ⟨Rect.unit ![3, 520, 0] S1x512x128.size inb_S4x8320x128_S1x512x128_3_520_0, shapeCast S1x512x128 (extractStridedSlice S512x128 ![0, 128] (V 3) slices_S512x2048_o0_128_S512x128) shapeCasts_S512x128_S1x512x128⟩,
   ⟨Rect.unit ![3, 0, 0] S1x512x128.size inb_S4x8320x128_S1x512x128_3_0_0, shapeCast S1x512x128 (extractStridedSlice S512x128 ![0, 0] (V 3) slices_S512x2048_o0_0_S512x128) shapeCasts_S512x128_S1x512x128⟩,
   ⟨Rect.unit ![2, 7800, 0] S1x512x128.size inb_S4x8320x128_S1x512x128_2_7800_0, shapeCast S1x512x128 (extractStridedSlice S512x128 ![0, 1920] (V 2) slices_S512x2048_o0_1920_S512x128) shapeCasts_S512x128_S1x512x128⟩,
   ⟨Rect.unit ![2, 7280, 0] S1x512x128.size inb_S4x8320x128_S1x512x128_2_7280_0, shapeCast S1x512x128 (extractStridedSlice S512x128 ![0, 1792] (V 2) slices_S512x2048_o0_1792_S512x128) shapeCasts_S512x128_S1x512x128⟩,
   ⟨Rect.unit ![2, 6760, 0] S1x512x128.size inb_S4x8320x128_S1x512x128_2_6760_0, shapeCast S1x512x128 (extractStridedSlice S512x128 ![0, 1664] (V 2) slices_S512x2048_o0_1664_S512x128) shapeCasts_S512x128_S1x512x128⟩,
   ⟨Rect.unit ![2, 6240, 0] S1x512x128.size inb_S4x8320x128_S1x512x128_2_6240_0, shapeCast S1x512x128 (extractStridedSlice S512x128 ![0, 1536] (V 2) slices_S512x2048_o0_1536_S512x128) shapeCasts_S512x128_S1x512x128⟩,
   ⟨Rect.unit ![2, 5720, 0] S1x512x128.size inb_S4x8320x128_S1x512x128_2_5720_0, shapeCast S1x512x128 (extractStridedSlice S512x128 ![0, 1408] (V 2) slices_S512x2048_o0_1408_S512x128) shapeCasts_S512x128_S1x512x128⟩,
   ⟨Rect.unit ![2, 5200, 0] S1x512x128.size inb_S4x8320x128_S1x512x128_2_5200_0, shapeCast S1x512x128 (extractStridedSlice S512x128 ![0, 1280] (V 2) slices_S512x2048_o0_1280_S512x128) shapeCasts_S512x128_S1x512x128⟩,
   ⟨Rect.unit ![2, 4680, 0] S1x512x128.size inb_S4x8320x128_S1x512x128_2_4680_0, shapeCast S1x512x128 (extractStridedSlice S512x128 ![0, 1152] (V 2) slices_S512x2048_o0_1152_S512x128) shapeCasts_S512x128_S1x512x128⟩,
   ⟨Rect.unit ![2, 4160, 0] S1x512x128.size inb_S4x8320x128_S1x512x128_2_4160_0, shapeCast S1x512x128 (extractStridedSlice S512x128 ![0, 1024] (V 2) slices_S512x2048_o0_1024_S512x128) shapeCasts_S512x128_S1x512x128⟩,
   ⟨Rect.unit ![2, 3640, 0] S1x512x128.size inb_S4x8320x128_S1x512x128_2_3640_0, shapeCast S1x512x128 (extractStridedSlice S512x128 ![0, 896] (V 2) slices_S512x2048_o0_896_S512x128) shapeCasts_S512x128_S1x512x128⟩,
   ⟨Rect.unit ![2, 3120, 0] S1x512x128.size inb_S4x8320x128_S1x512x128_2_3120_0, shapeCast S1x512x128 (extractStridedSlice S512x128 ![0, 768] (V 2) slices_S512x2048_o0_768_S512x128) shapeCasts_S512x128_S1x512x128⟩,
   ⟨Rect.unit ![2, 2600, 0] S1x512x128.size inb_S4x8320x128_S1x512x128_2_2600_0, shapeCast S1x512x128 (extractStridedSlice S512x128 ![0, 640] (V 2) slices_S512x2048_o0_640_S512x128) shapeCasts_S512x128_S1x512x128⟩,
   ⟨Rect.unit ![2, 2080, 0] S1x512x128.size inb_S4x8320x128_S1x512x128_2_2080_0, shapeCast S1x512x128 (extractStridedSlice S512x128 ![0, 512] (V 2) slices_S512x2048_o0_512_S512x128) shapeCasts_S512x128_S1x512x128⟩,
   ⟨Rect.unit ![2, 1560, 0] S1x512x128.size inb_S4x8320x128_S1x512x128_2_1560_0, shapeCast S1x512x128 (extractStridedSlice S512x128 ![0, 384] (V 2) slices_S512x2048_o0_384_S512x128) shapeCasts_S512x128_S1x512x128⟩,
   ⟨Rect.unit ![2, 1040, 0] S1x512x128.size inb_S4x8320x128_S1x512x128_2_1040_0, shapeCast S1x512x128 (extractStridedSlice S512x128 ![0, 256] (V 2) slices_S512x2048_o0_256_S512x128) shapeCasts_S512x128_S1x512x128⟩,
   ⟨Rect.unit ![2, 520, 0] S1x512x128.size inb_S4x8320x128_S1x512x128_2_520_0, shapeCast S1x512x128 (extractStridedSlice S512x128 ![0, 128] (V 2) slices_S512x2048_o0_128_S512x128) shapeCasts_S512x128_S1x512x128⟩,
   ⟨Rect.unit ![2, 0, 0] S1x512x128.size inb_S4x8320x128_S1x512x128_2_0_0, shapeCast S1x512x128 (extractStridedSlice S512x128 ![0, 0] (V 2) slices_S512x2048_o0_0_S512x128) shapeCasts_S512x128_S1x512x128⟩,
   ⟨Rect.unit ![1, 7800, 0] S1x512x128.size inb_S4x8320x128_S1x512x128_1_7800_0, shapeCast S1x512x128 (extractStridedSlice S512x128 ![0, 1920] (V 1) slices_S512x2048_o0_1920_S512x128) shapeCasts_S512x128_S1x512x128⟩,
   ⟨Rect.unit ![1, 7280, 0] S1x512x128.size inb_S4x8320x128_S1x512x128_1_7280_0, shapeCast S1x512x128 (extractStridedSlice S512x128 ![0, 1792] (V 1) slices_S512x2048_o0_1792_S512x128) shapeCasts_S512x128_S1x512x128⟩,
   ⟨Rect.unit ![1, 6760, 0] S1x512x128.size inb_S4x8320x128_S1x512x128_1_6760_0, shapeCast S1x512x128 (extractStridedSlice S512x128 ![0, 1664] (V 1) slices_S512x2048_o0_1664_S512x128) shapeCasts_S512x128_S1x512x128⟩,
   ⟨Rect.unit ![1, 6240, 0] S1x512x128.size inb_S4x8320x128_S1x512x128_1_6240_0, shapeCast S1x512x128 (extractStridedSlice S512x128 ![0, 1536] (V 1) slices_S512x2048_o0_1536_S512x128) shapeCasts_S512x128_S1x512x128⟩,
   ⟨Rect.unit ![1, 5720, 0] S1x512x128.size inb_S4x8320x128_S1x512x128_1_5720_0, shapeCast S1x512x128 (extractStridedSlice S512x128 ![0, 1408] (V 1) slices_S512x2048_o0_1408_S512x128) shapeCasts_S512x128_S1x512x128⟩,
   ⟨Rect.unit ![1, 5200, 0] S1x512x128.size inb_S4x8320x128_S1x512x128_1_5200_0, shapeCast S1x512x128 (extractStridedSlice S512x128 ![0, 1280] (V 1) slices_S512x2048_o0_1280_S512x128) shapeCasts_S512x128_S1x512x128⟩,
   ⟨Rect.unit ![1, 4680, 0] S1x512x128.size inb_S4x8320x128_S1x512x128_1_4680_0, shapeCast S1x512x128 (extractStridedSlice S512x128 ![0, 1152] (V 1) slices_S512x2048_o0_1152_S512x128) shapeCasts_S512x128_S1x512x128⟩,
   ⟨Rect.unit ![1, 4160, 0] S1x512x128.size inb_S4x8320x128_S1x512x128_1_4160_0, shapeCast S1x512x128 (extractStridedSlice S512x128 ![0, 1024] (V 1) slices_S512x2048_o0_1024_S512x128) shapeCasts_S512x128_S1x512x128⟩,
   ⟨Rect.unit ![1, 3640, 0] S1x512x128.size inb_S4x8320x128_S1x512x128_1_3640_0, shapeCast S1x512x128 (extractStridedSlice S512x128 ![0, 896] (V 1) slices_S512x2048_o0_896_S512x128) shapeCasts_S512x128_S1x512x128⟩,
   ⟨Rect.unit ![1, 3120, 0] S1x512x128.size inb_S4x8320x128_S1x512x128_1_3120_0, shapeCast S1x512x128 (extractStridedSlice S512x128 ![0, 768] (V 1) slices_S512x2048_o0_768_S512x128) shapeCasts_S512x128_S1x512x128⟩,
   ⟨Rect.unit ![1, 2600, 0] S1x512x128.size inb_S4x8320x128_S1x512x128_1_2600_0, shapeCast S1x512x128 (extractStridedSlice S512x128 ![0, 640] (V 1) slices_S512x2048_o0_640_S512x128) shapeCasts_S512x128_S1x512x128⟩,
   ⟨Rect.unit ![1, 2080, 0] S1x512x128.size inb_S4x8320x128_S1x512x128_1_2080_0, shapeCast S1x512x128 (extractStridedSlice S512x128 ![0, 512] (V 1) slices_S512x2048_o0_512_S512x128) shapeCasts_S512x128_S1x512x128⟩,
   ⟨Rect.unit ![1, 1560, 0] S1x512x128.size inb_S4x8320x128_S1x512x128_1_1560_0, shapeCast S1x512x128 (extractStridedSlice S512x128 ![0, 384] (V 1) slices_S512x2048_o0_384_S512x128) shapeCasts_S512x128_S1x512x128⟩,
   ⟨Rect.unit ![1, 1040, 0] S1x512x128.size inb_S4x8320x128_S1x512x128_1_1040_0, shapeCast S1x512x128 (extractStridedSlice S512x128 ![0, 256] (V 1) slices_S512x2048_o0_256_S512x128) shapeCasts_S512x128_S1x512x128⟩,
   ⟨Rect.unit ![1, 520, 0] S1x512x128.size inb_S4x8320x128_S1x512x128_1_520_0, shapeCast S1x512x128 (extractStridedSlice S512x128 ![0, 128] (V 1) slices_S512x2048_o0_128_S512x128) shapeCasts_S512x128_S1x512x128⟩,
   ⟨Rect.unit ![1, 0, 0] S1x512x128.size inb_S4x8320x128_S1x512x128_1_0_0, shapeCast S1x512x128 (extractStridedSlice S512x128 ![0, 0] (V 1) slices_S512x2048_o0_0_S512x128) shapeCasts_S512x128_S1x512x128⟩,
   ⟨Rect.unit ![0, 7800, 0] S1x512x128.size inb_S4x8320x128_S1x512x128_0_7800_0, shapeCast S1x512x128 (extractStridedSlice S512x128 ![0, 1920] (V 0) slices_S512x2048_o0_1920_S512x128) shapeCasts_S512x128_S1x512x128⟩,
   ⟨Rect.unit ![0, 7280, 0] S1x512x128.size inb_S4x8320x128_S1x512x128_0_7280_0, shapeCast S1x512x128 (extractStridedSlice S512x128 ![0, 1792] (V 0) slices_S512x2048_o0_1792_S512x128) shapeCasts_S512x128_S1x512x128⟩,
   ⟨Rect.unit ![0, 6760, 0] S1x512x128.size inb_S4x8320x128_S1x512x128_0_6760_0, shapeCast S1x512x128 (extractStridedSlice S512x128 ![0, 1664] (V 0) slices_S512x2048_o0_1664_S512x128) shapeCasts_S512x128_S1x512x128⟩,
   ⟨Rect.unit ![0, 6240, 0] S1x512x128.size inb_S4x8320x128_S1x512x128_0_6240_0, shapeCast S1x512x128 (extractStridedSlice S512x128 ![0, 1536] (V 0) slices_S512x2048_o0_1536_S512x128) shapeCasts_S512x128_S1x512x128⟩,
   ⟨Rect.unit ![0, 5720, 0] S1x512x128.size inb_S4x8320x128_S1x512x128_0_5720_0, shapeCast S1x512x128 (extractStridedSlice S512x128 ![0, 1408] (V 0) slices_S512x2048_o0_1408_S512x128) shapeCasts_S512x128_S1x512x128⟩,
   ⟨Rect.unit ![0, 5200, 0] S1x512x128.size inb_S4x8320x128_S1x512x128_0_5200_0, shapeCast S1x512x128 (extractStridedSlice S512x128 ![0, 1280] (V 0) slices_S512x2048_o0_1280_S512x128) shapeCasts_S512x128_S1x512x128⟩,
   ⟨Rect.unit ![0, 4680, 0] S1x512x128.size inb_S4x8320x128_S1x512x128_0_4680_0, shapeCast S1x512x128 (extractStridedSlice S512x128 ![0, 1152] (V 0) slices_S512x2048_o0_1152_S512x128) shapeCasts_S512x128_S1x512x128⟩,
   ⟨Rect.unit ![0, 4160, 0] S1x512x128.size inb_S4x8320x128_S1x512x128_0_4160_0, shapeCast S1x512x128 (extractStridedSlice S512x128 ![0, 1024] (V 0) slices_S512x2048_o0_1024_S512x128) shapeCasts_S512x128_S1x512x128⟩,
   ⟨Rect.unit ![0, 3640, 0] S1x512x128.size inb_S4x8320x128_S1x512x128_0_3640_0, shapeCast S1x512x128 (extractStridedSlice S512x128 ![0, 896] (V 0) slices_S512x2048_o0_896_S512x128) shapeCasts_S512x128_S1x512x128⟩,
   ⟨Rect.unit ![0, 3120, 0] S1x512x128.size inb_S4x8320x128_S1x512x128_0_3120_0, shapeCast S1x512x128 (extractStridedSlice S512x128 ![0, 768] (V 0) slices_S512x2048_o0_768_S512x128) shapeCasts_S512x128_S1x512x128⟩,
   ⟨Rect.unit ![0, 2600, 0] S1x512x128.size inb_S4x8320x128_S1x512x128_0_2600_0, shapeCast S1x512x128 (extractStridedSlice S512x128 ![0, 640] (V 0) slices_S512x2048_o0_640_S512x128) shapeCasts_S512x128_S1x512x128⟩,
   ⟨Rect.unit ![0, 2080, 0] S1x512x128.size inb_S4x8320x128_S1x512x128_0_2080_0, shapeCast S1x512x128 (extractStridedSlice S512x128 ![0, 512] (V 0) slices_S512x2048_o0_512_S512x128) shapeCasts_S512x128_S1x512x128⟩,
   ⟨Rect.unit ![0, 1560, 0] S1x512x128.size inb_S4x8320x128_S1x512x128_0_1560_0, shapeCast S1x512x128 (extractStridedSlice S512x128 ![0, 384] (V 0) slices_S512x2048_o0_384_S512x128) shapeCasts_S512x128_S1x512x128⟩,
   ⟨Rect.unit ![0, 1040, 0] S1x512x128.size inb_S4x8320x128_S1x512x128_0_1040_0, shapeCast S1x512x128 (extractStridedSlice S512x128 ![0, 256] (V 0) slices_S512x2048_o0_256_S512x128) shapeCasts_S512x128_S1x512x128⟩,
   ⟨Rect.unit ![0, 520, 0] S1x512x128.size inb_S4x8320x128_S1x512x128_0_520_0, shapeCast S1x512x128 (extractStridedSlice S512x128 ![0, 128] (V 0) slices_S512x2048_o0_128_S512x128) shapeCasts_S512x128_S1x512x128⟩,
   ⟨Rect.unit ![0, 0, 0] S1x512x128.size inb_S4x8320x128_S1x512x128_0_0_0, shapeCast S1x512x128 (extractStridedSlice S512x128 ![0, 0] (V 0) slices_S512x2048_o0_0_S512x128) shapeCasts_S512x128_S1x512x128⟩]

/-- The result's block of one sequence, from its states slab by slab, the spread output matrix, the skip's gains and the tokens. -/
def outV (X : Fin 16 → Vec F S1x512x128 .f32) (cm : Vec F S2048x256 .bf16) (d : Vec F S1x256 .f32) (u : Vec F S1x512x256 .f32) : FVec F S1x512x256 .bf16 :=
  k0_pay164 (k0_pay163 (k0_pay129 (X 0)) (k0_pay129 (X 1)) (k0_pay129 (X 2)) (k0_pay129 (X 3)) (k0_pay129 (X 4)) (k0_pay129 (X 5)) (k0_pay129 (X 6)) (X 7) (X 8) (X 9) (X 10) (X 11) (X 12) (X 13) (X 14) (X 15) cm) d u

/-- A sequence's slab in the state scratch. -/
abbrev slabR (s : Fin 4) (k : Fin 16) : Rect S4x8320x128 := Rect.unit ![s.val, 520 * k.val, 0] S1x512x128.size (by
  intro a; have := s.isLt; have := k.isLt
  fin_cases a <;> simp <;> omega)
/-- A sequence's tokens in the block of them; -/
abbrev tokR (s : Fin 4) : Rect S4x512x256 := Rect.unit ![s.val, 0, 0] S1x512x256.size (by
  intro a; have := s.isLt
  fin_cases a <;> simp <;> omega)
/-- a sequence's states, real or imaginary, in the scratch that carries them on. -/
abbrev stR (s : Fin 4) (h : Fin 2) : Rect S4x16x128 := Rect.unit ![s.val, 8 * h.val, 0] S1x8x128.size (by
  intro a; have := s.isLt; have := h.isLt
  fin_cases a <;> simp <;> omega)

/-- The spread input matrix from the packed one. -/
def spreadB (x1 : Vec F S1x16x2048 .f32) : FVec F S256x2048 .bf16 := k0_pay7 (k0_pay2 x1) k0_pay3 k0_pay4 k0_pay5 k0_pay6
/-- The spread output matrix from the packed one, in halves: the states' real parts, -/
def spreadC0 (x : Vec F S1x64x256 .f32) : FVec F S1024x256 .bf16 :=
  k0_pay13 (k0_pay12 (k0_pay8 x) (iota .tc S1024x256 32 [0] iota_S1024x256_d0_w32) 64#32 k0_pay9 k0_pay10 k0_pay11)
/-- and their imaginary parts. -/
def spreadC1 (x : Vec F S1x64x256 .f32) : FVec F S1024x256 .bf16 :=
  k0_pay31 (k0_pay14 x) k0_pay15 (iota .tc S1024x256 32 [1] iota_S1024x256_d1_w32) 16#32 k0_pay16 k0_pay17
    (Scalar.extui (Scalar.cmpi .sgt 16#32 0#32)) (Scalar.cmpi .slt 16#32 0#32)

section Core

variable (c : Dev nD) (i : grid0.Coords) (arg2 : Memref sig .tc .vmem S4x512x256 .f32) (harg2 : arg2.IsWhole) (arg3 : Memref sig .tc .vmem S1x16x2048 .f32) (harg3 : arg3.IsWhole) (arg4 : Memref sig .tc .vmem S1x128x256 .f32) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S1x256 .f32) (harg7 : arg7.IsWhole) (arg8 : Memref sig .tc .vmem S4x512x256 .bf16) (harg8 : arg8.IsWhole) (arg9 : Memref sig .tc .vmem S4x8320x128 .f32) (harg9 : arg9.IsWhole) (arg10 : Memref sig .tc .vmem S4x16x128 .f32) (harg10 : arg10.IsWhole) (arg11 : Memref sig .tc .vmem S256x2048 .bf16) (harg11 : arg11.IsWhole) (arg12 : Memref sig .tc .vmem S2048x256 .bf16) (harg12 : arg12.IsWhole)

/-- The loop's entry: the driving terms over whatever the scratch held. -/
abbrev entryF (V : Fin 4 → FVec F S512x2048 .f32) (f9 : Buf (Elt F) (arg9.view.loc (c : Thread nD τ))) : Buf (Elt F) (arg9.view.loc (c : Thread nD τ)) :=
  arg9.view.writes (Elt F) f9 (entryL V)

/-- The states the loop starts from, as the scratch's halves hold them. -/
abbrev acc0 (rd : Fin 4 → Fin 2 → Vec F S1x8x128 .f32) : Acc F :=
  (k0_pay109 (rd 0 0), k0_pay110 (rd 0 1), k0_pay111 (rd 1 0), k0_pay112 (rd 1 1), k0_pay113 (rd 2 0), k0_pay114 (rd 2 1), k0_pay115 (rd 3 0), k0_pay116 (rd 3 1))

/-- What the loop leaves in the scratch, -/
abbrev LB (U : Fin 4 → Vec F S1x512x256 .f32) (bm : Vec F S256x2048 .bf16) (ar ai : Vec F S1x8x128 .f32) (rd : Fin 4 → Fin 2 → Vec F S1x8x128 .f32)
    (f9 : Buf (Elt F) (arg9.view.loc (c : Thread nD τ))) : Buf (Elt F) (arg9.view.loc (c : Thread nD τ)) :=
  loopBuf c i arg2 harg2 arg3 harg3 arg4 harg4 arg5 harg5 arg6 harg6 arg7 harg7 arg8 harg8 arg9 harg9 arg10 harg10 arg11 harg11 arg12 harg12 (k0_pay107 ar) (k0_pay108 ai) (rd 0 0) (entryF c arg9 (fun s => drive (U s) bm) f9) (acc0 rd)
/-- and the states it ends with. -/
abbrev LA (U : Fin 4 → Vec F S1x512x256 .f32) (bm : Vec F S256x2048 .bf16) (ar ai : Vec F S1x8x128 .f32) (rd : Fin 4 → Fin 2 → Vec F S1x8x128 .f32)
    (f9 : Buf (Elt F) (arg9.view.loc (c : Thread nD τ))) : Acc F :=
  loopAcc c i arg2 harg2 arg3 harg3 arg4 harg4 arg5 harg5 arg6 harg6 arg7 harg7 arg8 harg8 arg9 harg9 arg10 harg10 arg11 harg11 arg12 harg12 (k0_pay107 ar) (k0_pay108 ai) (rd 0 0) (entryF c arg9 (fun s => drive (U s) bm) f9) (acc0 rd)

/-- The pieces of the result's block, -/
abbrev outL (U : Fin 4 → Vec F S1x512x256 .f32) (bm : Vec F S256x2048 .bf16) (ar ai : Vec F S1x8x128 .f32) (rd : Fin 4 → Fin 2 → Vec F S1x8x128 .f32)
    (f9 : Buf (Elt F) (arg9.view.loc (c : Thread nD τ))) (cm : Vec F S2048x256 .bf16) (d : Vec F S1x256 .f32) : List (View.Piece (Elt F) S4x512x256 .bf16) :=
  [⟨Rect.unit ![3, 0, 0] S1x512x256.size inb_S4x512x256_S1x512x256_3_0_0, outV (fun k => arg9.view.readAt (Elt F) (slabR 3 k).toLoadRect (LB c i arg2 harg2 arg3 harg3 arg4 harg4 arg5 harg5 arg6 harg6 arg7 harg7 arg8 harg8 arg9 harg9 arg10 harg10 arg11 harg11 arg12 harg12 U bm ar ai rd f9)) cm d (U 3)⟩,
   ⟨Rect.unit ![2, 0, 0] S1x512x256.size inb_S4x512x256_S1x512x256_2_0_0, outV (fun k => arg9.view.readAt (Elt F) (slabR 2 k).toLoadRect (LB c i arg2 harg2 arg3 harg3 arg4 harg4 arg5 harg5 arg6 harg6 arg7 harg7 arg8 harg8 arg9 harg9 arg10 harg10 arg11 harg11 arg12 harg12 U bm ar ai rd f9)) cm d (U 2)⟩,
   ⟨Rect.unit ![1, 0, 0] S1x512x256.size inb_S4x512x256_S1x512x256_1_0_0, outV (fun k => arg9.view.readAt (Elt F) (slabR 1 k).toLoadRect (LB c i arg2 harg2 arg3 harg3 arg4 harg4 arg5 harg5 arg6 harg6 arg7 harg7 arg8 harg8 arg9 harg9 arg10 harg10 arg11 harg11 arg12 harg12 U bm ar ai rd f9)) cm d (U 1)⟩,
   ⟨Rect.unit ![0, 0, 0] S1x512x256.size inb_S4x512x256_S1x512x256_0_0_0, outV (fun k => arg9.view.readAt (Elt F) (slabR 0 k).toLoadRect (LB c i arg2 harg2 arg3 harg3 arg4 harg4 arg5 harg5 arg6 harg6 arg7 harg7 arg8 harg8 arg9 harg9 arg10 harg10 arg11 harg11 arg12 harg12 U bm ar ai rd f9)) cm d (U 0)⟩]
/-- and of the states carried on. -/
abbrev stL (A : Acc F) : List (View.Piece (Elt F) S4x16x128 .f32) :=
  [⟨Rect.unit ![3, 8, 0] S1x8x128.size inb_S4x16x128_S1x8x128_3_8_0, shapeCast S1x8x128 (A.2.2.2.2.2.2.2) shapeCasts_S8x128_S1x8x128⟩,
   ⟨Rect.unit ![3, 0, 0] S1x8x128.size inb_S4x16x128_S1x8x128_3_0_0, shapeCast S1x8x128 (A.2.2.2.2.2.2.1) shapeCasts_S8x128_S1x8x128⟩,
   ⟨Rect.unit ![2, 8, 0] S1x8x128.size inb_S4x16x128_S1x8x128_2_8_0, shapeCast S1x8x128 (A.2.2.2.2.2.1) shapeCasts_S8x128_S1x8x128⟩,
   ⟨Rect.unit ![2, 0, 0] S1x8x128.size inb_S4x16x128_S1x8x128_2_0_0, shapeCast S1x8x128 (A.2.2.2.2.1) shapeCasts_S8x128_S1x8x128⟩,
   ⟨Rect.unit ![1, 8, 0] S1x8x128.size inb_S4x16x128_S1x8x128_1_8_0, shapeCast S1x8x128 (A.2.2.2.1) shapeCasts_S8x128_S1x8x128⟩,
   ⟨Rect.unit ![1, 0, 0] S1x8x128.size inb_S4x16x128_S1x8x128_1_0_0, shapeCast S1x8x128 (A.2.2.1) shapeCasts_S8x128_S1x8x128⟩,
   ⟨Rect.unit ![0, 8, 0] S1x8x128.size inb_S4x16x128_S1x8x128_0_8_0, shapeCast S1x8x128 (A.2.1) shapeCasts_S8x128_S1x8x128⟩,
   ⟨Rect.unit ![0, 0, 0] S1x8x128.size inb_S4x16x128_S1x8x128_0_0_0, shapeCast S1x8x128 (A.1) shapeCasts_S8x128_S1x8x128⟩]

/-- The fill of the states with zeros. -/
abbrev fillL : List (View.Piece (Elt F) S4x16x128 .f32) := [⟨Rect.unit ![0, 0, 0] S4x16x128.size inb_S4x16x128_S4x16x128_0_0_0, k0_pay32⟩]
/-- The spread matrices, as written. -/
abbrev bmL (x : Vec F S1x16x2048 .f32) : List (View.Piece (Elt F) S256x2048 .bf16) := [⟨Rect.unit ![0, 0] S256x2048.size inb_S256x2048_S256x2048_0_0, spreadB x⟩]
abbrev cmL (y0 y1 : Vec F S1x64x256 .f32) : List (View.Piece (Elt F) S2048x256 .bf16) :=
  [⟨Rect.unit ![1024, 0] S1024x256.size inb_S2048x256_S1024x256_1024_0, spreadC1 y1⟩, ⟨Rect.unit ![0, 0] S1024x256.size inb_S2048x256_S1024x256_0_0, spreadC0 y0⟩]

section Reads

variable (x0 : Vec F S4x512x256 .f32) (x1 : Vec F S1x16x2048 .f32) (x2 : Vec F S1x128x256 .f32) (x3 : Vec F S1x8x128 .f32) (x4 : Vec F S1x8x128 .f32) (x5 : Vec F S1x256 .f32) (xs1 : Vec F S4x16x128 .f32) (xs2 : Vec F S256x2048 .bf16) (xs3 : Vec F S2048x256 .bf16)

abbrev rU : Fin 4 → Vec F S1x512x256 .f32 := fun s => arg2.view.readAt (Elt F) (tokR s).toLoadRect (harg2.unread x0)
abbrev rA : Vec F S1x8x128 .f32 := arg5.view.readAt (Elt F) (Rect.unit ![0, 0, 0] S1x8x128.size inb_S1x8x128_S1x8x128_0_0_0).toLoadRect (harg5.unread x3)
abbrev rI : Vec F S1x8x128 .f32 := arg6.view.readAt (Elt F) (Rect.unit ![0, 0, 0] S1x8x128.size inb_S1x8x128_S1x8x128_0_0_0).toLoadRect (harg6.unread x4)
abbrev rD : Vec F S1x256 .f32 := arg7.view.readAt (Elt F) (Rect.unit ![0, 0] S1x256.size inb_S1x256_S1x256_0_0).toLoadRect (harg7.unread x5)
abbrev rS : Fin 4 → Fin 2 → Vec F S1x8x128 .f32 := fun s h => arg10.view.readAt (Elt F) (stR s h).toLoadRect (harg10.unread xs1)
abbrev rB : Vec F S256x2048 .bf16 := arg11.view.readAt (Elt F) (Rect.unit ![0, 0] S256x2048.size inb_S256x2048_S256x2048_0_0).toLoadRect (harg11.unread xs2)
abbrev rC : Vec F S2048x256 .bf16 := arg12.view.readAt (Elt F) (Rect.unit ![0, 0] S2048x256.size inb_S2048x256_S2048x256_0_0).toLoadRect (harg12.unread xs3)
abbrev zS : Fin 4 → Fin 2 → Vec F S1x8x128 .f32 := fun s h => arg10.view.readCov (Val := Elt F) fillL (stR s h).toLoadRect
abbrev pB : Vec F S1x16x2048 .f32 := arg3.view.readAt (Elt F) (Rect.unit ![0, 0, 0] S1x16x2048.size inb_S1x16x2048_S1x16x2048_0_0_0).toLoadRect (harg3.unread x1)
abbrev pC0 : Vec F S1x64x256 .f32 := arg4.view.readAt (Elt F) (Rect.unit (s := S1x128x256) ![0, 0, 0] S1x64x256.size inb_S1x128x256_S1x64x256_0_0_0).toLoadRect (harg4.unread x2)
abbrev pC1 : Vec F S1x64x256 .f32 := arg4.view.readAt (Elt F) (Rect.unit (s := S1x128x256) ![0, 64, 0] S1x64x256.size inb_S1x128x256_S1x64x256_0_64_0).toLoadRect (harg4.unread x2)
abbrev nB : Vec F S256x2048 .bf16 := arg11.view.readCov (Val := Elt F) (bmL (pB arg3 harg3 x1)) (Rect.unit ![0, 0] S256x2048.size inb_S256x2048_S256x2048_0_0).toLoadRect
abbrev nC : Vec F S2048x256 .bf16 := arg12.view.readCov (Val := Elt F) (cmL (pC0 arg4 harg4 x2) (pC1 arg4 harg4 x2)) (Rect.unit ![0, 0] S2048x256.size inb_S2048x256_S2048x256_0_0).toLoadRect

variable (f9 : Buf (Elt F) (arg9.view.loc (c : Thread nD τ)))

set_option maxHeartbeats 4000000 in
/-- A later block: the pieces of the result, -/
theorem runB_out (hc0 : ¬cond0_0 i) (hc1 : ¬cond0_1 i) : (runB c i arg2 harg2 arg3 harg3 arg4 harg4 arg5 harg5 arg6 harg6 arg7 harg7 arg8 harg8 arg9 harg9 arg10 harg10 arg11 harg11 arg12 harg12 hc0 hc1 x0 x1 x2 x3 x4 x5 xs1 xs2 xs3 f9).1
    = outL c i arg2 harg2 arg3 harg3 arg4 harg4 arg5 harg5 arg6 harg6 arg7 harg7 arg8 harg8 arg9 harg9 arg10 harg10 arg11 harg11 arg12 harg12 (rU arg2 harg2 x0) (rB arg11 harg11 xs2) (rA arg5 harg5 x3) (rI arg6 harg6 x4) (rS arg10 harg10 xs1) f9 (rC arg12 harg12 xs3) (rD arg7 harg7 x5) := rfl

set_option maxHeartbeats 4000000 in
/-- and of the states. -/
theorem runB_st (hc0 : ¬cond0_0 i) (hc1 : ¬cond0_1 i) : (runB c i arg2 harg2 arg3 harg3 arg4 harg4 arg5 harg5 arg6 harg6 arg7 harg7 arg8 harg8 arg9 harg9 arg10 harg10 arg11 harg11 arg12 harg12 hc0 hc1 x0 x1 x2 x3 x4 x5 xs1 xs2 xs3 f9).2.1
    = stL (LA c i arg2 harg2 arg3 harg3 arg4 harg4 arg5 harg5 arg6 harg6 arg7 harg7 arg8 harg8 arg9 harg9 arg10 harg10 arg11 harg11 arg12 harg12 (rU arg2 harg2 x0) (rB arg11 harg11 xs2) (rA arg5 harg5 x3) (rI arg6 harg6 x4) (rS arg10 harg10 xs1) f9) := rfl

set_option maxHeartbeats 4000000 in
/-- A tile's first block: the pieces of the result, -/
theorem runA_out (hc0 : cond0_0 i) (hc1 : cond0_1 i) : (runA c i arg2 harg2 arg3 harg3 arg4 harg4 arg5 harg5 arg6 harg6 arg7 harg7 arg8 harg8 arg9 harg9 arg10 harg10 arg11 harg11 arg12 harg12 hc0 hc1 x0 x1 x2 x3 x4 x5 f9).1
    = outL c i arg2 harg2 arg3 harg3 arg4 harg4 arg5 harg5 arg6 harg6 arg7 harg7 arg8 harg8 arg9 harg9 arg10 harg10 arg11 harg11 arg12 harg12 (rU arg2 harg2 x0) (nB arg3 harg3 arg11 x1) (rA arg5 harg5 x3) (rI arg6 harg6 x4) (zS arg10) f9 (nC arg4 harg4 arg12 x2) (rD arg7 harg7 x5) := rfl

set_option maxHeartbeats 4000000 in
/-- of the states, -/
theorem runA_st (hc0 : cond0_0 i) (hc1 : cond0_1 i) : (runA c i arg2 harg2 arg3 harg3 arg4 harg4 arg5 harg5 arg6 harg6 arg7 harg7 arg8 harg8 arg9 harg9 arg10 harg10 arg11 harg11 arg12 harg12 hc0 hc1 x0 x1 x2 x3 x4 x5 f9).2.1
    = stL (LA c i arg2 harg2 arg3 harg3 arg4 harg4 arg5 harg5 arg6 harg6 arg7 harg7 arg8 harg8 arg9 harg9 arg10 harg10 arg11 harg11 arg12 harg12 (rU arg2 harg2 x0) (nB arg3 harg3 arg11 x1) (rA arg5 harg5 x3) (rI arg6 harg6 x4) (zS arg10) f9) ++ fillL := rfl

set_option maxHeartbeats 4000000 in
theorem runA_bm (hc0 : cond0_0 i) (hc1 : cond0_1 i) : (runA c i arg2 harg2 arg3 harg3 arg4 harg4 arg5 harg5 arg6 harg6 arg7 harg7 arg8 harg8 arg9 harg9 arg10 harg10 arg11 harg11 arg12 harg12 hc0 hc1 x0 x1 x2 x3 x4 x5 f9).2.2.1 = bmL (pB arg3 harg3 x1) := rfl
set_option maxHeartbeats 4000000 in
theorem runA_cm (hc0 : cond0_0 i) (hc1 : cond0_1 i) : (runA c i arg2 harg2 arg3 harg3 arg4 harg4 arg5 harg5 arg6 harg6 arg7 harg7 arg8 harg8 arg9 harg9 arg10 harg10 arg11 harg11 arg12 harg12 hc0 hc1 x0 x1 x2 x3 x4 x5 f9).2.2.2.1 = cmL (pC0 arg4 harg4 x2) (pC1 arg4 harg4 x2) := rfl

end Reads

end Core

end Cert.SsmIdeal.Scan

end
-- ==== Proof.Scan.ReadIdeal.lean ====
/-
  The loop of the scan as a recurrence: what it leaves in the state scratch and which states it ends with.
-/
module

public import Idealize.ShloMosaic.Lib.Pipeline.ValueKit
public import proofs.«01_k».proof.Proof.Scan.ShapeIdeal

@[expose] public section

set_option maxRecDepth 16384

noncomputable section

namespace Cert.SsmIdeal.Scan

open Cert.SsmIdeal Cert.SsmIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Contents under writes: what every piece and, outside of them, the contents before agree with. -/
theorem read_pieces {κ : Kind} {sp : Space} {S : Shape} {e : EltTy} (v : View sig κ sp S e) (f : v.ty.Contents (Elt F)) (L : List (View.Piece (Elt F) S e))
    (G : S.Idx → Elt F e) (hL : ∀ p ∈ L, ∀ x : p.1.shape.Idx, p.2 x = G (p.1.emb x)) (y : S.Idx)
    (h : (∀ p ∈ L, y ∉ p.1.set) → v.read (Elt F) f y = G y) : v.read (Elt F) (v.writes (Elt F) f L) y = G y := by
  by_cases hc : ∃ p ∈ L, y ∈ p.1.set
  · exact View.read_writes_apply_of_pieces _ _ G L hL y hc
  · have hc' : ∀ p ∈ L, y ∉ p.1.set := fun p hp hy => hc ⟨p, hp, hy⟩
    rw [View.read_writes_apply_of_forall_not_mem _ _ y L hc']
    exact h hc'

/-- A slab's row of the driving terms. -/
def tok (V : FVec F S512x2048 .f32) (h k : ℕ) : Vec F S1x8x128 .f32 := fun x =>
  V (ix2 ⟨k % 512, Nat.mod_lt _ (by decide)⟩ ⟨(h * 1024 + (x 1).val * 128 + (x 2).val) % 2048, Nat.mod_lt _ (by decide)⟩)

/-- A sequence's states after so many tokens. -/
def seqAt (ar ai : FVec F S8x128 .f32) (V : FVec F S512x2048 .f32) (r0 : FVec F S8x128 .f32 × FVec F S8x128 .f32) : ℕ → FVec F S8x128 .f32 × FVec F S8x128 .f32
  | 0 => r0
  | k + 1 => (k0_pay18 ar ai (seqAt ar ai V r0 k).1 (seqAt ar ai V r0 k).2 (tok V 0 k), k0_pay19 ar ai (seqAt ar ai V r0 k).1 (seqAt ar ai V r0 k).2 (tok V 1 k))

/-- The real or the imaginary part. -/
def half (p : FVec F S8x128 .f32 × FVec F S8x128 .f32) (h : ℕ) : FVec F S8x128 .f32 := if h = 0 then p.1 else p.2

/-- The state scratch before trip `k`: states where the recurrence has been, driving terms where not. -/
def GX (V : Fin 4 → FVec F S512x2048 .f32) (ar ai : FVec F S8x128 .f32) (r0 : Fin 4 → FVec F S8x128 .f32 × FVec F S8x128 .f32) (k : ℕ) (y : S4x8320x128.Idx) : F .f32 :=
  if (y 1).val % 520 < k then
    half (seqAt ar ai (V (y 0)) (r0 (y 0)) ((y 1).val % 520 + 1)) ((y 1).val / 4160) (ix2 ⟨(y 1).val / 520 % 8, Nat.mod_lt _ (by decide)⟩ (y 2))
  else V (y 0) (ix2 ⟨(y 1).val % 520 % 512, Nat.mod_lt _ (by decide)⟩ ⟨((y 1).val / 520 * 128 + (y 2).val) % 2048, Nat.mod_lt _ (by decide)⟩)

theorem sc1 (w : FVec F S8x128 .f32) (x : S1x8x128.Idx) : shapeCast S1x8x128 w shapeCasts_S8x128_S1x8x128 x = w (ix2 (x 1) (x 2)) := by
  idx_vars x
  pointwise []

theorem sc512 (V : FVec F S512x2048 .f32) (o : ℕ) (ho : o + 128 ≤ 2048) (hs : S512x2048.Slices ![0, o] S512x128) (x : S1x512x128.Idx) :
    shapeCast S1x512x128 (extractStridedSlice S512x128 ![0, o] V hs) shapeCasts_S512x128_S1x512x128 x
      = V (ix2 (x 1) ⟨o + (x 2).val, by have : (x 2).val < 128 := (x 2).isLt; omega⟩) := by
  idx_vars x
  pointwise []

section

variable (V : Fin 4 → FVec F S512x2048 .f32) (ar ai : FVec F S8x128 .f32) (r0 : Fin 4 → FVec F S8x128 .f32 × FVec F S8x128 .f32)

/-- The loop's entry is the driving terms on the rows they take. -/
theorem entry_piece (s : Fin 4) (r k : ℕ) (hr : r = 520 * k) (hk : k < 16) (inb : ∀ a, (![s.val, r, 0] : Fin 3 → ℕ) a + S1x512x128.size a ≤ S4x8320x128.size a)
    (hs : S512x2048.Slices ![0, 128 * k] S512x128) (x : S1x512x128.Idx) :
    shapeCast S1x512x128 (extractStridedSlice S512x128 ![0, 128 * k] (V s) hs) shapeCasts_S512x128_S1x512x128 x
      = GX V ar ai r0 0 ((Rect.unit (s := S4x8320x128) ![s.val, r, 0] S1x512x128.size inb).emb x) := by
  subst hr
  rw [sc512 _ _ (by omega)]
  have h0 : (x 0).val = 0 := by have : (x 0).val < 1 := (x 0).isLt; omega
  have h1 : (x 1).val < 512 := (x 1).isLt
  have h2 : (x 2).val < 128 := (x 2).isLt
  have e0 : (Rect.unit (s := S4x8320x128) ![s.val, 520 * k, 0] S1x512x128.size inb).emb x 0 = s := Fin.ext (by show s.val + 1 * (x 0).val = s.val; omega)
  have e1 : ((Rect.unit (s := S4x8320x128) ![s.val, 520 * k, 0] S1x512x128.size inb).emb x 1).val = 520 * k + (x 1).val := by
    show 520 * k + 1 * (x 1).val = _; omega
  have e2 : ((Rect.unit (s := S4x8320x128) ![s.val, 520 * k, 0] S1x512x128.size inb).emb x 2).val = (x 2).val := by
    show 0 + 1 * (x 2).val = _; omega
  unfold GX
  rw [if_neg (by omega), e0]
  congr 1
  congr 1
  · apply Fin.ext; simp only [e1]; omega
  · apply Fin.ext; simp only [e1, e2]; omega

set_option maxHeartbeats 2000000 in
theorem entry_pieces : ∀ p ∈ entryL V, ∀ x : p.1.shape.Idx, p.2 x = GX V ar ai r0 0 (p.1.emb x) := by
  unfold entryL
  simp only [List.forall_mem_cons, List.not_mem_nil, false_imp_iff, implies_true, and_true]
  refine ⟨entry_piece V ar ai r0 3 7800 15 rfl (by decide) _ _,
    entry_piece V ar ai r0 3 7280 14 rfl (by decide) _ _,
    entry_piece V ar ai r0 3 6760 13 rfl (by decide) _ _,
    entry_piece V ar ai r0 3 6240 12 rfl (by decide) _ _,
    entry_piece V ar ai r0 3 5720 11 rfl (by decide) _ _,
    entry_piece V ar ai r0 3 5200 10 rfl (by decide) _ _,
    entry_piece V ar ai r0 3 4680 9 rfl (by decide) _ _,
    entry_piece V ar ai r0 3 4160 8 rfl (by decide) _ _,
    entry_piece V ar ai r0 3 3640 7 rfl (by decide) _ _,
    entry_piece V ar ai r0 3 3120 6 rfl (by decide) _ _,
    entry_piece V ar ai r0 3 2600 5 rfl (by decide) _ _,
    entry_piece V ar ai r0 3 2080 4 rfl (by decide) _ _,
    entry_piece V ar ai r0 3 1560 3 rfl (by decide) _ _,
    entry_piece V ar ai r0 3 1040 2 rfl (by decide) _ _,
    entry_piece V ar ai r0 3 520 1 rfl (by decide) _ _,
    entry_piece V ar ai r0 3 0 0 rfl (by decide) _ _,
    entry_piece V ar ai r0 2 7800 15 rfl (by decide) _ _,
    entry_piece V ar ai r0 2 7280 14 rfl (by decide) _ _,
    entry_piece V ar ai r0 2 6760 13 rfl (by decide) _ _,
    entry_piece V ar ai r0 2 6240 12 rfl (by decide) _ _,
    entry_piece V ar ai r0 2 5720 11 rfl (by decide) _ _,
    entry_piece V ar ai r0 2 5200 10 rfl (by decide) _ _,
    entry_piece V ar ai r0 2 4680 9 rfl (by decide) _ _,
    entry_piece V ar ai r0 2 4160 8 rfl (by decide) _ _,
    entry_piece V ar ai r0 2 3640 7 rfl (by decide) _ _,
    entry_piece V ar ai r0 2 3120 6 rfl (by decide) _ _,
    entry_piece V ar ai r0 2 2600 5 rfl (by decide) _ _,
    entry_piece V ar ai r0 2 2080 4 rfl (by decide) _ _,
    entry_piece V ar ai r0 2 1560 3 rfl (by decide) _ _,
    entry_piece V ar ai r0 2 1040 2 rfl (by decide) _ _,
    entry_piece V ar ai r0 2 520 1 rfl (by decide) _ _,
    entry_piece V ar ai r0 2 0 0 rfl (by decide) _ _,
    entry_piece V ar ai r0 1 7800 15 rfl (by decide) _ _,
    entry_piece V ar ai r0 1 7280 14 rfl (by decide) _ _,
    entry_piece V ar ai r0 1 6760 13 rfl (by decide) _ _,
    entry_piece V ar ai r0 1 6240 12 rfl (by decide) _ _,
    entry_piece V ar ai r0 1 5720 11 rfl (by decide) _ _,
    entry_piece V ar ai r0 1 5200 10 rfl (by decide) _ _,
    entry_piece V ar ai r0 1 4680 9 rfl (by decide) _ _,
    entry_piece V ar ai r0 1 4160 8 rfl (by decide) _ _,
    entry_piece V ar ai r0 1 3640 7 rfl (by decide) _ _,
    entry_piece V ar ai r0 1 3120 6 rfl (by decide) _ _,
    entry_piece V ar ai r0 1 2600 5 rfl (by decide) _ _,
    entry_piece V ar ai r0 1 2080 4 rfl (by decide) _ _,
    entry_piece V ar ai r0 1 1560 3 rfl (by decide) _ _,
    entry_piece V ar ai r0 1 1040 2 rfl (by decide) _ _,
    entry_piece V ar ai r0 1 520 1 rfl (by decide) _ _,
    entry_piece V ar ai r0 1 0 0 rfl (by decide) _ _,
    entry_piece V ar ai r0 0 7800 15 rfl (by decide) _ _,
    entry_piece V ar ai r0 0 7280 14 rfl (by decide) _ _,
    entry_piece V ar ai r0 0 6760 13 rfl (by decide) _ _,
    entry_piece V ar ai r0 0 6240 12 rfl (by decide) _ _,
    entry_piece V ar ai r0 0 5720 11 rfl (by decide) _ _,
    entry_piece V ar ai r0 0 5200 10 rfl (by decide) _ _,
    entry_piece V ar ai r0 0 4680 9 rfl (by decide) _ _,
    entry_piece V ar ai r0 0 4160 8 rfl (by decide) _ _,
    entry_piece V ar ai r0 0 3640 7 rfl (by decide) _ _,
    entry_piece V ar ai r0 0 3120 6 rfl (by decide) _ _,
    entry_piece V ar ai r0 0 2600 5 rfl (by decide) _ _,
    entry_piece V ar ai r0 0 2080 4 rfl (by decide) _ _,
    entry_piece V ar ai r0 0 1560 3 rfl (by decide) _ _,
    entry_piece V ar ai r0 0 1040 2 rfl (by decide) _ _,
    entry_piece V ar ai r0 0 520 1 rfl (by decide) _ _,
    entry_piece V ar ai r0 0 0 0 rfl (by decide) _ _⟩

end

section Loop

variable (c : Dev nD) (i : grid0.Coords) (arg2 : Memref sig .tc .vmem S4x512x256 .f32) (harg2 : arg2.IsWhole) (arg3 : Memref sig .tc .vmem S1x16x2048 .f32) (harg3 : arg3.IsWhole) (arg4 : Memref sig .tc .vmem S1x128x256 .f32) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S1x256 .f32) (harg7 : arg7.IsWhole) (arg8 : Memref sig .tc .vmem S4x512x256 .bf16) (harg8 : arg8.IsWhole) (arg9 : Memref sig .tc .vmem S4x8320x128 .f32) (harg9 : arg9.IsWhole) (arg10 : Memref sig .tc .vmem S4x16x128 .f32) (harg10 : arg10.IsWhole) (arg11 : Memref sig .tc .vmem S256x2048 .bf16) (harg11 : arg11.IsWhole) (arg12 : Memref sig .tc .vmem S2048x256 .bf16) (harg12 : arg12.IsWhole)
  (v293 v295 : FVec F S8x128 .f32) (v296 : Vec F S1x8x128 .f32)

/-- A trip's strided rectangles. -/
abbrev offR (off : Fin 3 → ℕ) (inb : ∀ a, S1x8x128.size a = 0 ∨ off a + (![1, 520, 1] : Fin 3 → Nat) a * (S1x8x128.size a - 1) < S4x8320x128.size a) : Rect S4x8320x128 :=
  ⟨(⟨off, S1x8x128.size, ![1, 520, 1], inb⟩ : LoadRect S4x8320x128), spos_1_520_1⟩

abbrev ldj (off : Fin 3 → ℕ) (inb : ∀ a, S1x8x128.size a = 0 ∨ off a + (![1, 520, 1] : Fin 3 → Nat) a * (S1x8x128.size a - 1) < S4x8320x128.size a)
    (f : Buf (Elt F) (arg9.view.loc (c : Thread nD τ))) : Vec F S1x8x128 .f32 :=
  arg9.view.readAt (Elt F) (⟨off, S1x8x128.size, ![1, 520, 1], inb⟩ : LoadRect S4x8320x128) f

theorem trip_pieces (k : Fin k0_t1_loop.trips) (a : Acc F) (f : Buf (Elt F) (arg9.view.loc (c : Thread nD τ))) :
    (tripRun c i arg2 harg2 arg3 harg3 arg4 harg4 arg5 harg5 arg6 harg6 arg7 harg7 arg8 harg8 arg9 harg9 arg10 harg10 arg11 harg11 arg12 harg12 v293 v295 v296 k a f).1 =
  [⟨offR (k0_off8 k) (k0_off8_inb k), shapeCast S1x8x128 (k0_pay19 v293 v295 (a.2.2.2.2.2.2.1) (a.2.2.2.2.2.2.2) (ldj c arg9 (k0_off8 k) (k0_off8_inb k) f)) shapeCasts_S8x128_S1x8x128⟩,
   ⟨offR (k0_off7 k) (k0_off7_inb k), shapeCast S1x8x128 (k0_pay18 v293 v295 (a.2.2.2.2.2.2.1) (a.2.2.2.2.2.2.2) (ldj c arg9 (k0_off7 k) (k0_off7_inb k) f)) shapeCasts_S8x128_S1x8x128⟩,
   ⟨offR (k0_off6 k) (k0_off6_inb k), shapeCast S1x8x128 (k0_pay19 v293 v295 (a.2.2.2.2.1) (a.2.2.2.2.2.1) (ldj c arg9 (k0_off6 k) (k0_off6_inb k) f)) shapeCasts_S8x128_S1x8x128⟩,
   ⟨offR (k0_off5 k) (k0_off5_inb k), shapeCast S1x8x128 (k0_pay18 v293 v295 (a.2.2.2.2.1) (a.2.2.2.2.2.1) (ldj c arg9 (k0_off5 k) (k0_off5_inb k) f)) shapeCasts_S8x128_S1x8x128⟩,
   ⟨offR (k0_off4 k) (k0_off4_inb k), shapeCast S1x8x128 (k0_pay19 v293 v295 (a.2.2.1) (a.2.2.2.1) (ldj c arg9 (k0_off4 k) (k0_off4_inb k) f)) shapeCasts_S8x128_S1x8x128⟩,
   ⟨offR (k0_off3 k) (k0_off3_inb k), shapeCast S1x8x128 (k0_pay18 v293 v295 (a.2.2.1) (a.2.2.2.1) (ldj c arg9 (k0_off3 k) (k0_off3_inb k) f)) shapeCasts_S8x128_S1x8x128⟩,
   ⟨offR (k0_off2 k) (k0_off2_inb k), shapeCast S1x8x128 (k0_pay19 v293 v295 (a.1) (a.2.1) (ldj c arg9 (k0_off2 k) (k0_off2_inb k) f)) shapeCasts_S8x128_S1x8x128⟩,
   ⟨offR (k0_off1 k) (k0_off1_inb k), shapeCast S1x8x128 (k0_pay18 v293 v295 (a.1) (a.2.1) (ldj c arg9 (k0_off1 k) (k0_off1_inb k) f)) shapeCasts_S8x128_S1x8x128⟩] := rfl

theorem trip_acc (k : Fin k0_t1_loop.trips) (a : Acc F) (f : Buf (Elt F) (arg9.view.loc (c : Thread nD τ))) :
    (tripRun c i arg2 harg2 arg3 harg3 arg4 harg4 arg5 harg5 arg6 harg6 arg7 harg7 arg8 harg8 arg9 harg9 arg10 harg10 arg11 harg11 arg12 harg12 v293 v295 v296 k a f).2.1 =
  (k0_pay18 v293 v295 (a.1) (a.2.1) (ldj c arg9 (k0_off1 k) (k0_off1_inb k) f),
   k0_pay19 v293 v295 (a.1) (a.2.1) (ldj c arg9 (k0_off2 k) (k0_off2_inb k) f),
   k0_pay18 v293 v295 (a.2.2.1) (a.2.2.2.1) (ldj c arg9 (k0_off3 k) (k0_off3_inb k) f),
   k0_pay19 v293 v295 (a.2.2.1) (a.2.2.2.1) (ldj c arg9 (k0_off4 k) (k0_off4_inb k) f),
   k0_pay18 v293 v295 (a.2.2.2.2.1) (a.2.2.2.2.2.1) (ldj c arg9 (k0_off5 k) (k0_off5_inb k) f),
   k0_pay19 v293 v295 (a.2.2.2.2.1) (a.2.2.2.2.2.1) (ldj c arg9 (k0_off6 k) (k0_off6_inb k) f),
   k0_pay18 v293 v295 (a.2.2.2.2.2.2.1) (a.2.2.2.2.2.2.2) (ldj c arg9 (k0_off7 k) (k0_off7_inb k) f),
   k0_pay19 v293 v295 (a.2.2.2.2.2.2.1) (a.2.2.2.2.2.2.2) (ldj c arg9 (k0_off8 k) (k0_off8_inb k) f)) := rfl

theorem off1 : ∀ k : Fin k0_t1_loop.trips, k0_off1 k = ![0, 0 * 4160 + k.val, 0] := by decide +kernel
theorem off2 : ∀ k : Fin k0_t1_loop.trips, k0_off2 k = ![0, 1 * 4160 + k.val, 0] := by decide +kernel
theorem off3 : ∀ k : Fin k0_t1_loop.trips, k0_off3 k = ![1, 0 * 4160 + k.val, 0] := by decide +kernel
theorem off4 : ∀ k : Fin k0_t1_loop.trips, k0_off4 k = ![1, 1 * 4160 + k.val, 0] := by decide +kernel
theorem off5 : ∀ k : Fin k0_t1_loop.trips, k0_off5 k = ![2, 0 * 4160 + k.val, 0] := by decide +kernel
theorem off6 : ∀ k : Fin k0_t1_loop.trips, k0_off6 k = ![2, 1 * 4160 + k.val, 0] := by decide +kernel
theorem off7 : ∀ k : Fin k0_t1_loop.trips, k0_off7 k = ![3, 0 * 4160 + k.val, 0] := by decide +kernel
theorem off8 : ∀ k : Fin k0_t1_loop.trips, k0_off8 k = ![3, 1 * 4160 + k.val, 0] := by decide +kernel

variable (V : Fin 4 → FVec F S512x2048 .f32) (r0 : Fin 4 → FVec F S8x128 .f32 × FVec F S8x128 .f32)

/-- A token's driving terms, loaded. -/
theorem load_tok (s : Fin 4) (h : Fin 2) (k : ℕ) (hk : k < 512) (off : Fin 3 → ℕ) (ho : off = ![s.val, h.val * 4160 + k, 0])
    (inb : ∀ a, S1x8x128.size a = 0 ∨ off a + (![1, 520, 1] : Fin 3 → Nat) a * (S1x8x128.size a - 1) < S4x8320x128.size a)
    (f : Buf (Elt F) (arg9.view.loc (c : Thread nD τ))) (hf : ∀ y : S4x8320x128.Idx, (y 1).val % 520 < 512 → arg9.view.read (Elt F) f y = GX V v293 v295 r0 k y) :
    ldj c arg9 off inb f = tok (V s) h.val k := by
  subst ho
  funext x
  show arg9.view.read (Elt F) f _ = _
  have hh := h.isLt
  have h0 : (x 0).val = 0 := by have : (x 0).val < 1 := (x 0).isLt; omega
  have h1 : (x 1).val < 8 := (x 1).isLt
  have h2 : (x 2).val < 128 := (x 2).isLt
  generalize hz : (⟨_, S1x8x128.size, ![1, 520, 1], inb⟩ : LoadRect S4x8320x128).idx x = z
  have e0 : z 0 = s := by subst hz; exact Fin.ext (by show s.val + 1 * (x 0).val = s.val; omega)
  have e1 : (z 1).val = h.val * 4160 + k + 520 * (x 1).val := by subst hz; rfl
  have e2 : (z 2).val = (x 2).val := by subst hz; show 0 + 1 * (x 2).val = _; omega
  rw [hf z (by omega)]
  unfold GX tok
  rw [if_neg (by omega), e0]
  congr 1
  congr 1
  · apply Fin.ext; simp only [e1]; omega
  · apply Fin.ext; simp only [e1, e2]; omega

/-- A token's new states, stored. -/
theorem store_tok (s : Fin 4) (h : Fin 2) (k : ℕ) (hk : k < 512) (off : Fin 3 → ℕ) (ho : off = ![s.val, h.val * 4160 + k, 0])
    (inb : ∀ a, S1x8x128.size a = 0 ∨ off a + (![1, 520, 1] : Fin 3 → Nat) a * (S1x8x128.size a - 1) < S4x8320x128.size a)
    (w : FVec F S8x128 .f32) (hw : w = half (seqAt v293 v295 (V s) (r0 s) (k + 1)) h.val) (x : S1x8x128.Idx) :
    shapeCast S1x8x128 w shapeCasts_S8x128_S1x8x128 x = GX V v293 v295 r0 (k + 1) ((offR off inb).emb x) := by
  subst ho
  have hh := h.isLt
  have h0 : (x 0).val = 0 := by have : (x 0).val < 1 := (x 0).isLt; omega
  have h1 : (x 1).val < 8 := (x 1).isLt
  have h2 : (x 2).val < 128 := (x 2).isLt
  generalize hz : (offR _ inb).emb x = z
  have e0 : z 0 = s := by subst hz; exact Fin.ext (by show s.val + 1 * (x 0).val = s.val; omega)
  have e1 : (z 1).val = h.val * 4160 + k + 520 * (x 1).val := by subst hz; rfl
  have e2 : (z 2).val = (x 2).val := by subst hz; show 0 + 1 * (x 2).val = _; omega
  rw [sc1]
  unfold GX
  rw [if_pos (by omega), e0, hw, show (z 1).val % 520 = k by omega, show (z 1).val / 4160 = h.val by omega]
  congr 1
  congr 1
  · apply Fin.ext; simp only [e1]; omega
  · exact Fin.ext e2.symm

/-- The states of the four sequences, as the loop carries them. -/
def accOf (k : ℕ) : Acc F :=
  ((seqAt v293 v295 (V 0) (r0 0) k).1, (seqAt v293 v295 (V 0) (r0 0) k).2, (seqAt v293 v295 (V 1) (r0 1) k).1, (seqAt v293 v295 (V 1) (r0 1) k).2, (seqAt v293 v295 (V 2) (r0 2) k).1, (seqAt v293 v295 (V 2) (r0 2) k).2, (seqAt v293 v295 (V 3) (r0 3) k).1, (seqAt v293 v295 (V 3) (r0 3) k).2)

/-- One trip: the scratch and the carried states go on. -/
theorem trip_step (k : Fin k0_t1_loop.trips) (f : Buf (Elt F) (arg9.view.loc (c : Thread nD τ)))
    (hf : ∀ y : S4x8320x128.Idx, (y 1).val % 520 < 512 → arg9.view.read (Elt F) f y = GX V v293 v295 r0 k.val y) :
    (∀ y : S4x8320x128.Idx, (y 1).val % 520 < 512 →
      arg9.view.read (Elt F) (arg9.view.writes (Elt F) f (tripRun c i arg2 harg2 arg3 harg3 arg4 harg4 arg5 harg5 arg6 harg6 arg7 harg7 arg8 harg8 arg9 harg9 arg10 harg10 arg11 harg11 arg12 harg12 v293 v295 v296 k (accOf v293 v295 V r0 k.val) f).1) y = GX V v293 v295 r0 (k.val + 1) y)
    ∧ (tripRun c i arg2 harg2 arg3 harg3 arg4 harg4 arg5 harg5 arg6 harg6 arg7 harg7 arg8 harg8 arg9 harg9 arg10 harg10 arg11 harg11 arg12 harg12 v293 v295 v296 k (accOf v293 v295 V r0 k.val) f).2.1 = accOf v293 v295 V r0 (k.val + 1) := by
  have hk : k.val < 512 := k.isLt
  have l1 := load_tok c arg9 v293 v295 V r0 0 0 k.val hk _ (off1 k) (k0_off1_inb k) f hf
  have l2 := load_tok c arg9 v293 v295 V r0 0 1 k.val hk _ (off2 k) (k0_off2_inb k) f hf
  have l3 := load_tok c arg9 v293 v295 V r0 1 0 k.val hk _ (off3 k) (k0_off3_inb k) f hf
  have l4 := load_tok c arg9 v293 v295 V r0 1 1 k.val hk _ (off4 k) (k0_off4_inb k) f hf
  have l5 := load_tok c arg9 v293 v295 V r0 2 0 k.val hk _ (off5 k) (k0_off5_inb k) f hf
  have l6 := load_tok c arg9 v293 v295 V r0 2 1 k.val hk _ (off6 k) (k0_off6_inb k) f hf
  have l7 := load_tok c arg9 v293 v295 V r0 3 0 k.val hk _ (off7 k) (k0_off7_inb k) f hf
  have l8 := load_tok c arg9 v293 v295 V r0 3 1 k.val hk _ (off8 k) (k0_off8_inb k) f hf
  rw [trip_acc, trip_pieces]
  simp only [l1, l2, l3, l4, l5, l6, l7, l8]
  refine ⟨fun y hy => read_pieces _ _ _ _ ?_ y ?_, rfl⟩
  · simp only [List.forall_mem_cons, List.not_mem_nil, false_imp_iff, implies_true, and_true]
    exact ⟨store_tok v293 v295 V r0 3 1 k.val hk _ (off8 k) _ _ rfl,
      store_tok v293 v295 V r0 3 0 k.val hk _ (off7 k) _ _ rfl,
      store_tok v293 v295 V r0 2 1 k.val hk _ (off6 k) _ _ rfl,
      store_tok v293 v295 V r0 2 0 k.val hk _ (off5 k) _ _ rfl,
      store_tok v293 v295 V r0 1 1 k.val hk _ (off4 k) _ _ rfl,
      store_tok v293 v295 V r0 1 0 k.val hk _ (off3 k) _ _ rfl,
      store_tok v293 v295 V r0 0 1 k.val hk _ (off2 k) _ _ rfl,
      store_tok v293 v295 V r0 0 0 k.val hk _ (off1 k) _ _ rfl⟩
  · intro hn
    rw [hf y hy]
    have hne : (y 1).val % 520 ≠ k.val := by
      intro he
      have h1 : (y 1).val < 8320 := (y 1).isLt
      have h2 : (y 2).val < 128 := (y 2).isLt
      have h0 : (y 0).val < 4 := (y 0).isLt
      simp only [List.forall_mem_cons, List.not_mem_nil, false_imp_iff, implies_true, and_true] at hn
      obtain ⟨n8, n7, n6, n5, n4, n3, n2, n1⟩ := hn
      have key : ∀ (s h : ℕ) (off : Fin 3 → ℕ) (inb), off = ![s, h * 4160 + k.val, 0] → (y 0).val = s → (y 1).val / 4160 = h → y ∈ (offR off inb).set := by
        intro s h off inb ho es eh
        subst ho
        refine LoadRect.mem_set _ |>.mpr fun a => ?_
        match a with
        | ⟨0, _⟩ => exact ⟨0, by show 0 < 1; omega, by show (y 0).val = s + 1 * 0; omega⟩
        | ⟨1, _⟩ => exact ⟨(y 1).val / 520 % 8, Nat.mod_lt _ (by decide), by show (y 1).val = h * 4160 + k.val + 520 * ((y 1).val / 520 % 8); omega⟩
        | ⟨2, _⟩ => exact ⟨(y 2).val, h2, by show (y 2).val = 0 + 1 * (y 2).val; omega⟩
      have hs : (y 0).val = 0 ∨ (y 0).val = 1 ∨ (y 0).val = 2 ∨ (y 0).val = 3 := by omega
      have hh : (y 1).val / 4160 = 0 ∨ (y 1).val / 4160 = 1 := by omega
      rcases hs with hs | hs | hs | hs <;> rcases hh with hh | hh
      · exact n1 (key 0 0 _ _ (off1 k) hs hh)
      · exact n2 (key 0 1 _ _ (off2 k) hs hh)
      · exact n3 (key 1 0 _ _ (off3 k) hs hh)
      · exact n4 (key 1 1 _ _ (off4 k) hs hh)
      · exact n5 (key 2 0 _ _ (off5 k) hs hh)
      · exact n6 (key 2 1 _ _ (off6 k) hs hh)
      · exact n7 (key 3 0 _ _ (off7 k) hs hh)
      · exact n8 (key 3 1 _ _ (off8 k) hs hh)
    unfold GX
    by_cases hlt : (y 1).val % 520 < k.val
    · rw [if_pos hlt, if_pos (by omega)]
    · rw [if_neg hlt, if_neg (by omega)]

/-- Before every trip, and after the last. -/
theorem fold_read (f₀ : Buf (Elt F) (arg9.view.loc (c : Thread nD τ)))
    (hf : ∀ y : S4x8320x128.Idx, (y 1).val % 520 < 512 → arg9.view.read (Elt F) f₀ y = GX V v293 v295 r0 0 y) (k : ℕ) (hk : k ≤ 512) :
    (∀ y : S4x8320x128.Idx, (y 1).val % 520 < 512 →
      arg9.view.read (Elt F) (foldAt c i arg2 harg2 arg3 harg3 arg4 harg4 arg5 harg5 arg6 harg6 arg7 harg7 arg8 harg8 arg9 harg9 arg10 harg10 arg11 harg11 arg12 harg12 v293 v295 v296 f₀ (accOf v293 v295 V r0 0) k).1 y = GX V v293 v295 r0 k y)
    ∧ (foldAt c i arg2 harg2 arg3 harg3 arg4 harg4 arg5 harg5 arg6 harg6 arg7 harg7 arg8 harg8 arg9 harg9 arg10 harg10 arg11 harg11 arg12 harg12 v293 v295 v296 f₀ (accOf v293 v295 V r0 0) k).2 = accOf v293 v295 V r0 k := by
  induction k with
  | zero => exact ⟨hf, rfl⟩
  | succ k ih =>
    obtain ⟨h1, h2⟩ := ih (by omega)
    have hk' : k < k0_t1_loop.trips := hk
    have e : foldAt c i arg2 harg2 arg3 harg3 arg4 harg4 arg5 harg5 arg6 harg6 arg7 harg7 arg8 harg8 arg9 harg9 arg10 harg10 arg11 harg11 arg12 harg12 v293 v295 v296 f₀ (accOf v293 v295 V r0 0) (k + 1)
        = foldStep c i arg2 harg2 arg3 harg3 arg4 harg4 arg5 harg5 arg6 harg6 arg7 harg7 arg8 harg8 arg9 harg9 arg10 harg10 arg11 harg11 arg12 harg12 v293 v295 v296 k (foldAt c i arg2 harg2 arg3 harg3 arg4 harg4 arg5 harg5 arg6 harg6 arg7 harg7 arg8 harg8 arg9 harg9 arg10 harg10 arg11 harg11 arg12 harg12 v293 v295 v296 f₀ (accOf v293 v295 V r0 0) k) := rfl
    rw [e]
    generalize foldAt c i arg2 harg2 arg3 harg3 arg4 harg4 arg5 harg5 arg6 harg6 arg7 harg7 arg8 harg8 arg9 harg9 arg10 harg10 arg11 harg11 arg12 harg12 v293 v295 v296 f₀ (accOf v293 v295 V r0 0) k = r at h1 h2
    obtain ⟨f, a⟩ := r
    dsimp only at h1 h2
    subst h2
    unfold foldStep
    rw [dif_pos hk']
    dsimp only
    exact trip_step c i arg2 harg2 arg3 harg3 arg4 harg4 arg5 harg5 arg6 harg6 arg7 harg7 arg8 harg8 arg9 harg9 arg10 harg10 arg11 harg11 arg12 harg12 v293 v295 v296 V r0 ⟨k, hk'⟩ _ h1

end Loop

end Cert.SsmIdeal.Scan

end
-- ==== Proof.Scan.CoreIdeal.lean ====
/-
  What the body of the scan leaves at a grid point, as values of what it found: the state scratch does not matter.
-/
module

public import proofs.«01_k».proof.Proof.Scan.ReadIdeal

@[expose] public section

set_option maxRecDepth 16384

noncomputable section

namespace Cert.SsmIdeal.Scan

open Cert.SsmIdeal Cert.SsmIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Two indices of rank three with the same coordinates. -/
theorem ext3 {d : Fin 3 → ℕ} (a b : (⟨3, d⟩ : Shape).Idx) (h0 : (a 0).val = (b 0).val) (h1 : (a 1).val = (b 1).val) (h2 : (a 2).val = (b 2).val) : a = b := by
  funext i; apply Fin.ext
  match i with
  | ⟨0, _⟩ => exact h0
  | ⟨1, _⟩ => exact h1
  | ⟨2, _⟩ => exact h2
theorem ext2 {d : Fin 2 → ℕ} (a b : (⟨2, d⟩ : Shape).Idx) (h0 : (a 0).val = (b 0).val) (h1 : (a 1).val = (b 1).val) : a = b := by
  funext i; apply Fin.ext
  match i with
  | ⟨0, _⟩ => exact h0
  | ⟨1, _⟩ => exact h1

/-- The states the recurrence starts from, of the scratch's halves. -/
def r0of (rd : Fin 4 → Fin 2 → Vec F S1x8x128 .f32) : Fin 4 → FVec F S8x128 .f32 × FVec F S8x128 .f32 := fun s => (k0_pay109 (rd s 0), k0_pay110 (rd s 1))

/-- A sequence's states after so many tokens of the block. -/
def coreState (U : Fin 4 → Vec F S1x512x256 .f32) (bm : Vec F S256x2048 .bf16) (ar ai : Vec F S1x8x128 .f32) (rd : Fin 4 → Fin 2 → Vec F S1x8x128 .f32)
    (s : Fin 4) (k : ℕ) : FVec F S8x128 .f32 × FVec F S8x128 .f32 :=
  seqAt (k0_pay107 ar) (k0_pay108 ai) (drive (U s) bm) (r0of rd s) k

/-- A slab of a sequence's states, over the block's tokens. -/
def coreX (U : Fin 4 → Vec F S1x512x256 .f32) (bm : Vec F S256x2048 .bf16) (ar ai : Vec F S1x8x128 .f32) (rd : Fin 4 → Fin 2 → Vec F S1x8x128 .f32)
    (s : Fin 4) (k : Fin 16) : Vec F S1x512x128 .f32 := fun x =>
  half (coreState U bm ar ai rd s ((x 1).val + 1)) (k.val / 8) (ix2 ⟨k.val % 8, Nat.mod_lt _ (by decide)⟩ (x 2))

/-- The result's block. -/
def coreOut (U : Fin 4 → Vec F S1x512x256 .f32) (bm : Vec F S256x2048 .bf16) (ar ai : Vec F S1x8x128 .f32) (rd : Fin 4 → Fin 2 → Vec F S1x8x128 .f32)
    (cm : Vec F S2048x256 .bf16) (d : Vec F S1x256 .f32) : Vec F S4x512x256 .bf16 := fun y =>
  outV (coreX U bm ar ai rd (y 0)) cm d (U (y 0)) (ix3 (0 : Fin 1) (y 1) (y 2))

/-- The states carried on. -/
def coreSt (U : Fin 4 → Vec F S1x512x256 .f32) (bm : Vec F S256x2048 .bf16) (ar ai : Vec F S1x8x128 .f32) (rd : Fin 4 → Fin 2 → Vec F S1x8x128 .f32) :
    Vec F S4x16x128 .f32 := fun y =>
  half (coreState U bm ar ai rd (y 0) 512) ((y 1).val / 8) (ix2 ⟨(y 1).val % 8, Nat.mod_lt _ (by decide)⟩ (y 2))

section Core

variable (c : Dev nD) (i : grid0.Coords) (arg2 : Memref sig .tc .vmem S4x512x256 .f32) (harg2 : arg2.IsWhole) (arg3 : Memref sig .tc .vmem S1x16x2048 .f32) (harg3 : arg3.IsWhole) (arg4 : Memref sig .tc .vmem S1x128x256 .f32) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S1x256 .f32) (harg7 : arg7.IsWhole) (arg8 : Memref sig .tc .vmem S4x512x256 .bf16) (harg8 : arg8.IsWhole) (arg9 : Memref sig .tc .vmem S4x8320x128 .f32) (harg9 : arg9.IsWhole) (arg10 : Memref sig .tc .vmem S4x16x128 .f32) (harg10 : arg10.IsWhole) (arg11 : Memref sig .tc .vmem S256x2048 .bf16) (harg11 : arg11.IsWhole) (arg12 : Memref sig .tc .vmem S2048x256 .bf16) (harg12 : arg12.IsWhole)

set_option maxHeartbeats 4000000 in
/-- Every row the driving terms take is written. -/
theorem entry_cover (V : Fin 4 → FVec F S512x2048 .f32) (y : S4x8320x128.Idx) (hy : (y 1).val % 520 < 512) (hn : ∀ p ∈ entryL V, y ∉ p.1.set) : False := by
  have h0 : (y 0).val < 4 := (y 0).isLt
  have h1 : (y 1).val < 8320 := (y 1).isLt
  have h2 : (y 2).val < 128 := (y 2).isLt
  have key : ∀ (s k r : ℕ) (inb : ∀ a, (![s, r, 0] : Fin 3 → ℕ) a + S1x512x128.size a ≤ S4x8320x128.size a), r = 520 * k → (y 0).val = s → (y 1).val / 520 = k →
      y ∈ (Rect.unit (s := S4x8320x128) ![s, r, 0] S1x512x128.size inb).set := by
    intro s k r inb hr es ek
    subst hr
    refine LoadRect.mem_set _ |>.mpr fun a => ?_
    match a with
    | ⟨0, _⟩ => exact ⟨0, by show 0 < 1; omega, by show (y 0).val = s + 1 * 0; omega⟩
    | ⟨1, _⟩ => exact ⟨(y 1).val % 520, hy, by show (y 1).val = 520 * k + 1 * ((y 1).val % 520); omega⟩
    | ⟨2, _⟩ => exact ⟨(y 2).val, h2, by show (y 2).val = 0 + 1 * (y 2).val; omega⟩
  unfold entryL at hn
  simp only [List.forall_mem_cons, List.not_mem_nil, false_imp_iff, implies_true, and_true] at hn
  obtain ⟨n3_15, n3_14, n3_13, n3_12, n3_11, n3_10, n3_9, n3_8, n3_7, n3_6, n3_5, n3_4, n3_3, n3_2, n3_1, n3_0, n2_15, n2_14, n2_13, n2_12, n2_11, n2_10, n2_9, n2_8, n2_7, n2_6, n2_5, n2_4, n2_3, n2_2, n2_1, n2_0, n1_15, n1_14, n1_13, n1_12, n1_11, n1_10, n1_9, n1_8, n1_7, n1_6, n1_5, n1_4, n1_3, n1_2, n1_1, n1_0, n0_15, n0_14, n0_13, n0_12, n0_11, n0_10, n0_9, n0_8, n0_7, n0_6, n0_5, n0_4, n0_3, n0_2, n0_1, n0_0⟩ := hn
  have hs : (y 0).val = 0 ∨ (y 0).val = 1 ∨ (y 0).val = 2 ∨ (y 0).val = 3 := by omega
  have hk : (y 1).val / 520 = 0 ∨ (y 1).val / 520 = 1 ∨ (y 1).val / 520 = 2 ∨ (y 1).val / 520 = 3 ∨ (y 1).val / 520 = 4 ∨ (y 1).val / 520 = 5 ∨ (y 1).val / 520 = 6 ∨ (y 1).val / 520 = 7 ∨ (y 1).val / 520 = 8 ∨ (y 1).val / 520 = 9 ∨ (y 1).val / 520 = 10 ∨ (y 1).val / 520 = 11 ∨ (y 1).val / 520 = 12 ∨ (y 1).val / 520 = 13 ∨ (y 1).val / 520 = 14 ∨ (y 1).val / 520 = 15 := by omega
  rcases hs with hs | hs | hs | hs <;> rcases hk with hk | hk | hk | hk | hk | hk | hk | hk | hk | hk | hk | hk | hk | hk | hk | hk
  · exact n0_0 (key 0 0 _ _ rfl hs hk)
  · exact n0_1 (key 0 1 _ _ rfl hs hk)
  · exact n0_2 (key 0 2 _ _ rfl hs hk)
  · exact n0_3 (key 0 3 _ _ rfl hs hk)
  · exact n0_4 (key 0 4 _ _ rfl hs hk)
  · exact n0_5 (key 0 5 _ _ rfl hs hk)
  · exact n0_6 (key 0 6 _ _ rfl hs hk)
  · exact n0_7 (key 0 7 _ _ rfl hs hk)
  · exact n0_8 (key 0 8 _ _ rfl hs hk)
  · exact n0_9 (key 0 9 _ _ rfl hs hk)
  · exact n0_10 (key 0 10 _ _ rfl hs hk)
  · exact n0_11 (key 0 11 _ _ rfl hs hk)
  · exact n0_12 (key 0 12 _ _ rfl hs hk)
  · exact n0_13 (key 0 13 _ _ rfl hs hk)
  · exact n0_14 (key 0 14 _ _ rfl hs hk)
  · exact n0_15 (key 0 15 _ _ rfl hs hk)
  · exact n1_0 (key 1 0 _ _ rfl hs hk)
  · exact n1_1 (key 1 1 _ _ rfl hs hk)
  · exact n1_2 (key 1 2 _ _ rfl hs hk)
  · exact n1_3 (key 1 3 _ _ rfl hs hk)
  · exact n1_4 (key 1 4 _ _ rfl hs hk)
  · exact n1_5 (key 1 5 _ _ rfl hs hk)
  · exact n1_6 (key 1 6 _ _ rfl hs hk)
  · exact n1_7 (key 1 7 _ _ rfl hs hk)
  · exact n1_8 (key 1 8 _ _ rfl hs hk)
  · exact n1_9 (key 1 9 _ _ rfl hs hk)
  · exact n1_10 (key 1 10 _ _ rfl hs hk)
  · exact n1_11 (key 1 11 _ _ rfl hs hk)
  · exact n1_12 (key 1 12 _ _ rfl hs hk)
  · exact n1_13 (key 1 13 _ _ rfl hs hk)
  · exact n1_14 (key 1 14 _ _ rfl hs hk)
  · exact n1_15 (key 1 15 _ _ rfl hs hk)
  · exact n2_0 (key 2 0 _ _ rfl hs hk)
  · exact n2_1 (key 2 1 _ _ rfl hs hk)
  · exact n2_2 (key 2 2 _ _ rfl hs hk)
  · exact n2_3 (key 2 3 _ _ rfl hs hk)
  · exact n2_4 (key 2 4 _ _ rfl hs hk)
  · exact n2_5 (key 2 5 _ _ rfl hs hk)
  · exact n2_6 (key 2 6 _ _ rfl hs hk)
  · exact n2_7 (key 2 7 _ _ rfl hs hk)
  · exact n2_8 (key 2 8 _ _ rfl hs hk)
  · exact n2_9 (key 2 9 _ _ rfl hs hk)
  · exact n2_10 (key 2 10 _ _ rfl hs hk)
  · exact n2_11 (key 2 11 _ _ rfl hs hk)
  · exact n2_12 (key 2 12 _ _ rfl hs hk)
  · exact n2_13 (key 2 13 _ _ rfl hs hk)
  · exact n2_14 (key 2 14 _ _ rfl hs hk)
  · exact n2_15 (key 2 15 _ _ rfl hs hk)
  · exact n3_0 (key 3 0 _ _ rfl hs hk)
  · exact n3_1 (key 3 1 _ _ rfl hs hk)
  · exact n3_2 (key 3 2 _ _ rfl hs hk)
  · exact n3_3 (key 3 3 _ _ rfl hs hk)
  · exact n3_4 (key 3 4 _ _ rfl hs hk)
  · exact n3_5 (key 3 5 _ _ rfl hs hk)
  · exact n3_6 (key 3 6 _ _ rfl hs hk)
  · exact n3_7 (key 3 7 _ _ rfl hs hk)
  · exact n3_8 (key 3 8 _ _ rfl hs hk)
  · exact n3_9 (key 3 9 _ _ rfl hs hk)
  · exact n3_10 (key 3 10 _ _ rfl hs hk)
  · exact n3_11 (key 3 11 _ _ rfl hs hk)
  · exact n3_12 (key 3 12 _ _ rfl hs hk)
  · exact n3_13 (key 3 13 _ _ rfl hs hk)
  · exact n3_14 (key 3 14 _ _ rfl hs hk)
  · exact n3_15 (key 3 15 _ _ rfl hs hk)

theorem entry_read (V : Fin 4 → FVec F S512x2048 .f32) (ar ai : FVec F S8x128 .f32) (r0 : Fin 4 → FVec F S8x128 .f32 × FVec F S8x128 .f32)
    (f9 : Buf (Elt F) (arg9.view.loc (c : Thread nD τ))) (y : S4x8320x128.Idx) (hy : (y 1).val % 520 < 512) :
    arg9.view.read (Elt F) (entryF c arg9 V f9) y = GX V ar ai r0 0 y :=
  read_pieces arg9.view f9 (entryL V) _ (entry_pieces V ar ai r0) y fun hn => (entry_cover V y hy hn).elim

variable (U : Fin 4 → Vec F S1x512x256 .f32) (bm : Vec F S256x2048 .bf16) (ar ai : Vec F S1x8x128 .f32) (rd : Fin 4 → Fin 2 → Vec F S1x8x128 .f32)
  (f9 : Buf (Elt F) (arg9.view.loc (c : Thread nD τ))) (cm : Vec F S2048x256 .bf16) (d : Vec F S1x256 .f32)

theorem acc0_eq : acc0 rd = accOf (k0_pay107 ar) (k0_pay108 ai) (fun s => drive (U s) bm) (r0of rd) 0 := rfl

theorem loop_read :
    (∀ y : S4x8320x128.Idx, (y 1).val % 520 < 512 →
      arg9.view.read (Elt F) (LB c i arg2 harg2 arg3 harg3 arg4 harg4 arg5 harg5 arg6 harg6 arg7 harg7 arg8 harg8 arg9 harg9 arg10 harg10 arg11 harg11 arg12 harg12 U bm ar ai rd f9) y = GX (fun s => drive (U s) bm) (k0_pay107 ar) (k0_pay108 ai) (r0of rd) 512 y)
    ∧ LA c i arg2 harg2 arg3 harg3 arg4 harg4 arg5 harg5 arg6 harg6 arg7 harg7 arg8 harg8 arg9 harg9 arg10 harg10 arg11 harg11 arg12 harg12 U bm ar ai rd f9 = accOf (k0_pay107 ar) (k0_pay108 ai) (fun s => drive (U s) bm) (r0of rd) 512 := by
  unfold LB LA loopBuf loopAcc
  rw [acc0_eq U bm ar ai rd]
  exact fold_read c i arg2 harg2 arg3 harg3 arg4 harg4 arg5 harg5 arg6 harg6 arg7 harg7 arg8 harg8 arg9 harg9 arg10 harg10 arg11 harg11 arg12 harg12 (k0_pay107 ar) (k0_pay108 ai) (rd 0 0) (fun s => drive (U s) bm) (r0of rd) _
    (fun y hy => entry_read c arg9 _ _ _ _ f9 y hy) 512 le_rfl

theorem slab_read (s : Fin 4) : (fun k => arg9.view.readAt (Elt F) (slabR s k).toLoadRect (LB c i arg2 harg2 arg3 harg3 arg4 harg4 arg5 harg5 arg6 harg6 arg7 harg7 arg8 harg8 arg9 harg9 arg10 harg10 arg11 harg11 arg12 harg12 U bm ar ai rd f9)) = coreX U bm ar ai rd s := by
  funext k x
  have hk := k.isLt
  have h0 : (x 0).val = 0 := by have : (x 0).val < 1 := (x 0).isLt; omega
  have h1 : (x 1).val < 512 := (x 1).isLt
  show arg9.view.read (Elt F) (LB c i arg2 harg2 arg3 harg3 arg4 harg4 arg5 harg5 arg6 harg6 arg7 harg7 arg8 harg8 arg9 harg9 arg10 harg10 arg11 harg11 arg12 harg12 U bm ar ai rd f9) ((slabR s k).toLoadRect.idx x) = _
  generalize hz : (slabR s k).toLoadRect.idx x = z
  have e0 : z 0 = s := by subst hz; exact Fin.ext (by show s.val + 1 * (x 0).val = s.val; omega)
  have e1 : (z 1).val = 520 * k.val + (x 1).val := by subst hz; show 520 * k.val + 1 * (x 1).val = _; omega
  have e2 : (z 2).val = (x 2).val := by subst hz; show 0 + 1 * (x 2).val = _; omega
  rw [(loop_read c i arg2 harg2 arg3 harg3 arg4 harg4 arg5 harg5 arg6 harg6 arg7 harg7 arg8 harg8 arg9 harg9 arg10 harg10 arg11 harg11 arg12 harg12 U bm ar ai rd f9).1 z (by omega)]
  unfold GX coreX coreState
  rw [if_pos (by omega), e0, show (z 1).val % 520 = (x 1).val by omega, show (z 1).val / 4160 = k.val / 8 by omega]
  congr 1
  exact ext2 _ _ (by show (z 1).val / 520 % 8 = k.val % 8; omega) e2

theorem out_piece (s : Fin 4) (inb : ∀ a, (![s.val, 0, 0] : Fin 3 → ℕ) a + S1x512x256.size a ≤ S4x512x256.size a) (x : S1x512x256.Idx) :
    outV (coreX U bm ar ai rd s) cm d (U s) x = coreOut U bm ar ai rd cm d ((Rect.unit (s := S4x512x256) ![s.val, 0, 0] S1x512x256.size inb).emb x) := by
  have h0 : (x 0).val = 0 := by have : (x 0).val < 1 := (x 0).isLt; omega
  generalize hz : (Rect.unit (s := S4x512x256) ![s.val, 0, 0] S1x512x256.size inb).emb x = z
  have e0 : z 0 = s := by subst hz; exact Fin.ext (by show s.val + 1 * (x 0).val = s.val; omega)
  have e1 : (z 1).val = (x 1).val := by subst hz; show 0 + 1 * (x 1).val = _; omega
  have e2 : (z 2).val = (x 2).val := by subst hz; show 0 + 1 * (x 2).val = _; omega
  unfold coreOut
  rw [e0]
  congr 1
  exact ext3 _ _ h0 e1.symm e2.symm

theorem out_read (f : arg8.view.ty.Contents (Elt F)) :
    arg8.view.read (Elt F) (arg8.view.writes (Elt F) f (outL c i arg2 harg2 arg3 harg3 arg4 harg4 arg5 harg5 arg6 harg6 arg7 harg7 arg8 harg8 arg9 harg9 arg10 harg10 arg11 harg11 arg12 harg12 U bm ar ai rd f9 cm d)) = coreOut U bm ar ai rd cm d := by
  funext y
  unfold outL
  simp only [slab_read]
  refine read_pieces _ _ _ _ ?_ y fun hn => ?_
  · simp only [List.forall_mem_cons, List.not_mem_nil, false_imp_iff, implies_true, and_true]
    exact ⟨out_piece U bm ar ai rd cm d 3 _, out_piece U bm ar ai rd cm d 2 _, out_piece U bm ar ai rd cm d 1 _, out_piece U bm ar ai rd cm d 0 _⟩
  · exfalso
    have h0 : (y 0).val < 4 := (y 0).isLt
    simp only [List.forall_mem_cons, List.not_mem_nil, false_imp_iff, implies_true, and_true] at hn
    obtain ⟨n3, n2, n1, n0⟩ := hn
    have key : ∀ (s : ℕ) (inb : ∀ a, (![s, 0, 0] : Fin 3 → ℕ) a + S1x512x256.size a ≤ S4x512x256.size a), (y 0).val = s →
        y ∈ (Rect.unit (s := S4x512x256) ![s, 0, 0] S1x512x256.size inb).set := by
      intro s inb es
      refine LoadRect.mem_set _ |>.mpr fun a => ?_
      match a with
      | ⟨0, _⟩ => exact ⟨0, by show 0 < 1; omega, by show (y 0).val = s + 1 * 0; omega⟩
      | ⟨1, _⟩ => exact ⟨(y 1).val, (y 1).isLt, by show (y 1).val = 0 + 1 * (y 1).val; omega⟩
      | ⟨2, _⟩ => exact ⟨(y 2).val, (y 2).isLt, by show (y 2).val = 0 + 1 * (y 2).val; omega⟩
    have hs : (y 0).val = 0 ∨ (y 0).val = 1 ∨ (y 0).val = 2 ∨ (y 0).val = 3 := by omega
    rcases hs with hs | hs | hs | hs
    · exact n0 (key 0 _ hs)
    · exact n1 (key 1 _ hs)
    · exact n2 (key 2 _ hs)
    · exact n3 (key 3 _ hs)

theorem st_piece (s : Fin 4) (h : Fin 2) (r : ℕ) (hr : r = 8 * h.val) (inb : ∀ a, (![s.val, r, 0] : Fin 3 → ℕ) a + S1x8x128.size a ≤ S4x16x128.size a)
    (w : FVec F S8x128 .f32) (hw : w = half (coreState U bm ar ai rd s 512) h.val) (x : S1x8x128.Idx) :
    shapeCast S1x8x128 w shapeCasts_S8x128_S1x8x128 x = coreSt U bm ar ai rd ((Rect.unit (s := S4x16x128) ![s.val, r, 0] S1x8x128.size inb).emb x) := by
  subst hr
  have hh := h.isLt
  have h0 : (x 0).val = 0 := by have : (x 0).val < 1 := (x 0).isLt; omega
  have h1 : (x 1).val < 8 := (x 1).isLt
  generalize hz : (Rect.unit (s := S4x16x128) ![s.val, 8 * h.val, 0] S1x8x128.size inb).emb x = z
  have e0 : z 0 = s := by subst hz; exact Fin.ext (by show s.val + 1 * (x 0).val = s.val; omega)
  have e1 : (z 1).val = 8 * h.val + (x 1).val := by subst hz; show 8 * h.val + 1 * (x 1).val = _; omega
  have e2 : (z 2).val = (x 2).val := by subst hz; show 0 + 1 * (x 2).val = _; omega
  rw [sc1, hw]
  unfold coreSt
  rw [e0, show (z 1).val / 8 = h.val by omega]
  congr 1
  exact ext2 _ _ (by show (x 1).val = (z 1).val % 8; omega) e2.symm

theorem st_read (f : arg10.view.ty.Contents (Elt F)) :
    arg10.view.read (Elt F) (arg10.view.writes (Elt F) f (stL (LA c i arg2 harg2 arg3 harg3 arg4 harg4 arg5 harg5 arg6 harg6 arg7 harg7 arg8 harg8 arg9 harg9 arg10 harg10 arg11 harg11 arg12 harg12 U bm ar ai rd f9))) = coreSt U bm ar ai rd := by
  funext y
  rw [(loop_read c i arg2 harg2 arg3 harg3 arg4 harg4 arg5 harg5 arg6 harg6 arg7 harg7 arg8 harg8 arg9 harg9 arg10 harg10 arg11 harg11 arg12 harg12 U bm ar ai rd f9).2]
  refine read_pieces _ _ _ _ ?_ y fun hn => ?_
  · simp only [List.forall_mem_cons, List.not_mem_nil, false_imp_iff, implies_true, and_true]
    exact ⟨st_piece U bm ar ai rd 3 1 _ rfl _ _ rfl, st_piece U bm ar ai rd 3 0 _ rfl _ _ rfl, st_piece U bm ar ai rd 2 1 _ rfl _ _ rfl, st_piece U bm ar ai rd 2 0 _ rfl _ _ rfl, st_piece U bm ar ai rd 1 1 _ rfl _ _ rfl, st_piece U bm ar ai rd 1 0 _ rfl _ _ rfl, st_piece U bm ar ai rd 0 1 _ rfl _ _ rfl, st_piece U bm ar ai rd 0 0 _ rfl _ _ rfl⟩
  · exfalso
    have h0 : (y 0).val < 4 := (y 0).isLt
    have h1 : (y 1).val < 16 := (y 1).isLt
    simp only [List.forall_mem_cons, List.not_mem_nil, false_imp_iff, implies_true, and_true] at hn
    obtain ⟨n31, n30, n21, n20, n11, n10, n01, n00⟩ := hn
    have key : ∀ (s h r : ℕ) (inb : ∀ a, (![s, r, 0] : Fin 3 → ℕ) a + S1x8x128.size a ≤ S4x16x128.size a), r = 8 * h → (y 0).val = s → (y 1).val / 8 = h →
        y ∈ (Rect.unit (s := S4x16x128) ![s, r, 0] S1x8x128.size inb).set := by
      intro s h r inb hr es eh
      subst hr
      refine LoadRect.mem_set _ |>.mpr fun a => ?_
      match a with
      | ⟨0, _⟩ => exact ⟨0, by show 0 < 1; omega, by show (y 0).val = s + 1 * 0; omega⟩
      | ⟨1, _⟩ => exact ⟨(y 1).val % 8, Nat.mod_lt _ (by decide), by show (y 1).val = 8 * h + 1 * ((y 1).val % 8); omega⟩
      | ⟨2, _⟩ => exact ⟨(y 2).val, (y 2).isLt, by show (y 2).val = 0 + 1 * (y 2).val; omega⟩
    have hs : (y 0).val = 0 ∨ (y 0).val = 1 ∨ (y 0).val = 2 ∨ (y 0).val = 3 := by omega
    have hh : (y 1).val / 8 = 0 ∨ (y 1).val / 8 = 1 := by omega
    rcases hs with hs | hs | hs | hs <;> rcases hh with hh | hh
    · exact n00 (key 0 0 _ _ rfl hs hh)
    · exact n01 (key 0 1 _ _ rfl hs hh)
    · exact n10 (key 1 0 _ _ rfl hs hh)
    · exact n11 (key 1 1 _ _ rfl hs hh)
    · exact n20 (key 2 0 _ _ rfl hs hh)
    · exact n21 (key 2 1 _ _ rfl hs hh)
    · exact n30 (key 3 0 _ _ rfl hs hh)
    · exact n31 (key 3 1 _ _ rfl hs hh)

theorem st_read_fill (f : arg10.view.ty.Contents (Elt F)) :
    arg10.view.read (Elt F) (arg10.view.writes (Elt F) f (stL (LA c i arg2 harg2 arg3 harg3 arg4 harg4 arg5 harg5 arg6 harg6 arg7 harg7 arg8 harg8 arg9 harg9 arg10 harg10 arg11 harg11 arg12 harg12 U bm ar ai rd f9) ++ fillL)) = coreSt U bm ar ai rd :=
  st_read c i arg2 harg2 arg3 harg3 arg4 harg4 arg5 harg5 arg6 harg6 arg7 harg7 arg8 harg8 arg9 harg9 arg10 harg10 arg11 harg11 arg12 harg12 U bm ar ai rd f9 (arg10.view.writes (Elt F) f fillL)

/-! ## The operands as the body reads them -/

/-- A sequence's tokens of the block. -/
def blkU (x0 : Vec F S4x512x256 .f32) : Fin 4 → Vec F S1x512x256 .f32 := fun s x => x0 (ix3 s (x 1) (x 2))
/-- A sequence's states, real or imaginary, of the four's. -/
def blkS (S : Vec F S4x16x128 .f32) : Fin 4 → Fin 2 → Vec F S1x8x128 .f32 := fun s h x =>
  S (ix3 s (⟨8 * h.val + (x 1).val, by have : (x 1).val < 8 := (x 1).isLt; have := h.isLt; omega⟩ : Fin 16) (x 2))
/-- The packed output matrix, in halves. -/
def lo (x2 : Vec F S1x128x256 .f32) : Vec F S1x64x256 .f32 := fun x => x2 (ix3 (0 : Fin 1) (⟨(x 1).val, by have : (x 1).val < 64 := (x 1).isLt; omega⟩ : Fin 128) (x 2))
def hi (x2 : Vec F S1x128x256 .f32) : Vec F S1x64x256 .f32 := fun x => x2 (ix3 (0 : Fin 1) (⟨64 + (x 1).val, by have : (x 1).val < 64 := (x 1).isLt; omega⟩ : Fin 128) (x 2))
/-- The spread output matrix from the packed one. -/
def spreadC (x2 : Vec F S1x128x256 .f32) : Vec F S2048x256 .bf16 := fun y =>
  if (y 0).val < 1024 then spreadC0 (lo x2) (ix2 (⟨(y 0).val % 1024, Nat.mod_lt _ (by decide)⟩ : Fin 1024) (y 1))
  else spreadC1 (hi x2) (ix2 (⟨(y 0).val % 1024, Nat.mod_lt _ (by decide)⟩ : Fin 1024) (y 1))

section Reads

variable (x0 : Vec F S4x512x256 .f32) (x1 : Vec F S1x16x2048 .f32) (x2 : Vec F S1x128x256 .f32) (x3 : Vec F S1x8x128 .f32) (x4 : Vec F S1x8x128 .f32) (x5 : Vec F S1x256 .f32) (xs1 : Vec F S4x16x128 .f32) (xs2 : Vec F S256x2048 .bf16) (xs3 : Vec F S2048x256 .bf16)

theorem rU_eq : rU arg2 harg2 x0 = blkU x0 := by
  funext s x
  have h0 : (x 0).val = 0 := by have : (x 0).val < 1 := (x 0).isLt; omega
  show arg2.view.read (Elt F) (harg2.unread x0) _ = _
  rw [harg2.read_unread]
  unfold blkU
  exact congrArg x0 (ext3 _ _ (by show s.val + 1 * (x 0).val = s.val; omega) (by show 0 + 1 * (x 1).val = (x 1).val; omega) (by show 0 + 1 * (x 2).val = (x 2).val; omega))
theorem rS_eq : rS arg10 harg10 xs1 = blkS xs1 := by
  funext s h x
  have h0 : (x 0).val = 0 := by have : (x 0).val < 1 := (x 0).isLt; omega
  show arg10.view.read (Elt F) (harg10.unread xs1) _ = _
  rw [harg10.read_unread]
  unfold blkS
  exact congrArg xs1 (ext3 _ _ (by show s.val + 1 * (x 0).val = s.val; omega) (by show 8 * h.val + 1 * (x 1).val = 8 * h.val + (x 1).val; omega) (by show 0 + 1 * (x 2).val = (x 2).val; omega))
theorem pC0_eq : pC0 arg4 harg4 x2 = lo x2 := by
  funext x
  have h0 : (x 0).val = 0 := by have : (x 0).val < 1 := (x 0).isLt; omega
  show arg4.view.read (Elt F) (harg4.unread x2) _ = _
  rw [harg4.read_unread]
  unfold lo
  exact congrArg x2 (ext3 _ _ (by show 0 + 1 * (x 0).val = 0; omega) (by show 0 + 1 * (x 1).val = (x 1).val; omega) (by show 0 + 1 * (x 2).val = (x 2).val; omega))
theorem pC1_eq : pC1 arg4 harg4 x2 = hi x2 := by
  funext x
  have h0 : (x 0).val = 0 := by have : (x 0).val < 1 := (x 0).isLt; omega
  show arg4.view.read (Elt F) (harg4.unread x2) _ = _
  rw [harg4.read_unread]
  unfold hi
  exact congrArg x2 (ext3 _ _ (by show 0 + 1 * (x 0).val = 0; omega) (by show 64 + 1 * (x 1).val = 64 + (x 1).val; omega) (by show 0 + 1 * (x 2).val = (x 2).val; omega))
theorem rA_eq : rA arg5 harg5 x3 = x3 := by
  funext x
  show arg5.view.read (Elt F) (harg5.unread x3) _ = _
  rw [harg5.read_unread]
  exact congrArg x3 (ext3 _ _ (by show 0 + 1 * (x 0).val = (x 0).val; omega) (by show 0 + 1 * (x 1).val = (x 1).val; omega) (by show 0 + 1 * (x 2).val = (x 2).val; omega))
theorem rI_eq : rI arg6 harg6 x4 = x4 := by
  funext x
  show arg6.view.read (Elt F) (harg6.unread x4) _ = _
  rw [harg6.read_unread]
  exact congrArg x4 (ext3 _ _ (by show 0 + 1 * (x 0).val = (x 0).val; omega) (by show 0 + 1 * (x 1).val = (x 1).val; omega) (by show 0 + 1 * (x 2).val = (x 2).val; omega))
theorem rD_eq : rD arg7 harg7 x5 = x5 := by
  funext x
  show arg7.view.read (Elt F) (harg7.unread x5) _ = _
  rw [harg7.read_unread]
  exact congrArg x5 (ext2 _ _ (by show 0 + 1 * (x 0).val = (x 0).val; omega) (by show 0 + 1 * (x 1).val = (x 1).val; omega))
theorem rB_eq : rB arg11 harg11 xs2 = xs2 := by
  funext x
  show arg11.view.read (Elt F) (harg11.unread xs2) _ = _
  rw [harg11.read_unread]
  exact congrArg xs2 (ext2 _ _ (by show 0 + 1 * (x 0).val = (x 0).val; omega) (by show 0 + 1 * (x 1).val = (x 1).val; omega))
theorem rC_eq : rC arg12 harg12 xs3 = xs3 := by
  funext x
  show arg12.view.read (Elt F) (harg12.unread xs3) _ = _
  rw [harg12.read_unread]
  exact congrArg xs3 (ext2 _ _ (by show 0 + 1 * (x 0).val = (x 0).val; omega) (by show 0 + 1 * (x 1).val = (x 1).val; omega))
theorem pB_eq : pB arg3 harg3 x1 = x1 := by
  funext x
  show arg3.view.read (Elt F) (harg3.unread x1) _ = _
  rw [harg3.read_unread]
  exact congrArg x1 (ext3 _ _ (by show 0 + 1 * (x 0).val = (x 0).val; omega) (by show 0 + 1 * (x 1).val = (x 1).val; omega) (by show 0 + 1 * (x 2).val = (x 2).val; omega))

theorem fill_read (f : arg10.view.ty.Contents (Elt F)) : arg10.view.read (Elt F) (arg10.view.writes (Elt F) f fillL) = k0_pay32 := by
  funext y
  refine read_pieces _ _ _ _ ?_ y fun hn => ?_
  · simp only [List.forall_mem_cons, List.not_mem_nil, false_imp_iff, implies_true, and_true]
    intro x
    exact congrArg k0_pay32 (ext3 _ _ (by show (x 0).val = 0 + 1 * (x 0).val; omega) (by show (x 1).val = 0 + 1 * (x 1).val; omega) (by show (x 2).val = 0 + 1 * (x 2).val; omega))
  · exfalso
    simp only [List.forall_mem_cons, List.not_mem_nil, false_imp_iff, implies_true, and_true] at hn
    refine hn (LoadRect.mem_set _ |>.mpr fun a => ?_)
    match a with
    | ⟨0, _⟩ => exact ⟨(y 0).val, (y 0).isLt, by show (y 0).val = 0 + 1 * (y 0).val; omega⟩
    | ⟨1, _⟩ => exact ⟨(y 1).val, (y 1).isLt, by show (y 1).val = 0 + 1 * (y 1).val; omega⟩
    | ⟨2, _⟩ => exact ⟨(y 2).val, (y 2).isLt, by show (y 2).val = 0 + 1 * (y 2).val; omega⟩

theorem bm_read (f : arg11.view.ty.Contents (Elt F)) (x : Vec F S1x16x2048 .f32) : arg11.view.read (Elt F) (arg11.view.writes (Elt F) f (bmL x)) = spreadB x := by
  funext y
  refine read_pieces _ _ _ _ ?_ y fun hn => ?_
  · simp only [List.forall_mem_cons, List.not_mem_nil, false_imp_iff, implies_true, and_true]
    intro z
    exact congrArg (spreadB x) (ext2 _ _ (by show (z 0).val = 0 + 1 * (z 0).val; omega) (by show (z 1).val = 0 + 1 * (z 1).val; omega))
  · exfalso
    simp only [List.forall_mem_cons, List.not_mem_nil, false_imp_iff, implies_true, and_true] at hn
    refine hn (LoadRect.mem_set _ |>.mpr fun a => ?_)
    match a with
    | ⟨0, _⟩ => exact ⟨(y 0).val, (y 0).isLt, by show (y 0).val = 0 + 1 * (y 0).val; omega⟩
    | ⟨1, _⟩ => exact ⟨(y 1).val, (y 1).isLt, by show (y 1).val = 0 + 1 * (y 1).val; omega⟩

theorem cm_read (f : arg12.view.ty.Contents (Elt F)) : arg12.view.read (Elt F) (arg12.view.writes (Elt F) f (cmL (lo x2) (hi x2))) = spreadC x2 := by
  funext y
  refine read_pieces _ _ _ _ ?_ y fun hn => ?_
  · simp only [List.forall_mem_cons, List.not_mem_nil, false_imp_iff, implies_true, and_true]
    refine ⟨fun z => ?_, fun z => ?_⟩
    · have h0 : (z 0).val < 1024 := (z 0).isLt
      generalize hw : (Rect.emb _ z : S2048x256.Idx) = w
      have e0 : (w 0).val = 1024 + (z 0).val := by subst hw; show 1024 + 1 * (z 0).val = _; omega
      have e1 : (w 1).val = (z 1).val := by subst hw; show 0 + 1 * (z 1).val = _; omega
      unfold spreadC
      rw [if_neg (by omega)]
      exact congrArg (spreadC1 (hi x2)) (ext2 _ _ (by show (z 0).val = (w 0).val % 1024; omega) e1.symm)
    · have h0 : (z 0).val < 1024 := (z 0).isLt
      generalize hw : (Rect.emb _ z : S2048x256.Idx) = w
      have e0 : (w 0).val = (z 0).val := by subst hw; show 0 + 1 * (z 0).val = _; omega
      have e1 : (w 1).val = (z 1).val := by subst hw; show 0 + 1 * (z 1).val = _; omega
      unfold spreadC
      rw [if_pos (by omega)]
      exact congrArg (spreadC0 (lo x2)) (ext2 _ _ (by show (z 0).val = (w 0).val % 1024; omega) e1.symm)
  · exfalso
    have hy : (y 0).val < 2048 := (y 0).isLt
    simp only [List.forall_mem_cons, List.not_mem_nil, false_imp_iff, implies_true, and_true] at hn
    by_cases hl : (y 0).val < 1024
    · refine hn.2 (LoadRect.mem_set _ |>.mpr fun a => ?_)
      match a with
      | ⟨0, _⟩ => exact ⟨(y 0).val, hl, by show (y 0).val = 0 + 1 * (y 0).val; omega⟩
      | ⟨1, _⟩ => exact ⟨(y 1).val, (y 1).isLt, by show (y 1).val = 0 + 1 * (y 1).val; omega⟩
    · refine hn.1 (LoadRect.mem_set _ |>.mpr fun a => ?_)
      match a with
      | ⟨0, _⟩ => exact ⟨(y 0).val - 1024, by show _ < 1024; omega, by show (y 0).val = 1024 + 1 * ((y 0).val - 1024); omega⟩
      | ⟨1, _⟩ => exact ⟨(y 1).val, (y 1).isLt, by show (y 1).val = 0 + 1 * (y 1).val; omega⟩

theorem zS_eq : zS (F := F) arg10 = blkS k0_pay32 := by
  funext s h x
  have h0 : (x 0).val = 0 := by have : (x 0).val < 1 := (x 0).isLt; omega
  show arg10.view.read (Elt F) (arg10.view.writes (Elt F) _ fillL) ((stR s h).toLoadRect.idx x) = _
  rw [fill_read]
  unfold blkS
  exact congrArg k0_pay32 (ext3 _ _ (by show s.val + 1 * (x 0).val = s.val; omega) (by show 8 * h.val + 1 * (x 1).val = 8 * h.val + (x 1).val; omega) (by show 0 + 1 * (x 2).val = (x 2).val; omega))
theorem nB_eq : nB arg3 harg3 arg11 x1 = spreadB x1 := by
  funext x
  show arg11.view.read (Elt F) (arg11.view.writes (Elt F) _ (bmL (pB arg3 harg3 x1))) _ = _
  rw [pB_eq, bm_read]
  exact congrArg (spreadB x1) (ext2 _ _ (by show 0 + 1 * (x 0).val = (x 0).val; omega) (by show 0 + 1 * (x 1).val = (x 1).val; omega))
theorem nC_eq : nC arg4 harg4 arg12 x2 = spreadC x2 := by
  funext x
  show arg12.view.read (Elt F) (arg12.view.writes (Elt F) _ (cmL (pC0 arg4 harg4 x2) (pC1 arg4 harg4 x2))) _ = _
  rw [pC0_eq, pC1_eq, cm_read]
  exact congrArg (spreadC x2) (ext2 _ _ (by show 0 + 1 * (x 0).val = (x 0).val; omega) (by show 0 + 1 * (x 1).val = (x 1).val; omega))

/-- What a grid point leaves in the result's block, from what the scratch it carries holds, -/
def ptOut (S : Vec F S4x16x128 .f32) (B : Vec F S256x2048 .bf16) (C : Vec F S2048x256 .bf16) : Vec F S4x512x256 .bf16 :=
  coreOut (blkU x0) B x3 x4 (blkS S) C x5
/-- and in the states. -/
def ptSt (S : Vec F S4x16x128 .f32) (B : Vec F S256x2048 .bf16) : Vec F S4x16x128 .f32 := coreSt (blkU x0) B x3 x4 (blkS S)

theorem B_out (hc0 : ¬cond0_0 i) (hc1 : ¬cond0_1 i) (f : arg8.view.ty.Contents (Elt F)) :
    arg8.view.read (Elt F) (arg8.view.writes (Elt F) f (runB c i arg2 harg2 arg3 harg3 arg4 harg4 arg5 harg5 arg6 harg6 arg7 harg7 arg8 harg8 arg9 harg9 arg10 harg10 arg11 harg11 arg12 harg12 hc0 hc1 x0 x1 x2 x3 x4 x5 xs1 xs2 xs3 f9).1) = ptOut x0 x3 x4 x5 xs1 xs2 xs3 := by
  rw [runB_out, out_read, rU_eq, rB_eq, rA_eq, rI_eq, rS_eq, rC_eq, rD_eq]; rfl
theorem B_st (hc0 : ¬cond0_0 i) (hc1 : ¬cond0_1 i) (f : arg10.view.ty.Contents (Elt F)) :
    arg10.view.read (Elt F) (arg10.view.writes (Elt F) f (runB c i arg2 harg2 arg3 harg3 arg4 harg4 arg5 harg5 arg6 harg6 arg7 harg7 arg8 harg8 arg9 harg9 arg10 harg10 arg11 harg11 arg12 harg12 hc0 hc1 x0 x1 x2 x3 x4 x5 xs1 xs2 xs3 f9).2.1) = ptSt x0 x3 x4 xs1 xs2 := by
  rw [runB_st, st_read, rU_eq, rB_eq, rA_eq, rI_eq, rS_eq]; rfl
theorem A_out (hc0 : cond0_0 i) (hc1 : cond0_1 i) (f : arg8.view.ty.Contents (Elt F)) :
    arg8.view.read (Elt F) (arg8.view.writes (Elt F) f (runA c i arg2 harg2 arg3 harg3 arg4 harg4 arg5 harg5 arg6 harg6 arg7 harg7 arg8 harg8 arg9 harg9 arg10 harg10 arg11 harg11 arg12 harg12 hc0 hc1 x0 x1 x2 x3 x4 x5 f9).1) = ptOut x0 x3 x4 x5 k0_pay32 (spreadB x1) (spreadC x2) := by
  rw [runA_out, out_read, rU_eq, nB_eq, rA_eq, rI_eq, zS_eq, nC_eq, rD_eq]; rfl
theorem A_st (hc0 : cond0_0 i) (hc1 : cond0_1 i) (f : arg10.view.ty.Contents (Elt F)) :
    arg10.view.read (Elt F) (arg10.view.writes (Elt F) f (runA c i arg2 harg2 arg3 harg3 arg4 harg4 arg5 harg5 arg6 harg6 arg7 harg7 arg8 harg8 arg9 harg9 arg10 harg10 arg11 harg11 arg12 harg12 hc0 hc1 x0 x1 x2 x3 x4 x5 f9).2.1) = ptSt x0 x3 x4 k0_pay32 (spreadB x1) := by
  rw [runA_st, st_read_fill, rU_eq, nB_eq, rA_eq, rI_eq, zS_eq]; rfl
theorem A_bm (hc0 : cond0_0 i) (hc1 : cond0_1 i) (f : arg11.view.ty.Contents (Elt F)) :
    arg11.view.read (Elt F) (arg11.view.writes (Elt F) f (runA c i arg2 harg2 arg3 harg3 arg4 harg4 arg5 harg5 arg6 harg6 arg7 harg7 arg8 harg8 arg9 harg9 arg10 harg10 arg11 harg11 arg12 harg12 hc0 hc1 x0 x1 x2 x3 x4 x5 f9).2.2.1) = spreadB x1 := by
  rw [runA_bm, pB_eq, bm_read]
theorem A_cm (hc0 : cond0_0 i) (hc1 : cond0_1 i) (f : arg12.view.ty.Contents (Elt F)) :
    arg12.view.read (Elt F) (arg12.view.writes (Elt F) f (runA c i arg2 harg2 arg3 harg3 arg4 harg4 arg5 harg5 arg6 harg6 arg7 harg7 arg8 harg8 arg9 harg9 arg10 harg10 arg11 harg11 arg12 harg12 hc0 hc1 x0 x1 x2 x3 x4 x5 f9).2.2.2.1) = spreadC x2 := by
  rw [runA_cm, pC0_eq, pC1_eq, cm_read]

end Reads

end Core

end Cert.SsmIdeal.Scan

end
-- ==== Proof.Scan.PointsIdeal.lean ====
/-
  The scan's words over the extended reals, at an index.
-/
module

public import proofs.«01_k».proof.Proof.Disp.Spec
public import proofs.«01_k».proof.Proof.Scan.Spec
public import proofs.«01_k».proof.Proof.Scan.CoreIdeal

@[expose] public section

set_option maxRecDepth 16384

noncomputable section

open Idealize.ShloMosaic Idealize.ShloMosaic.TcCoe

namespace Cert.SsmIdeal.Scan

open Cert.SsmIdeal Cert.SsmIdeal.Gen Cert.Scan

/-- The division of a word that rounds down, as the kernel spells it. -/
def fdivV {s : Shape} (v : IVec s 32) (d : BitVec 32) : IVec s 32 :=
  select (andi (cmpi .ne (subi (extui 32 (cmpi .sgt v (broadcast s 0#32)) natLt_1_32) (extui 32 (cmpi .slt v (broadcast s 0#32)) natLt_1_32))
      (broadcast s (Scalar.subi (Scalar.extui (Scalar.cmpi .sgt d 0#32)) (Scalar.extui (Scalar.cmpi .slt d 0#32)))))
      (cmpi .ne (remsi v (broadcast s d)) (broadcast s 0#32)))
    (subi (divsi v (broadcast s d)) (broadcast s 1#32)) (divsi v (broadcast s d))

def colB : IVec S256x2048 32 := fdivV (select k0_pay5 k0_pay6 k0_pay4) 64#32
def rowC : IVec S1024x256 32 := fdivV (iota .tc S1024x256 32 [0] iota_S1024x256_d0_w32) 64#32
def colC : IVec S1024x256 32 := fdivV (iota .tc S1024x256 32 [1] iota_S1024x256_d1_w32) 16#32

theorem rowB_0 : ∀ r : Fin 256, k0_pay3 (ix2 r (0 : Fin 2048)) = BitVec.ofNat 32 (r.val / 16) := by decide +kernel
theorem colB_0 : ∀ j : Fin 2048, colB (ix2 (0 : Fin 256) j) = BitVec.ofNat 32 (j.val % 1024 / 64) := by decide +kernel
theorem rowC_0 : ∀ j : Fin 1024, rowC (ix2 j (0 : Fin 256)) = BitVec.ofNat 32 (j.val / 64) := by decide +kernel
theorem colC_0 : ∀ c : Fin 256, colC (ix2 (0 : Fin 1024) c) = BitVec.ofNat 32 (c.val / 16) := by decide +kernel

theorem rowB_at (r : Fin 256) (j : Fin 2048) : k0_pay3 (ix2 r j) = BitVec.ofNat 32 (r.val / 16) := (rfl : _ = k0_pay3 (ix2 r (0 : Fin 2048))).trans (rowB_0 r)
theorem colB_at (r : Fin 256) (j : Fin 2048) : colB (ix2 r j) = BitVec.ofNat 32 (j.val % 1024 / 64) := (rfl : _ = colB (ix2 (0 : Fin 256) j)).trans (colB_0 j)
theorem rowC_at (j : Fin 1024) (c : Fin 256) : rowC (ix2 j c) = BitVec.ofNat 32 (j.val / 64) := (rfl : _ = rowC (ix2 j (0 : Fin 256))).trans (rowC_0 j)
theorem colC_at (j : Fin 1024) (c : Fin 256) : colC (ix2 j c) = BitVec.ofNat 32 (c.val / 16) := (rfl : _ = colC (ix2 (0 : Fin 1024) c)).trans (colC_0 c)

theorem words_eq {a b : ℕ} (ha : a < 32) (hb : b < 32) : (BitVec.ofNat 32 a = BitVec.ofNat 32 b) ↔ a = b := by
  rw [BitVec.toNat_eq, BitVec.toNat_ofNat, BitVec.toNat_ofNat]; omega

theorem pay2_at (x : Vec Ideal S1x16x2048 .f32) (r : Fin 256) (j : Fin 2048) :
    k0_pay2 x (ix2 r j) = x (ix3 (0 : Fin 1) (⟨r.val % 16, Nat.mod_lt _ (by decide)⟩ : Fin 16) j) := by
  refine (concatenate_replicate_apply (t := S256x2048) (0 : Fin 2) 16 (shapeCast S16x2048 x shapeCasts_S1x16x2048_S16x2048) concatenates_S16x2048_S16x2048_S16x2048_S16x2048_S16x2048_S16x2048_S16x2048_S16x2048_S16x2048_S16x2048_S16x2048_S16x2048_S16x2048_S16x2048_S16x2048_S16x2048_S256x2048_d0 rfl _
    (ix2 (⟨r.val % 16, Nat.mod_lt _ (by decide)⟩ : Fin 16) j) rfl (fun b hb => ?_)).trans ?_
  · match b, hb with
    | ⟨0, _⟩, hb => exact absurd rfl hb
    | ⟨1, _⟩, _ => rfl
  · pointwise []

theorem pay8_at (x : Vec Ideal S1x64x256 .f32) (r : Fin 1024) (j : Fin 256) :
    k0_pay8 x (ix2 r j) = x (ix3 (0 : Fin 1) (⟨r.val % 64, Nat.mod_lt _ (by decide)⟩ : Fin 64) j) := by
  refine (concatenate_replicate_apply (t := S1024x256) (0 : Fin 2) 16 (shapeCast S64x256 x shapeCasts_S1x64x256_S64x256) concatenates_S64x256_S64x256_S64x256_S64x256_S64x256_S64x256_S64x256_S64x256_S64x256_S64x256_S64x256_S64x256_S64x256_S64x256_S64x256_S64x256_S1024x256_d0 rfl _
    (ix2 (⟨r.val % 64, Nat.mod_lt _ (by decide)⟩ : Fin 64) j) rfl (fun b hb => ?_)).trans ?_
  · match b, hb with
    | ⟨0, _⟩, hb => exact absurd rfl hb
    | ⟨1, _⟩, _ => rfl
  · pointwise []

/-- A matrix kept where two words meet. -/
def keep {s : Shape} (h : FVec Ideal s .f32) (a b : IVec s 32) : FVec Ideal s .f32 :=
  select (cmpi .eq a b) h (broadcast s (Scalar.ofBits (F := Ideal) .f32 0x00000000#32))

theorem keep_at {s : Shape} (h : FVec Ideal s .f32) (a b : IVec s 32) (y : s.Idx) (p q : ℕ) (hp : p < 32) (hq : q < 32) (ha : a y = BitVec.ofNat 32 p) (hb : b y = BitVec.ofNat 32 q) :
    (keep h a b y : EReal) = if p = q then (h y : EReal) else 0 := by
  unfold keep
  pointwise []
  rw [ha, hb, Cert.Disp.eq_words, Cert.Disp.select_ofBool]
  simp only [words_eq hp hq]

theorem spreadB_at (x : Vec Ideal S1x16x2048 .f32) (r : Fin 256) (j : Fin 2048) :
    (spreadB x (ix2 r j) : EReal) = if r.val / 16 = j.val % 1024 / 64 then (x (ix3 (0 : Fin 1) (⟨r.val % 16, Nat.mod_lt _ (by decide)⟩ : Fin 16) j) : EReal) else 0 := by
  rw [← pay2_at x r j]
  have e : spreadB x = shapeCast S256x2048 (truncf .bf16 (keep (k0_pay2 x) k0_pay3 colB) bitsLt_bf16_f32) shapeCasts_S256x2048_S256x2048 := rfl
  have := keep_at (k0_pay2 x) k0_pay3 colB (ix2 r j) _ _ (by omega) (by omega) (rowB_at r j) (colB_at r j)
  rw [e]
  generalize keep (k0_pay2 x) k0_pay3 colB = K at *
  pointwise []
  exact this

theorem spreadC0_at (x : Vec Ideal S1x64x256 .f32) (r : Fin 1024) (j : Fin 256) :
    (spreadC0 x (ix2 r j) : EReal) = if r.val / 64 = j.val / 16 then (x (ix3 (0 : Fin 1) (⟨r.val % 64, Nat.mod_lt _ (by decide)⟩ : Fin 64) j) : EReal) else 0 := by
  rw [← pay8_at x r j]
  have e : spreadC0 x = shapeCast S1024x256 (truncf .bf16 (keep (k0_pay8 x) rowC colC) bitsLt_bf16_f32) shapeCasts_S1024x256_S1024x256 := rfl
  have := keep_at (k0_pay8 x) rowC colC (ix2 r j) _ _ (by omega) (by omega) (rowC_at r j) (colC_at r j)
  rw [e]
  generalize keep (k0_pay8 x) rowC colC = K at *
  pointwise []
  exact this

theorem spreadC1_at (x : Vec Ideal S1x64x256 .f32) (r : Fin 1024) (j : Fin 256) :
    (spreadC1 x (ix2 r j) : EReal) = if r.val / 64 = j.val / 16 then (x (ix3 (0 : Fin 1) (⟨r.val % 64, Nat.mod_lt _ (by decide)⟩ : Fin 64) j) : EReal) else 0 :=
  (congrArg (fun f : FVec Ideal S1024x256 .bf16 => (f (ix2 r j) : EReal)) (rfl : spreadC1 x = spreadC0 x)).trans (spreadC0_at x r j)

theorem drive_at (u : Vec Ideal S1x512x256 .f32) (b : Vec Ideal S256x2048 .bf16) (t : Fin 512) (j : Fin 2048) :
    drive u b (ix2 t j) = ∑ r : Fin 256, (u (ix3 (0 : Fin 1) t r) : EReal) * (b (ix2 r j) : EReal) := by
  unfold drive
  pointwise [k0_pay33]

theorem pay18_at (ar ai re im : FVec Ideal S8x128 .f32) (v : Vec Ideal S1x8x128 .f32) (i : Fin 8) (l : Fin 128) :
    k0_pay18 ar ai re im v (ix2 i l) = (ar (ix2 i l) : EReal) * (re (ix2 i l) : EReal) - (ai (ix2 i l) : EReal) * (im (ix2 i l) : EReal) + (v (ix3 (0 : Fin 1) i l) : EReal) := by
  pointwise [k0_pay18]

theorem pay19_at (ar ai re im : FVec Ideal S8x128 .f32) (v : Vec Ideal S1x8x128 .f32) (i : Fin 8) (l : Fin 128) :
    k0_pay19 ar ai re im v (ix2 i l) = (ar (ix2 i l) : EReal) * (im (ix2 i l) : EReal) + (ai (ix2 i l) : EReal) * (re (ix2 i l) : EReal) + (v (ix3 (0 : Fin 1) i l) : EReal) := by
  pointwise [k0_pay19]

/-- The states' slabs side by side. -/
def wide (X : Fin 16 → Vec Ideal S1x512x128 .f32) : FVec Ideal S512x2048 .bf16 :=
  concatenate S512x2048 1 (List.ofFn fun k : Fin 16 => (⟨S512x128, k0_pay129 (X k)⟩ : (s : Shape) × (s.Idx → Ideal .bf16)))
    concatenates_S512x128_S512x128_S512x128_S512x128_S512x128_S512x128_S512x128_S512x128_S512x128_S512x128_S512x128_S512x128_S512x128_S512x128_S512x128_S512x128_S512x2048_d1

theorem wide_at (X : Fin 16 → Vec Ideal S1x512x128 .f32) (t : Fin 512) (j : Fin 2048) :
    wide X (ix2 t j) = X (⟨j.val / 128, by omega⟩ : Fin 16) (ix3 (0 : Fin 1) t (⟨j.val % 128, Nat.mod_lt _ (by decide)⟩ : Fin 128)) := by
  refine (concatenate_ofFn_apply (t := S512x2048) (1 : Fin 2) (fun k : Fin 16 => k0_pay129 (X k)) _ rfl 128 rfl (ix2 t j) (⟨j.val / 128, by omega⟩ : Fin 16) rfl
    (ix2 t (⟨j.val % 128, Nat.mod_lt _ (by decide)⟩ : Fin 128)) rfl (fun b hb => ?_)).trans ?_
  · match b, hb with
    | ⟨0, _⟩, _ => rfl
    | ⟨1, _⟩, hb => exact absurd rfl hb
  · pointwise [k0_pay129]

theorem pay164_at (v : FVec Ideal S512x256 .f32) (d : Vec Ideal S1x256 .f32) (u : Vec Ideal S1x512x256 .f32) (t : Fin 512) (c : Fin 256) :
    k0_pay164 v d u (ix3 (0 : Fin 1) t c) = act ((v (ix2 t c) : EReal) + (d (ix2 (0 : Fin 1) c) : EReal) * (u (ix3 (0 : Fin 1) t c) : EReal)) := by
  pointwise [k0_pay164]
  rfl

theorem dotC_at (w : FVec Ideal S512x2048 .bf16) (cm : FVec Ideal S2048x256 .bf16) (t : Fin 512) (c : Fin 256) :
    matmul dot_S512x2048_S2048x256_S512x256_1_0_0_1_n_n none w cm (constant S512x256 .f32 0x00000000#32) (ix2 t c)
      = ∑ j : Fin 2048, (w (ix2 t j) : EReal) * (cm (ix2 j c) : EReal) := by
  pointwise []

theorem outV_at (X : Fin 16 → Vec Ideal S1x512x128 .f32) (cm : Vec Ideal S2048x256 .bf16) (d : Vec Ideal S1x256 .f32) (u : Vec Ideal S1x512x256 .f32) (t : Fin 512) (c : Fin 256) :
    outV X cm d u (ix3 (0 : Fin 1) t c) = act ((∑ j : Fin 2048, (X (⟨j.val / 128, by omega⟩ : Fin 16) (ix3 (0 : Fin 1) t (⟨j.val % 128, Nat.mod_lt _ (by decide)⟩ : Fin 128)) : EReal) * (cm (ix2 j c) : EReal))
      + (d (ix2 (0 : Fin 1) c) : EReal) * (u (ix3 (0 : Fin 1) t c) : EReal)) := by
  have e : outV X cm d u = k0_pay164 (matmul dot_S512x2048_S2048x256_S512x256_1_0_0_1_n_n none (wide X) cm (constant S512x256 .f32 0x00000000#32)) d u := rfl
  rw [e, pay164_at, dotC_at]
  simp only [wide_at]

end Cert.SsmIdeal.Scan

end
-- ==== Proof.Scan.FrameIdeal.lean ====
/-
  The frame of the scan: every final state has the arguments as launched; and what each grid point leaves.
-/
module

public import Idealize.ShloMosaic.Lib.Claim
public import proofs.«01_k».proof.Proof.Scan.CoreIdeal

@[expose] public section

set_option maxRecDepth 16384

noncomputable section

namespace Cert.SsmIdeal.Scan

open Cert.SsmIdeal Cert.SsmIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev ms0_0 (t : Fin cfg0.N) : Memref sig .tc .vmem S4x512x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x16x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x8x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x8x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S4x512x256 .bf16 := win0_6.stage (cfg0.slots t 6)
abbrev hs0_6 (t : Fin cfg0.N) : (ms0_6 t).IsWhole := hstage0_6 ((cfg0.slots t 6).cast nbuf0_6)
abbrev scM0_0 : Memref sig .tc .vmem S4x8320x128 .f32 := Memref.whole cc0_scratch0
abbrev scM0_1 : Memref sig .tc .vmem S4x16x128 .f32 := Memref.whole cc0_scratch1
abbrev scM0_2 : Memref sig .tc .vmem S256x2048 .bf16 := Memref.whole cc0_scratch2
abbrev scM0_3 : Memref sig .tc .vmem S2048x256 .bf16 := Memref.whole cc0_scratch3

/-- The class's invariant with the scratch operands owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

/-- The state scratch at some contents. -/
theorem x_open (c : Dev nD) : (iprop(∃ d, owns (c : Thread nD τ) scM0_0 fullShare d) : sProp 𝕄) ⊢ iprop(∃ f, xP (F := F) c scM0_0 f) := by
  unfold owns xP
  iintro ⟨%d, %f, -, H⟩
  iexists f
  iexact H
theorem x_close (c : Dev nD) : (iprop(∃ f, xP (F := F) c scM0_0 f) : sProp 𝕄) ⊢ iprop(∃ d, owns (c : Thread nD τ) scM0_0 fullShare d) := by
  unfold owns xP
  iintro ⟨%f, H⟩
  iexists _, f
  isplitr
  · ipureintro; rfl
  iexact H

variable (m : (ℓ : Loc nD τ sig) → Buf (Elt F) ℓ) (ρ : Dev nD → PrngReg)

/-- What the carried scratch holds before a point: at a tile's first block what the body itself puts there, otherwise what the point before left. -/
def sbc (c : Dev nD) (t : Fin cfg0.N) (p : Vec F S4x16x128 .f32 × Vec F S256x2048 .bf16 × Vec F S2048x256 .bf16) :
    Vec F S4x16x128 .f32 × Vec F S256x2048 .bf16 × Vec F S2048x256 .bf16 :=
  if t.val % 4 = 0 then (k0_pay32, spreadB (iblk m c 1 t), spreadC (iblk m c 2 t)) else p

/-- What point `n` leaves in the carried scratch. -/
def scrAt (c : Dev nD) : (n : ℕ) → n < cfg0.N → Vec F S4x16x128 .f32 × Vec F S256x2048 .bf16 × Vec F S2048x256 .bf16
  | 0, hn => (ptSt (iblk m c 0 ⟨0, hn⟩) (iblk m c 3 ⟨0, hn⟩) (iblk m c 4 ⟨0, hn⟩) k0_pay32 (spreadB (iblk m c 1 ⟨0, hn⟩)), spreadB (iblk m c 1 ⟨0, hn⟩), spreadC (iblk m c 2 ⟨0, hn⟩))
  | n + 1, hn =>
    let p := sbc m c ⟨n + 1, hn⟩ (scrAt c n (Nat.lt_of_succ_lt hn))
    (ptSt (iblk m c 0 ⟨n + 1, hn⟩) (iblk m c 3 ⟨n + 1, hn⟩) (iblk m c 4 ⟨n + 1, hn⟩) p.1 p.2.1, p.2.1, p.2.2)

/-- What the body finds there, or puts there first. -/
def before (c : Dev nD) (t : Fin cfg0.N) : Vec F S4x16x128 .f32 × Vec F S256x2048 .bf16 × Vec F S2048x256 .bf16 :=
  if h : t.val % 4 = 0 then (k0_pay32, spreadB (iblk m c 1 t), spreadC (iblk m c 2 t))
  else scrAt m c (t.val - 1) (Nat.lt_of_le_of_lt (Nat.sub_le _ _) t.isLt)

/-- What point `t` leaves in the result's block. -/
def outAt (c : Dev nD) (t : Fin cfg0.N) : Vec F S4x512x256 .bf16 :=
  ptOut (iblk m c 0 t) (iblk m c 3 t) (iblk m c 4 t) (iblk m c 5 t) (before m c t).1 (before m c t).2.1 (before m c t).2.2

theorem before_A (c : Dev nD) (t : Fin cfg0.N) (h : t.val % 4 = 0) : before m c t = (k0_pay32, spreadB (iblk m c 1 t), spreadC (iblk m c 2 t)) := dif_pos h
theorem before_B (c : Dev nD) (t : Fin cfg0.N) (h : ¬t.val % 4 = 0) : before m c t = scrAt m c (t.val - 1) (Nat.lt_of_le_of_lt (Nat.sub_le _ _) t.isLt) := dif_neg h

theorem scrAt_eq (c : Dev nD) (t : Fin cfg0.N) : scrAt m c t.val t.isLt
    = (ptSt (iblk m c 0 t) (iblk m c 3 t) (iblk m c 4 t) (before m c t).1 (before m c t).2.1, (before m c t).2.1, (before m c t).2.2) := by
  obtain ⟨n, hn⟩ := t
  cases n with
  | zero => rw [before_A m c ⟨0, hn⟩ (Nat.zero_mod _)]; rfl
  | succ n =>
    by_cases h : (n + 1) % 4 = 0
    · rw [before_A m c ⟨n + 1, hn⟩ h]
      show scrAt m c (n + 1) hn = _
      unfold scrAt sbc
      rw [if_pos h]
    · rw [before_B m c ⟨n + 1, hn⟩ h]
      show scrAt m c (n + 1) hn = _
      rw [scrAt]
      unfold sbc
      rw [if_neg h]
      rfl

/-- The invariant: before the first point every scratch at anything; afterwards the carried ones at what the point before left, the state scratch at anything. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ owns (c : Thread nD τ) scM0_1 fullShare ((scrAt m c n hn).1) ∗ owns (c : Thread nD τ) scM0_2 fullShare ((scrAt m c n hn).2.1) ∗ owns (c : Thread nD τ) scM0_3 fullShare ((scrAt m c n hn).2.2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop((∃ d, owns (c : Thread nD τ) scM0_0 fullShare d) ∗ owns (c : Thread nD τ) scM0_1 fullShare ((scrAt m c n hn).1) ∗ owns (c : Thread nD τ) scM0_2 fullShare ((scrAt m c n hn).2.1) ∗ owns (c : Thread nD τ) scM0_3 fullShare ((scrAt m c n hn).2.2)) ∗ (∃ r, prngReg c r)) := rfl
theorem PhiS_pos (c : Dev nD) (n : ℕ) (h : n ≤ cfg0.N) (hz : n ≠ 0) :
    PhiS m c n h = iprop(iprop((∃ d, owns (c : Thread nD τ) scM0_0 fullShare d) ∗ owns (c : Thread nD τ) scM0_1 fullShare ((scrAt m c (n - 1) (by omega)).1) ∗ owns (c : Thread nD τ) scM0_2 fullShare ((scrAt m c (n - 1) (by omega)).2.1) ∗ owns (c : Thread nD τ) scM0_3 fullShare ((scrAt m c (n - 1) (by omega)).2.2)) ∗ (∃ r, prngReg c r)) := by
  cases n with
  | zero => exact absurd rfl hz
  | succ n => rfl

/-- The carried scratch's contents forgotten. -/
theorem PhiS_out (c : Dev nD) (n : ℕ) (h : n ≤ cfg0.N) : PhiS m c n h ⊢ Pipeline.ΦA spec0 c := by
  by_cases hz : n = 0
  · rw [PhiS_zero m c n h hz]
    try exact Idealize.SL.BI.Entails.refl _
  · rw [PhiS_pos m c n h hz, PhiA0_eq]
    iintro ⟨⟨HS0, HS1, HS2, HS3⟩, Hg⟩
    isplitl [HS0 HS1 HS2 HS3]
    · isplitl [HS0]; · iexact HS0
      isplitl [HS1]; · iexists _; iexact HS1
      isplitl [HS2]; · iexists _; iexact HS2
      iexists _; iexact HS3
    iexact Hg

theorem PhiS_open (c : Dev nD) (n : ℕ) (h : n ≤ cfg0.N) : PhiS m c n h
    ⊢ iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  rw [← PhiA0_eq]
  exact PhiS_out m c n h

/-- The proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outAt m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 3200000 in
/-- The body at a tile's first block, whatever the scratch holds; -/
theorem sound_A (c : Dev nD) (t : Fin cfg0.N) (h0 : t.val % 4 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    after0_0, after0_1, after0_2, after0_3, after0_4, after0_5, after0_6]
  rw [show (dats m 0 c).Φ t.succ = PhiS m c (t.val + 1) t.isLt from rfl, PhiS_succ, scrAt_eq]
  unfold outAt
  rw [before_A m c t h0, PhiS_castSucc m c t]
  dsimp only
  iintro ⟨HP, Ho, ⟨%d0, H0⟩, ⟨%d1, H1⟩, ⟨%d2, H2⟩, ⟨%d3, H3⟩, ⟨%d4, H4⟩, ⟨%d5, H5⟩, ⟨%d6, H6⟩⟩
  ihave HQ := PhiS_open m c _ _ $$ HP
  icases HQ with ⟨⟨HS0, HS1, HS2, HS3⟩, Hg⟩
  ihave HX := x_open (F := F) c $$ HS0
  icases HX with ⟨%f9, HX⟩
  iapply ((runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) ((hcond0_0 t).mpr h0) ((hcond0_1 t).mpr h0) (iblk m c 0 t) (iblk m c 1 t) (iblk m c 2 t) (iblk m c 3 t) (iblk m c 4 t) (iblk m c 5 t) f9).2.2.2.2 _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HX]; · iexact HX
  isplitl [HS1]; · iexact HS1
  isplitl [HS2]; · iexact HS2
  isplitl [HS3]; · iexact HS3
  iintro ⟨H0, H1, H2, H3, H4, H5, ⟨%e6, H6⟩, HX, ⟨%es1, HS1⟩, ⟨%es2, HS2⟩, ⟨%es3, HS3⟩⟩
  isplitl [HX HS1 HS2 HS3 Hg]
  · isplitl [HX HS1 HS2 HS3]
    · isplitl [HX]; · iapply x_close (F := F) c; iexact HX
      isplitl [HS1]
      · unfold owns; iexists _; isplitr
        swap; · iexact HS1
        ipureintro; exact A_st c _ _ _ _ _ _ _ _ _ _ _ _ _ _ _ _ _ _ _ _ _ _ _ _ _ _ _ _ _ _ _ _ _
      isplitl [HS2]
      · unfold owns; iexists _; isplitr
        swap; · iexact HS2
        ipureintro; exact A_bm c _ _ _ _ _ _ _ _ _ _ _ _ _ _ _ _ _ _ _ _ _ _ _ _ _ _ _ _ _ _ _ _ _
      unfold owns; iexists _; isplitr
      swap; · iexact HS3
      ipureintro; exact A_cm c _ _ _ _ _ _ _ _ _ _ _ _ _ _ _ _ _ _ _ _ _ _ _ _ _ _ _ _ _ _ _ _ _
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns; iexists _; isplitr
  swap; · iexact H6
  ipureintro; exact A_out c _ _ _ _ _ _ _ _ _ _ _ _ _ _ _ _ _ _ _ _ _ _ _ _ _ _ _ _ _ _ _ _ _

set_option maxHeartbeats 3200000 in
/-- and at a later one, which goes on from what the point before left. -/
theorem sound_B (c : Dev nD) (t : Fin cfg0.N) (h0 : ¬t.val % 4 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    after0_0, after0_1, after0_2, after0_3, after0_4, after0_5, after0_6]
  rw [show (dats m 0 c).Φ t.succ = PhiS m c (t.val + 1) t.isLt from rfl, PhiS_succ, scrAt_eq]
  unfold outAt
  rw [before_B m c t h0, PhiS_castSucc m c t, PhiS_pos m c _ _ (by omega)]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
  ihave HX := x_open (F := F) c $$ HS0
  icases HX with ⟨%f9, HX⟩
  iapply ((runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) (fun h => h0 ((hcond0_1 t).mp h)) (iblk m c 0 t) (iblk m c 1 t) (iblk m c 2 t) (iblk m c 3 t) (iblk m c 4 t) (iblk m c 5 t) _ _ _ f9).2.2 _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HX]; · iexact HX
  isplitl [HS1]; · iexact HS1
  isplitl [HS2]; · iexact HS2
  isplitl [HS3]; · iexact HS3
  iintro ⟨H0, H1, H2, H3, H4, H5, ⟨%e6, H6⟩, HX, ⟨%es1, HS1⟩, HS2, HS3⟩
  isplitl [HX HS1 HS2 HS3 Hg]
  · isplitl [HX HS1 HS2 HS3]
    · isplitl [HX]; · iapply x_close (F := F) c; iexact HX
      isplitl [HS1]
      · unfold owns; iexists _; isplitr
        swap; · iexact HS1
        ipureintro; exact B_st c _ _ _ _ _ _ _ _ _ _ _ _ _ _ _ _ _ _ _ _ _ _ _ _ _ _ _ _ _ _ _ _ _ _ _ _
      isplitl [HS2]; · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns; iexists _; isplitr
  swap; · iexact H6
  ipureintro; exact B_out c _ _ _ _ _ _ _ _ _ _ _ _ _ _ _ _ _ _ _ _ _ _ _ _ _ _ _ _ _ _ _ _ _ _ _ _

theorem sound_body (c : Dev nD) (t : Fin cfg0.N) :
    bodyPre m c t ⊢ wp frame (wpE (defs₀ (F := F)) Variants.none c none) Set.univ (bodyAt0 t) (fun _ => bodyPost m c t) := by
  by_cases h0 : t.val % 4 = 0
  · exact sound_A m c t h0
  · exact sound_B m c t h0

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl]
  exact PhiS_out m c _ _

set_option backward.isDefEq.respectTransparency.types false in
/-- The launch. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The arguments end as launched, -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.SsmIdeal.Scan

end
-- ==== Proof.Scan.ValueIdeal.lean ====
/-
  The scan kernel over whole arrays: what its carried scratches hold after a point, and the result after the run.
-/
module

public import proofs.«01_k».proof.Proof.Scan.PointsIdeal
public import proofs.«01_k».proof.Proof.Scan.FrameIdeal
public import Idealize.ShloMosaic.Lib.Pipeline.ValueKit
public import Idealize.ShloMosaic.Lib.Pipeline.ValueKit.Held
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.SsmIdeal.Scan

open Cert.SsmIdeal Cert.SsmIdeal.Gen Cert.Scan

/-- A state of the sixteen slabs: the first eight hold real parts. -/
def slabSt (A : Args) (s n i l k : ℕ) : EReal := if i < 8 then (st A s n (i * 128 + l) k).1 else (st A s n ((i - 8) * 128 + l) k).2

section Tile

variable (A : Args) (n : ℕ)

def OkB (b : Vec Ideal S256x2048 .bf16) : Prop := ∀ (r : Fin 256) (j : Fin 2048), (b (ix2 r j) : EReal) = if r.val / 16 = j.val % 1024 / 64 then A.B n (r.val % 16) j.val else 0
def OkC (b : Vec Ideal S2048x256 .bf16) : Prop := ∀ (j : Fin 2048) (c : Fin 256), (b (ix2 j c) : EReal) = if j.val % 1024 / 64 = c.val / 16 then A.C n (j.val / 1024 * 64 + j.val % 64) c.val else 0
def OkS (k : ℕ) (S : Vec Ideal S4x16x128 .f32) : Prop := ∀ (s : Fin 4) (i : Fin 16) (l : Fin 128), (S (ix3 s i l) : EReal) = slabSt A s.val n i.val l.val k
def OkU (k : ℕ) (x : Vec Ideal S4x512x256 .f32) : Prop := ∀ (s : Fin 4) (r : Fin 512) (c : Fin 256), (x (ix3 s r c) : EReal) = A.P s.val (k + r.val) (4096 + n * 256 + c.val)

variable {A n}

theorem spreadB_ok (x : Vec Ideal S1x16x2048 .f32) (h : ∀ (i : Fin 16) (j : Fin 2048), (x (ix3 (0 : Fin 1) i j) : EReal) = A.B n i.val j.val) : OkB A n (spreadB x) := fun r j => by
  rw [spreadB_at, h]

theorem spreadC_ok (x : Vec Ideal S1x128x256 .f32) (h : ∀ (i : Fin 128) (j : Fin 256), (x (ix3 (0 : Fin 1) i j) : EReal) = A.C n i.val j.val) : OkC A n (spreadC x) := fun j c => by
  by_cases hj : j.val < 1024
  · have e : spreadC x (ix2 j c) = spreadC0 (lo x) (ix2 (⟨j.val % 1024, Nat.mod_lt _ (by decide)⟩ : Fin 1024) c) := if_pos hj
    rw [e, spreadC0_at]
    have e2 : (lo x (ix3 (0 : Fin 1) (⟨j.val % 1024 % 64, Nat.mod_lt _ (by decide)⟩ : Fin 64) c) : EReal) = A.C n (j.val % 1024 % 64) c.val := h ⟨j.val % 1024 % 64, by omega⟩ c
    show (if j.val % 1024 / 64 = c.val / 16 then (lo x (ix3 (0 : Fin 1) (⟨j.val % 1024 % 64, Nat.mod_lt _ (by decide)⟩ : Fin 64) c) : EReal) else 0) = _
    rw [e2, show j.val % 1024 % 64 = j.val / 1024 * 64 + j.val % 64 by omega]
  · have e : spreadC x (ix2 j c) = spreadC1 (hi x) (ix2 (⟨j.val % 1024, Nat.mod_lt _ (by decide)⟩ : Fin 1024) c) := if_neg hj
    rw [e, spreadC1_at]
    have e2 : (hi x (ix3 (0 : Fin 1) (⟨j.val % 1024 % 64, Nat.mod_lt _ (by decide)⟩ : Fin 64) c) : EReal) = A.C n (64 + j.val % 1024 % 64) c.val := h ⟨64 + j.val % 1024 % 64, by omega⟩ c
    show (if j.val % 1024 / 64 = c.val / 16 then (hi x (ix3 (0 : Fin 1) (⟨j.val % 1024 % 64, Nat.mod_lt _ (by decide)⟩ : Fin 64) c) : EReal) else 0) = _
    rw [e2, show 64 + j.val % 1024 % 64 = j.val / 1024 * 64 + j.val % 64 by omega]

theorem drive_ok {k : ℕ} {x : Vec Ideal S4x512x256 .f32} {b : Vec Ideal S256x2048 .bf16} (hx : OkU A n k x) (hb : OkB A n b) (s : Fin 4) (r : Fin 512) (j : Fin 2048) :
    (drive (blkU x s) b (ix2 r j) : EReal) = drv A (j.val / 1024) s.val n (j.val % 1024) (k + r.val) := by
  rw [drive_at]
  refine Eq.trans (Finset.sum_congr rfl fun i _ => ?_) ((sum_block 16 16 (fun i => A.P s.val (k + r.val) (4096 + n * 256 + i) * A.B n (i % 16) j.val) (j.val % 1024 / 64) (by omega)).trans ?_)
  · rw [hb i j, show (blkU x s (ix3 (0 : Fin 1) r i) : EReal) = _ from hx s r i]
    split
    · rfl
    · exact mul_zero _
  · unfold drv
    refine Finset.sum_congr rfl fun h _ => ?_
    rw [show (j.val % 1024 / 64 * 16 + h.val) % 16 = h.val by omega, show j.val / 1024 * 1024 + j.val % 1024 = j.val by omega]

theorem seq_ok (ar ai : FVec Ideal S8x128 .f32) (V : FVec Ideal S512x2048 .f32) (r0 : FVec Ideal S8x128 .f32 × FVec Ideal S8x128 .f32) (s k0 : ℕ)
    (har : ∀ (i : Fin 8) (l : Fin 128), (ar (ix2 i l) : EReal) = A.Ar n i.val l.val) (hai : ∀ (i : Fin 8) (l : Fin 128), (ai (ix2 i l) : EReal) = A.Ai n i.val l.val)
    (hV : ∀ (r : Fin 512) (j : Fin 2048), (V (ix2 r j) : EReal) = drv A (j.val / 1024) s n (j.val % 1024) (k0 + r.val))
    (h1 : ∀ (i : Fin 8) (l : Fin 128), (r0.1 (ix2 i l) : EReal) = (st A s n (i.val * 128 + l.val) k0).1)
    (h2 : ∀ (i : Fin 8) (l : Fin 128), (r0.2 (ix2 i l) : EReal) = (st A s n (i.val * 128 + l.val) k0).2) (i : Fin 8) (l : Fin 128) :
    ∀ k, k ≤ 512 → ((seqAt ar ai V r0 k).1 (ix2 i l) : EReal) = (st A s n (i.val * 128 + l.val) (k0 + k)).1
      ∧ ((seqAt ar ai V r0 k).2 (ix2 i l) : EReal) = (st A s n (i.val * 128 + l.val) (k0 + k)).2
  | 0, _ => ⟨h1 i l, h2 i l⟩
  | k + 1, hk => by
    obtain ⟨e1, e2⟩ := seq_ok ar ai V r0 s k0 har hai hV h1 h2 i l k (by omega)
    have t0 : (tok V 0 k (ix3 (0 : Fin 1) i l) : EReal) = drv A 0 s n (i.val * 128 + l.val) (k0 + k) := by
      refine (hV _ _).trans ?_
      show drv A ((0 * 1024 + i.val * 128 + l.val) % 2048 / 1024) s n ((0 * 1024 + i.val * 128 + l.val) % 2048 % 1024) (k0 + k % 512) = _
      rw [show (0 * 1024 + i.val * 128 + l.val) % 2048 / 1024 = 0 by omega, show (0 * 1024 + i.val * 128 + l.val) % 2048 % 1024 = i.val * 128 + l.val by omega, Nat.mod_eq_of_lt (by omega)]
    have t1 : (tok V 1 k (ix3 (0 : Fin 1) i l) : EReal) = drv A 1 s n (i.val * 128 + l.val) (k0 + k) := by
      refine (hV _ _).trans ?_
      show drv A ((1 * 1024 + i.val * 128 + l.val) % 2048 / 1024) s n ((1 * 1024 + i.val * 128 + l.val) % 2048 % 1024) (k0 + k % 512) = _
      rw [show (1 * 1024 + i.val * 128 + l.val) % 2048 / 1024 = 1 by omega, show (1 * 1024 + i.val * 128 + l.val) % 2048 % 1024 = i.val * 128 + l.val by omega, Nat.mod_eq_of_lt (by omega)]
    have d1 : (i.val * 128 + l.val) / 128 = i.val := by omega
    have d2 : (i.val * 128 + l.val) % 128 = l.val := by omega
    constructor
    · refine (pay18_at _ _ _ _ _ i l).trans ?_
      rw [e1, e2, t0, har, hai, ← add_assoc]
      show _ = A.Ar n ((i.val * 128 + l.val) / 128) ((i.val * 128 + l.val) % 128) * _ - A.Ai n ((i.val * 128 + l.val) / 128) ((i.val * 128 + l.val) % 128) * _ + _
      rw [d1, d2]
    · refine (pay19_at _ _ _ _ _ i l).trans ?_
      rw [e1, e2, t1, har, hai, ← add_assoc]
      show _ = A.Ar n ((i.val * 128 + l.val) / 128) ((i.val * 128 + l.val) % 128) * _ + A.Ai n ((i.val * 128 + l.val) / 128) ((i.val * 128 + l.val) % 128) * _ + _
      rw [d1, d2]

theorem cast_at (x : Vec Ideal S1x8x128 .f32) (i : Fin 8) (l : Fin 128) : (k0_pay107 x (ix2 i l) : EReal) = (x (ix3 (0 : Fin 1) i l) : EReal) := by
  pointwise [k0_pay107]

section Point

variable {k : ℕ} {x0 : Vec Ideal S4x512x256 .f32} {x3 x4 : Vec Ideal S1x8x128 .f32} {x5 : Vec Ideal S1x256 .f32}
  {S : Vec Ideal S4x16x128 .f32} {b : Vec Ideal S256x2048 .bf16} {cm : Vec Ideal S2048x256 .bf16}
  (hx : OkU A n k x0) (h3 : ∀ (i : Fin 8) (l : Fin 128), (x3 (ix3 (0 : Fin 1) i l) : EReal) = A.Ar n i.val l.val)
  (h4 : ∀ (i : Fin 8) (l : Fin 128), (x4 (ix3 (0 : Fin 1) i l) : EReal) = A.Ai n i.val l.val) (hS : OkS A n k S) (hb : OkB A n b)

include hx h3 h4 hS hb in
theorem core_ok (s : Fin 4) (i : Fin 8) (l : Fin 128) (r : ℕ) (hr : r ≤ 512) :
    ((coreState (blkU x0) b x3 x4 (blkS S) s r).1 (ix2 i l) : EReal) = (st A s.val n (i.val * 128 + l.val) (k + r)).1
      ∧ ((coreState (blkU x0) b x3 x4 (blkS S) s r).2 (ix2 i l) : EReal) = (st A s.val n (i.val * 128 + l.val) (k + r)).2 := by
  refine seq_ok (A := A) (n := n) _ _ _ _ s.val k (fun i l => (cast_at x3 i l).trans (h3 i l)) (fun i l => (cast_at x4 i l).trans (h4 i l)) (drive_ok hx hb s) (fun i l => ?_) (fun i l => ?_) i l r hr
  · refine (cast_at (blkS S s 0) i l).trans ((hS s ⟨8 * 0 + i.val, by omega⟩ l).trans ?_)
    unfold slabSt
    have : 8 * 0 + i.val < 8 := by omega
    rw [if_pos this]
    show (st A s.val n ((8 * 0 + i.val) * 128 + l.val) k).1 = _
    rw [show 8 * 0 + i.val = i.val by omega]
  · refine (cast_at (blkS S s 1) i l).trans ((hS s ⟨8 * 1 + i.val, by omega⟩ l).trans ?_)
    unfold slabSt
    have : ¬ 8 * 1 + i.val < 8 := by omega
    rw [if_neg this]
    show (st A s.val n ((8 * 1 + i.val - 8) * 128 + l.val) k).2 = _
    rw [show 8 * 1 + i.val - 8 = i.val by omega]

include hx h3 h4 hS hb in
theorem half_ok (s : Fin 4) (i : Fin 16) (l : Fin 128) (r : ℕ) (hr : r ≤ 512) :
    (half (coreState (blkU x0) b x3 x4 (blkS S) s r) (i.val / 8) (ix2 (⟨i.val % 8, Nat.mod_lt _ (by decide)⟩ : Fin 8) l) : EReal) = slabSt A s.val n i.val l.val (k + r) := by
  obtain ⟨e1, e2⟩ := core_ok hx h3 h4 hS hb s ⟨i.val % 8, Nat.mod_lt _ (by decide)⟩ l r hr
  unfold half slabSt
  by_cases hi : i.val < 8
  · rw [if_pos (by omega), if_pos hi]
    refine e1.trans ?_
    show (st A s.val n (i.val % 8 * 128 + l.val) (k + r)).1 = _
    rw [Nat.mod_eq_of_lt hi]
  · rw [if_neg (by omega), if_neg hi]
    refine e2.trans ?_
    show (st A s.val n (i.val % 8 * 128 + l.val) (k + r)).2 = _
    rw [show i.val % 8 = i.val - 8 by omega]

include hx h3 h4 hS hb in
theorem ptSt_ok : OkS A n (k + 512) (ptSt x0 x3 x4 S b) := fun s i l => half_ok hx h3 h4 hS hb s i l 512 (le_refl _)

include hx h3 h4 hS hb in
theorem ptOut_ok (h5 : ∀ c : Fin 256, (x5 (ix2 (0 : Fin 1) c) : EReal) = A.D 0 (n * 256 + c.val)) (hc : OkC A n cm) (s : Fin 4) (r : Fin 512) (c : Fin 256) :
    (ptOut x0 x3 x4 x5 S b cm (ix3 s r c) : EReal) = act (lin A s.val (k + r.val) n c.val) := by
  refine (outV_at (coreX (blkU x0) b x3 x4 (blkS S) s) cm x5 (blkU x0 s) r c).trans (congrArg act ?_)
  unfold lin
  refine congrArg₂ (· + ·) ?_ (congrArg₂ (· * ·) (h5 c) (hx s r c))
  refine Eq.trans (Finset.sum_congr rfl fun j _ => ?_) ((sum_blocks (fun j => slabSt A s.val n (j / 128) (j % 128) (k + r.val + 1) * A.C n (j / 1024 * 64 + j % 64) c.val) (c.val / 16) (by omega)).trans ?_)
  · rw [hc j c]
    split
    · exact congrArg (fun z : EReal => z * A.C n (j.val / 1024 * 64 + j.val % 64) c.val) (half_ok hx h3 h4 hS hb s ⟨j.val / 128, by omega⟩ ⟨j.val % 128, Nat.mod_lt _ (by decide)⟩ (r.val + 1) r.isLt)
    · exact mul_zero _
  · refine congrArg₂ (· + ·) (Finset.sum_congr rfl fun p _ => ?_) (Finset.sum_congr rfl fun p _ => ?_)
    · unfold slabSt
      rw [if_pos (by omega), show (c.val / 16 * 64 + p.val) / 128 * 128 + (c.val / 16 * 64 + p.val) % 128 = c.val / 16 * 64 + p.val by omega,
        show (c.val / 16 * 64 + p.val) / 1024 * 64 + (c.val / 16 * 64 + p.val) % 64 = p.val by omega]
    · unfold slabSt
      rw [if_neg (by omega), show ((1024 + (c.val / 16 * 64 + p.val)) / 128 - 8) * 128 + (1024 + (c.val / 16 * 64 + p.val)) % 128 = c.val / 16 * 64 + p.val by omega,
        show (1024 + (c.val / 16 * 64 + p.val)) / 1024 * 64 + (1024 + (c.val / 16 * 64 + p.val)) % 64 = 64 + p.val by omega]

end Point

end Tile

variable (m : (ℓ : Loc nD τ sig) → Buf (Elt Ideal) ℓ)

theorem idx : ∀ t : Fin cfg0.N, win0_0.index t = ![0, t.val % 4, 16 + t.val / 4] ∧ win0_1.index t = ![t.val / 4, 0, 0] ∧ win0_2.index t = ![t.val / 4, 0, 0]
    ∧ win0_3.index t = ![t.val / 4, 0, 0] ∧ win0_4.index t = ![t.val / 4, 0, 0] ∧ win0_5.index t = ![0, t.val / 4] ∧ win0_6.index t = ![0, t.val % 4, t.val / 4] :=
  (by decide +kernel : ∀ t : Fin grid0.N, _)

abbrev AA (c : Dev nD) : Args := argsOf (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5))

theorem t_lt (t : Fin cfg0.N) : t.val < 32 := t.isLt

theorem blk0 (c : Dev nD) (t : Fin cfg0.N) : OkU (AA m c) (t.val / 4) (512 * (t.val % 4)) (iblk m c 0 t) := fun s r k => by
  have := t_lt t
  refine Eq.trans ?_ (at3_pt _ _ _ _ s.isLt (by omega) (by omega)).symm
  blk_point [iblk, V, idx t]

theorem blk1 (c : Dev nD) (t : Fin cfg0.N) (i : Fin 16) (j : Fin 2048) : (iblk m c 1 t (ix3 (0 : Fin 1) i j) : EReal) = (AA m c).B (t.val / 4) i.val j.val := by
  have := t_lt t
  refine Eq.trans ?_ (at3_pt _ _ _ _ (by omega) i.isLt j.isLt).symm
  blk_point [iblk, V, idx t]

theorem blk2 (c : Dev nD) (t : Fin cfg0.N) (i : Fin 128) (j : Fin 256) : (iblk m c 2 t (ix3 (0 : Fin 1) i j) : EReal) = (AA m c).C (t.val / 4) i.val j.val := by
  have := t_lt t
  refine Eq.trans ?_ (at3_pt _ _ _ _ (by omega) i.isLt j.isLt).symm
  blk_point [iblk, V, idx t]

theorem blk3 (c : Dev nD) (t : Fin cfg0.N) (i : Fin 8) (j : Fin 128) : (iblk m c 3 t (ix3 (0 : Fin 1) i j) : EReal) = (AA m c).Ar (t.val / 4) i.val j.val := by
  have := t_lt t
  refine Eq.trans ?_ (at3_pt _ _ _ _ (by omega) i.isLt j.isLt).symm
  blk_point [iblk, V, idx t]

theorem blk4 (c : Dev nD) (t : Fin cfg0.N) (i : Fin 8) (j : Fin 128) : (iblk m c 4 t (ix3 (0 : Fin 1) i j) : EReal) = (AA m c).Ai (t.val / 4) i.val j.val := by
  have := t_lt t
  refine Eq.trans ?_ (at3_pt _ _ _ _ (by omega) i.isLt j.isLt).symm
  blk_point [iblk, V, idx t]

theorem blk5 (c : Dev nD) (t : Fin cfg0.N) (j : Fin 256) : (iblk m c 5 t (ix2 (0 : Fin 1) j) : EReal) = (AA m c).D 0 (t.val / 4 * 256 + j.val) := by
  have := t_lt t
  refine Eq.trans ?_ (at2_pt _ _ _ (by omega) (by omega)).symm
  blk_point [iblk, V, idx t]

/-- The carried scratches are right: the states after `k` tokens, the two matrices of tile `n`. -/
def Ok (A : Args) (n k : ℕ) (p : Vec Ideal S4x16x128 .f32 × Vec Ideal S256x2048 .bf16 × Vec Ideal S2048x256 .bf16) : Prop := OkS A n k p.1 ∧ OkB A n p.2.1 ∧ OkC A n p.2.2

theorem zero_at (y : S4x16x128.Idx) : (k0_pay32 (F := Ideal) y : EReal) = 0 := by
  idx_vars y
  pointwise [k0_pay32]

theorem after_ok (c : Dev nD) (t : Fin cfg0.N) (h : Ok (AA m c) (t.val / 4) (512 * (t.val % 4)) (before m c t)) :
    Ok (AA m c) (t.val / 4) (512 * (t.val % 4) + 512) (scrAt m c t.val t.isLt) := by
  rw [scrAt_eq]
  exact ⟨ptSt_ok (blk0 m c t) (blk3 m c t) (blk4 m c t) h.1 h.2.1, h.2⟩

theorem start_ok (c : Dev nD) (t : Fin cfg0.N) (h : t.val % 4 = 0) : Ok (AA m c) (t.val / 4) (512 * (t.val % 4)) (before m c t) := by
  rw [before_A m c t h, h]
  refine ⟨fun s i l => (zero_at (ix3 s i l)).trans ?_, spreadB_ok _ (blk1 m c t), spreadC_ok _ (blk2 m c t)⟩
  unfold slabSt
  split <;> rfl

theorem before_ok (c : Dev nD) : ∀ (t : ℕ) (ht : t < cfg0.N), Ok (AA m c) (t / 4) (512 * (t % 4)) (before m c ⟨t, ht⟩) := by
  intro t
  induction t with
  | zero => exact fun ht => start_ok m c ⟨0, ht⟩ rfl
  | succ t ih =>
    intro ht
    by_cases h : (t + 1) % 4 = 0
    · exact start_ok m c ⟨t + 1, ht⟩ h
    · have := after_ok m c ⟨t, Nat.lt_of_succ_lt ht⟩ (ih (Nat.lt_of_succ_lt ht))
      rw [before_B m c ⟨t + 1, ht⟩ h]
      rw [show (t + 1) / 4 = t / 4 by omega, show 512 * ((t + 1) % 4) = 512 * (t % 4) + 512 by omega]
      exact this

theorem at6 (t : Fin cfg0.N) (f : S4x2048x2048.Idx → EReal) (s : Fin 4) (r : Fin 512) (c : Fin 256) :
    f (((View.whole main_v0).slice (win0_6.rect t)).emb (ix3 s r c))
      = f (ix3 s (⟨512 * (t.val % 4) + r.val, by omega⟩ : Fin 2048) (⟨t.val / 4 * 256 + c.val, by have := t_lt t; omega⟩ : Fin 2048)) := by
  blk_ext [idx t]

theorem final (c : Dev nD) : (dats m 0 c).arrAt 6 (cfgs 0).N = resOf (AA m c) := by
  refine (dats m 0 c).arrAt_eq_of_covers 6 _ (by decide +kernel) fun t _ y => ?_
  blk_simp
  rw [after0_6]
  idx_vars y
  have h := before_ok m c t.val t.isLt
  refine (ptOut_ok (blk0 m c t) (blk3 m c t) (blk4 m c t) h.1 h.2.1 (blk5 m c t) h.2.2 y0 y1 y2).trans (Eq.trans ?_ (at6 t (resOf (AA m c)) y0 y1 y2).symm)
  show _ = act (lin (AA m c) y0.val (512 * (t.val % 4) + y1.val) ((t.val / 4 * 256 + y2.val) / 256) ((t.val / 4 * 256 + y2.val) % 256))
  rw [show (t.val / 4 * 256 + y2.val) / 256 = t.val / 4 by omega, show (t.val / 4 * 256 + y2.val) % 256 = y2.val by omega]

theorem run_blocks (ρ : _) : θ_run defs (onTc (τ := τ) (main (F := Ideal))) ⟨m, fun _ => 0, ρ⟩ (fun r => ∀ c : Dev nD,
    r.2.mem ((c : Thread nD τ).loc main_v0) = (dats m 0 c).arrAt 6 (cfgs 0).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)) :=
  (θ_run defs _ _).mono (fun r h c => ⟨(h c).1 6,
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c))),
    ((h c).1 4).trans (((dats m 0 c).arrAt_in 4 rfl _).trans ((A_eq m c 4).trans (V_main_arg4 m c))),
    ((h c).1 5).trans (((dats m 0 c).arrAt_in 5 rfl _).trans ((A_eq m c 5).trans (V_main_arg5 m c)))⟩) (run_main m ρ)

end Cert.SsmIdeal.Scan

end
-- ==== Proof.Scan.Ref.lean ====
/-
  The reference's scan, over whole arrays: its loop's buffers after a trip, and its result.
-/
module

public import proofs.«01_k».proof.Proof.Scan.Spec
public import proofs.«01_k».proof.Proof.Gen.SsmRefIdeal
public import proofs.«01_k».proof.Proof.Gen.SsmRefIdeal.Run
public import Idealize.ShloMosaic.Lib.WordCmp
public import Idealize.ShloMosaic.Lib.Pipeline.ValueKit

@[expose] public section

set_option maxRecDepth 16384

noncomputable section

open Idealize.ShloMosaic Idealize.ShloMosaic.TcCoe Idealize.SL.Sem
open Idealize.ShloMosaic.StableHlo

namespace Cert.SsmRefIdeal.Scan

open Cert.SsmRefIdeal Cert.SsmRefIdeal.Gen Cert.SsmRefIdeal.Value Cert.Scan

/-! The arguments, by group. -/

/-- The input matrix, real and imaginary. -/
def matB (a1 : Vec Ideal S8x16x2048 .f32) : Vec Ideal S2x128x64x16 .f32 :=
  shapeCast _ (transpose S2x8x16x64x16 [2, 0, 3, 4, 1] (shapeCast _ a1 shapeCasts_S8x16x2048_S8x16x2x16x64) transposes_S8x16x2x16x64_S2x8x16x64x16_2_0_3_4_1) shapeCasts_S2x8x16x64x16_S2x128x64x16

theorem matB_at (a1 : Vec Ideal S8x16x2048 .f32) (i : Fin 2) (g : Fin 128) (p : Fin 64) (h : Fin 16) :
    (matB a1 (ix4 i g p h) : EReal) = at3 (a := 8) (b := 16) (c := 2048) a1 (g.val / 16) h.val (i.val * 1024 + (g.val % 16 * 64 + p.val)) := by
  rw [at3_pt _ _ _ _ (by omega) h.isLt (by omega)]
  unfold matB
  pointwise []
  simp only [Nat.add_assoc]

/-- The channels. -/
def chan (a0 : Vec Ideal S4x2048x14336 .f32) : Vec Ideal S4x2048x128x16 .f32 :=
  shapeCast _ (extractStridedSlice S4x2048x2048 ![0, 0, 4096] a0 slices_S4x2048x14336_S4x2048x2048_0_0_4096) shapeCasts_S4x2048x2048_S4x2048x128x16

theorem chan_at (a0 : Vec Ideal S4x2048x14336 .f32) (s : Fin 4) (k : Fin 2048) (g : Fin 128) (h : Fin 16) :
    (chan a0 (ix4 s k g h) : EReal) = at3 (a := 4) (b := 2048) (c := 14336) a0 s.val k.val (4096 + (g.val * 16 + h.val)) := by
  rw [at3_pt _ _ _ _ s.isLt k.isLt (by omega)]
  unfold chan
  pointwise []

/-- The decays. -/
def flat (a : Vec Ideal S8x8x128 .f32) : Vec Ideal S128x64 .f32 := shapeCast _ a shapeCasts_S8x8x128_S128x64

theorem flat_at (a : Vec Ideal S8x8x128 .f32) (g : Fin 128) (p : Fin 64) : (flat a (ix2 g p) : EReal)
    = at3 (a := 8) (b := 8) (c := 128) a (g.val / 16) ((g.val % 16 * 64 + p.val) / 128) ((g.val % 16 * 64 + p.val) % 128) := by
  rw [at3_pt _ _ _ _ (by omega) (by omega) (by omega)]
  unfold flat
  pointwise []
  refine congrArg (a : S8x8x128.Idx → EReal) ?_
  have e1 : g.val / 2 % 8 = (g.val % 16 * 64 + p.val) / 128 := by omega
  have e2 : g.val % 2 * 64 + p.val = (g.val % 16 * 64 + p.val) % 128 := by omega
  simp only [e1, e2]

/-- The driving terms. -/
def drive0 (a0 : Vec Ideal S4x2048x14336 .f32) (a1 : Vec Ideal S8x16x2048 .f32) : Vec Ideal S2048x4x128x64 .f32 :=
  transpose S2048x4x128x64 [3, 2, 0, 1] (Host.dotGeneral (F := Ideal) (φ₁ := .f32) (φ₂ := .f32) dot_S128x64x16_S4x2048x128x16_S128x64x4x2048_2_3_1_01_0_2 none
    (shapeCast _ (extractStridedSlice S1x128x64x16 ![0, 0, 0, 0] (matB a1) slices_S2x128x64x16_S1x128x64x16_0_0_0_0) shapeCasts_S1x128x64x16_S128x64x16 : Vec Ideal S128x64x16 .f32)
    (chan a0)) transposes_S128x64x4x2048_S2048x4x128x64_3_2_0_1
def drive1 (a0 : Vec Ideal S4x2048x14336 .f32) (a1 : Vec Ideal S8x16x2048 .f32) : Vec Ideal S2048x4x128x64 .f32 :=
  transpose S2048x4x128x64 [3, 2, 0, 1] (Host.dotGeneral (F := Ideal) (φ₁ := .f32) (φ₂ := .f32) dot_S128x64x16_S4x2048x128x16_S128x64x4x2048_2_3_1_01_0_2 none
    (shapeCast _ (extractStridedSlice S1x128x64x16 ![1, 0, 0, 0] (matB a1) slices_S2x128x64x16_S1x128x64x16_1_0_0_0) shapeCasts_S1x128x64x16_S128x64x16 : Vec Ideal S128x64x16 .f32)
    (chan a0)) transposes_S128x64x4x2048_S2048x4x128x64_3_2_0_1

theorem drive0_at (a0 : Vec Ideal S4x2048x14336 .f32) (a1 : Vec Ideal S8x16x2048 .f32) (k : Fin 2048) (s : Fin 4) (g : Fin 128) (p : Fin 64) :
    (drive0 a0 a1 (ix4 k s g p) : EReal) = ∑ h : Fin 16, (matB a1 (ix4 (0 : Fin 2) g p h) : EReal) * (chan a0 (ix4 s k g h) : EReal) := by
  unfold drive0
  pointwise []

theorem drive1_at (a0 : Vec Ideal S4x2048x14336 .f32) (a1 : Vec Ideal S8x16x2048 .f32) (k : Fin 2048) (s : Fin 4) (g : Fin 128) (p : Fin 64) :
    (drive1 a0 a1 (ix4 k s g p) : EReal) = ∑ h : Fin 16, (matB a1 (ix4 (1 : Fin 2) g p h) : EReal) * (chan a0 (ix4 s k g h) : EReal) := by
  unfold drive1
  pointwise []

theorem drv_at (a0 : Vec Ideal S4x2048x14336 .f32) (a1 : Vec Ideal S8x16x2048 .f32) (a2 : Vec Ideal S8x128x256 .f32) (a3 a4 : Vec Ideal S8x8x128 .f32) (a5 : Vec Ideal S1x2048 .f32)
    (i : Fin 2) (k : Fin 2048) (s : Fin 4) (g : Fin 128) (p : Fin 64) :
    ∑ h : Fin 16, (matB a1 (ix4 i g p h) : EReal) * (chan a0 (ix4 s k g h) : EReal) = drv (argsOf a0 a1 a2 a3 a4 a5) i.val s.val (g.val / 16) (g.val % 16 * 64 + p.val) k.val := by
  unfold drv
  refine Finset.sum_congr rfl fun h _ => ?_
  rw [matB_at, chan_at, mul_comm]
  refine congrArg₂ (· * ·) ?_ rfl
  rw [show 4096 + (g.val * 16 + h.val) = 4096 + g.val / 16 * 256 + ((g.val % 16 * 64 + p.val) / 64 * 16 + h.val) by omega]
  rfl

/-! The slice read and the slice written at a trip. -/

theorem slice_at (x : S2048x4x128x64.Idx → EReal) (start : Fin 4 → Int) (hf) (k : Fin 2048) (h0 : start 0 = (k.val : Int)) (h1 : start 1 = 0) (h2 : start 2 = 0) (h3 : start 3 = 0)
    (s : Fin 4) (g : Fin 128) (p : Fin 64) : Host.dynamicSlice S1x4x128x64 x start hf (ix4 (0 : Fin 1) s g p) = x (ix4 k s g p) := by
  rw [WordCmp.dynamicSlice_eq_extract S1x4x128x64 x start hf ![k.val, 0, 0, 0] ⟨rfl, fun a => by have := k.isLt; fin_cases a <;> simp <;> omega⟩
    (fun a => by fin_cases a <;> assumption)]
  pointwise []

theorem update_at (x : S2048x4x128x64.Idx → EReal) (u : S1x4x128x64.Idx → EReal) (start : Fin 4 → Int) (hf) (k : Fin 2048) (h0 : start 0 = (k.val : Int)) (h1 : start 1 = 0) (h2 : start 2 = 0) (h3 : start 3 = 0)
    (k' : Fin 2048) (s : Fin 4) (g : Fin 128) (p : Fin 64) :
    Host.dynamicUpdateSlice x u start hf (ix4 k' s g p) = if k'.val = k.val then u (ix4 (0 : Fin 1) s g p) else x (ix4 k' s g p) := by
  rw [WordCmp.dynamicUpdateSlice_eq_update x u start hf ![k.val, 0, 0, 0] ⟨rfl, fun a => by have := k.isLt; fin_cases a <;> simp <;> omega⟩
    (fun a => by fin_cases a <;> assumption)]
  pointwise []
  by_cases e : k'.val = k.val
  · rw [dif_pos (by omega), if_pos e]
    simp only [e, Nat.sub_self]
    rfl
  · rw [dif_neg (by omega), if_neg e]

/-! The loop's buffers, as arrays. -/

abbrev b0 (V : Valuation τ sig (Elt Ideal)) : S2048x4x128x64.Idx → EReal := V (Proc.devRef .tc main_v20_0)
abbrev b1 (V : Valuation τ sig (Elt Ideal)) : S2048x4x128x64.Idx → EReal := V (Proc.devRef .tc main_v20_1)
abbrev b2 (V : Valuation τ sig (Elt Ideal)) : S128x64.Idx → EReal := V (Proc.devRef .tc main_v20_2)
abbrev b3 (V : Valuation τ sig (Elt Ideal)) : S128x64.Idx → EReal := V (Proc.devRef .tc main_v20_3)
abbrev b5 (V : Valuation τ sig (Elt Ideal)) : S4x128x64.Idx → EReal := V (Proc.devRef .tc main_v20_5)
abbrev b6 (V : Valuation τ sig (Elt Ideal)) : S4x128x64.Idx → EReal := V (Proc.devRef .tc main_v20_6)
abbrev b7 (V : Valuation τ sig (Elt Ideal)) : S2048x4x128x64.Idx → EReal := V (Proc.devRef .tc main_v20_7)
abbrev b8 (V : Valuation τ sig (Elt Ideal)) : S2048x4x128x64.Idx → EReal := V (Proc.devRef .tc main_v20_8)

/-! One trip's states. -/

section Step

variable (V : Valuation τ sig (Elt Ideal)) (k : Fin 2048) (hc : V (Proc.devRef .tc main_v20_4) = fun _ => BitVec.ofNat 32 k.val)

theorem start_at (w : BitVec 32) (hw : w = BitVec.ofNat 32 k.val) : w.toInt = (k.val : Int) := by
  subst hw
  exact WordCmp.toInt_ofNat_of_lt (by omega)

include hc in
theorem v64_at (s : Fin 4) (g : Fin 128) (p : Fin 64) : (res_main_while0b_v64 V (ix3 s g p) : EReal)
    = b2 V (ix2 g p) * b5 V (ix3 s g p)
      - b3 V (ix2 g p) * b6 V (ix3 s g p)
      + b0 V (ix4 k s g p) := by
  have h := slice_at (b0 V) (fun k => (((![V (Proc.devRef .tc main_v20_4), constantI S_ 32 0#32, constantI S_ 32 0#32, constantI S_ 32 0#32] : Fin 4 → (⟨S_, .i32⟩ : BufTy).Contents (Elt Ideal))) k (Shape.Idx.first h_S_)).toInt) sliceFits_S2048x4x128x64_S1x4x128x64 k
    (start_at k _ (congrFun hc _)) rfl rfl rfl s g p
  rw [← h]
  unfold res_main_while0b_v64
  generalize Host.dynamicSlice S1x4x128x64 (b0 V) _ _ = D
  pointwise []

include hc in
theorem v72_at (s : Fin 4) (g : Fin 128) (p : Fin 64) : (res_main_while0b_v72 V (ix3 s g p) : EReal)
    = b2 V (ix2 g p) * b6 V (ix3 s g p)
      + b3 V (ix2 g p) * b5 V (ix3 s g p)
      + b1 V (ix4 k s g p) := by
  have h := slice_at (b1 V) (fun k => (((![V (Proc.devRef .tc main_v20_4), constantI S_ 32 0#32, constantI S_ 32 0#32, constantI S_ 32 0#32] : Fin 4 → (⟨S_, .i32⟩ : BufTy).Contents (Elt Ideal))) k (Shape.Idx.first h_S_)).toInt) sliceFits_S2048x4x128x64_S1x4x128x64 k
    (start_at k _ (congrFun hc _)) rfl rfl rfl s g p
  rw [← h]
  unfold res_main_while0b_v72
  generalize Host.dynamicSlice S1x4x128x64 (b1 V) _ _ = D
  pointwise []

include hc in
theorem rec_at (x : S2048x4x128x64.Idx → EReal) (v : S4x128x64.Idx → EReal) (k' : Fin 2048) (s : Fin 4) (g : Fin 128) (p : Fin 64) :
    Host.dynamicUpdateSlice x (broadcastInDim S1x4x128x64 ![1, 2, 3] bcast_S4x128x64_S1x4x128x64_1_2_3 v) (fun k => (((![V (Proc.devRef .tc main_v20_4), constantI S_ 32 0#32, constantI S_ 32 0#32, constantI S_ 32 0#32] : Fin 4 → (⟨S_, .i32⟩ : BufTy).Contents (Elt Ideal))) k (Shape.Idx.first h_S_)).toInt) updateFits_S2048x4x128x64_S1x4x128x64 (ix4 k' s g p)
      = if k'.val = k.val then v (ix3 s g p) else x (ix4 k' s g p) := by
  rw [update_at x _ _ _ k (start_at k _ (congrFun hc _)) rfl rfl rfl k' s g p]
  have e : broadcastInDim S1x4x128x64 ![1, 2, 3] bcast_S4x128x64_S1x4x128x64_1_2_3 v (ix4 (0 : Fin 1) s g p) = v (ix3 s g p) := by
    pointwise []
  rw [e]

end Step

variable (m : (ℓ : Loc nD τ sig) → Buf (Elt Ideal) ℓ) (c : Dev nD)

abbrev AA : Args := argsOf (m ((c.tc : Thread nD τ).loc main_arg0)) (m ((c.tc : Thread nD τ).loc main_arg1)) (m ((c.tc : Thread nD τ).loc main_arg2))
  (m ((c.tc : Thread nD τ).loc main_arg3)) (m ((c.tc : Thread nD τ).loc main_arg4)) (m ((c.tc : Thread nD τ).loc main_arg5))

/-! The loop's entry. -/

theorem ent0 : entryContents preI m c (Proc.devRef .tc main_v20_0) = drive0 (m ((c.tc : Thread nD τ).loc main_arg0)) (m ((c.tc : Thread nD τ).loc main_arg1)) := by
  simp only [entryContents, afterL_cons, afterL_nil]
  after_reads_simp
  unfold drive0
  refine congrArg (fun z => transpose S2048x4x128x64 [3, 2, 0, 1] z transposes_S128x64x4x2048_S2048x4x128x64_3_2_0_1) (congrArg₂ (Host.dotGeneral (F := Ideal) (φ₁ := .f32) (φ₂ := .f32) dot_S128x64x16_S4x2048x128x16_S128x64x4x2048_2_3_1_01_0_2 none) ?_ ?_)
  · unfold matB
    rfl
  · unfold chan
    rfl
theorem ent1 : entryContents preI m c (Proc.devRef .tc main_v20_1) = drive1 (m ((c.tc : Thread nD τ).loc main_arg0)) (m ((c.tc : Thread nD τ).loc main_arg1)) := by
  simp only [entryContents, afterL_cons, afterL_nil]
  after_reads_simp
  unfold drive1
  refine congrArg (fun z => transpose S2048x4x128x64 [3, 2, 0, 1] z transposes_S128x64x4x2048_S2048x4x128x64_3_2_0_1) (congrArg₂ (Host.dotGeneral (F := Ideal) (φ₁ := .f32) (φ₂ := .f32) dot_S128x64x16_S4x2048x128x16_S128x64x4x2048_2_3_1_01_0_2 none) ?_ ?_)
  · unfold matB
    rfl
  · unfold chan
    rfl
theorem ent2 : entryContents preI m c (Proc.devRef .tc main_v20_2) = flat (m ((c.tc : Thread nD τ).loc main_arg3)) := by
  simp only [entryContents, afterL_cons, afterL_nil]
  after_reads_simp
  rfl
theorem ent3 : entryContents preI m c (Proc.devRef .tc main_v20_3) = flat (m ((c.tc : Thread nD τ).loc main_arg4)) := by
  simp only [entryContents, afterL_cons, afterL_nil]
  after_reads_simp
  rfl
theorem ent5 : entryContents preI m c (Proc.devRef .tc main_v20_5) = (broadcastInDim S4x128x64 ![] bcast_S_S4x128x64 (constant S_ .f32 0x00000000#32 : FVec Ideal S_ .f32) : Vec Ideal S4x128x64 .f32) := by
  simp only [entryContents, afterL_cons, afterL_nil]
  after_reads_simp
  rfl
theorem ent6 : entryContents preI m c (Proc.devRef .tc main_v20_6) = (broadcastInDim S4x128x64 ![] bcast_S_S4x128x64 (constant S_ .f32 0x00000000#32 : FVec Ideal S_ .f32) : Vec Ideal S4x128x64 .f32) := by
  simp only [entryContents, afterL_cons, afterL_nil]
  after_reads_simp
  rfl

theorem zero_at (s : Fin 4) (g : Fin 128) (p : Fin 64) : (broadcastInDim S4x128x64 ![] bcast_S_S4x128x64 (constant S_ .f32 0x00000000#32 : FVec Ideal S_ .f32) (ix3 s g p) : EReal) = 0 := by
  pointwise []

/-- The loop's buffers before trip `k`. -/
structure Inv (k : ℕ) (V : Valuation τ sig (Elt Ideal)) : Prop where
  h0 : b0 V = drive0 (m ((c.tc : Thread nD τ).loc main_arg0)) (m ((c.tc : Thread nD τ).loc main_arg1))
  h1 : b1 V = drive1 (m ((c.tc : Thread nD τ).loc main_arg0)) (m ((c.tc : Thread nD τ).loc main_arg1))
  h2 : b2 V = flat (m ((c.tc : Thread nD τ).loc main_arg3))
  h3 : b3 V = flat (m ((c.tc : Thread nD τ).loc main_arg4))
  h4 : V (Proc.devRef .tc main_v20_4) = fun _ => BitVec.ofNat 32 k
  h5 : ∀ (s : Fin 4) (g : Fin 128) (p : Fin 64), b5 V (ix3 s g p) = (st (AA m c) s.val (g.val / 16) (g.val % 16 * 64 + p.val) k).1
  h6 : ∀ (s : Fin 4) (g : Fin 128) (p : Fin 64), b6 V (ix3 s g p) = (st (AA m c) s.val (g.val / 16) (g.val % 16 * 64 + p.val) k).2
  h7 : ∀ (k' : Fin 2048) (s : Fin 4) (g : Fin 128) (p : Fin 64), k'.val < k → b7 V (ix4 k' s g p) = (st (AA m c) s.val (g.val / 16) (g.val % 16 * 64 + p.val) (k'.val + 1)).1
  h8 : ∀ (k' : Fin 2048) (s : Fin 4) (g : Fin 128) (p : Fin 64), k'.val < k → b8 V (ix4 k' s g p) = (st (AA m c) s.val (g.val / 16) (g.val % 16 * 64 + p.val) (k'.val + 1)).2

theorem inv_step (k : Fin 2048) (V : Valuation τ sig (Elt Ideal)) (h : Inv m c k.val V) : Inv m c (k.val + 1) (STEP V) := by
  have e5 : ∀ (s : Fin 4) (g : Fin 128) (p : Fin 64), (res_main_while0b_v64 V (ix3 s g p) : EReal) = (st (AA m c) s.val (g.val / 16) (g.val % 16 * 64 + p.val) (k.val + 1)).1 := fun s g p => by
    rw [v64_at V k h.h4, h.h2, h.h3, h.h0, h.h5, h.h6, drive0_at, flat_at, flat_at, drv_at _ _ (m ((c.tc : Thread nD τ).loc main_arg2)) (m ((c.tc : Thread nD τ).loc main_arg3)) (m ((c.tc : Thread nD τ).loc main_arg4)) (m ((c.tc : Thread nD τ).loc main_arg5))]
    rfl
  have e6 : ∀ (s : Fin 4) (g : Fin 128) (p : Fin 64), (res_main_while0b_v72 V (ix3 s g p) : EReal) = (st (AA m c) s.val (g.val / 16) (g.val % 16 * 64 + p.val) (k.val + 1)).2 := fun s g p => by
    rw [v72_at V k h.h4, h.h2, h.h3, h.h1, h.h5, h.h6, drive1_at, flat_at, flat_at, drv_at _ _ (m ((c.tc : Thread nD τ).loc main_arg2)) (m ((c.tc : Thread nD τ).loc main_arg3)) (m ((c.tc : Thread nD τ).loc main_arg4)) (m ((c.tc : Thread nD τ).loc main_arg5))]
    rfl
  refine ⟨(STEP_main_v20_0 V).trans h.h0, (STEP_main_v20_1 V).trans h.h1, (STEP_main_v20_2 V).trans h.h2, (STEP_main_v20_3 V).trans h.h3, ?_, fun s g p => ?_, fun s g p => ?_, fun k' s g p hk => ?_, fun k' s g p hk => ?_⟩
  · rw [STEP_main_v20_4]
    unfold step_main_v20_4
    rw [h.h4]
    funext i
    exact (BitVec.ofNat_add k.val 1).symm
  · exact (congrFun (STEP_main_v20_5 V) _).trans (e5 s g p)
  · exact (congrFun (STEP_main_v20_6 V) _).trans (e6 s g p)
  · refine (congrFun (STEP_main_v20_7 V) _).trans ?_
    refine (rec_at V k h.h4 _ _ k' s g p).trans ?_
    by_cases e : k'.val = k.val
    · rw [if_pos e, e, e5]
    · rw [if_neg e]
      exact h.h7 k' s g p (by omega)
  · refine (congrFun (STEP_main_v20_8 V) _).trans ?_
    refine (rec_at V k h.h4 _ _ k' s g p).trans ?_
    by_cases e : k'.val = k.val
    · rw [if_pos e, e, e6]
    · rw [if_neg e]
      exact h.h8 k' s g p (by omega)

set_option maxHeartbeats 1000000 in
theorem inv_iter : ∀ k, k ≤ 2048 → Inv m c k (STEP^[k] (entryContents preI m c))
  | 0, _ => ⟨ent0 m c, ent1 m c, ent2 m c, ent3 m c, ctr_entry m c, fun s g p => (congrFun (ent5 m c) _).trans (zero_at s g p), fun s g p => (congrFun (ent6 m c) _).trans (zero_at s g p),
      fun _ _ _ _ h => absurd h (Nat.not_lt_zero _), fun _ _ _ _ h => absurd h (Nat.not_lt_zero _)⟩
  | k + 1, hk => by
    rw [Function.iterate_succ_apply']
    exact inv_step m c ⟨k, by omega⟩ _ (inv_iter k (by omega))

/-! The result. -/

/-- The output matrix, real and imaginary. -/
def matC (a2 : Vec Ideal S8x128x256 .f32) : Vec Ideal S2x128x16x64 .f32 :=
  shapeCast _ (transpose S2x8x16x16x64 [1, 0, 3, 4, 2] (shapeCast _ a2 shapeCasts_S8x128x256_S8x2x64x16x16) transposes_S8x2x64x16x16_S2x8x16x16x64_1_0_3_4_2) shapeCasts_S2x8x16x16x64_S2x128x16x64

theorem matC_at (a2 : Vec Ideal S8x128x256 .f32) (i : Fin 2) (g : Fin 128) (h : Fin 16) (p : Fin 64) :
    (matC a2 (ix4 i g h p) : EReal) = at3 (a := 8) (b := 128) (c := 256) a2 (g.val / 16) (i.val * 64 + p.val) (g.val % 16 * 16 + h.val) := by
  rw [at3_pt _ _ _ _ (by omega) (by omega) (by omega)]
  unfold matC
  pointwise []

def outC (x : Vec Ideal S128x16x64 .f32) (S : Vec Ideal S2048x4x128x64 .f32) : Vec Ideal S4x2048x128x16 .f32 :=
  transpose S4x2048x128x16 [3, 2, 0, 1] (Host.dotGeneral (F := Ideal) (φ₁ := .f32) (φ₂ := .f32) dot_S128x16x64_S2048x4x128x64_S128x16x2048x4_2_3_1_01_0_2 none x S) transposes_S128x16x2048x4_S4x2048x128x16_3_2_0_1

theorem outC_at (x : Vec Ideal S128x16x64 .f32) (S : Vec Ideal S2048x4x128x64 .f32) (s : Fin 4) (k : Fin 2048) (g : Fin 128) (h : Fin 16) :
    (outC x S (ix4 s k g h) : EReal) = ∑ p : Fin 64, (x (ix3 g h p) : EReal) * (S (ix4 k s g p) : EReal) := by
  unfold outC
  pointwise []

def part0 (c : Vec Ideal S2x128x16x64 .f32) : Vec Ideal S128x16x64 .f32 := shapeCast _ (extractStridedSlice S1x128x16x64 ![0, 0, 0, 0] c slices_S2x128x16x64_S1x128x16x64_0_0_0_0) shapeCasts_S1x128x16x64_S128x16x64
def part1 (c : Vec Ideal S2x128x16x64 .f32) : Vec Ideal S128x16x64 .f32 := shapeCast _ (extractStridedSlice S1x128x16x64 ![1, 0, 0, 0] c slices_S2x128x16x64_S1x128x16x64_1_0_0_0) shapeCasts_S1x128x16x64_S128x16x64

theorem part0_at (c : Vec Ideal S2x128x16x64 .f32) (g : Fin 128) (h : Fin 16) (p : Fin 64) : part0 c (ix3 g h p) = c (ix4 (0 : Fin 2) g h p) := by
  unfold part0
  pointwise []
theorem part1_at (c : Vec Ideal S2x128x16x64 .f32) (g : Fin 128) (h : Fin 16) (p : Fin 64) : part1 c (ix3 g h p) = c (ix4 (1 : Fin 2) g h p) := by
  unfold part1
  pointwise []

/-- The channels scaled. -/
def skip (a5 : Vec Ideal S1x2048 .f32) (a0 : Vec Ideal S4x2048x14336 .f32) : FVec Ideal S4x2048x128x16 .f32 :=
  mulf (broadcastInDim S4x2048x128x16 ![0, 1, 2, 3] bcast_S1x1x128x16_S4x2048x128x16_0_1_2_3 (broadcastInDim S1x1x128x16 ![2, 3] bcast_S128x16_S1x1x128x16_2_3 (shapeCast S128x16 a5 shapeCasts_S1x2048_S128x16))) (chan a0)

theorem skip_at (a5 : Vec Ideal S1x2048 .f32) (a0 : Vec Ideal S4x2048x14336 .f32) (s : Fin 4) (k : Fin 2048) (g : Fin 128) (h : Fin 16) :
    (skip a5 a0 (ix4 s k g h) : EReal) = at2 (a := 1) (b := 2048) a5 0 (g.val * 16 + h.val) * (chan a0 (ix4 s k g h) : EReal) := by
  rw [at2_pt _ _ _ (by omega) (by omega)]
  unfold skip
  pointwise []

/-- The result before the activation. -/
def linA (a0 : Vec Ideal S4x2048x14336 .f32) (a2 : Vec Ideal S8x128x256 .f32) (a5 : Vec Ideal S1x2048 .f32) (R I : Vec Ideal S2048x4x128x64 .f32) : FVec Ideal S4x2048x2048 .f32 :=
  shapeCast S4x2048x2048 (addf (F := Ideal) (addf (F := Ideal) (φ := .f32) (outC (part0 (matC a2)) R) (outC (part1 (matC a2)) I)) (skip a5 a0)) shapeCasts_S4x2048x128x16_S4x2048x2048

theorem linA_at (a0 : Vec Ideal S4x2048x14336 .f32) (a2 : Vec Ideal S8x128x256 .f32) (a5 : Vec Ideal S1x2048 .f32) (R I : Vec Ideal S2048x4x128x64 .f32) (s : Fin 4) (k : Fin 2048) (c : Fin 2048) :
    (linA a0 a2 a5 R I (ix3 s k c) : EReal)
      = (∑ p : Fin 64, (matC a2 (ix4 (0 : Fin 2) (⟨c.val / 16, by omega⟩ : Fin 128) (⟨c.val % 16, by omega⟩ : Fin 16) p) : EReal) * (R (ix4 k s (⟨c.val / 16, by omega⟩ : Fin 128) p) : EReal)
        + ∑ p : Fin 64, (matC a2 (ix4 (1 : Fin 2) (⟨c.val / 16, by omega⟩ : Fin 128) (⟨c.val % 16, by omega⟩ : Fin 16) p) : EReal) * (I (ix4 k s (⟨c.val / 16, by omega⟩ : Fin 128) p) : EReal))
        + (skip a5 a0 (ix4 s k (⟨c.val / 16, by omega⟩ : Fin 128) (⟨c.val % 16, by omega⟩ : Fin 16)) : EReal) := by
  unfold linA
  pointwise []
  simp only [outC_at, part0_at, part1_at]

/-- The activation over an array. -/
def actA (L : FVec Ideal S4x2048x2048 .f32) : FVec Ideal S4x2048x2048 .bf16 :=
  truncf .bf16 (mulf L (mulf (broadcastInDim S4x2048x2048 ![] bcast_S_S4x2048x2048 (constant S_ .f32 0x3F000000#32)) (addf (broadcastInDim S4x2048x2048 ![] bcast_S_S4x2048x2048 (constant S_ .f32 0x3F800000#32)) (Host.tanh (mulf (broadcastInDim S4x2048x2048 ![] bcast_S_S4x2048x2048 (constant S_ .f32 0x3F4C422A#32)) (addf L (mulf (broadcastInDim S4x2048x2048 ![] bcast_S_S4x2048x2048 (constant S_ .f32 0x3D372713#32)) (mulf (mulf L L) L)))))))) bitsLt_bf16_f32

theorem actA_at (L : FVec Ideal S4x2048x2048 .f32) (s : Fin 4) (k : Fin 2048) (c : Fin 2048) : (actA L (ix3 s k c) : EReal) = act (L (ix3 s k c)) := by
  unfold actA
  pointwise []
  unfold act
  rw [mul_comm ((L (ix3 s k c) : EReal) * (L (ix3 s k c) : EReal))]

theorem out_eq (V : Valuation τ sig (Elt Ideal)) : out_main_v54 V = actA (linA (V (Proc.devRef .tc main_arg0)) (V (Proc.devRef .tc main_arg2)) (V (Proc.devRef .tc main_arg5)) (b7 V) (b8 V)) := by
  unfold out_main_v54 actA linA outC part0 part1 matC skip chan
  rfl

theorem lin_at (s : Fin 4) (k c' : Fin 2048) (V : Valuation τ sig (Elt Ideal)) (h : Inv m c 2048 V) :
    (linA (m ((c.tc : Thread nD τ).loc main_arg0)) (m ((c.tc : Thread nD τ).loc main_arg2)) (m ((c.tc : Thread nD τ).loc main_arg5)) (b7 V) (b8 V) (ix3 s k c') : EReal)
      = lin (AA m c) s.val k.val (c'.val / 256) (c'.val % 256) := by
  rw [linA_at, skip_at]
  unfold lin
  refine congrArg₂ (· + ·) (congrArg₂ (· + ·) (Finset.sum_congr rfl fun p _ => ?_) (Finset.sum_congr rfl fun p _ => ?_)) (congrArg₂ (· * ·) ?_ ?_)
  · rw [matC_at, h.h7 k s _ p k.isLt, mul_comm]
    show (st (AA m c) s.val (c'.val / 16 / 16) (c'.val / 16 % 16 * 64 + p.val) (k.val + 1)).1 * (AA m c).C (c'.val / 16 / 16) (0 * 64 + p.val) (c'.val / 16 % 16 * 16 + c'.val % 16) = _
    rw [show c'.val / 16 / 16 = c'.val / 256 by omega, show c'.val / 16 % 16 = c'.val % 256 / 16 by omega, show c'.val % 256 / 16 * 16 + c'.val % 16 = c'.val % 256 by omega, show 0 * 64 + p.val = p.val by omega]
  · rw [matC_at, h.h8 k s _ p k.isLt, mul_comm]
    show (st (AA m c) s.val (c'.val / 16 / 16) (c'.val / 16 % 16 * 64 + p.val) (k.val + 1)).2 * (AA m c).C (c'.val / 16 / 16) (1 * 64 + p.val) (c'.val / 16 % 16 * 16 + c'.val % 16) = _
    rw [show c'.val / 16 / 16 = c'.val / 256 by omega, show c'.val / 16 % 16 = c'.val % 256 / 16 by omega, show c'.val % 256 / 16 * 16 + c'.val % 16 = c'.val % 256 by omega, show 1 * 64 + p.val = 64 + p.val by omega]
  · show (AA m c).D 0 (c'.val / 16 * 16 + c'.val % 16) = _
    rw [show c'.val / 16 * 16 + c'.val % 16 = c'.val / 256 * 256 + c'.val % 256 by omega]
  · rw [chan_at]
    show (AA m c).P s.val k.val (4096 + (c'.val / 16 * 16 + c'.val % 16)) = _
    rw [show 4096 + (c'.val / 16 * 16 + c'.val % 16) = 4096 + c'.val / 256 * 256 + c'.val % 256 by omega]

/-- The reference's result. -/
theorem result : out_main_v54 (STEP^[2048] (entryContents preI m c)) = resOf (AA m c) := by
  rw [out_eq, iter_main_arg0, iter_main_arg2, iter_main_arg5]
  funext y
  idx_vars y
  exact (actA_at _ y0 y1 y2).trans (congrArg act (lin_at m c y0 y1 y2 _ (inv_iter m c 2048 (le_refl _))))

end Cert.SsmRefIdeal.Scan

end
-- ==== Proof.Scan.Claims.lean ====
/- The claims about the state space scan, from the kernel's array and the reference's. -/
module

public import proofs.«01_k».proof.Defs
public import proofs.«01_k».proof.Proof.Scan.ValueIdeal
public import proofs.«01_k».proof.Proof.Scan.Ref
public import proofs.«01_k».proof.Proof.Gen.SsmIdeal
public import proofs.«01_k».proof.Proof.Gen.SsmRefIdeal
public import proofs.«01_k».proof.Proof.Gen.SsmRefIdeal.Run
public import Idealize.ShloMosaic.Adequacy
public import Idealize.ShloMosaic.Init

@[expose] public section

set_option maxRecDepth 16384

noncomputable section

open Idealize.ShloMosaic Idealize.ShloMosaic.TcCoe Idealize.SL.Sem

namespace Cert.Proof.SsmClaims

open Cert.Scan

/-- The reference runs, its arguments unchanged and every semaphore back at zero. -/
theorem frame_r : quiescent_SsmRefIdeal (hSsmRefIdeal := Cert.SsmRefIdeal.Gen.facts) := fun m ρ _ =>
  (θ_run Cert.SsmRefIdeal.defs _ _).mono (fun r h => ⟨fun c => (h c).2, Idealize.ShloMosaic.sem_eq_zero_of_no_sems (by decide) r.2⟩)
    (Cert.SsmRefIdeal.Value.run (F := Ideal) m ρ)

/-- The kernel and the reference leave the same array. -/
theorem algebraic : algebraic_SsmIdeal_SsmRefIdeal (hSsmIdeal := Cert.SsmIdeal.Gen.facts) (hSsmRefIdeal := Cert.SsmRefIdeal.Gen.facts) := by
  intro m ρ m' ρ' _ hagree
  refine ⟨fun c => resOf (Cert.SsmIdeal.Scan.AA m c), ?_, ?_⟩
  · exact (θ_run Cert.SsmIdeal.defs _ _).mono (fun _ h c => ⟨(h c).1.trans (Cert.SsmIdeal.Scan.final m c), (h c).2⟩)
      (Cert.SsmIdeal.Scan.run_blocks m ρ)
  · refine (θ_run Cert.SsmRefIdeal.defs _ _).mono (fun _ h c => ⟨(h c).1.trans ((Cert.SsmRefIdeal.Scan.result m' c).trans ?_), (h c).2⟩)
      (Cert.SsmRefIdeal.Value.run (F := Ideal) m' ρ')
    obtain ⟨h0, h1, h2, h3, h4, h5⟩ := hagree c
    unfold Cert.SsmRefIdeal.Scan.AA
    rw [h0, h1, h2, h3, h4, h5]

end Cert.Proof.SsmClaims

end
-- ==== Proof.lean ====
module

public import proofs.«01_k».proof.Proof.Gen.Ssm
public import proofs.«01_k».proof.Proof.Gen.Ssm.Frame
public import proofs.«01_k».proof.Proof.Gen.Ssm.Loops
public import proofs.«01_k».proof.Proof.Gen.SsmIdeal
public import proofs.«01_k».proof.Proof.Gen.SsmIdeal.Frame
public import proofs.«01_k».proof.Proof.Gen.SsmIdeal.Loops
public import proofs.«01_k».proof.Proof.Gen.SsmRefIdeal
public import proofs.«01_k».proof.Proof.Gen.SsmRefIdeal.Run
public import proofs.«01_k».proof.Defs
public import proofs.«01_k».proof.Proof.Attn.Claims
public import proofs.«01_k».proof.Proof.Proj.InProj
public import proofs.«01_k».proof.Proof.Proj.VProj
public import proofs.«01_k».proof.Proof.Proj.Glu
public import proofs.«01_k».proof.Proof.Proj.Mixed
public import proofs.«01_k».proof.Proof.Proj.OutResid
public import proofs.«01_k».proof.Proof.Proj.Norm
public import proofs.«01_k».proof.Proof.Route.Claims
public import proofs.«01_k».proof.Proof.Disp.Claims
public import proofs.«01_k».proof.Proof.Scan.Claims
public import proofs.«01_k».proof.Proof.Scan.Frame
public import proofs.«01_k».proof.Proof.Gen.Kernel
public import proofs.«01_k».proof.Proof.Gen.Kernel.Frame
public import proofs.«01_k».proof.Proof.Gen.KernelIdeal.Value
public import proofs.«01_k».proof.Proof.Gen.InProj
public import proofs.«01_k».proof.Proof.Gen.InProj.Frame
public import proofs.«01_k».proof.Proof.Gen.InProjIdeal.Value
public import proofs.«01_k».proof.Proof.Gen.VProj
public import proofs.«01_k».proof.Proof.Gen.VProj.Frame
public import proofs.«01_k».proof.Proof.Gen.VProjIdeal.Value
public import proofs.«01_k».proof.Proof.Gen.Glu
public import proofs.«01_k».proof.Proof.Gen.Glu.Frame
public import proofs.«01_k».proof.Proof.Gen.GluIdeal.Value
public import proofs.«01_k».proof.Proof.Gen.Mixed
public import proofs.«01_k».proof.Proof.Gen.Mixed.Frame
public import proofs.«01_k».proof.Proof.Gen.MixedIdeal.Value
public import proofs.«01_k».proof.Proof.Gen.OutResid
public import proofs.«01_k».proof.Proof.Gen.OutResid.Frame
public import proofs.«01_k».proof.Proof.Gen.OutResidIdeal.Value
public import proofs.«01_k».proof.Proof.Gen.Norm
public import proofs.«01_k».proof.Proof.Gen.Norm.Frame
public import proofs.«01_k».proof.Proof.Gen.NormIdeal.Value
public import proofs.«01_k».proof.Proof.Gen.Router
public import proofs.«01_k».proof.Proof.Gen.Router.Frame
public import proofs.«01_k».proof.Proof.Gen.RouterIdeal.Value
public import proofs.«01_k».proof.Proof.Gen.Dispatch
public import proofs.«01_k».proof.Proof.Gen.Dispatch.Frame
public import proofs.«01_k».proof.Proof.Gen.DispatchIdeal.Value

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.InProj.Gen.facts, Cert.InProjIdeal.Gen.facts, Cert.InProjRefIdeal.Gen.facts,
    Cert.VProj.Gen.facts, Cert.VProjIdeal.Gen.facts, Cert.VProjRefIdeal.Gen.facts,
    Cert.Glu.Gen.facts, Cert.GluIdeal.Gen.facts, Cert.GluRefIdeal.Gen.facts,
    Cert.Mixed.Gen.facts, Cert.MixedIdeal.Gen.facts, Cert.MixedRefIdeal.Gen.facts,
    Cert.OutResid.Gen.facts, Cert.OutResidIdeal.Gen.facts, Cert.OutResidRefIdeal.Gen.facts,
    Cert.Norm.Gen.facts, Cert.NormIdeal.Gen.facts, Cert.NormRefIdeal.Gen.facts,
    Cert.Router.Gen.facts, Cert.RouterIdeal.Gen.facts, Cert.RouterRefIdeal.Gen.facts,
    Cert.Dispatch.Gen.facts, Cert.DispatchIdeal.Gen.facts, Cert.DispatchRefIdeal.Gen.facts,
    Cert.Ssm.Gen.facts, Cert.SsmIdeal.Gen.facts, Cert.SsmRefIdeal.Gen.facts,
    Cert.Pre_finite_qk.facts, Cert.Pre_finite_router.facts, Cert.Pre_expert_numbers.facts,
    fun m ρ _ => Cert.Kernel.Gen.frame m ρ, fun m ρ _ => Cert.KernelIdeal.Gen.frame m ρ, fun m ρ _ => Cert.KernelIdeal.Gen.frame m ρ,
    AttnClaims.frame_r, AttnClaims.frame_r_pre,
    fun m ρ _ => Cert.InProj.Gen.frame m ρ, fun m ρ _ => Cert.InProjIdeal.Gen.frame m ρ, InProjClaims.frame_r,
    fun m ρ _ => Cert.VProj.Gen.frame m ρ, fun m ρ _ => Cert.VProjIdeal.Gen.frame m ρ, VProjClaims.frame_r,
    fun m ρ _ => Cert.Glu.Gen.frame m ρ, fun m ρ _ => Cert.GluIdeal.Gen.frame m ρ, GluClaims.frame_r,
    fun m ρ _ => Cert.Mixed.Gen.frame m ρ, fun m ρ _ => Cert.MixedIdeal.Gen.frame m ρ, MixedClaims.frame_r,
    fun m ρ _ => Cert.OutResid.Gen.frame m ρ, fun m ρ _ => Cert.OutResidIdeal.Gen.frame m ρ, OutResidClaims.frame_r,
    fun m ρ _ => Cert.Norm.Gen.frame m ρ, fun m ρ _ => Cert.NormIdeal.Gen.frame m ρ, NormClaims.frame_r,
    fun m ρ _ => Cert.Router.Gen.frame m ρ, fun m ρ _ => Cert.RouterIdeal.Gen.frame m ρ, fun m ρ _ => Cert.RouterIdeal.Gen.frame m ρ,
    RouteClaims.frame_r, RouteClaims.frame_r_pre,
    fun m ρ _ => Cert.Dispatch.Gen.frame m ρ, fun m ρ _ => Cert.DispatchIdeal.Gen.frame m ρ, fun m ρ _ => Cert.DispatchIdeal.Gen.frame m ρ,
    DispClaims.frame_r, DispClaims.frame_r_pre,
    fun m ρ _ => Cert.Ssm.Scan.frame m ρ, fun m ρ _ => Cert.SsmIdeal.Scan.frame m ρ, SsmClaims.frame_r,
    AttnClaims.preserves, AttnClaims.algebraic,
    trivial, InProjClaims.algebraic,
    trivial, VProjClaims.algebraic,
    trivial, GluClaims.algebraic,
    trivial, MixedClaims.algebraic,
    trivial, OutResidClaims.algebraic,
    trivial, NormClaims.algebraic,
    trivial, RouteClaims.algebraic,
    trivial, DispClaims.algebraic,
    trivial, SsmClaims.algebraic⟩

end Cert.Proof

end
